-- ==== Defs.lean ====
def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2)
      ∧ r.2.mem ((c.tc : Thread Cert.Memory.nD Cert.Memory.τ).loc Cert.Memory.main_arg3) = m ((c.tc : Thread Cert.Memory.nD Cert.Memory.τ).loc Cert.Memory.main_arg3))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
      ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2)
      ∧ r.2.mem ((c.tc : Thread Cert.MemoryReferenceIdeal.nD Cert.MemoryReferenceIdeal.τ).loc Cert.MemoryReferenceIdeal.main_arg3) = m ((c.tc : Thread Cert.MemoryReferenceIdeal.nD Cert.MemoryReferenceIdeal.τ).loc Cert.MemoryReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13))
      ∧ r.2.sem = fun _ => 0)

def preserves_Experts_ExpertsIdeal : Prop :=
  IdealRules.bf16_pair.BufferStatement Cert.ExpertsIdeal.S333824x2x128 Cert.ExpertsIdeal.S333824x1x128
  ∧ IdealRules.bf16_pair.BufferStatement Cert.ExpertsIdeal.S2048x2x128 Cert.ExpertsIdeal.S2048x1x128
  ∧ IdealRules.bf16_pair.SelectZeroStatement Cert.ExpertsIdeal.S2048x128
  ∧ IdealRules.bf16_pair.PackStatement Cert.ExpertsIdeal.S256x128
  ∧ IdealRules.bf16_pair.Statement Cert.ExpertsIdeal.S256x2x128 Cert.ExpertsIdeal.S256x1x128
  ∧ IdealRules.bf16_pair.Statement Cert.ExpertsIdeal.S512x128 Cert.ExpertsIdeal.S256x128

def algebraic_ExpertsIdeal_ReferenceIdeal [hExpertsIdeal : Cert.ExpertsIdeal.Facts] [hReferenceIdeal : Cert.ReferenceIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_ExpertsIdeal m →
    (∀ c : Dev Cert.ExpertsIdeal.nD,
      m' ((c.tc : Thread Cert.ReferenceIdeal.nD Cert.ReferenceIdeal.τ).loc Cert.ReferenceIdeal.main_arg0) = m ((c.tc : Thread Cert.ExpertsIdeal.nD Cert.ExpertsIdeal.τ).loc Cert.ExpertsIdeal.main_arg0)
      ∧ m' ((c.tc : Thread Cert.ReferenceIdeal.nD Cert.ReferenceIdeal.τ).loc Cert.ReferenceIdeal.main_arg1) = m ((c.tc : Thread Cert.ExpertsIdeal.nD Cert.ExpertsIdeal.τ).loc Cert.ExpertsIdeal.main_arg1)
      ∧ m' ((c.tc : Thread Cert.ReferenceIdeal.nD Cert.ReferenceIdeal.τ).loc Cert.ReferenceIdeal.main_arg2) = m ((c.tc : Thread Cert.ExpertsIdeal.nD Cert.ExpertsIdeal.τ).loc Cert.ExpertsIdeal.main_arg2)
      ∧ m' ((c.tc : Thread Cert.ReferenceIdeal.nD Cert.ReferenceIdeal.τ).loc Cert.ReferenceIdeal.main_arg3) = m ((c.tc : Thread Cert.ExpertsIdeal.nD Cert.ExpertsIdeal.τ).loc Cert.ExpertsIdeal.main_arg3)
      ∧ m' ((c.tc : Thread Cert.ReferenceIdeal.nD Cert.ReferenceIdeal.τ).loc Cert.ReferenceIdeal.main_arg4) = m ((c.tc : Thread Cert.ExpertsIdeal.nD Cert.ExpertsIdeal.τ).loc Cert.ExpertsIdeal.main_arg4)
      ∧ m' ((c.tc : Thread Cert.ReferenceIdeal.nD Cert.ReferenceIdeal.τ).loc Cert.ReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v1) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)) →
    ∃ (v0 : (c : Dev Cert.ProjectionsIdeal.nD) → Buf (Elt Ideal) ((c.tc : Thread Cert.ProjectionsIdeal.nD Cert.ProjectionsIdeal.τ).loc Cert.ProjectionsIdeal.main_v9_0)) (v1 : (c : Dev Cert.ProjectionsIdeal.nD) → Buf (Elt Ideal) ((c.tc : Thread Cert.ProjectionsIdeal.nD Cert.ProjectionsIdeal.τ).loc Cert.ProjectionsIdeal.main_v9_1)) (v2 : (c : Dev Cert.ProjectionsIdeal.nD) → Buf (Elt Ideal) ((c.tc : Thread Cert.ProjectionsIdeal.nD Cert.ProjectionsIdeal.τ).loc Cert.ProjectionsIdeal.main_v10_0)) (v3 : (c : Dev Cert.ProjectionsIdeal.nD) → Buf (Elt Ideal) ((c.tc : Thread Cert.ProjectionsIdeal.nD Cert.ProjectionsIdeal.τ).loc Cert.ProjectionsIdeal.main_v10_1)) (v4 : (c : Dev Cert.ProjectionsIdeal.nD) → Buf (Elt Ideal) ((c.tc : Thread Cert.ProjectionsIdeal.nD Cert.ProjectionsIdeal.τ).loc Cert.ProjectionsIdeal.main_v16)) (v5 : (c : Dev Cert.ProjectionsIdeal.nD) → Buf (Elt Ideal) ((c.tc : Thread Cert.ProjectionsIdeal.nD Cert.ProjectionsIdeal.τ).loc Cert.ProjectionsIdeal.main_v18)) (v6 : (c : Dev Cert.ProjectionsIdeal.nD) → Buf (Elt Ideal) ((c.tc : Thread Cert.ProjectionsIdeal.nD Cert.ProjectionsIdeal.τ).loc Cert.ProjectionsIdeal.main_v20)) (v7 : (c : Dev Cert.ProjectionsIdeal.nD) → Buf (Elt Ideal) ((c.tc : Thread Cert.ProjectionsIdeal.nD Cert.ProjectionsIdeal.τ).loc Cert.ProjectionsIdeal.main_v22)) (v8 : (c : Dev Cert.ProjectionsIdeal.nD) → Buf (Elt Ideal) ((c.tc : Thread Cert.ProjectionsIdeal.nD Cert.ProjectionsIdeal.τ).loc Cert.ProjectionsIdeal.main_v13_0)) (v9 : (c : Dev Cert.ProjectionsIdeal.nD) → Buf (Elt Ideal) ((c.tc : Thread Cert.ProjectionsIdeal.nD Cert.ProjectionsIdeal.τ).loc Cert.ProjectionsIdeal.main_v13_1)) (v10 : (c : Dev Cert.ProjectionsIdeal.nD) → Buf (Elt Ideal) ((c.tc : Thread Cert.ProjectionsIdeal.nD Cert.ProjectionsIdeal.τ).loc Cert.ProjectionsIdeal.main_v14_0)) (v11 : (c : Dev Cert.ProjectionsIdeal.nD) → Buf (Elt Ideal) ((c.tc : Thread Cert.ProjectionsIdeal.nD Cert.ProjectionsIdeal.τ).loc Cert.ProjectionsIdeal.main_v14_1)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v9_0) = v0 c
          ∧ r.2.mem ((c.tc : Thread Cert.ProjectionsIdeal.nD Cert.ProjectionsIdeal.τ).loc Cert.ProjectionsIdeal.main_v9_1) = v1 c
          ∧ r.2.mem ((c.tc : Thread Cert.ProjectionsIdeal.nD Cert.ProjectionsIdeal.τ).loc Cert.ProjectionsIdeal.main_v10_0) = v2 c
          ∧ r.2.mem ((c.tc : Thread Cert.ProjectionsIdeal.nD Cert.ProjectionsIdeal.τ).loc Cert.ProjectionsIdeal.main_v10_1) = v3 c
          ∧ r.2.mem ((c.tc : Thread Cert.ProjectionsIdeal.nD Cert.ProjectionsIdeal.τ).loc Cert.ProjectionsIdeal.main_v16) = v4 c
          ∧ r.2.mem ((c.tc : Thread Cert.ProjectionsIdeal.nD Cert.ProjectionsIdeal.τ).loc Cert.ProjectionsIdeal.main_v18) = v5 c
          ∧ r.2.mem ((c.tc : Thread Cert.ProjectionsIdeal.nD Cert.ProjectionsIdeal.τ).loc Cert.ProjectionsIdeal.main_v20) = v6 c
          ∧ r.2.mem ((c.tc : Thread Cert.ProjectionsIdeal.nD Cert.ProjectionsIdeal.τ).loc Cert.ProjectionsIdeal.main_v22) = v7 c
          ∧ r.2.mem ((c.tc : Thread Cert.ProjectionsIdeal.nD Cert.ProjectionsIdeal.τ).loc Cert.ProjectionsIdeal.main_v13_0) = v8 c
          ∧ r.2.mem ((c.tc : Thread Cert.ProjectionsIdeal.nD Cert.ProjectionsIdeal.τ).loc Cert.ProjectionsIdeal.main_v13_1) = v9 c
          ∧ r.2.mem ((c.tc : Thread Cert.ProjectionsIdeal.nD Cert.ProjectionsIdeal.τ).loc Cert.ProjectionsIdeal.main_v14_0) = v10 c
          ∧ r.2.mem ((c.tc : Thread Cert.ProjectionsIdeal.nD Cert.ProjectionsIdeal.τ).loc Cert.ProjectionsIdeal.main_v14_1) = v11 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v17) = v0 c
          ∧ r.2.mem ((c.tc : Thread Cert.ProjectionsReferenceIdeal.nD Cert.ProjectionsReferenceIdeal.τ).loc Cert.ProjectionsReferenceIdeal.main_v42) = v1 c
          ∧ r.2.mem ((c.tc : Thread Cert.ProjectionsReferenceIdeal.nD Cert.ProjectionsReferenceIdeal.τ).loc Cert.ProjectionsReferenceIdeal.main_v18) = v2 c
          ∧ r.2.mem ((c.tc : Thread Cert.ProjectionsReferenceIdeal.nD Cert.ProjectionsReferenceIdeal.τ).loc Cert.ProjectionsReferenceIdeal.main_v43) = v3 c
          ∧ r.2.mem ((c.tc : Thread Cert.ProjectionsReferenceIdeal.nD Cert.ProjectionsReferenceIdeal.τ).loc Cert.ProjectionsReferenceIdeal.main_v20) = v4 c
          ∧ r.2.mem ((c.tc : Thread Cert.ProjectionsReferenceIdeal.nD Cert.ProjectionsReferenceIdeal.τ).loc Cert.ProjectionsReferenceIdeal.main_v45) = v5 c
          ∧ r.2.mem ((c.tc : Thread Cert.ProjectionsReferenceIdeal.nD Cert.ProjectionsReferenceIdeal.τ).loc Cert.ProjectionsReferenceIdeal.main_v22) = v6 c
          ∧ r.2.mem ((c.tc : Thread Cert.ProjectionsReferenceIdeal.nD Cert.ProjectionsReferenceIdeal.τ).loc Cert.ProjectionsReferenceIdeal.main_v47) = v7 c
          ∧ r.2.mem ((c.tc : Thread Cert.ProjectionsReferenceIdeal.nD Cert.ProjectionsReferenceIdeal.τ).loc Cert.ProjectionsReferenceIdeal.main_v24) = v8 c
          ∧ r.2.mem ((c.tc : Thread Cert.ProjectionsReferenceIdeal.nD Cert.ProjectionsReferenceIdeal.τ).loc Cert.ProjectionsReferenceIdeal.main_v49) = v9 c
          ∧ r.2.mem ((c.tc : Thread Cert.ProjectionsReferenceIdeal.nD Cert.ProjectionsReferenceIdeal.τ).loc Cert.ProjectionsReferenceIdeal.main_v26) = v10 c
          ∧ r.2.mem ((c.tc : Thread Cert.ProjectionsReferenceIdeal.nD Cert.ProjectionsReferenceIdeal.τ).loc Cert.ProjectionsReferenceIdeal.main_v51) = v11 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)
      ∧ m' ((c.tc : Thread Cert.MemoryReferenceIdeal.nD Cert.MemoryReferenceIdeal.τ).loc Cert.MemoryReferenceIdeal.main_arg3) = m ((c.tc : Thread Cert.MemoryIdeal.nD Cert.MemoryIdeal.τ).loc Cert.MemoryIdeal.main_arg3)) →
    ∃ (v0 : (c : Dev Cert.MemoryIdeal.nD) → Buf (Elt Ideal) ((c.tc : Thread Cert.MemoryIdeal.nD Cert.MemoryIdeal.τ).loc Cert.MemoryIdeal.main_v10)) (v1 : (c : Dev Cert.MemoryIdeal.nD) → Buf (Elt Ideal) ((c.tc : Thread Cert.MemoryIdeal.nD Cert.MemoryIdeal.τ).loc Cert.MemoryIdeal.main_v11)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v10) = v0 c
          ∧ r.2.mem ((c.tc : Thread Cert.MemoryIdeal.nD Cert.MemoryIdeal.τ).loc Cert.MemoryIdeal.main_v11) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2)
          ∧ r.2.mem ((c.tc : Thread Cert.MemoryIdeal.nD Cert.MemoryIdeal.τ).loc Cert.MemoryIdeal.main_arg3) = m ((c.tc : Thread Cert.MemoryIdeal.nD Cert.MemoryIdeal.τ).loc Cert.MemoryIdeal.main_arg3))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v17) = v0 c
          ∧ r.2.mem ((c.tc : Thread Cert.MemoryReferenceIdeal.nD Cert.MemoryReferenceIdeal.τ).loc Cert.MemoryReferenceIdeal.main_v20) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2)
          ∧ r.2.mem ((c.tc : Thread Cert.MemoryReferenceIdeal.nD Cert.MemoryReferenceIdeal.τ).loc Cert.MemoryReferenceIdeal.main_arg3) = m' ((c.tc : Thread Cert.MemoryReferenceIdeal.nD Cert.MemoryReferenceIdeal.τ).loc Cert.MemoryReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)) →
    ∃ (v0 : (c : Dev Cert.MergeIdeal.nD) → Buf (Elt Ideal) ((c.tc : Thread Cert.MergeIdeal.nD Cert.MergeIdeal.τ).loc Cert.MergeIdeal.main_v9_0)) (v1 : (c : Dev Cert.MergeIdeal.nD) → Buf (Elt Ideal) ((c.tc : Thread Cert.MergeIdeal.nD Cert.MergeIdeal.τ).loc Cert.MergeIdeal.main_v9_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9_0) = v0 c
          ∧ r.2.mem ((c.tc : Thread Cert.MergeIdeal.nD Cert.MergeIdeal.τ).loc Cert.MergeIdeal.main_v9_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v27) = v0 c
          ∧ r.2.mem ((c.tc : Thread Cert.MergeReferenceIdeal.nD Cert.MergeReferenceIdeal.τ).loc Cert.MergeReferenceIdeal.main_v55) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13))

def Claim : Prop :=
  ∃ (hExperts : Cert.Experts.Facts) (hExpertsIdeal : Cert.ExpertsIdeal.Facts) (hReferenceIdeal : Cert.ReferenceIdeal.Facts) (hProjections : Cert.Projections.Facts) (hProjectionsIdeal : Cert.ProjectionsIdeal.Facts) (hProjectionsReferenceIdeal : Cert.ProjectionsReferenceIdeal.Facts) (hMemory : Cert.Memory.Facts) (hMemoryIdeal : Cert.MemoryIdeal.Facts) (hMemoryReferenceIdeal : Cert.MemoryReferenceIdeal.Facts) (hMerge : Cert.Merge.Facts) (hMergeIdeal : Cert.MergeIdeal.Facts) (hMergeReferenceIdeal : Cert.MergeReferenceIdeal.Facts) (hPre_routed : Cert.Pre_routed.Facts),
    quiescent_Experts (hExperts := hExperts) (hPre_routed := hPre_routed)
    ∧ quiescent_ExpertsIdeal (hExpertsIdeal := hExpertsIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ preserves_Experts_ExpertsIdeal
    ∧ algebraic_ExpertsIdeal_ReferenceIdeal (hExpertsIdeal := hExpertsIdeal) (hReferenceIdeal := hReferenceIdeal) (hPre_routed := hPre_routed)
    ∧ preserves_Projections_ProjectionsIdeal
    ∧ algebraic_ProjectionsIdeal_ProjectionsReferenceIdeal (hProjectionsIdeal := hProjectionsIdeal) (hProjectionsReferenceIdeal := hProjectionsReferenceIdeal)
    ∧ preserves_Memory_MemoryIdeal
    ∧ algebraic_MemoryIdeal_MemoryReferenceIdeal (hMemoryIdeal := hMemoryIdeal) (hMemoryReferenceIdeal := hMemoryReferenceIdeal)
    ∧ preserves_Merge_MergeIdeal
    ∧ algebraic_MergeIdeal_MergeReferenceIdeal (hMergeIdeal := hMergeIdeal) (hMergeReferenceIdeal := hMergeReferenceIdeal)
-- ==== Pre_routed.lean ====
abbrev S163 : Shape := ⟨1, ![163]⟩
abbrev S1 : Shape := ⟨1, ![1]⟩
abbrev S333824x128 : Shape := ⟨2, ![333824, 128]⟩
abbrev S32x2048x256 : Shape := ⟨3, ![32, 2048, 256]⟩
abbrev S32x256x2048 : Shape := ⟨3, ![32, 256, 2048]⟩
abbrev S_ : Shape := ⟨0, ![]⟩

class Facts : Prop where
  bcast_S_S163 : S_.BroadcastsInDim S163 (![] : Fin 0 → Fin S163.rank)
  reducesTo_S163_S_d0 : S163.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S163 32) (main_arg1 : IVec S1 32) (main_arg2 : IVec S333824x128 32) (main_arg3 : FVec F S32x2048x256 .f32) (main_arg4 : FVec F S32x2048x256 .f32) (main_arg5 : FVec F S32x256x2048 .f32) : IVec S_ 1 :=
  let main_c : IVec S_ 32 := constantI S_ 32 0#32
  let main_v0 : IVec S163 32 := broadcastInDim S163 ![] bcast_S_S163 main_c
  let main_v1 : IVec S163 1 := cmpi .sge main_arg0 main_v0
  let main_c_0 : IVec S_ 32 := constantI S_ 32 32#32
  let main_v2 : IVec S163 32 := broadcastInDim S163 ![] bcast_S_S163 main_c_0
  let main_v3 : IVec S163 1 := cmpi .slt main_arg0 main_v2
  let main_v4 : IVec S163 1 := andi main_v1 main_v3
  let main_c_1 : IVec S_ 1 := constantI S_ 1 1#1
  let main_v5 : IVec S_ 1 := (fun x v => Host.reduce IntOp.andi x v reducesTo_S163_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 163#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Experts.lean ====
abbrev S163 : Shape := ⟨1, ![163]⟩
abbrev S1 : Shape := ⟨1, ![1]⟩
abbrev S333824x128 : Shape := ⟨2, ![333824, 128]⟩
abbrev S32x2048x256 : Shape := ⟨3, ![32, 2048, 256]⟩
abbrev S32x256x2048 : Shape := ⟨3, ![32, 256, 2048]⟩
abbrev S2048x128 : Shape := ⟨2, ![2048, 128]⟩
abbrev S1x2048x256 : Shape := ⟨3, ![1, 2048, 256]⟩
abbrev S1x256x2048 : Shape := ⟨3, ![1, 256, 2048]⟩
abbrev S256x2048 : Shape := ⟨2, ![256, 2048]⟩
abbrev S2048x256 : Shape := ⟨2, ![2048, 256]⟩
abbrev S256x128 : Shape := ⟨2, ![256, 128]⟩
abbrev S256x256 : Shape := ⟨2, ![256, 256]⟩
abbrev S41728x2048 : Shape := ⟨2, ![41728, 2048]⟩

abbrev nBuf : Space → Nat
  | .hbm => 6
  | .vmem => 18
  | .smem => 2
  | _ => 0

abbrev bufTy : (tb : Table) → Fin (tcTables nBuf tb) → BufTy
  | .hbm, ⟨0, _⟩ => ⟨S333824x128, .i32⟩
  | .hbm, ⟨1, _⟩ => ⟨S32x2048x256, .f32⟩
  | .hbm, ⟨2, _⟩ => ⟨S32x2048x256, .f32⟩
  | .hbm, ⟨3, _⟩ => ⟨S32x256x2048, .f32⟩
  | .hbm, ⟨4, _⟩ => ⟨S333824x128, .i32⟩
  | .hbm, ⟨5, _⟩ => ⟨S41728x2048, .f32⟩
  | .local _ .vmem, ⟨0, _⟩ => ⟨S2048x128, .i32⟩
  | .local _ .vmem, ⟨1, _⟩ => ⟨S2048x128, .i32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S2048x128, .i32⟩
  | .local _ .vmem, ⟨9, _⟩ => ⟨S2048x128, .i32⟩
  | .local _ .vmem, ⟨10, _⟩ => ⟨S256x2048, .bf16⟩
  | .local _ .vmem, ⟨11, _⟩ => ⟨S2048x256, .bf16⟩
  | .local _ .vmem, ⟨12, _⟩ => ⟨S2048x256, .bf16⟩
  | .local _ .vmem, ⟨13, _⟩ => ⟨S256x2048, .bf16⟩
  | .local _ .vmem, ⟨14, _⟩ => ⟨S2048x128, .i32⟩
  | .local _ .vmem, ⟨15, _⟩ => ⟨S2048x128, .i32⟩
  | .local _ .vmem, ⟨16, _⟩ => ⟨S256x2048, .f32⟩
  | .local _ .vmem, ⟨17, _⟩ => ⟨S256x2048, .f32⟩
  | .local _ .smem, ⟨0, _⟩ => ⟨S163, .i32⟩
  | .local _ .smem, ⟨1, _⟩ => ⟨S1, .i32⟩
  | _, _ => ⟨S333824x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [BitOps F]

abbrev grid0 : Pipeline.Grid := ⟨1, ![163], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![163], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ExpertsIdeal.lean ====
abbrev S163 : Shape := ⟨1, ![163]⟩
abbrev S1 : Shape := ⟨1, ![1]⟩
abbrev S333824x128 : Shape := ⟨2, ![333824, 128]⟩
abbrev S32x2048x256 : Shape := ⟨3, ![32, 2048, 256]⟩
abbrev S32x256x2048 : Shape := ⟨3, ![32, 256, 2048]⟩
abbrev S333824x2x128 : Shape := ⟨3, ![333824, 2, 128]⟩
abbrev S333824x1x128 : Shape := ⟨3, ![333824, 1, 128]⟩
abbrev S2048x128 : Shape := ⟨2, ![2048, 128]⟩
abbrev S1x2048x256 : Shape := ⟨3, ![1, 2048, 256]⟩
abbrev S1x256x2048 : Shape := ⟨3, ![1, 256, 2048]⟩
abbrev S2048x2x128 : Shape := ⟨3, ![2048, 2, 128]⟩
abbrev S2048x1x128 : Shape := ⟨3, ![2048, 1, 128]⟩
abbrev S256x2048 : Shape := ⟨2, ![256, 2048]⟩
abbrev S2048x256 : Shape := ⟨2, ![2048, 256]⟩
abbrev S256x128 : Shape := ⟨2, ![256, 128]⟩
abbrev S256x256 : Shape := ⟨2, ![256, 256]⟩
abbrev S256x2x128 : Shape := ⟨3, ![256, 2, 128]⟩
abbrev S256x1x128 : Shape := ⟨3, ![256, 1, 128]⟩
abbrev S41728x2048 : Shape := ⟨2, ![41728, 2048]⟩
abbrev S512x128 : Shape := ⟨2, ![512, 128]⟩

abbrev nBuf : Space → Nat
  | .hbm => 6
  | .vmem => 18
  | .smem => 2
  | _ => 0

abbrev bufTy : (tb : Table) → Fin (tcTables nBuf tb) → BufTy
  | .hbm, ⟨0, _⟩ => ⟨S333824x128, .i32⟩
  | .hbm, ⟨1, _⟩ => ⟨S32x2048x256, .f32⟩
  | .hbm, ⟨2, _⟩ => ⟨S32x2048x256, .f32⟩
  | .hbm, ⟨3, _⟩ => ⟨S32x256x2048, .f32⟩
  | .hbm, ⟨4, _⟩ => ⟨S333824x2x128, .bf16⟩
  | .hbm, ⟨5, _⟩ => ⟨S41728x2048, .f32⟩
  | .local _ .vmem, ⟨0, _⟩ => ⟨S2048x128, .i32⟩
  | .local _ .vmem, ⟨1, _⟩ => ⟨S2048x128, .i32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S2048x2x128, .bf16⟩
  | .local _ .vmem, ⟨9, _⟩ => ⟨S2048x2x128, .bf16⟩
  | .local _ .vmem, ⟨10, _⟩ => ⟨S256x2048, .bf16⟩
  | .local _ .vmem, ⟨11, _⟩ => ⟨S2048x256, .bf16⟩
  | .local _ .vmem, ⟨12, _⟩ => ⟨S2048x256, .bf16⟩
  | .local _ .vmem, ⟨13, _⟩ => ⟨S256x2048, .bf16⟩
  | .local _ .vmem, ⟨14, _⟩ => ⟨S2048x2x128, .bf16⟩
  | .local _ .vmem, ⟨15, _⟩ => ⟨S2048x2x128, .bf16⟩
  | .local _ .vmem, ⟨16, _⟩ => ⟨S256x2048, .f32⟩
  | .local _ .vmem, ⟨17, _⟩ => ⟨S256x2048, .f32⟩
  | .local _ .smem, ⟨0, _⟩ => ⟨S163, .i32⟩
  | .local _ .smem, ⟨1, _⟩ => ⟨S1, .i32⟩
  | _, _ => ⟨S333824x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [FloatOps F]

abbrev grid0 : Pipeline.Grid := ⟨1, ![163], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_off3 (i : grid0.Coords) : Fin 1 → Nat :=
  let arg0 : BitVec 32 := BitVec.ofNat 32 (i 0).val
  let c1_i32 : BitVec 32 := 1#32
  let v8 : BitVec 32 := Scalar.subi arg0 c1_i32
  let c0_i32_1 : BitVec 32 := 0#32
  let v9 : BitVec 32 := Scalar.maxsi v8 c0_i32_1
  let v10 : Index := Scalar.indexCast v9
  ![v10.toNat]
def k0_cond1 (i : grid0.Coords) (v0 : BitVec 32) : BitVec 1 :=
  let arg0 : BitVec 32 := BitVec.ofNat 32 (i 0).val
  let v1 : BitVec 1 := Scalar.cmpi .slt arg0 v0
  let v_true : BitVec 1 := 1#1
  let v2 : BitVec 1 := Scalar.xori v1 v_true
  let v3 : BitVec 32 := Scalar.extui v2
  let c0_i32 : BitVec 32 := 0#32
  let v4 : BitVec 1 := Scalar.cmpi .ne v3 c0_i32
  v4

def k0_cond3 (i : grid0.Coords) (v0 : BitVec 32) : BitVec 1 :=
  let arg0 : BitVec 32 := BitVec.ofNat 32 (i 0).val
  let v1 : BitVec 1 := Scalar.cmpi .slt arg0 v0
  let v17 : BitVec 32 := Scalar.extui v1
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x2x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![163], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x2x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S163 : Shape := ⟨1, ![163]⟩
abbrev S1 : Shape := ⟨1, ![1]⟩
abbrev S333824x128 : Shape := ⟨2, ![333824, 128]⟩
abbrev S32x2048x256 : Shape := ⟨3, ![32, 2048, 256]⟩
abbrev S32x256x2048 : Shape := ⟨3, ![32, 256, 2048]⟩
abbrev S41728x1024 : Shape := ⟨2, ![41728, 1024]⟩
abbrev S41728x1024x2 : Shape := ⟨3, ![41728, 1024, 2]⟩
abbrev S41728x1024x1 : Shape := ⟨3, ![41728, 1024, 1]⟩
abbrev S41728x2048 : Shape := ⟨2, ![41728, 2048]⟩
abbrev S41728 : Shape := ⟨1, ![41728]⟩
abbrev S163x1 : Shape := ⟨2, ![163, 1]⟩
abbrev S163x256 : Shape := ⟨2, ![163, 256]⟩
abbrev S_ : Shape := ⟨0, ![]⟩
abbrev S41728x32x256 : Shape := ⟨3, ![41728, 32, 256]⟩
abbrev S32x41728x2048 : Shape := ⟨3, ![32, 41728, 2048]⟩
abbrev S32 : Shape := ⟨1, ![32]⟩
abbrev S32x1 : Shape := ⟨2, ![32, 1]⟩
abbrev S1x41728 : Shape := ⟨2, ![1, 41728]⟩
abbrev S32x41728 : Shape := ⟨2, ![32, 41728]⟩
abbrev S32x41728x1 : Shape := ⟨3, ![32, 41728, 1]⟩

abbrev nBuf : Space → Nat
  | .hbm => 54
  | .vmem => 0
  | .smem => 0
  | _ => 0

abbrev bufTy : (tb : Table) → Fin (tcTables nBuf tb) → BufTy
  | .hbm, ⟨0, _⟩ => ⟨S163, .i32⟩
  | .hbm, ⟨1, _⟩ => ⟨S1, .i32⟩
  | .hbm, ⟨2, _⟩ => ⟨S333824x128, .i32⟩
  | .hbm, ⟨3, _⟩ => ⟨S32x2048x256, .f32⟩
  | .hbm, ⟨4, _⟩ => ⟨S32x2048x256, .f32⟩
  | .hbm, ⟨5, _⟩ => ⟨S32x256x2048, .f32⟩
  | .hbm, ⟨6, _⟩ => ⟨S41728x1024, .i32⟩
  | .hbm, ⟨7, _⟩ => ⟨S41728x1024x2, .bf16⟩
  | .hbm, ⟨8, _⟩ => ⟨S41728x1024x2, .f32⟩
  | .hbm, ⟨9, _⟩ => ⟨S41728x1024x1, .f32⟩
  | .hbm, ⟨10, _⟩ => ⟨S41728x1024, .f32⟩
  | .hbm, ⟨11, _⟩ => ⟨S41728x1024x1, .f32⟩
  | .hbm, ⟨12, _⟩ => ⟨S41728x1024, .f32⟩
  | .hbm, ⟨13, _⟩ => ⟨S41728x2048, .f32⟩
  | .hbm, ⟨14, _⟩ => ⟨S41728, .i32⟩
  | .hbm, ⟨15, _⟩ => ⟨S163x1, .i32⟩
  | .hbm, ⟨16, _⟩ => ⟨S163x256, .i32⟩
  | .hbm, ⟨17, _⟩ => ⟨S41728, .i32⟩
  | .hbm, ⟨18, _⟩ => ⟨S_, .i32⟩
  | .hbm, ⟨19, _⟩ => ⟨S1, .i32⟩
  | .hbm, ⟨20, _⟩ => ⟨S1, .i32⟩
  | .hbm, ⟨21, _⟩ => ⟨S41728, .i32⟩
  | .hbm, ⟨22, _⟩ => ⟨S41728, .i1⟩
  | .hbm, ⟨23, _⟩ => ⟨S_, .i32⟩
  | .hbm, ⟨24, _⟩ => ⟨S_, .i32⟩
  | .hbm, ⟨25, _⟩ => ⟨S41728, .i32⟩
  | .hbm, ⟨26, _⟩ => ⟨S41728, .i32⟩
  | .hbm, ⟨27, _⟩ => ⟨S41728x32x256, .f32⟩
  | .hbm, ⟨28, _⟩ => ⟨S41728x32x256, .f32⟩
  | .hbm, ⟨29, _⟩ => ⟨S41728x32x256, .f32⟩
  | .hbm, ⟨30, _⟩ => ⟨S_, .f32⟩
  | .hbm, ⟨31, _⟩ => ⟨S41728x32x256, .f32⟩
  | .hbm, ⟨32, _⟩ => ⟨S41728x32x256, .f32⟩
  | .hbm, ⟨33, _⟩ => ⟨S_, .f32⟩
  | .hbm, ⟨34, _⟩ => ⟨S41728x32x256, .f32⟩
  | .hbm, ⟨35, _⟩ => ⟨S41728x32x256, .f32⟩
  | .hbm, ⟨36, _⟩ => ⟨S41728x32x256, .f32⟩
  | .hbm, ⟨37, _⟩ => ⟨S41728x32x256, .f32⟩
  | .hbm, ⟨38, _⟩ => ⟨S41728x32x256, .f32⟩
  | .hbm, ⟨39, _⟩ => ⟨S32x41728x2048, .f32⟩
  | .hbm, ⟨40, _⟩ => ⟨S32, .i32⟩
  | .hbm, ⟨41, _⟩ => ⟨S32x1, .i32⟩
  | .hbm, ⟨42, _⟩ => ⟨S1x41728, .i32⟩
  | .hbm, ⟨43, _⟩ => ⟨S32x41728, .i32⟩
  | .hbm, ⟨44, _⟩ => ⟨S32x41728, .i32⟩
  | .hbm, ⟨45, _⟩ => ⟨S32x41728, .i1⟩
  | .hbm, ⟨46, _⟩ => ⟨S32x41728x1, .i1⟩
  | .hbm, ⟨47, _⟩ => ⟨S_, .f32⟩
  | .hbm, ⟨48, _⟩ => ⟨S_, .f32⟩
  | .hbm, ⟨49, _⟩ => ⟨S32x41728x2048, .i1⟩
  | .hbm, ⟨50, _⟩ => ⟨S32x41728x2048, .f32⟩
  | .hbm, ⟨51, _⟩ => ⟨S32x41728x2048, .f32⟩
  | .hbm, ⟨52, _⟩ => ⟨S_, .f32⟩
  | .hbm, ⟨53, _⟩ => ⟨S41728x2048, .f32⟩
  | _, _ => ⟨S163, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Projections.lean ====
abbrev S2x8192x2048 : Shape := ⟨3, ![2, 8192, 2048]⟩
abbrev S8x64x2048 : Shape := ⟨3, ![8, 64, 2048]⟩
abbrev S1x2048 : Shape := ⟨2, ![1, 2048]⟩
abbrev S1x2048x15360 : Shape := ⟨3, ![1, 2048, 15360]⟩
abbrev S2048x15360 : Shape := ⟨2, ![2048, 15360]⟩
abbrev S16384x2048 : Shape := ⟨2, ![16384, 2048]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S1024x2048 : Shape := ⟨2, ![1024, 2048]⟩
abbrev S2048x1024 : Shape := ⟨2, ![2048, 1024]⟩
abbrev S1024x1024 : Shape := ⟨2, ![1024, 1024]⟩
abbrev S512x1024 : Shape := ⟨2, ![512, 1024]⟩
abbrev S16384x1024 : Shape := ⟨2, ![16384, 1024]⟩
abbrev S16384x6144 : Shape := ⟨2, ![16384, 6144]⟩
abbrev S512x6144 : Shape := ⟨2, ![512, 6144]⟩
abbrev S2x8192x16x128 : Shape := ⟨4, ![2, 8192, 16, 128]⟩
abbrev S1x2x8192x16x128 : Shape := ⟨5, ![1, 2, 8192, 16, 128]⟩
abbrev S8x64x16x128 : Shape := ⟨4, ![8, 64, 16, 128]⟩
abbrev S1x8x64x16x128 : Shape := ⟨5, ![1, 8, 64, 16, 128]⟩

abbrev nBuf : Space → Nat
  | .hbm => 33
  | .vmem => 73
  | .smem => 0
  | _ => 0

abbrev bufTy : (tb : Table) → Fin (tcTables nBuf tb) → BufTy
  | .hbm, ⟨0, _⟩ => ⟨S2x8192x2048, .f32⟩
  | .hbm, ⟨1, _⟩ => ⟨S8x64x2048, .f32⟩
  | .hbm, ⟨2, _⟩ => ⟨S1x2048, .f32⟩
  | .hbm, ⟨3, _⟩ => ⟨S1x2048x15360, .f32⟩
  | .hbm, ⟨4, _⟩ => ⟨S2048x15360, .f32⟩
  | .hbm, ⟨5, _⟩ => ⟨S16384x2048, .f32⟩
  | .hbm, ⟨6, _⟩ => ⟨S512x2048, .f32⟩
  | .hbm, ⟨7, _⟩ => ⟨S2048, .f32⟩
  | .hbm, ⟨8, _⟩ => ⟨S1x2048, .f32⟩
  | .hbm, ⟨9, _⟩ => ⟨S16384x2048, .bf16⟩
  | .hbm, ⟨10, _⟩ => ⟨S2048, .f32⟩
  | .hbm, ⟨11, _⟩ => ⟨S1x2048, .f32⟩
  | .hbm, ⟨12, _⟩ => ⟨S512x2048, .bf16⟩
  | .hbm, ⟨13, _⟩ => ⟨S16384x2048, .f32⟩
  | .hbm, ⟨14, _⟩ => ⟨S512x2048, .f32⟩
  | .hbm, ⟨15, _⟩ => ⟨S16384x2048, .f32⟩
  | .hbm, ⟨16, _⟩ => ⟨S512x2048, .f32⟩
  | .hbm, ⟨17, _⟩ => ⟨S16384x2048, .f32⟩
  | .hbm, ⟨18, _⟩ => ⟨S512x2048, .f32⟩
  | .hbm, ⟨19, _⟩ => ⟨S16384x2048, .f32⟩
  | .hbm, ⟨20, _⟩ => ⟨S512x2048, .f32⟩
  | .hbm, ⟨21, _⟩ => ⟨S16384x1024, .bf16⟩
  | .hbm, ⟨22, _⟩ => ⟨S512x1024, .bf16⟩
  | .hbm, ⟨23, _⟩ => ⟨S16384x6144, .bf16⟩
  | .hbm, ⟨24, _⟩ => ⟨S512x6144, .bf16⟩
  | .hbm, ⟨25, _⟩ => ⟨S2x8192x16x128, .f32⟩
  | .hbm, ⟨26, _⟩ => ⟨S1x2x8192x16x128, .f32⟩
  | .hbm, ⟨27, _⟩ => ⟨S8x64x16x128, .f32⟩
  | .hbm, ⟨28, _⟩ => ⟨S1x8x64x16x128, .f32⟩
  | .hbm, ⟨29, _⟩ => ⟨S2x8192x16x128, .f32⟩
  | .hbm, ⟨30, _⟩ => ⟨S1x2x8192x16x128, .f32⟩
  | .hbm, ⟨31, _⟩ => ⟨S8x64x16x128, .f32⟩
  | .hbm, ⟨32, _⟩ => ⟨S1x8x64x16x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S1024x2048, .bf16⟩
  | .local _ .vmem, ⟨9, _⟩ => ⟨S1024x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x1024, .f32⟩
  | .local _ .vmem, ⟨13, _⟩ => ⟨S2048x1024, .f32⟩
  | .local _ .vmem, ⟨14, _⟩ => ⟨S1024x1024, .f32⟩
  | .local _ .vmem, ⟨15, _⟩ => ⟨S1024x1024, .f32⟩
  | .local _ .vmem, ⟨16, _⟩ => ⟨S512x1024, .f32⟩
  | .local _ .vmem, ⟨17, _⟩ => ⟨S512x1024, .f32⟩
  | .local _ .vmem, ⟨18, _⟩ => ⟨S2048x1024, .bf16⟩
  | .local _ .vmem, ⟨19, _⟩ => ⟨S1024x2048, .bf16⟩
  | .local _ .vmem, ⟨20, _⟩ => ⟨S1024x2048, .bf16⟩
  | .local _ .vmem, ⟨21, _⟩ => ⟨S512x2048, .bf16⟩
  | .local _ .vmem, ⟨22, _⟩ => ⟨S512x2048, .bf16⟩
  | .local _ .vmem, ⟨23, _⟩ => ⟨S2048x1024, .f32⟩
  | .local _ .vmem, ⟨24, _⟩ => ⟨S2048x1024, .f32⟩
  | .local _ .vmem, ⟨25, _⟩ => ⟨S1024x1024, .f32⟩
  | .local _ .vmem, ⟨26, _⟩ => ⟨S1024x1024, .f32⟩
  | .local _ .vmem, ⟨27, _⟩ => ⟨S512x1024, .f32⟩
  | .local _ .vmem, ⟨28, _⟩ => ⟨S512x1024, .f32⟩
  | .local _ .vmem, ⟨29, _⟩ => ⟨S2048x1024, .bf16⟩
  | .local _ .vmem, ⟨30, _⟩ => ⟨S1024x2048, .bf16⟩
  | .local _ .vmem, ⟨31, _⟩ => ⟨S1024x2048, .bf16⟩
  | .local _ .vmem, ⟨32, _⟩ => ⟨S512x2048, .bf16⟩
  | .local _ .vmem, ⟨33, _⟩ => ⟨S512x2048, .bf16⟩
  | .local _ .vmem, ⟨34, _⟩ => ⟨S2048x1024, .f32⟩
  | .local _ .vmem, ⟨35, _⟩ => ⟨S2048x1024, .f32⟩
  | .local _ .vmem, ⟨36, _⟩ => ⟨S1024x1024, .f32⟩
  | .local _ .vmem, ⟨37, _⟩ => ⟨S1024x1024, .f32⟩
  | .local _ .vmem, ⟨38, _⟩ => ⟨S512x1024, .f32⟩
  | .local _ .vmem, ⟨39, _⟩ => ⟨S512x1024, .f32⟩
  | .local _ .vmem, ⟨40, _⟩ => ⟨S2048x1024, .bf16⟩
  | .local _ .vmem, ⟨41, _⟩ => ⟨S1024x2048, .bf16⟩
  | .local _ .vmem, ⟨42, _⟩ => ⟨S1024x2048, .bf16⟩
  | .local _ .vmem, ⟨43, _⟩ => ⟨S512x2048, .bf16⟩
  | .local _ .vmem, ⟨44, _⟩ => ⟨S512x2048, .bf16⟩
  | .local _ .vmem, ⟨45, _⟩ => ⟨S2048x1024, .f32⟩
  | .local _ .vmem, ⟨46, _⟩ => ⟨S2048x1024, .f32⟩
  | .local _ .vmem, ⟨47, _⟩ => ⟨S1024x1024, .f32⟩
  | .local _ .vmem, ⟨48, _⟩ => ⟨S1024x1024, .f32⟩
  | .local _ .vmem, ⟨49, _⟩ => ⟨S512x1024, .f32⟩
  | .local _ .vmem, ⟨50, _⟩ => ⟨S512x1024, .f32⟩
  | .local _ .vmem, ⟨51, _⟩ => ⟨S2048x1024, .bf16⟩
  | .local _ .vmem, ⟨52, _⟩ => ⟨S1024x2048, .bf16⟩
  | .local _ .vmem, ⟨53, _⟩ => ⟨S1024x2048, .bf16⟩
  | .local _ .vmem, ⟨54, _⟩ => ⟨S512x2048, .bf16⟩
  | .local _ .vmem, ⟨55, _⟩ => ⟨S512x2048, .bf16⟩
  | .local _ .vmem, ⟨56, _⟩ => ⟨S2048x1024, .f32⟩
  | .local _ .vmem, ⟨57, _⟩ => ⟨S1024x1024, .bf16⟩
  | .local _ .vmem, ⟨58, _⟩ => ⟨S1024x1024, .bf16⟩
  | .local _ .vmem, ⟨59, _⟩ => ⟨S512x1024, .bf16⟩
  | .local _ .vmem, ⟨60, _⟩ => ⟨S512x1024, .bf16⟩
  | .local _ .vmem, ⟨61, _⟩ => ⟨S2048x1024, .bf16⟩
  | .local _ .vmem, ⟨62, _⟩ => ⟨S1024x2048, .bf16⟩
  | .local _ .vmem, ⟨63, _⟩ => ⟨S1024x2048, .bf16⟩
  | .local _ .vmem, ⟨64, _⟩ => ⟨S512x2048, .bf16⟩
  | .local _ .vmem, ⟨65, _⟩ => ⟨S512x2048, .bf16⟩
  | .local _ .vmem, ⟨66, _⟩ => ⟨S2048x1024, .f32⟩
  | .local _ .vmem, ⟨67, _⟩ => ⟨S2048x1024, .f32⟩
  | .local _ .vmem, ⟨68, _⟩ => ⟨S1024x1024, .bf16⟩
  | .local _ .vmem, ⟨69, _⟩ => ⟨S1024x1024, .bf16⟩
  | .local _ .vmem, ⟨70, _⟩ => ⟨S512x1024, .bf16⟩
  | .local _ .vmem, ⟨71, _⟩ => ⟨S512x1024, .bf16⟩
  | .local _ .vmem, ⟨72, _⟩ => ⟨S2048x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10_0 : Ref sig .tc := ⟨.hbm, 15, rfl⟩
abbrev main_v10_1 : Ref sig .tc := ⟨.hbm, 16, rfl⟩
abbrev main_v11_0 : Ref sig .tc := ⟨.hbm, 17, rfl⟩
abbrev main_v11_1 : Ref sig .tc := ⟨.hbm, 18, rfl⟩
abbrev main_v12_0 : Ref sig .tc := ⟨.hbm, 19, rfl⟩
abbrev main_v12_1 : Ref sig .tc := ⟨.hbm, 20, rfl⟩
abbrev main_v13_0 : Ref sig .tc := ⟨.hbm, 21, rfl⟩
abbrev main_v13_1 : Ref sig .tc := ⟨.hbm, 22, rfl⟩
abbrev main_v14_0 : Ref sig .tc := ⟨.hbm, 23, rfl⟩
abbrev main_v14_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg3_1 : Ref sig .tc := ⟨.vmem, 48, rfl⟩
abbrev cc5_stg4_0 : Ref sig .tc := ⟨.vmem, 49, rfl⟩
abbrev cc5_stg4_1 : Ref sig .tc := ⟨.vmem, 50, rfl⟩
abbrev cc5_scratch0 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg3_1 : Ref sig .tc := ⟨.vmem, 58, rfl⟩
abbrev cc6_stg4_0 : Ref sig .tc := ⟨.vmem, 59, rfl⟩
abbrev cc6_stg4_1 : Ref sig .tc := ⟨.vmem, 60, rfl⟩
abbrev cc6_scratch0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg1_1 : Ref sig .tc := ⟨.vmem, 65, rfl⟩
abbrev cc7_stg2_0 : Ref sig .tc := ⟨.vmem, 66, rfl⟩
abbrev cc7_stg2_1 : Ref sig .tc := ⟨.vmem, 67, rfl⟩
abbrev cc7_stg3_0 : Ref sig .tc := ⟨.vmem, 68, rfl⟩
abbrev cc7_stg3_1 : Ref sig .tc := ⟨.vmem, 69, rfl⟩
abbrev cc7_stg4_0 : Ref sig .tc := ⟨.vmem, 70, rfl⟩
abbrev cc7_stg4_1 : Ref sig .tc := ⟨.vmem, 71, rfl⟩
abbrev cc7_scratch0 : Ref sig .tc := ⟨.vmem, 72, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem3_1 : DmaSem sig := 54
abbrev cc6_sem4_0 : DmaSem sig := 55
abbrev cc6_sem4_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem2_1 : DmaSem sig := 62
abbrev cc7_sem3_0 : DmaSem sig := 63
abbrev cc7_sem3_1 : DmaSem sig := 64
abbrev cc7_sem4_0 : DmaSem sig := 65
abbrev cc7_sem4_1 : DmaSem sig := 66

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S512x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![2, 17], ![false, false]⟩

def k2_cond2 (i : grid2.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k2_cond3 (i : grid2.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc2_transform_4 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 17], ![false, false]⟩

def k3_cond2 (i : grid3.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k3_cond3 (i : grid3.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc3_transform_1 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc3_transform_2 (i : grid3.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc3_transform_4 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 17], ![false, false]⟩

def k4_cond2 (i : grid4.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k4_cond3 (i : grid4.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc4_transform_1 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc4_transform_2 (i : grid4.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc4_transform_4 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S512x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev grid5 : Pipeline.Grid := ⟨2, ![2, 17], ![false, false]⟩

def k5_cond2 (i : grid5.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k5_cond3 (i : grid5.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc5_transform_1 (i : grid5.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc5_transform_2 (i : grid5.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  ![c0_i32.toNat, v0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc5_transform_4 (i : grid5.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1024x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S512x1024 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev grid6 : Pipeline.Grid := ⟨2, ![1, 17], ![false, false]⟩

def k6_cond2 (i : grid6.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k6_cond3 (i : grid6.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc6_transform_1 (i : grid6.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc6_transform_2 (i : grid6.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc6_transform_4 (i : grid6.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S512x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 1 → Memref sig .tc .vmem S2048x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, false]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev stage6_4 : Fin 2 → Memref sig .tc .vmem S512x1024 .bf16 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true]

abbrev grid7 : Pipeline.Grid := ⟨2, ![6, 17], ![false, false]⟩

def k7_cond2 (i : grid7.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k7_cond3 (i : grid7.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc7_transform_1 (i : grid7.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc7_transform_2 (i : grid7.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  let c0_i32_0 : BitVec 32 := 0#32
  ![c0_i32.toNat, v0.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc7_transform_4 (i : grid7.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S512x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S1024x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev stage7_4 : Fin 2 → Memref sig .tc .vmem S512x1024 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]
-- ==== ProjectionsReferenceIdeal.lean ====
abbrev S2x8192x2048 : Shape := ⟨3, ![2, 8192, 2048]⟩
abbrev S8x64x2048 : Shape := ⟨3, ![8, 64, 2048]⟩
abbrev S1x2048 : Shape := ⟨2, ![1, 2048]⟩
abbrev S1x2048x15360 : Shape := ⟨3, ![1, 2048, 15360]⟩
abbrev S2048 : Shape := ⟨1, ![2048]⟩
abbrev S2048x15360 : Shape := ⟨2, ![2048, 15360]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S16384x15360 : Shape := ⟨2, ![16384, 15360]⟩
abbrev S1x2x8192x16x128 : Shape := ⟨5, ![1, 2, 8192, 16, 128]⟩
abbrev S16384x1024 : Shape := ⟨2, ![16384, 1024]⟩
abbrev S16384x6144 : Shape := ⟨2, ![16384, 6144]⟩
abbrev S512x2048 : Shape := ⟨2, ![512, 2048]⟩
abbrev S512 : Shape := ⟨1, ![512]⟩
abbrev S512x1 : Shape := ⟨2, ![512, 1]⟩
abbrev S512x15360 : Shape := ⟨2, ![512, 15360]⟩
abbrev S1x8x64x16x128 : Shape := ⟨5, ![1, 8, 64, 16, 128]⟩
abbrev S512x1024 : Shape := ⟨2, ![512, 1024]⟩
abbrev S512x6144 : Shape := ⟨2, ![512, 6144]⟩

abbrev nBuf : Space → Nat
  | .hbm => 62
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x64x2048, .f32⟩
  | .hbm, ⟨2, _⟩ => ⟨S1x2048, .f32⟩
  | .hbm, ⟨3, _⟩ => ⟨S1x2048x15360, .f32⟩
  | .hbm, ⟨4, _⟩ => ⟨S2048, .f32⟩
  | .hbm, ⟨5, _⟩ => ⟨S2048x15360, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x15360, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S1x2x8192x16x128, .f32⟩
  | .hbm, ⟨28, _⟩ => ⟨S16384x2048, .f32⟩
  | .hbm, ⟨29, _⟩ => ⟨S1x2x8192x16x128, .f32⟩
  | .hbm, ⟨30, _⟩ => ⟨S16384x1024, .f32⟩
  | .hbm, ⟨31, _⟩ => ⟨S16384x1024, .bf16⟩
  | .hbm, ⟨32, _⟩ => ⟨S16384x6144, .f32⟩
  | .hbm, ⟨33, _⟩ => ⟨S16384x6144, .bf16⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S_, .f32⟩
  | .hbm, ⟨40, _⟩ => ⟨S512x1, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S512x1, .f32⟩
  | .hbm, ⟨46, _⟩ => ⟨S512x2048, .f32⟩
  | .hbm, ⟨47, _⟩ => ⟨S512x2048, .f32⟩
  | .hbm, ⟨48, _⟩ => ⟨S1x2048, .f32⟩
  | .hbm, ⟨49, _⟩ => ⟨S512x2048, .f32⟩
  | .hbm, ⟨50, _⟩ => ⟨S512x2048, .f32⟩
  | .hbm, ⟨51, _⟩ => ⟨S512x15360, .f32⟩
  | .hbm, ⟨52, _⟩ => ⟨S512x2048, .f32⟩
  | .hbm, ⟨53, _⟩ => ⟨S512x2048, .f32⟩
  | .hbm, ⟨54, _⟩ => ⟨S512x2048, .f32⟩
  | .hbm, ⟨55, _⟩ => ⟨S1x8x64x16x128, .f32⟩
  | .hbm, ⟨56, _⟩ => ⟨S512x2048, .f32⟩
  | .hbm, ⟨57, _⟩ => ⟨S1x8x64x16x128, .f32⟩
  | .hbm, ⟨58, _⟩ => ⟨S512x1024, .f32⟩
  | .hbm, ⟨59, _⟩ => ⟨S512x1024, .bf16⟩
  | .hbm, ⟨60, _⟩ => ⟨S512x6144, .f32⟩
  | .hbm, ⟨61, _⟩ => ⟨S512x6144, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Memory.lean ====
abbrev S2x256x2048 : Shape := ⟨3, ![2, 256, 2048]⟩
abbrev S1x2048 : Shape := ⟨2, ![1, 2048]⟩
abbrev S1x2048x1024 : Shape := ⟨3, ![1, 2048, 1024]⟩
abbrev S512x2048 : Shape := ⟨2, ![512, 2048]⟩
abbrev S2048 : Shape := ⟨1, ![2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S2x256x1024 : Shape := ⟨3, ![2, 256, 1024]⟩
abbrev S1x2x256x4x256 : Shape := ⟨5, ![1, 2, 256, 4, 256]⟩

abbrev nBuf : Space → Nat
  | .hbm => 16
  | .vmem => 11
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x1024, .f32⟩
  | .hbm, ⟨3, _⟩ => ⟨S1x2048x1024, .f32⟩
  | .hbm, ⟨4, _⟩ => ⟨S512x2048, .f32⟩
  | .hbm, ⟨5, _⟩ => ⟨S2048, .f32⟩
  | .hbm, ⟨6, _⟩ => ⟨S1x2048, .f32⟩
  | .hbm, ⟨7, _⟩ => ⟨S512x2048, .bf16⟩
  | .hbm, ⟨8, _⟩ => ⟨S2048x1024, .f32⟩
  | .hbm, ⟨9, _⟩ => ⟨S512x1024, .f32⟩
  | .hbm, ⟨10, _⟩ => ⟨S2x256x1024, .f32⟩
  | .hbm, ⟨11, _⟩ => ⟨S2048x1024, .f32⟩
  | .hbm, ⟨12, _⟩ => ⟨S512x1024, .f32⟩
  | .hbm, ⟨13, _⟩ => ⟨S2x256x1024, .f32⟩
  | .hbm, ⟨14, _⟩ => ⟨S1x2x256x4x256, .f32⟩
  | .hbm, ⟨15, _⟩ => ⟨S1x2x256x4x256, .f32⟩
  | .local _ .vmem, ⟨0, _⟩ => ⟨S512x2048, .f32⟩
  | .local _ .vmem, ⟨1, _⟩ => ⟨S1x2048, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .f32⟩
  | .local _ .vmem, ⟨5, _⟩ => ⟨S512x1024, .f32⟩
  | .local _ .vmem, ⟨6, _⟩ => ⟨S2048x1024, .bf16⟩
  | .local _ .vmem, ⟨7, _⟩ => ⟨S512x2048, .bf16⟩
  | .local _ .vmem, ⟨8, _⟩ => ⟨S2048x1024, .f32⟩
  | .local _ .vmem, ⟨9, _⟩ => ⟨S512x1024, .f32⟩
  | .local _ .vmem, ⟨10, _⟩ => ⟨S2048x1024, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_scratch0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_scratch0 : Ref sig .tc := ⟨.vmem, 10, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem1_0 : DmaSem sig := 7
abbrev cc2_sem2_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 1], ![false, false]⟩

def k1_cond2 (i : grid1.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 arg0
  let c0_i32_3 : BitVec 32 := 0#32
  ![v2.toNat, v3.toNat]

abbrev stage1_0 : Fin 1 → Memref sig .tc .vmem S512x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S512x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev grid2 : Pipeline.Grid := ⟨2, ![1, 1], ![false, false]⟩

def k2_cond2 (i : grid2.Coords) : BitVec 1 :=
  let arg1 : BitVec 32 := BitVec.ofNat 32 (i 1).val
  let c0_i32_1 : BitVec 32 := 0#32
  let v3 : BitVec 1 := Scalar.cmpi .sge arg1 c0_i32_1
  let c1_i32 : BitVec 32 := 1#32
  let v4 : BitVec 1 := Scalar.cmpi .slt arg1 c1_i32
  let v5 : BitVec 1 := Scalar.andi v3 v4
  let v6 : BitVec 32 := Scalar.extui v5
  let c0_i32_2 : BitVec 32 := 0#32
  let v7 : BitVec 1 := Scalar.cmpi .ne v6 c0_i32_2
  v7

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![v2.toNat, c0_i32_2.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 arg0
  let c0_i32_3 : BitVec 32 := 0#32
  ![v2.toNat, v3.toNat]

abbrev stage2_0 : Fin 1 → Memref sig .tc .vmem S512x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 1 → Memref sig .tc .vmem S2048x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S512x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]
-- ==== MemoryReferenceIdeal.lean ====
abbrev S2x256x2048 : Shape := ⟨3, ![2, 256, 2048]⟩
abbrev S1x2048 : Shape := ⟨2, ![1, 2048]⟩
abbrev S1x2048x1024 : Shape := ⟨3, ![1, 2048, 1024]⟩
abbrev S512x2048 : Shape := ⟨2, ![512, 2048]⟩
abbrev S_ : Shape := ⟨0, ![]⟩
abbrev S512 : Shape := ⟨1, ![512]⟩
abbrev S512x1 : Shape := ⟨2, ![512, 1]⟩
abbrev S2048 : Shape := ⟨1, ![2048]⟩
abbrev S2048x1024 : Shape := ⟨2, ![2048, 1024]⟩
abbrev S512x1024 : Shape := ⟨2, ![512, 1024]⟩
abbrev S1x2x256x4x256 : Shape := ⟨5, ![1, 2, 256, 4, 256]⟩

abbrev nBuf : Space → Nat
  | .hbm => 28
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048, .f32⟩
  | .hbm, ⟨2, _⟩ => ⟨S1x2048x1024, .f32⟩
  | .hbm, ⟨3, _⟩ => ⟨S1x2048x1024, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x2048, .f32⟩
  | .hbm, ⟨17, _⟩ => ⟨S512x2048, .f32⟩
  | .hbm, ⟨18, _⟩ => ⟨S2048, .f32⟩
  | .hbm, ⟨19, _⟩ => ⟨S1x2048, .f32⟩
  | .hbm, ⟨20, _⟩ => ⟨S512x2048, .f32⟩
  | .hbm, ⟨21, _⟩ => ⟨S512x2048, .f32⟩
  | .hbm, ⟨22, _⟩ => ⟨S2048x1024, .f32⟩
  | .hbm, ⟨23, _⟩ => ⟨S512x1024, .f32⟩
  | .hbm, ⟨24, _⟩ => ⟨S1x2x256x4x256, .f32⟩
  | .hbm, ⟨25, _⟩ => ⟨S2048x1024, .f32⟩
  | .hbm, ⟨26, _⟩ => ⟨S512x1024, .f32⟩
  | .hbm, ⟨27, _⟩ => ⟨S1x2x256x4x256, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Merge.lean ====
abbrev S16384x1024 : Shape := ⟨2, ![16384, 1024]⟩
abbrev S512x1024 : Shape := ⟨2, ![512, 1024]⟩
abbrev S16384x2048 : Shape := ⟨2, ![16384, 2048]⟩
abbrev S512x2048 : Shape := ⟨2, ![512, 2048]⟩
abbrev S16384x6144 : Shape := ⟨2, ![16384, 6144]⟩
abbrev S512x6144 : Shape := ⟨2, ![512, 6144]⟩
abbrev S2x8192x2048 : Shape := ⟨3, ![2, 8192, 2048]⟩
abbrev S8x64x2048 : Shape := ⟨3, ![8, 64, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 28
  | .vmem => 68
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x2048, .bf16⟩
  | .hbm, ⟨3, _⟩ => ⟨S512x2048, .bf16⟩
  | .hbm, ⟨4, _⟩ => ⟨S16384x1024, .bf16⟩
  | .hbm, ⟨5, _⟩ => ⟨S512x1024, .bf16⟩
  | .hbm, ⟨6, _⟩ => ⟨S16384x6144, .bf16⟩
  | .hbm, ⟨7, _⟩ => ⟨S512x6144, .bf16⟩
  | .hbm, ⟨8, _⟩ => ⟨S2x8192x2048, .f32⟩
  | .hbm, ⟨9, _⟩ => ⟨S8x64x2048, .f32⟩
  | .hbm, ⟨10, _⟩ => ⟨S1x1024x2048, .f32⟩
  | .hbm, ⟨11, _⟩ => ⟨S1x2048x2048, .f32⟩
  | .hbm, ⟨12, _⟩ => ⟨S1x1024x2048, .f32⟩
  | .hbm, ⟨13, _⟩ => ⟨S1x2048x2048, .f32⟩
  | .hbm, ⟨14, _⟩ => ⟨S16384x2048, .f32⟩
  | .hbm, ⟨15, _⟩ => ⟨S512x2048, .f32⟩
  | .hbm, ⟨16, _⟩ => ⟨S1024x2048, .f32⟩
  | .hbm, ⟨17, _⟩ => ⟨S2048x2048, .f32⟩
  | .hbm, ⟨18, _⟩ => ⟨S1024x2048, .f32⟩
  | .hbm, ⟨19, _⟩ => ⟨S2048x2048, .f32⟩
  | .hbm, ⟨20, _⟩ => ⟨S16384x2048, .bf16⟩
  | .hbm, ⟨21, _⟩ => ⟨S512x2048, .bf16⟩
  | .hbm, ⟨22, _⟩ => ⟨S16384x2048, .bf16⟩
  | .hbm, ⟨23, _⟩ => ⟨S512x2048, .bf16⟩
  | .hbm, ⟨24, _⟩ => ⟨S16384x2048, .bf16⟩
  | .hbm, ⟨25, _⟩ => ⟨S512x2048, .bf16⟩
  | .hbm, ⟨26, _⟩ => ⟨S16384x2048, .f32⟩
  | .hbm, ⟨27, _⟩ => ⟨S512x2048, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1024x2048, .bf16⟩
  | .local _ .vmem, ⟨16, _⟩ => ⟨S1024x2048, .bf16⟩
  | .local _ .vmem, ⟨17, _⟩ => ⟨S512x2048, .bf16⟩
  | .local _ .vmem, ⟨18, _⟩ => ⟨S512x2048, .bf16⟩
  | .local _ .vmem, ⟨19, _⟩ => ⟨S2048x1024, .f32⟩
  | .local _ .vmem, ⟨20, _⟩ => ⟨S2048x1024, .f32⟩
  | .local _ .vmem, ⟨21, _⟩ => ⟨S1024x1024, .bf16⟩
  | .local _ .vmem, ⟨22, _⟩ => ⟨S1024x1024, .bf16⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S1024x1024, .bf16⟩
  | .local _ .vmem, ⟨27, _⟩ => ⟨S512x1024, .bf16⟩
  | .local _ .vmem, ⟨28, _⟩ => ⟨S512x1024, .bf16⟩
  | .local _ .vmem, ⟨29, _⟩ => ⟨S1024x1024, .bf16⟩
  | .local _ .vmem, ⟨30, _⟩ => ⟨S1024x1024, .bf16⟩
  | .local _ .vmem, ⟨31, _⟩ => ⟨S512x1024, .bf16⟩
  | .local _ .vmem, ⟨32, _⟩ => ⟨S512x1024, .bf16⟩
  | .local _ .vmem, ⟨33, _⟩ => ⟨S2048x1024, .bf16⟩
  | .local _ .vmem, ⟨34, _⟩ => ⟨S1024x1024, .bf16⟩
  | .local _ .vmem, ⟨35, _⟩ => ⟨S1024x1024, .bf16⟩
  | .local _ .vmem, ⟨36, _⟩ => ⟨S512x1024, .bf16⟩
  | .local _ .vmem, ⟨37, _⟩ => ⟨S512x1024, .bf16⟩
  | .local _ .vmem, ⟨38, _⟩ => ⟨S1024x1024, .f32⟩
  | .local _ .vmem, ⟨39, _⟩ => ⟨S1024x1024, .f32⟩
  | .local _ .vmem, ⟨40, _⟩ => ⟨S1024x1024, .bf16⟩
  | .local _ .vmem, ⟨41, _⟩ => ⟨S1024x1024, .bf16⟩
  | .local _ .vmem, ⟨42, _⟩ => ⟨S512x1024, .bf16⟩
  | .local _ .vmem, ⟨43, _⟩ => ⟨S512x1024, .bf16⟩
  | .local _ .vmem, ⟨44, _⟩ => ⟨S1024x1024, .bf16⟩
  | .local _ .vmem, ⟨45, _⟩ => ⟨S1024x1024, .bf16⟩
  | .local _ .vmem, ⟨46, _⟩ => ⟨S512x1024, .bf16⟩
  | .local _ .vmem, ⟨47, _⟩ => ⟨S512x1024, .bf16⟩
  | .local _ .vmem, ⟨48, _⟩ => ⟨S1024x1024, .bf16⟩
  | .local _ .vmem, ⟨49, _⟩ => ⟨S1024x1024, .bf16⟩
  | .local _ .vmem, ⟨50, _⟩ => ⟨S512x1024, .bf16⟩
  | .local _ .vmem, ⟨51, _⟩ => ⟨S512x1024, .bf16⟩
  | .local _ .vmem, ⟨52, _⟩ => ⟨S1024x1024, .bf16⟩
  | .local _ .vmem, ⟨53, _⟩ => ⟨S1024x2048, .bf16⟩
  | .local _ .vmem, ⟨54, _⟩ => ⟨S1024x2048, .bf16⟩
  | .local _ .vmem, ⟨55, _⟩ => ⟨S512x2048, .bf16⟩
  | .local _ .vmem, ⟨56, _⟩ => ⟨S512x2048, .bf16⟩
  | .local _ .vmem, ⟨57, _⟩ => ⟨S2048x1024, .f32⟩
  | .local _ .vmem, ⟨58, _⟩ => ⟨S2048x1024, .f32⟩
  | .local _ .vmem, ⟨59, _⟩ => ⟨S1024x1024, .f32⟩
  | .local _ .vmem, ⟨60, _⟩ => ⟨S1024x1024, .f32⟩
  | .local _ .vmem, ⟨61, _⟩ => ⟨S512x1024, .f32⟩
  | .local _ .vmem, ⟨62, _⟩ => ⟨S512x1024, .f32⟩
  | .local _ .vmem, ⟨63, _⟩ => ⟨S1024x1024, .f32⟩
  | .local _ .vmem, ⟨64, _⟩ => ⟨S1024x1024, .f32⟩
  | .local _ .vmem, ⟨65, _⟩ => ⟨S512x1024, .f32⟩
  | .local _ .vmem, ⟨66, _⟩ => ⟨S512x1024, .f32⟩
  | .local _ .vmem, ⟨67, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7_0 : Ref sig .tc := ⟨.hbm, 22, rfl⟩
abbrev main_v7_1 : Ref sig .tc := ⟨.hbm, 23, rfl⟩
abbrev main_v8_0 : Ref sig .tc := ⟨.hbm, 24, rfl⟩
abbrev main_v8_1 : Ref sig .tc := ⟨.hbm, 25, rfl⟩
abbrev main_v9_0 : Ref sig .tc := ⟨.hbm, 26, rfl⟩
abbrev main_v9_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg1_1 : Ref sig .tc := ⟨.vmem, 37, rfl⟩
abbrev cc2_stg2_0 : Ref sig .tc := ⟨.vmem, 38, rfl⟩
abbrev cc2_stg2_1 : Ref sig .tc := ⟨.vmem, 39, rfl⟩
abbrev cc2_stg3_0 : Ref sig .tc := ⟨.vmem, 40, rfl⟩
abbrev cc2_stg3_1 : Ref sig .tc := ⟨.vmem, 41, rfl⟩
abbrev cc2_stg4_0 : Ref sig .tc := ⟨.vmem, 42, rfl⟩
abbrev cc2_stg4_1 : Ref sig .tc := ⟨.vmem, 43, rfl⟩
abbrev cc2_stg5_0 : Ref sig .tc := ⟨.vmem, 44, rfl⟩
abbrev cc2_stg5_1 : Ref sig .tc := ⟨.vmem, 45, rfl⟩
abbrev cc2_stg6_0 : Ref sig .tc := ⟨.vmem, 46, rfl⟩
abbrev cc2_stg6_1 : Ref sig .tc := ⟨.vmem, 47, rfl⟩
abbrev cc2_stg7_0 : Ref sig .tc := ⟨.vmem, 48, rfl⟩
abbrev cc2_stg7_1 : Ref sig .tc := ⟨.vmem, 49, rfl⟩
abbrev cc2_stg8_0 : Ref sig .tc := ⟨.vmem, 50, rfl⟩
abbrev cc2_stg8_1 : Ref sig .tc := ⟨.vmem, 51, rfl⟩
abbrev cc2_scratch0 : Ref sig .tc := ⟨.vmem, 52, rfl⟩
abbrev cc3_stg0_0 : Ref sig .tc := ⟨.vmem, 53, rfl⟩
abbrev cc3_stg0_1 : Ref sig .tc := ⟨.vmem, 54, rfl⟩
abbrev cc3_stg1_0 : Ref sig .tc := ⟨.vmem, 55, rfl⟩
abbrev cc3_stg1_1 : Ref sig .tc := ⟨.vmem, 56, rfl⟩
abbrev cc3_stg2_0 : Ref sig .tc := ⟨.vmem, 57, rfl⟩
abbrev cc3_stg2_1 : Ref sig .tc := ⟨.vmem, 58, rfl⟩
abbrev cc3_stg3_0 : Ref sig .tc := ⟨.vmem, 59, rfl⟩
abbrev cc3_stg3_1 : Ref sig .tc := ⟨.vmem, 60, rfl⟩
abbrev cc3_stg4_0 : Ref sig .tc := ⟨.vmem, 61, rfl⟩
abbrev cc3_stg4_1 : Ref sig .tc := ⟨.vmem, 62, rfl⟩
abbrev cc3_stg5_0 : Ref sig .tc := ⟨.vmem, 63, rfl⟩
abbrev cc3_stg5_1 : Ref sig .tc := ⟨.vmem, 64, rfl⟩
abbrev cc3_stg6_0 : Ref sig .tc := ⟨.vmem, 65, rfl⟩
abbrev cc3_stg6_1 : Ref sig .tc := ⟨.vmem, 66, rfl⟩
abbrev cc3_scratch0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc2_sem8_0 : DmaSem sig := 48
abbrev cc2_sem8_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55
abbrev cc3_sem3_0 : DmaSem sig := 56
abbrev cc3_sem3_1 : DmaSem sig := 57
abbrev cc3_sem4_0 : DmaSem sig := 58
abbrev cc3_sem4_1 : DmaSem sig := 59
abbrev cc3_sem5_0 : DmaSem sig := 60
abbrev cc3_sem5_1 : DmaSem sig := 61
abbrev cc3_sem6_0 : DmaSem sig := 62
abbrev cc3_sem6_1 : DmaSem sig := 63

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 17], ![false, false]⟩

def k1_cond2 (i : grid1.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k1_cond3 (i : grid1.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c2_i32 : BitVec 32 := 2#32
  let v3 : BitVec 32 := Scalar.addi c2_i32 arg0
  let c0_i32_1 : BitVec 32 := 0#32
  ![v2.toNat, v3.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c2_i32 : BitVec 32 := 2#32
  let v3 : BitVec 32 := Scalar.addi c2_i32 arg0
  let c0_i32_1 : BitVec 32 := 0#32
  ![v2.toNat, v3.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨2, ![2, 17], ![false, false]⟩

def k2_cond2 (i : grid2.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k2_cond3 (i : grid2.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c4_i32 : BitVec 32 := 4#32
  let v3 : BitVec 32 := Scalar.addi c4_i32 arg0
  let c0_i32_1 : BitVec 32 := 0#32
  ![v2.toNat, v3.toNat]

def cc2_transform_4 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c4_i32 : BitVec 32 := 4#32
  let v3 : BitVec 32 := Scalar.addi c4_i32 arg0
  let c0_i32_1 : BitVec 32 := 0#32
  ![v2.toNat, v3.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc2_transform_6 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc2_transform_8 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S512x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1024x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S512x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev grid3 : Pipeline.Grid := ⟨2, ![2, 17], ![false, false]⟩

def k3_cond2 (i : grid3.Coords) : BitVec 1 :=
  let arg1 : BitVec 32 := BitVec.ofNat 32 (i 1).val
  let c0_i32_1 : BitVec 32 := 0#32
  let v3 : BitVec 1 := Scalar.cmpi .sge arg1 c0_i32_1
  let c16_i32 : BitVec 32 := 16#32
  let v4 : BitVec 1 := Scalar.cmpi .slt arg1 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k3_cond3 (i : grid3.Coords) : BitVec 1 :=
  let arg1 : BitVec 32 := BitVec.ofNat 32 (i 1).val
  let c16_i32_3 : BitVec 32 := 16#32
  let v8 : BitVec 1 := Scalar.cmpi .sge arg1 c16_i32_3
  let c17_i32 : BitVec 32 := 17#32
  let v9 : BitVec 1 := Scalar.cmpi .slt arg1 c17_i32
  let v10 : BitVec 1 := Scalar.andi v8 v9
  let v11 : BitVec 32 := Scalar.extui v10
  let c0_i32_4 : BitVec 32 := 0#32
  let v12 : BitVec 1 := Scalar.cmpi .ne v11 c0_i32_4
  v12

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![v2.toNat, c0_i32_1.toNat]

def cc3_transform_1 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc3_transform_4 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let v3 : BitVec 32 := Scalar.addi c0_i32_1 arg0
  let c0_i32_2 : BitVec 32 := 0#32
  ![v2.toNat, v3.toNat]

def cc3_transform_6 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let v3 : BitVec 32 := Scalar.addi c0_i32_1 arg0
  let c0_i32_2 : BitVec 32 := 0#32
  ![v2.toNat, v3.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S512x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1024x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S512x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== MergeReferenceIdeal.lean ====
abbrev S16384x1024 : Shape := ⟨2, ![16384, 1024]⟩
abbrev S512x1024 : Shape := ⟨2, ![512, 1024]⟩
abbrev S16384x2048 : Shape := ⟨2, ![16384, 2048]⟩
abbrev S512x2048 : Shape := ⟨2, ![512, 2048]⟩
abbrev S16384x6144 : Shape := ⟨2, ![16384, 6144]⟩
abbrev S512x6144 : Shape := ⟨2, ![512, 6144]⟩
abbrev S2x8192x2048 : Shape := ⟨3, ![2, 8192, 2048]⟩
abbrev S8x64x2048 : Shape := ⟨3, ![8, 64, 2048]⟩
abbrev S1x1024x2048 : Shape := ⟨3, ![1, 1024, 2048]⟩
abbrev S1x2048x2048 : Shape := ⟨3, ![1, 2048, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S512x1024, .bf16⟩
  | .hbm, ⟨2, _⟩ => ⟨S16384x2048, .bf16⟩
  | .hbm, ⟨3, _⟩ => ⟨S512x2048, .bf16⟩
  | .hbm, ⟨4, _⟩ => ⟨S16384x1024, .bf16⟩
  | .hbm, ⟨5, _⟩ => ⟨S512x1024, .bf16⟩
  | .hbm, ⟨6, _⟩ => ⟨S16384x6144, .bf16⟩
  | .hbm, ⟨7, _⟩ => ⟨S512x6144, .bf16⟩
  | .hbm, ⟨8, _⟩ => ⟨S2x8192x2048, .f32⟩
  | .hbm, ⟨9, _⟩ => ⟨S8x64x2048, .f32⟩
  | .hbm, ⟨10, _⟩ => ⟨S1x1024x2048, .f32⟩
  | .hbm, ⟨11, _⟩ => ⟨S1x2048x2048, .f32⟩
  | .hbm, ⟨12, _⟩ => ⟨S1x1024x2048, .f32⟩
  | .hbm, ⟨13, _⟩ => ⟨S1x2048x2048, .f32⟩
  | .hbm, ⟨14, _⟩ => ⟨S16384x6144, .f32⟩
  | .hbm, ⟨15, _⟩ => ⟨S16384x6144, .f32⟩
  | .hbm, ⟨16, _⟩ => ⟨S16384x6144, .f32⟩
  | .hbm, ⟨17, _⟩ => ⟨S_, .f32⟩
  | .hbm, ⟨18, _⟩ => ⟨S16384x6144, .f32⟩
  | .hbm, ⟨19, _⟩ => ⟨S16384x6144, .f32⟩
  | .hbm, ⟨20, _⟩ => ⟨S_, .f32⟩
  | .hbm, ⟨21, _⟩ => ⟨S16384x6144, .f32⟩
  | .hbm, ⟨22, _⟩ => ⟨S16384x6144, .f32⟩
  | .hbm, ⟨23, _⟩ => ⟨S16384x1024, .f32⟩
  | .hbm, ⟨24, _⟩ => ⟨S1024x2048, .f32⟩
  | .hbm, ⟨25, _⟩ => ⟨S16384x2048, .f32⟩
  | .hbm, ⟨26, _⟩ => ⟨S16384x2048, .f32⟩
  | .hbm, ⟨27, _⟩ => ⟨S2048x2048, .f32⟩
  | .hbm, ⟨28, _⟩ => ⟨S16384x2048, .f32⟩
  | .hbm, ⟨29, _⟩ => ⟨S16384x1024, .f32⟩
  | .hbm, ⟨30, _⟩ => ⟨S1024x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S2048x2048, .f32⟩
  | .hbm, ⟨42, _⟩ => ⟨S16384x2048, .f32⟩
  | .hbm, ⟨43, _⟩ => ⟨S16384x2048, .f32⟩
  | .hbm, ⟨44, _⟩ => ⟨S512x6144, .f32⟩
  | .hbm, ⟨45, _⟩ => ⟨S512x6144, .f32⟩
  | .hbm, ⟨46, _⟩ => ⟨S512x6144, .f32⟩
  | .hbm, ⟨47, _⟩ => ⟨S_, .f32⟩
  | .hbm, ⟨48, _⟩ => ⟨S512x6144, .f32⟩
  | .hbm, ⟨49, _⟩ => ⟨S512x6144, .f32⟩
  | .hbm, ⟨50, _⟩ => ⟨S_, .f32⟩
  | .hbm, ⟨51, _⟩ => ⟨S512x6144, .f32⟩
  | .hbm, ⟨52, _⟩ => ⟨S512x6144, .f32⟩
  | .hbm, ⟨53, _⟩ => ⟨S512x1024, .f32⟩
  | .hbm, ⟨54, _⟩ => ⟨S1024x2048, .f32⟩
  | .hbm, ⟨55, _⟩ => ⟨S512x2048, .f32⟩
  | .hbm, ⟨56, _⟩ => ⟨S512x2048, .f32⟩
  | .hbm, ⟨57, _⟩ => ⟨S2048x2048, .f32⟩
  | .hbm, ⟨58, _⟩ => ⟨S512x2048, .f32⟩
  | .hbm, ⟨59, _⟩ => ⟨S512x1024, .f32⟩
  | .hbm, ⟨60, _⟩ => ⟨S1024x2048, .f32⟩
  | .hbm, ⟨61, _⟩ => ⟨S512x2048, .f32⟩
  | .hbm, ⟨62, _⟩ => ⟨S512x2048, .f32⟩
  | .hbm, ⟨63, _⟩ => ⟨S512x2048, .f32⟩
  | .hbm, ⟨64, _⟩ => ⟨S512x2048, .f32⟩
  | .hbm, ⟨65, _⟩ => ⟨S512x2048, .f32⟩
  | .hbm, ⟨66, _⟩ => ⟨S512x2048, .f32⟩
  | .hbm, ⟨67, _⟩ => ⟨S512x2048, .f32⟩
  | .hbm, ⟨68, _⟩ => ⟨S512x2048, .f32⟩
  | .hbm, ⟨69, _⟩ => ⟨S512x2048, .f32⟩
  | .hbm, ⟨70, _⟩ => ⟨S512x2048, .f32⟩
  | .hbm, ⟨71, _⟩ => ⟨S2048x2048, .f32⟩
  | .hbm, ⟨72, _⟩ => ⟨S512x2048, .f32⟩
  | .hbm, ⟨73, _⟩ => ⟨S512x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.IdealBody.lean ====
module

public import proofs.«01_k».proof.Proof.Gen.ExpertsIdeal.Launch
public import proofs.«01_k».proof.Proof.Gen.ExpertsIdeal.Skeleton
public import Idealize.ShloMosaic.Lib.Pipeline.RegionsLoop
public import Idealize.ShloMosaic.Lib.Tactic
public import Idealize.ShloMosaic.Lib.Pipeline.Value
public import Idealize.ShloMosaic.Lib.VecWindow

@[expose] public section

set_option maxRecDepth 16384

noncomputable section

namespace Cert.Proof.IBody

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch: one copy of the pipelines' algebra. -/
abbrev UU : Type := UR sig nD τ × Counters

local notation "𝕄" => MT nD τ sig Unit (Elt F) ℕ UU ℕ

/-- A memref's buffer on core `c`: the type of its contents. -/
abbrev Bf (c : Dev nD) {sp : Space} {S : Shape} {e : EltTy} (M : Memref sig .tc sp S e) : Type := Buf (Elt F) (M.view.loc (c : Thread nD τ))
/-- A memref's buffer held whole at share `q` and contents `f`. -/
abbrev pq (c : Dev nD) (q : PosShare TreeShare) {sp : Space} {S : Shape} {e : EltTy} (M : Memref sig .tc sp S e) (f : Bf (F := F) c M) : sProp 𝕄 :=
  M.view.loc (c : Thread nD τ) ↦{q} f
/-- A memref's buffer held whole at contents `f`. -/
abbrev pt (c : Dev nD) {sp : Space} {S : Shape} {e : EltTy} (M : Memref sig .tc sp S e) (f : Bf (F := F) c M) : sProp 𝕄 := pq c fullShare M f

abbrev 𝒱₀ : Variants := Variants.none

/-- The number of active tiles, as the body reads it. -/
abbrev rdN (c : Dev nD) (f2 : Bf (F := F) c (Memref.whole main_arg1)) : BitVec 32 :=
  View.readAt (Elt F) (Memref.whole main_arg1).view (Rect.unit (s := S1) ![0] S1.size inb_S1_S1_0).toLoadRect f2 (Shape.Idx.first (by exact numel1_S1.symm ▸ Nat.one_pos))
/-- This tile's expert, as the body reads it. -/
abbrev rdT (c : Dev nD) (i : grid0.Coords) (f1 : Bf (F := F) c (Memref.whole main_arg0)) : BitVec 32 :=
  View.readAt (Elt F) (Memref.whole main_arg0).view (Rect.unit (s := S163) (k0_off2 i) S1.size (k0_off2_inb i)).toLoadRect f1 (Shape.Idx.first (by exact numel1_S1.symm ▸ Nat.one_pos))
/-- The expert of the tile before, as the body reads it. -/
abbrev rdP (c : Dev nD) (i : grid0.Coords) (f1 : Bf (F := F) c (Memref.whole main_arg0)) : BitVec 32 :=
  View.readAt (Elt F) (Memref.whole main_arg0).view (Rect.unit (s := S163) (k0_off3 i) S1.size (k0_off3_inb i)).toLoadRect f1 (Shape.Idx.first (by exact numel1_S1.symm ▸ Nat.one_pos))

/-- The condition under which the body recasts the weights: the tile is active, and it is the first one or its
    expert is not the one of the tile before. -/
def isNew (i : grid0.Coords) (n a b : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne a b))) : BitVec 32) 0#32

/-! ## What a tile's run leaves, as functions of what the buffers read -/

/-- Rows 0, 0+8, 0+16, … of a block of words: the words of column slab 0 of every row of the tile. -/
abbrev sl0 (X : S2048x128.Idx → Elt F .i32) : Vec F S256x128 .i32 :=
  fun y => X ((⟨![0, 0], S256x128.size, ![8, 1], inb_S2048x128_S256x128_0_0_s_8_1⟩ : LoadRect S2048x128).idx y)
/-- Rows 1, 1+8, 1+16, … of a block of words: the words of column slab 1 of every row of the tile. -/
abbrev sl1 (X : S2048x128.Idx → Elt F .i32) : Vec F S256x128 .i32 :=
  fun y => X ((⟨![1, 0], S256x128.size, ![8, 1], inb_S2048x128_S256x128_1_0_s_8_1⟩ : LoadRect S2048x128).idx y)
/-- Rows 2, 2+8, 2+16, … of a block of words: the words of column slab 2 of every row of the tile. -/
abbrev sl2 (X : S2048x128.Idx → Elt F .i32) : Vec F S256x128 .i32 :=
  fun y => X ((⟨![2, 0], S256x128.size, ![8, 1], inb_S2048x128_S256x128_2_0_s_8_1⟩ : LoadRect S2048x128).idx y)
/-- Rows 3, 3+8, 3+16, … of a block of words: the words of column slab 3 of every row of the tile. -/
abbrev sl3 (X : S2048x128.Idx → Elt F .i32) : Vec F S256x128 .i32 :=
  fun y => X ((⟨![3, 0], S256x128.size, ![8, 1], inb_S2048x128_S256x128_3_0_s_8_1⟩ : LoadRect S2048x128).idx y)
/-- Rows 4, 4+8, 4+16, … of a block of words: the words of column slab 4 of every row of the tile. -/
abbrev sl4 (X : S2048x128.Idx → Elt F .i32) : Vec F S256x128 .i32 :=
  fun y => X ((⟨![4, 0], S256x128.size, ![8, 1], inb_S2048x128_S256x128_4_0_s_8_1⟩ : LoadRect S2048x128).idx y)
/-- Rows 5, 5+8, 5+16, … of a block of words: the words of column slab 5 of every row of the tile. -/
abbrev sl5 (X : S2048x128.Idx → Elt F .i32) : Vec F S256x128 .i32 :=
  fun y => X ((⟨![5, 0], S256x128.size, ![8, 1], inb_S2048x128_S256x128_5_0_s_8_1⟩ : LoadRect S2048x128).idx y)
/-- Rows 6, 6+8, 6+16, … of a block of words: the words of column slab 6 of every row of the tile. -/
abbrev sl6 (X : S2048x128.Idx → Elt F .i32) : Vec F S256x128 .i32 :=
  fun y => X ((⟨![6, 0], S256x128.size, ![8, 1], inb_S2048x128_S256x128_6_0_s_8_1⟩ : LoadRect S2048x128).idx y)
/-- Rows 7, 7+8, 7+16, … of a block of words: the words of column slab 7 of every row of the tile. -/
abbrev sl7 (X : S2048x128.Idx → Elt F .i32) : Vec F S256x128 .i32 :=
  fun y => X ((⟨![7, 0], S256x128.size, ![8, 1], inb_S2048x128_S256x128_7_0_s_8_1⟩ : LoadRect S2048x128).idx y)

/-- The stores that fill the buffer of activations from a block of words, the last one first. -/
def xList (X : S2048x128.Idx → Elt F .i32) : List (View.Piece (Elt F) S256x2048 .bf16) :=
  [⟨Rect.unit (s := S256x2048) ![0, 1920] S256x128.size inb_S256x2048_S256x128_0_1920, k0_pay22 (sl7 X)⟩,
   ⟨Rect.unit (s := S256x2048) ![0, 896] S256x128.size inb_S256x2048_S256x128_0_896, k0_pay21 (sl7 X)⟩,
   ⟨Rect.unit (s := S256x2048) ![0, 1792] S256x128.size inb_S256x2048_S256x128_0_1792, k0_pay20 (k0_pay17 (sl6 X))⟩,
   ⟨Rect.unit (s := S256x2048) ![0, 768] S256x128.size inb_S256x2048_S256x128_0_768, k0_pay19 (k0_pay18 (sl6 X))⟩,
   ⟨Rect.unit (s := S256x2048) ![0, 1664] S256x128.size inb_S256x2048_S256x128_0_1664, k0_pay16 (sl5 X)⟩,
   ⟨Rect.unit (s := S256x2048) ![0, 640] S256x128.size inb_S256x2048_S256x128_0_640, k0_pay15 (sl5 X)⟩,
   ⟨Rect.unit (s := S256x2048) ![0, 1536] S256x128.size inb_S256x2048_S256x128_0_1536, k0_pay14 (sl4 X)⟩,
   ⟨Rect.unit (s := S256x2048) ![0, 512] S256x128.size inb_S256x2048_S256x128_0_512, k0_pay13 (sl4 X)⟩,
   ⟨Rect.unit (s := S256x2048) ![0, 1408] S256x128.size inb_S256x2048_S256x128_0_1408, k0_pay12 (sl3 X)⟩,
   ⟨Rect.unit (s := S256x2048) ![0, 384] S256x128.size inb_S256x2048_S256x128_0_384, k0_pay11 (sl3 X)⟩,
   ⟨Rect.unit (s := S256x2048) ![0, 1280] S256x128.size inb_S256x2048_S256x128_0_1280, k0_pay10 (sl2 X)⟩,
   ⟨Rect.unit (s := S256x2048) ![0, 256] S256x128.size inb_S256x2048_S256x128_0_256, k0_pay9 (sl2 X)⟩,
   ⟨Rect.unit (s := S256x2048) ![0, 1152] S256x128.size inb_S256x2048_S256x128_0_1152, k0_pay8 (sl1 X)⟩,
   ⟨Rect.unit (s := S256x2048) ![0, 128] S256x128.size inb_S256x2048_S256x128_0_128, k0_pay7 (sl1 X)⟩,
   ⟨Rect.unit (s := S256x2048) ![0, 1024] S256x128.size inb_S256x2048_S256x128_0_1024, k0_pay6 (sl0 X)⟩,
   ⟨Rect.unit (s := S256x2048) ![0, 0] S256x128.size inb_S256x2048_S256x128_0_0, k0_pay5 (sl0 X)⟩]

/-- The stores that pack the products into the block of outputs, the last one first. -/
def outList (V : Vec F S256x2048 .bf16) (W₁ W₂ : Vec F S2048x256 .bf16) (W₃ : Vec F S256x2048 .bf16) : List (View.Piece (Elt F) S2048x2x128 .bf16) :=
  [⟨⟨⟨![7, 0, 0], S256x2x128.size, ![8, 1, 1], inb_S2048x2x128_S256x2x128_7_0_0_s_8_1_1⟩, spos_8_1_1⟩, k0_pay4 (k0_pay33 (k0_pay23 V W₁ W₂ W₃)) (k0_pay34 (k0_pay23 V W₁ W₂ W₃))⟩,
   ⟨⟨⟨![6, 0, 0], S256x2x128.size, ![8, 1, 1], inb_S2048x2x128_S256x2x128_6_0_0_s_8_1_1⟩, spos_8_1_1⟩, k0_pay32 (k0_pay23 V W₁ W₂ W₃)⟩,
   ⟨⟨⟨![5, 0, 0], S256x2x128.size, ![8, 1, 1], inb_S2048x2x128_S256x2x128_5_0_0_s_8_1_1⟩, spos_8_1_1⟩, k0_pay31 (k0_pay23 V W₁ W₂ W₃)⟩,
   ⟨⟨⟨![4, 0, 0], S256x2x128.size, ![8, 1, 1], inb_S2048x2x128_S256x2x128_4_0_0_s_8_1_1⟩, spos_8_1_1⟩, k0_pay30 (k0_pay23 V W₁ W₂ W₃)⟩,
   ⟨⟨⟨![3, 0, 0], S256x2x128.size, ![8, 1, 1], inb_S2048x2x128_S256x2x128_3_0_0_s_8_1_1⟩, spos_8_1_1⟩, k0_pay29 (k0_pay23 V W₁ W₂ W₃)⟩,
   ⟨⟨⟨![2, 0, 0], S256x2x128.size, ![8, 1, 1], inb_S2048x2x128_S256x2x128_2_0_0_s_8_1_1⟩, spos_8_1_1⟩, k0_pay28 (k0_pay23 V W₁ W₂ W₃)⟩,
   ⟨⟨⟨![1, 0, 0], S256x2x128.size, ![8, 1, 1], inb_S2048x2x128_S256x2x128_1_0_0_s_8_1_1⟩, spos_8_1_1⟩, k0_pay27 (k0_pay23 V W₁ W₂ W₃)⟩,
   ⟨⟨⟨![0, 0, 0], S256x2x128.size, ![8, 1, 1], inb_S2048x2x128_S256x2x128_0_0_0_s_8_1_1⟩, spos_8_1_1⟩, k0_pay26 (k0_pay24 V W₁ W₂ W₃) (k0_pay25 V W₁ W₂ W₃)⟩]

/-- The block of outputs of an active tile, of its block of words and the three weights in the scratch buffers. -/
def tileOut (X : S2048x128.Idx → Elt F .i32) (W₁ W₂ : S2048x256.Idx → Elt F .bf16) (W₃ : S256x2048.Idx → Elt F .bf16) : S2048x2x128.Idx → Elt F .bf16 :=
  View.canon (outList (View.canon (xList X)) W₁ W₂ W₃)

/-- Every row of the block of outputs is stored. -/
theorem cover_out (V : Vec F S256x2048 .bf16) (W₁ W₂ : Vec F S2048x256 .bf16) (W₃ : Vec F S256x2048 .bf16) (y : S2048x2x128.Idx) :
    ∃ p ∈ outList V W₁ W₂ W₃, y ∈ p.1.set := by
  have key : ∀ (r : Rect S2048x2x128) (h : ∃ x : r.shape.Idx, r.emb x = y), y ∈ r.set := by
    rintro r ⟨x, rfl⟩
    rw [← Rect.map_emb_univ]; exact Finset.mem_map_of_mem _ (Finset.mem_univ x)
  have hy0 : (y 0).val < 2048 := (y 0).isLt
  have hs : (y 0).val % 8 < 8 := Nat.mod_lt _ (by decide)
  have hd := Nat.div_add_mod (y 0).val 8
  generalize hq : (y 0).val % 8 = s at hs hd
  have hs' : s = 0 ∨ s = 1 ∨ s = 2 ∨ s = 3 ∨ s = 4 ∨ s = 5 ∨ s = 6 ∨ s = 7 := by omega
  have hlt : (y 0).val / 8 < 256 := by omega
  unfold outList
  rcases hs' with rfl | rfl | rfl | rfl | rfl | rfl | rfl | rfl
  · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 0 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_of_mem _ (List.mem_cons_of_mem _ (List.mem_cons_of_mem _ (List.mem_cons_of_mem _ (List.mem_cons_of_mem _ (List.mem_cons_of_mem _ List.mem_cons_self))))), key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 1 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_of_mem _ (List.mem_cons_of_mem _ (List.mem_cons_of_mem _ (List.mem_cons_of_mem _ (List.mem_cons_of_mem _ List.mem_cons_self)))), key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 2 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_of_mem _ (List.mem_cons_of_mem _ (List.mem_cons_of_mem _ (List.mem_cons_of_mem _ List.mem_cons_self))), key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 3 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_of_mem _ (List.mem_cons_of_mem _ (List.mem_cons_of_mem _ List.mem_cons_self)), key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 4 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_of_mem _ (List.mem_cons_of_mem _ List.mem_cons_self), key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 5 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_of_mem _ List.mem_cons_self, key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 6 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)
  · refine ⟨_, List.mem_cons_self, key _ ⟨fun a => match a with | ⟨0, _⟩ => ⟨(y 0).val / 8, hlt⟩ | ⟨1, _⟩ => ⟨(y 1).val, (y 1).isLt⟩ | ⟨2, _⟩ => ⟨(y 2).val, (y 2).isLt⟩, funext fun a => ?_⟩⟩
    match a with
    | ⟨0, _⟩ => exact Fin.ext (by show 7 + 8 * ((y 0).val / 8) = (y 0).val; omega)
    | ⟨1, _⟩ => exact Fin.ext (by show 0 + 1 * (y 1).val = (y 1).val; omega)
    | ⟨2, _⟩ => exact Fin.ext (by show 0 + 1 * (y 2).val = (y 2).val; omega)

/-- A store over the whole of a buffer leaves its payload. -/
theorem read_full {sp : Space} {S : Shape} {e : EltTy} (v : View sig .tc sp S e) (f : v.ty.Contents (Elt F)) (off : Fin S.rank → ℕ)
    (h0 : off = fun _ => 0) (inb : ∀ a, off a + S.size a ≤ S.size a) (w : S.Idx → Elt F e) :
    v.read (Elt F) (v.writes (Elt F) f [⟨Rect.unit off S.size inb, w⟩]) = w := by
  subst h0
  exact View.read_writes_whole v f w

/-- A load of the whole of a buffer is what it reads. -/
theorem load_full {sp : Space} {S : Shape} {e : EltTy} (v : View sig .tc sp S e) (f : v.ty.Contents (Elt F)) (off : Fin S.rank → ℕ)
    (h0 : off = fun _ => 0) (inb : ∀ a, off a + S.size a ≤ S.size a) :
    v.readAt (Elt F) (Rect.unit off S.size inb).toLoadRect f = v.read (Elt F) f :=
  View.readAt_full v f inb

/-- A covered load of the whole of a buffer is the contents its stores leave. -/
theorem cov_full {sp : Space} {S : Shape} {e : EltTy} (v : View sig .tc sp S e) (L : List (View.Piece (Elt F) S e)) (off : Fin S.rank → ℕ)
    (h0 : off = fun _ => 0) (inb : ∀ a, off a + S.size a ≤ S.size a) :
    v.readCov L (Rect.unit off S.size inb).toLoadRect = View.canon L := by
  rw [View.readCov_eq_canon']
  exact View.ld_unit_zero h0 inb _

/-- A covered load of the whole of a buffer after one store over the whole of it is that store's payload. -/
theorem cov_one {sp : Space} {S : Shape} {e : EltTy} (v : View sig .tc sp S e) (off off' : Fin S.rank → ℕ)
    (h0 : off = fun _ => 0) (h0' : off' = fun _ => 0) (inb : ∀ a, off a + S.size a ≤ S.size a) (inb' : ∀ a, off' a + S.size a ≤ S.size a) (w : S.Idx → Elt F e) :
    v.readCov [⟨Rect.unit off S.size inb, w⟩] (Rect.unit off' S.size inb').toLoadRect = w :=
  View.readCov_full v inb' inb w []

theorem z2 : (![0, 0] : Fin 2 → ℕ) = fun _ => 0 := by decide
theorem z3 : (![0, 0, 0] : Fin 3 → ℕ) = fun _ => 0 := by decide

theorem out_congr {V V' : Vec F S256x2048 .bf16} {W₁ W₁' W₂ W₂' : Vec F S2048x256 .bf16} {W₃ W₃' : Vec F S256x2048 .bf16}
    (hV : V = V') (h₁ : W₁ = W₁') (h₂ : W₂ = W₂') (h₃ : W₃ = W₃') : outList V W₁ W₂ W₃ = outList V' W₁' W₂' W₃' := by
  subst hV h₁ h₂ h₃; rfl

/-- An inactive tile: the body stores zeros, and leaves the scratch buffers as they are. -/
theorem run_idle (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x2x128 .bf16) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)
    (h1 : k0_cond1 i (rdN c f2) = 1#1) (h2 : ¬ isNew i (rdN c f2) (rdT c i f1) (rdP c i f1) = 1#1) (h3 : ¬ k0_cond3 i (rdN c f2) = 1#1)
    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = (constant S2048x2x128 .bf16 0x0000#16 : S2048x2x128.Idx → Elt F .bf16)⌝ ∗ pt c M7 g) ∗ (∃ g : Bf (F := F) c M8, pt c M8 g)
          ∗ (∃ g : Bf (F := F) c M9, ⌜M9.view.read (Elt F) g = (M9.view.read (Elt F) f9)⌝ ∗ pt c M9 g)
          ∗ (∃ g : Bf (F := F) c M10, ⌜M10.view.read (Elt F) g = (M10.view.read (Elt F) f10)⌝ ∗ pt c M10 g)
          ∗ (∃ g : Bf (F := F) c M11, ⌜M11.view.read (Elt F) g = (M11.view.read (Elt F) f11)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  iintro ⟨H1, H2, H3, H4, H5, H6, H7, H8, H9, H10, H11, Hk⟩
  rw [cc0_moe_experts_eq_skeleton]
  unfold cc0_moe_experts_skel
  sl_exec! (disch := first | exact h1 | exact h2 | exact h3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    exact read_full M7.view _ _ z3 _ _
  isplitl [H8]; · iexists _; iexact H8
  isplitl [H9]
  · iexists _; isplitr; swap; · iexact H9
    ipureintro
    rfl
  isplitl [H10]
  · iexists _; isplitr; swap; · iexact H10
    ipureintro
    rfl
  iexists _; isplitr; swap; · iexact H11
  ipureintro
  rfl

/-- An active tile with a new expert: the body recasts the weights, and packs the products of the tile with them. -/
theorem run_new (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x2x128 .bf16) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)
    (h1 : ¬ k0_cond1 i (rdN c f2) = 1#1) (h2 : isNew i (rdN c f2) (rdT c i f1) (rdP c i f1) = 1#1) (h3 : k0_cond3 i (rdN c f2) = 1#1)
    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = tileOut (M3.view.read (Elt F) f3) (k0_pay1 (M4.view.read (Elt F) f4)) (k0_pay2 (M5.view.read (Elt F) f5)) (k0_pay3 (M6.view.read (Elt F) f6))⌝ ∗ pt c M7 g) ∗ (∃ g : Bf (F := F) c M8, pt c M8 g)
          ∗ (∃ g : Bf (F := F) c M9, ⌜M9.view.read (Elt F) g = k0_pay1 (M4.view.read (Elt F) f4)⌝ ∗ pt c M9 g)
          ∗ (∃ g : Bf (F := F) c M10, ⌜M10.view.read (Elt F) g = k0_pay2 (M5.view.read (Elt F) f5)⌝ ∗ pt c M10 g)
          ∗ (∃ g : Bf (F := F) c M11, ⌜M11.view.read (Elt F) g = k0_pay3 (M6.view.read (Elt F) f6)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  iintro ⟨H1, H2, H3, H4, H5, H6, H7, H8, H9, H10, H11, Hk⟩
  rw [cc0_moe_experts_eq_skeleton]
  unfold cc0_moe_experts_skel
  simp only [k0_part1_eq_skeleton, k0_part2_eq_skeleton, k0_part3_eq_skeleton, k0_part4_eq_skeleton]
  sl_exec! (disch := first | exact h1 | exact h2 | exact h3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    refine (View.read_writes_eq_canon M7.view _ (outList _ _ _ _) (cover_out _ _ _ _)).trans ?_
    exact congrArg View.canon (out_congr (cov_full M8.view (xList _) _ z2 _) ((cov_one M9.view _ _ z2 z2 _ _ _).trans (congrArg k0_pay1 (load_full M4.view f4 _ z3 _))) ((cov_one M10.view _ _ z2 z2 _ _ _).trans (congrArg k0_pay2 (load_full M5.view f5 _ z3 _))) ((cov_one M11.view _ _ z2 z2 _ _ _).trans (congrArg k0_pay3 (load_full M6.view f6 _ z3 _))))
  isplitl [H8]; · iexists _; iexact H8
  isplitl [H9]
  · iexists _; isplitr; swap; · iexact H9
    ipureintro
    exact (read_full M9.view _ _ z2 _ _).trans (congrArg k0_pay1 (load_full M4.view f4 _ z3 _))
  isplitl [H10]
  · iexists _; isplitr; swap; · iexact H10
    ipureintro
    exact (read_full M10.view _ _ z2 _ _).trans (congrArg k0_pay2 (load_full M5.view f5 _ z3 _))
  iexists _; isplitr; swap; · iexact H11
  ipureintro
  exact (read_full M11.view _ _ z2 _ _).trans (congrArg k0_pay3 (load_full M6.view f6 _ z3 _))

/-- An active tile with the expert of the tile before: the body packs the products of the tile with the weights in the scratch buffers. -/
theorem run_same (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x2x128 .bf16) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)
    (h1 : ¬ k0_cond1 i (rdN c f2) = 1#1) (h2 : ¬ isNew i (rdN c f2) (rdT c i f1) (rdP c i f1) = 1#1) (h3 : k0_cond3 i (rdN c f2) = 1#1)
    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = tileOut (M3.view.read (Elt F) f3) (M9.view.read (Elt F) f9) (M10.view.read (Elt F) f10) (M11.view.read (Elt F) f11)⌝ ∗ pt c M7 g) ∗ (∃ g : Bf (F := F) c M8, pt c M8 g)
          ∗ (∃ g : Bf (F := F) c M9, ⌜M9.view.read (Elt F) g = (M9.view.read (Elt F) f9)⌝ ∗ pt c M9 g)
          ∗ (∃ g : Bf (F := F) c M10, ⌜M10.view.read (Elt F) g = (M10.view.read (Elt F) f10)⌝ ∗ pt c M10 g)
          ∗ (∃ g : Bf (F := F) c M11, ⌜M11.view.read (Elt F) g = (M11.view.read (Elt F) f11)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  iintro ⟨H1, H2, H3, H4, H5, H6, H7, H8, H9, H10, H11, Hk⟩
  rw [cc0_moe_experts_eq_skeleton]
  unfold cc0_moe_experts_skel
  simp only [k0_part1_eq_skeleton, k0_part2_eq_skeleton, k0_part3_eq_skeleton, k0_part4_eq_skeleton]
  sl_exec! (disch := first | exact h1 | exact h2 | exact h3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    refine (View.read_writes_eq_canon M7.view _ (outList _ _ _ _) (cover_out _ _ _ _)).trans ?_
    exact congrArg View.canon (out_congr (cov_full M8.view (xList _) _ z2 _) (load_full M9.view f9 _ z2 _) (load_full M10.view f10 _ z2 _) (load_full M11.view f11 _ z2 _))
  isplitl [H8]; · iexists _; iexact H8
  isplitl [H9]
  · iexists _; isplitr; swap; · iexact H9
    ipureintro
    rfl
  isplitl [H10]
  · iexists _; isplitr; swap; · iexact H10
    ipureintro
    rfl
  iexists _; isplitr; swap; · iexact H11
  ipureintro
  rfl

/-! ## The three cases together -/

/-- The body's two tests on the tile's number are complementary. -/
theorem cond1_iff (i : grid0.Coords) (n : BitVec 32) : k0_cond1 i n = 1#1 ↔ ¬ k0_cond3 i n = 1#1 := by
  unfold k0_cond1 k0_cond3
  simp only []
  generalize Scalar.cmpi .slt _ n = v
  revert v; decide

/-- Weights are recast at active tiles only. -/
theorem isNew_active (i : grid0.Coords) (n a b : BitVec 32) (h : isNew i n a b = 1#1) : k0_cond3 i n = 1#1 := by
  revert h
  unfold isNew k0_cond3
  simp only []
  generalize Scalar.cmpi .slt _ n = v
  generalize Scalar.ori _ _ = w
  revert v w; decide

/-- The weights in a scratch buffer after a tile: recast, or what they were. -/
def pick {S : Shape} (b : BitVec 1) (new old : S.Idx → Elt F .bf16) : S.Idx → Elt F .bf16 := if b = 1#1 then new else old

/-- The block of outputs after a tile: zeros, or the packed products. -/
def blockOut (k : BitVec 1) (X : S2048x128.Idx → Elt F .i32) (W₁ W₂ : S2048x256.Idx → Elt F .bf16) (W₃ : S256x2048.Idx → Elt F .bf16) : S2048x2x128.Idx → Elt F .bf16 :=
  if k = 1#1 then tileOut X W₁ W₂ W₃ else (constant S2048x2x128 .bf16 0x0000#16 : S2048x2x128.Idx → Elt F .bf16)

/-- Any tile: the weights are recast or kept, and the block of outputs is the packed products, or zeros at an inactive tile. -/
theorem run_tile (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x2x128 .bf16) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)

    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = blockOut (k0_cond3 i (rdN c f2)) (M3.view.read (Elt F) f3) (pick (isNew i (rdN c f2) (rdT c i f1) (rdP c i f1)) (k0_pay1 (M4.view.read (Elt F) f4)) (M9.view.read (Elt F) f9)) (pick (isNew i (rdN c f2) (rdT c i f1) (rdP c i f1)) (k0_pay2 (M5.view.read (Elt F) f5)) (M10.view.read (Elt F) f10)) (pick (isNew i (rdN c f2) (rdT c i f1) (rdP c i f1)) (k0_pay3 (M6.view.read (Elt F) f6)) (M11.view.read (Elt F) f11))⌝ ∗ pt c M7 g) ∗ (∃ g : Bf (F := F) c M8, pt c M8 g)
          ∗ (∃ g : Bf (F := F) c M9, ⌜M9.view.read (Elt F) g = pick (isNew i (rdN c f2) (rdT c i f1) (rdP c i f1)) (k0_pay1 (M4.view.read (Elt F) f4)) (M9.view.read (Elt F) f9)⌝ ∗ pt c M9 g)
          ∗ (∃ g : Bf (F := F) c M10, ⌜M10.view.read (Elt F) g = pick (isNew i (rdN c f2) (rdT c i f1) (rdP c i f1)) (k0_pay2 (M5.view.read (Elt F) f5)) (M10.view.read (Elt F) f10)⌝ ∗ pt c M10 g)
          ∗ (∃ g : Bf (F := F) c M11, ⌜M11.view.read (Elt F) g = pick (isNew i (rdN c f2) (rdT c i f1) (rdP c i f1)) (k0_pay3 (M6.view.read (Elt F) f6)) (M11.view.read (Elt F) f11)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  unfold pick blockOut
  by_cases h3 : k0_cond3 i (rdN c f2) = 1#1
  · have h1 : ¬ k0_cond1 i (rdN c f2) = 1#1 := fun h => (cond1_iff i _).1 h h3
    by_cases h2 : isNew i (rdN c f2) (rdT c i f1) (rdP c i f1) = 1#1
    · simp only [if_pos h2, if_pos h3]
      exact run_new c i M3 hM3 M4 hM4 M5 hM5 M6 hM6 M7 hM7 M8 hM8 M9 hM9 M10 hM10 M11 hM11 q f1 f2 f3 f4 f5 f6 h1 h2 h3 f7 f8 f9 f10 f11 E Q
    · simp only [if_neg h2, if_pos h3]
      exact run_same c i M3 hM3 M4 hM4 M5 hM5 M6 hM6 M7 hM7 M8 hM8 M9 hM9 M10 hM10 M11 hM11 q f1 f2 f3 f4 f5 f6 h1 h2 h3 f7 f8 f9 f10 f11 E Q
  · have h1 : k0_cond1 i (rdN c f2) = 1#1 := (cond1_iff i _).2 h3
    have h2 : ¬ isNew i (rdN c f2) (rdT c i f1) (rdP c i f1) = 1#1 := fun h => h3 (isNew_active i _ _ _ h)
    simp only [if_neg h2, if_neg h3]
    exact run_idle c i M3 hM3 M4 hM4 M5 hM5 M6 hM6 M7 hM7 M8 hM8 M9 hM9 M10 hM10 M11 hM11 q f1 f2 f3 f4 f5 f6 h1 h2 h3 f7 f8 f9 f10 f11 E Q

end Cert.Proof.IBody

end
-- ==== Proof.IdealReader.lean ====
module

public import proofs.«01_k».proof.Proof.Gen.ExpertsIdeal.Launch
public import proofs.«01_k».proof.Proof.Gen.ExpertsIdeal.Skeleton
public import Idealize.ShloMosaic.Lib.Pipeline.RegionsLoop
public import proofs.«01_k».proof.Proof.IdealBody
public import Idealize.ShloMosaic.Lib.Tactic
public import Idealize.ShloMosaic.Lib.Pipeline.Value
public import Idealize.ShloMosaic.Lib.VecWindow

@[expose] public section

set_option maxRecDepth 16384

noncomputable section

namespace Cert.Proof.IBody

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Rows 0, 0+8, … of a block of packed rows. -/
abbrev rsl0 (X : S2048x2x128.Idx → Elt F .bf16) : Vec F S256x2x128 .bf16 :=
  fun y => X ((⟨![0, 0, 0], S256x2x128.size, ![8, 1, 1], inb_S2048x2x128_S256x2x128_0_0_0_s_8_1_1⟩ : LoadRect S2048x2x128).idx y)
/-- Rows 1, 1+8, … of a block of packed rows. -/
abbrev rsl1 (X : S2048x2x128.Idx → Elt F .bf16) : Vec F S256x2x128 .bf16 :=
  fun y => X ((⟨![1, 0, 0], S256x2x128.size, ![8, 1, 1], inb_S2048x2x128_S256x2x128_1_0_0_s_8_1_1⟩ : LoadRect S2048x2x128).idx y)
/-- Rows 2, 2+8, … of a block of packed rows. -/
abbrev rsl2 (X : S2048x2x128.Idx → Elt F .bf16) : Vec F S256x2x128 .bf16 :=
  fun y => X ((⟨![2, 0, 0], S256x2x128.size, ![8, 1, 1], inb_S2048x2x128_S256x2x128_2_0_0_s_8_1_1⟩ : LoadRect S2048x2x128).idx y)
/-- Rows 3, 3+8, … of a block of packed rows. -/
abbrev rsl3 (X : S2048x2x128.Idx → Elt F .bf16) : Vec F S256x2x128 .bf16 :=
  fun y => X ((⟨![3, 0, 0], S256x2x128.size, ![8, 1, 1], inb_S2048x2x128_S256x2x128_3_0_0_s_8_1_1⟩ : LoadRect S2048x2x128).idx y)
/-- Rows 4, 4+8, … of a block of packed rows. -/
abbrev rsl4 (X : S2048x2x128.Idx → Elt F .bf16) : Vec F S256x2x128 .bf16 :=
  fun y => X ((⟨![4, 0, 0], S256x2x128.size, ![8, 1, 1], inb_S2048x2x128_S256x2x128_4_0_0_s_8_1_1⟩ : LoadRect S2048x2x128).idx y)
/-- Rows 5, 5+8, … of a block of packed rows. -/
abbrev rsl5 (X : S2048x2x128.Idx → Elt F .bf16) : Vec F S256x2x128 .bf16 :=
  fun y => X ((⟨![5, 0, 0], S256x2x128.size, ![8, 1, 1], inb_S2048x2x128_S256x2x128_5_0_0_s_8_1_1⟩ : LoadRect S2048x2x128).idx y)
/-- Rows 6, 6+8, … of a block of packed rows. -/
abbrev rsl6 (X : S2048x2x128.Idx → Elt F .bf16) : Vec F S256x2x128 .bf16 :=
  fun y => X ((⟨![6, 0, 0], S256x2x128.size, ![8, 1, 1], inb_S2048x2x128_S256x2x128_6_0_0_s_8_1_1⟩ : LoadRect S2048x2x128).idx y)
/-- Rows 7, 7+8, … of a block of packed rows. -/
abbrev rsl7 (X : S2048x2x128.Idx → Elt F .bf16) : Vec F S256x2x128 .bf16 :=
  fun y => X ((⟨![7, 0, 0], S256x2x128.size, ![8, 1, 1], inb_S2048x2x128_S256x2x128_7_0_0_s_8_1_1⟩ : LoadRect S2048x2x128).idx y)

/-- The stores that unpack a block of packed rows into a block of f32 rows, the last one first. -/
def rdList (X : S2048x2x128.Idx → Elt F .bf16) : List (View.Piece (Elt F) S256x2048 .f32) :=
  [⟨Rect.unit (s := S256x2048) ![0, 1920] S256x128.size inb_S256x2048_S256x128_0_1920, k1_pay5 (rsl7 X)⟩,
   ⟨Rect.unit (s := S256x2048) ![0, 896] S256x128.size inb_S256x2048_S256x128_0_896, k1_pay4 (rsl7 X)⟩,
   ⟨Rect.unit (s := S256x2048) ![0, 1792] S256x128.size inb_S256x2048_S256x128_0_1792, k1_pay3 (rsl6 X)⟩,
   ⟨Rect.unit (s := S256x2048) ![0, 768] S256x128.size inb_S256x2048_S256x128_0_768, k1_pay2 (rsl6 X)⟩,
   ⟨Rect.unit (s := S256x2048) ![0, 1664] S256x128.size inb_S256x2048_S256x128_0_1664, k1_pay1 (k1_pay16 (rsl5 X))⟩,
   ⟨Rect.unit (s := S256x2048) ![0, 640] S256x128.size inb_S256x2048_S256x128_0_640, k1_pay17 (rsl5 X)⟩,
   ⟨Rect.unit (s := S256x2048) ![0, 1536] S256x128.size inb_S256x2048_S256x128_0_1536, k1_pay15 (rsl4 X)⟩,
   ⟨Rect.unit (s := S256x2048) ![0, 512] S256x128.size inb_S256x2048_S256x128_0_512, k1_pay14 (rsl4 X)⟩,
   ⟨Rect.unit (s := S256x2048) ![0, 1408] S256x128.size inb_S256x2048_S256x128_0_1408, k1_pay13 (rsl3 X)⟩,
   ⟨Rect.unit (s := S256x2048) ![0, 384] S256x128.size inb_S256x2048_S256x128_0_384, k1_pay12 (rsl3 X)⟩,
   ⟨Rect.unit (s := S256x2048) ![0, 1280] S256x128.size inb_S256x2048_S256x128_0_1280, k1_pay11 (rsl2 X)⟩,
   ⟨Rect.unit (s := S256x2048) ![0, 256] S256x128.size inb_S256x2048_S256x128_0_256, k1_pay10 (rsl2 X)⟩,
   ⟨Rect.unit (s := S256x2048) ![0, 1152] S256x128.size inb_S256x2048_S256x128_0_1152, k1_pay9 (rsl1 X)⟩,
   ⟨Rect.unit (s := S256x2048) ![0, 128] S256x128.size inb_S256x2048_S256x128_0_128, k1_pay8 (rsl1 X)⟩,
   ⟨Rect.unit (s := S256x2048) ![0, 1024] S256x128.size inb_S256x2048_S256x128_0_1024, k1_pay7 (rsl0 X)⟩,
   ⟨Rect.unit (s := S256x2048) ![0, 0] S256x128.size inb_S256x2048_S256x128_0_0, k1_pay6 (rsl0 X)⟩]

/-- The reader's block of a block of packed rows. -/
def rdOut (X : S2048x2x128.Idx → Elt F .bf16) : S256x2048.Idx → Elt F .f32 := View.canon (rdList X)

/-- The reader's body at any point: it leaves the unpacked rows of its block. -/
theorem run_read (c : Dev nD) (i : grid1.Coords) (M1 : Memref sig .tc .vmem S2048x2x128 .bf16) (hM1 : M1.IsWhole) (M2 : Memref sig .tc .vmem S256x2048 .f32) (hM2 : M2.IsWhole)
    (f1 : Bf (F := F) c M1) (f2 : Bf (F := F) c M2) (E : Set ℕ) (Q : PUnit → sProp 𝕄) :
    iprop(pt c M1 f1 ∗ pt c M2 f2 ∗ (iprop(pt c M1 f1 ∗ (∃ g : Bf (F := F) c M2, ⌜M2.view.read (Elt F) g = rdOut (M1.view.read (Elt F) f1)⌝ ∗ pt c M2 g)) -∗ Q ⟨⟩))
      ⊢ wp frame (wpE (defs₀ (F := F)) 𝒱₀ c none) E (cc1__reader i M1 hM1 M2 hM2) Q := by
  iintro ⟨H1, H2, Hk⟩
  rw [cc1__reader_eq_skeleton]
  unfold cc1__reader_skel
  simp only [k1_part1_eq_skeleton, k1_part2_eq_skeleton]
  sl_exec!
  sl_step
  iapply Hk
  isplitl [H1]; · iexact H1
  iexists _; isplitr; swap; · iexact H2
  ipureintro
  exact View.read_writes_junk_eq_canon M2.view (rdList (M1.view.read (Elt F) f1))

end Cert.Proof.IBody

end
-- ==== Proof.IdealTile.lean ====
module

public import proofs.«01_k».proof.Proof.IdealReader
public import Idealize.ShloMosaic.Lib.WordCmp

@[expose] public section

set_option maxRecDepth 16384

noncomputable section

namespace Cert.Proof.IBody

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Owning a whole memref is holding its buffer at contents it reads as the given block. -/
theorem owns_of_whole (c : Dev nD) {sp : Space} {S : Shape} {e : EltTy} (M : Memref sig .tc sp S e) (hM : M.IsWhole) (X : S.Idx → Elt F e) :
    (owns (c : Thread nD τ) M fullShare X : sProp 𝕄) = iprop(∃ f : Bf (F := F) c M, ⌜M.view.read (Elt F) f = X⌝ ∗ pt c M f) := by
  unfold owns; rw [hM.set_eq_univ]

variable (V : (c : Dev nD) → (b : Ref sig .tc) → Buf (Elt F) ((c : Thread nD τ).loc b))
variable (a : (pcfg0 (F := F)).Adm)

/-- The table of experts the pipeline runs at, as a buffer's contents. -/
abbrev tabE (c : Dev nD) : Bf (F := F) c (Memref.whole main_arg0) := a.1 0
/-- The table of the number of active tiles, as a buffer's contents. -/
abbrev tabN (c : Dev nD) : Bf (F := F) c (Memref.whole main_arg1) := a.1 1

/-- Whether tile `t` is active, as the body's condition. -/
abbrev act (c : Dev nD) (t : Fin grid0.N) : BitVec 1 := k0_cond3 (grid0.coords t) (rdN c (tabN a c))

/-- The block of packed rows tile `t` is given. -/
abbrev xb (c : Dev nD) (t : Fin grid0.N) : S2048x128.Idx → Elt F .i32 :=
  (((cfg0 a).win (0 : Fin 5)).blk t).view.read (Elt F) (V c main_arg2)
/-- The three blocks of weights tile `t` is given, in f32. -/
abbrev wb1 (c : Dev nD) (t : Fin grid0.N) : S1x2048x256.Idx → Elt F .f32 :=
  (((cfg0 a).win (1 : Fin 5)).blk t).view.read (Elt F) (V c main_arg3)
abbrev wb2 (c : Dev nD) (t : Fin grid0.N) : S1x2048x256.Idx → Elt F .f32 :=
  (((cfg0 a).win (2 : Fin 5)).blk t).view.read (Elt F) (V c main_arg4)
abbrev wb3 (c : Dev nD) (t : Fin grid0.N) : S1x256x2048.Idx → Elt F .f32 :=
  (((cfg0 a).win (3 : Fin 5)).blk t).view.read (Elt F) (V c main_arg5)

/-- The block of outputs tile `t` leaves. -/
def ob (c : Dev nD) (t : Fin grid0.N) : S2048x2x128.Idx → Elt F .bf16 :=
  blockOut (act a c t) (xb V a c t) (k0_pay1 (wb1 V a c t)) (k0_pay2 (wb2 V a c t)) (k0_pay3 (wb3 V a c t))

/-- The scratch buffers of weights before point `t`: if the tile before is active, they read as the casts of the
    weights it was given. -/
def wscr (c : Dev nD) (n : ℕ) : sProp 𝕄 :=
  iprop(∃ (g1 : Bf (F := F) c (Memref.whole cc0_scratch1)) (g2 : Bf (F := F) c (Memref.whole cc0_scratch2)) (g3 : Bf (F := F) c (Memref.whole cc0_scratch3)),
    ⌜∀ s : Fin grid0.N, s.val + 1 = n → act a c s = 1#1 →
      (Memref.whole cc0_scratch1).view.read (Elt F) g1 = k0_pay1 (wb1 V a c s) ∧ (Memref.whole cc0_scratch2).view.read (Elt F) g2 = k0_pay2 (wb2 V a c s)
        ∧ (Memref.whole cc0_scratch3).view.read (Elt F) g3 = k0_pay3 (wb3 V a c s)⌝
    ∗ pt c (Memref.whole cc0_scratch1) g1 ∗ pt c (Memref.whole cc0_scratch2) g2 ∗ pt c (Memref.whole cc0_scratch3) g3)

/-- The staging buffers of the second call, at anything. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The invariant before point `t`: the tables as they are, the row buffer at anything, the weights' buffers as `wscr`
    says, the second call's staging buffers at anything. -/
def inv0 (c : Dev nD) (n : ℕ) : sProp 𝕄 :=
  iprop(pt c (Memref.whole main_arg0) (tabE a c) ∗ pt c (Memref.whole main_arg1) (tabN a c)
    ∗ (∃ g : Bf (F := F) c (Memref.whole cc0_scratch0), pt c (Memref.whole cc0_scratch0) g) ∗ wscr V a c n ∗ others c)

/-- The proof data of the expert call. -/
def dat0 (c : Dev nD) : Dat τ (Elt F) Unit ℕ UU ℕ (cfg0 a) c where
  A w := V c (Pipeline.arrRef spec0 w)
  after w t := match w with
    | ⟨0, _⟩ => xb V a c t
    | ⟨1, _⟩ => wb1 V a c t
    | ⟨2, _⟩ => wb2 V a c t
    | ⟨3, _⟩ => wb3 V a c t
    | ⟨4, _⟩ => ob V a c t
  Φ t := inv0 V a c t.val
  q _ := fullShare
  owed _ := 0

/-! ## The weights' buffers at an active tile -/

/-- The word of the expert of the tile before is read where that tile reads its own. -/
theorem off_prev : ∀ t : Fin grid0.N, ∀ s : Fin grid0.N, s.val + 1 = t.val → k0_off3 (grid0.coords t) = k0_off2 (grid0.coords s) := by
  have h : ∀ s : Fin 162, k0_off3 (grid0.coords ⟨s.val + 1, by rw [N_0]; omega⟩) = k0_off2 (grid0.coords ⟨s.val, by rw [N_0]; omega⟩) := by
    decide +kernel
  intro t s hst
  have ht : t.val < 163 := lt_of_lt_of_eq t.isLt N_0
  have h' := h ⟨s.val, by omega⟩
  have e1 : (⟨s.val + 1, by rw [hst]; exact t.isLt⟩ : Fin grid0.N) = t := Fin.ext hst
  simp only [e1] at h'
  exact h'

/-- The first coordinate of point `t` is `t`. -/
theorem coords0 : ∀ t : Fin grid0.N, (grid0.coords t 0).val = t.val := by decide +kernel

theorem rdP_prev (c : Dev nD) (f1 : Bf (F := F) c (Memref.whole main_arg0)) (t s : Fin grid0.N) (h : s.val + 1 = t.val) :
    rdP c (grid0.coords t) f1 = rdT c (grid0.coords s) f1 := by
  have e := off_prev t s h
  unfold rdP rdT
  have key : ∀ (o o' : Fin 1 → ℕ) (ho : ∀ x, o x + S1.size x ≤ S163.size x) (ho' : ∀ x, o' x + S1.size x ≤ S163.size x), o = o' →
      View.readAt (Elt F) (Memref.whole main_arg0).view (Rect.unit (s := S163) o S1.size ho).toLoadRect f1 (Shape.Idx.first (by exact numel1_S1.symm ▸ Nat.one_pos))
        = View.readAt (Elt F) (Memref.whole main_arg0).view (Rect.unit (s := S163) o' S1.size ho').toLoadRect f1 (Shape.Idx.first (by exact numel1_S1.symm ▸ Nat.one_pos)) := by
    intro o o' ho ho' h; subst h; rfl
  exact key _ _ _ _ e

/-- An active tile that does not recast its weights is not the first, the tile before is active, and has the same
    expert. -/
theorem not_new (i : grid0.Coords) (n x y : BitVec 32) (h3 : k0_cond3 i n = 1#1) (h : ¬ isNew i n x y = 1#1) :
    (i 0).val ≠ 0 ∧ x = y := by
  unfold isNew at h
  unfold k0_cond3 at h3
  simp only [] at h3
  by_cases hx : x = y
  · refine ⟨fun h0 => h ?_, hx⟩
    rw [h0] at h3 ⊢
    rw [show Scalar.cmpi .eq (BitVec.ofNat 32 0) 0#32 = 1#1 from by decide]
    revert h3
    generalize Scalar.cmpi .slt (BitVec.ofNat 32 0) n = v
    generalize Scalar.cmpi .ne x y = w
    revert v w; decide
  · exfalso
    apply h
    rw [show Scalar.cmpi .ne x y = 1#1 from by unfold Scalar.cmpi; rw [WordCmp.cmpi_ne_eq]; simp [hx]]
    revert h3
    generalize Scalar.cmpi .slt (BitVec.ofNat 32 (i 0).val) n = v
    generalize Scalar.cmpi .eq (BitVec.ofNat 32 (i 0).val) 0#32 = w
    revert v w; decide

/-- A tile is active when its number is below the number of active tiles. -/
theorem cond3_iff (i : grid0.Coords) (n : BitVec 32) : k0_cond3 i n = 1#1 ↔ ((i 0).val : ℤ) < n.toInt := by
  have hi : (i 0).val < 163 := (i 0).isLt
  have hz : (BitVec.ofNat 32 (i 0).val).toInt = ((i 0).val : ℤ) := by
    rw [BitVec.toInt_eq_toNat_of_lt (by rw [BitVec.toNat_ofNat, Nat.mod_eq_of_lt (by omega)]; omega), BitVec.toNat_ofNat, Nat.mod_eq_of_lt (by omega)]
  have hs : Scalar.cmpi .slt (BitVec.ofNat 32 (i 0).val) n = BitVec.ofBool (decide (((i 0).val : ℤ) < n.toInt)) := by
    unfold Scalar.cmpi; rw [WordCmp.cmpi_slt_eq, hz]
  unfold k0_cond3
  simp only []
  rw [hs]
  by_cases h : ((i 0).val : ℤ) < n.toInt
  · simp only [h, decide_true, iff_true]; decide
  · simp only [h, decide_false, iff_false]; decide

/-- The tile before an active one is active. -/
theorem act_prev (c : Dev nD) (t s : Fin grid0.N) (h : s.val + 1 = t.val) (ht : act a c t = 1#1) : act a c s = 1#1 := by
  have h1 := (cond3_iff _ _).1 ht
  refine (cond3_iff _ _).2 ?_
  rw [coords0] at h1 ⊢
  omega

/-- The expert's word as an index map reads it is the one the body reads. -/
theorem at_eq (c : Dev nD) (i : grid0.Coords) :
    (a.1.at 0 (Rect.unit (s := S163) ![(Scalar.indexCast (BitVec.ofNat 32 (i 0).val)).toNat] S1.size (k0_off1_inb i)) numel1_S1 : BitVec 32)
      = rdT c i (tabE a c) := rfl

theorem index1_eq (c : Dev nD) (t : Fin grid0.N) : ((cfg0 a).win (1 : Fin 5)).index t = ![(rdT c (grid0.coords t) (tabE a c)).toNat, 0, 0] := rfl
theorem index2_eq (c : Dev nD) (t : Fin grid0.N) : ((cfg0 a).win (2 : Fin 5)).index t = ![(rdT c (grid0.coords t) (tabE a c)).toNat, 0, 0] := rfl
theorem index3_eq (c : Dev nD) (t : Fin grid0.N) : ((cfg0 a).win (3 : Fin 5)).index t = ![(rdT c (grid0.coords t) (tabE a c)).toNat, 0, 0] := rfl

theorem index1_congr (c : Dev nD) (t s : Fin grid0.N) (h : rdT c (grid0.coords t) (tabE a c) = rdT c (grid0.coords s) (tabE a c)) :
    ((cfg0 a).win (1 : Fin 5)).index t = ((cfg0 a).win (1 : Fin 5)).index s := by
  have e : (![(rdT c (grid0.coords t) (tabE a c)).toNat, 0, 0] : Fin 3 → ℕ) = ![(rdT c (grid0.coords s) (tabE a c)).toNat, 0, 0] := by rw [h]
  exact (index1_eq a c t).trans (e.trans (index1_eq a c s).symm)
theorem index2_congr (c : Dev nD) (t s : Fin grid0.N) (h : rdT c (grid0.coords t) (tabE a c) = rdT c (grid0.coords s) (tabE a c)) :
    ((cfg0 a).win (2 : Fin 5)).index t = ((cfg0 a).win (2 : Fin 5)).index s := by
  have e : (![(rdT c (grid0.coords t) (tabE a c)).toNat, 0, 0] : Fin 3 → ℕ) = ![(rdT c (grid0.coords s) (tabE a c)).toNat, 0, 0] := by rw [h]
  exact (index2_eq a c t).trans (e.trans (index2_eq a c s).symm)
theorem index3_congr (c : Dev nD) (t s : Fin grid0.N) (h : rdT c (grid0.coords t) (tabE a c) = rdT c (grid0.coords s) (tabE a c)) :
    ((cfg0 a).win (3 : Fin 5)).index t = ((cfg0 a).win (3 : Fin 5)).index s := by
  have e : (![(rdT c (grid0.coords t) (tabE a c)).toNat, 0, 0] : Fin 3 → ℕ) = ![(rdT c (grid0.coords s) (tabE a c)).toNat, 0, 0] := by rw [h]
  exact (index3_eq a c t).trans (e.trans (index3_eq a c s).symm)

/-- Tiles with the same expert are given the same weights. -/
theorem wb_congr (c : Dev nD) (t s : Fin grid0.N) (h : rdT c (grid0.coords t) (tabE a c) = rdT c (grid0.coords s) (tabE a c)) :
    wb1 V a c t = wb1 V a c s ∧ wb2 V a c t = wb2 V a c s ∧ wb3 V a c t = wb3 V a c s :=
  ⟨(dat0 V a c).fetched_congr 1 (t := t) (t' := s) (index1_congr a c t s h) rfl (wb1 V a c t),
   (dat0 V a c).fetched_congr 2 (t := t) (t' := s) (index2_congr a c t s h) rfl (wb2 V a c t),
   (dat0 V a c).fetched_congr 3 (t := t) (t' := s) (index3_congr a c t s h) rfl (wb3 V a c t)⟩

/-- What the weights' buffers hold after tile `t`, if active: the casts of the weights it was given. -/
theorem pick_eq (c : Dev nD) (t : Fin grid0.N) (ht : act a c t = 1#1)
    (g1 : Bf (F := F) c (Memref.whole cc0_scratch1)) (g2 : Bf (F := F) c (Memref.whole cc0_scratch2)) (g3 : Bf (F := F) c (Memref.whole cc0_scratch3))
    (hg : ∀ s : Fin grid0.N, s.val + 1 = t.val → act a c s = 1#1 →
      (Memref.whole cc0_scratch1).view.read (Elt F) g1 = k0_pay1 (wb1 V a c s) ∧ (Memref.whole cc0_scratch2).view.read (Elt F) g2 = k0_pay2 (wb2 V a c s)
        ∧ (Memref.whole cc0_scratch3).view.read (Elt F) g3 = k0_pay3 (wb3 V a c s)) :
    pick (isNew (grid0.coords t) (rdN c (tabN a c)) (rdT c (grid0.coords t) (tabE a c)) (rdP c (grid0.coords t) (tabE a c)))
        (k0_pay1 (wb1 V a c t)) ((Memref.whole cc0_scratch1).view.read (Elt F) g1) = k0_pay1 (wb1 V a c t)
    ∧ pick (isNew (grid0.coords t) (rdN c (tabN a c)) (rdT c (grid0.coords t) (tabE a c)) (rdP c (grid0.coords t) (tabE a c)))
        (k0_pay2 (wb2 V a c t)) ((Memref.whole cc0_scratch2).view.read (Elt F) g2) = k0_pay2 (wb2 V a c t)
    ∧ pick (isNew (grid0.coords t) (rdN c (tabN a c)) (rdT c (grid0.coords t) (tabE a c)) (rdP c (grid0.coords t) (tabE a c)))
        (k0_pay3 (wb3 V a c t)) ((Memref.whole cc0_scratch3).view.read (Elt F) g3) = k0_pay3 (wb3 V a c t) := by
  unfold pick
  by_cases hn : isNew (grid0.coords t) (rdN c (tabN a c)) (rdT c (grid0.coords t) (tabE a c)) (rdP c (grid0.coords t) (tabE a c)) = 1#1
  · simp only [if_pos hn, and_self]
  · simp only [if_neg hn]
    obtain ⟨h0, he⟩ := not_new _ _ _ _ ht hn
    rw [coords0] at h0
    have hs : (⟨t.val - 1, lt_of_le_of_lt (Nat.sub_le _ _) t.isLt⟩ : Fin grid0.N).val + 1 = t.val := by
      show t.val - 1 + 1 = t.val; omega
    have ha := act_prev a c t _ hs ht
    rw [rdP_prev c _ t _ hs] at he
    obtain ⟨e1, e2, e3⟩ := wb_congr V a c t _ he
    obtain ⟨r1, r2, r3⟩ := hg _ hs ha
    exact ⟨r1.trans (by rw [e1]), r2.trans (by rw [e2]), r3.trans (by rw [e3])⟩

/-- The output block from what the buffers read: at an inactive tile the weights do not matter. -/
theorem blockOut_eq (k : BitVec 1) (X : S2048x128.Idx → Elt F .i32) (P₁ P₂ : S2048x256.Idx → Elt F .bf16) (P₃ : S256x2048.Idx → Elt F .bf16)
    (Q₁ Q₂ : S2048x256.Idx → Elt F .bf16) (Q₃ : S256x2048.Idx → Elt F .bf16) (h : k = 1#1 → P₁ = Q₁ ∧ P₂ = Q₂ ∧ P₃ = Q₃) :
    blockOut k X P₁ P₂ P₃ = blockOut k X Q₁ Q₂ Q₃ := by
  by_cases hk : k = 1#1
  · obtain ⟨rfl, rfl, rfl⟩ := h hk; rfl
  · unfold blockOut; rw [if_neg hk, if_neg hk]

/-! ## The body at every point -/

theorem before0 (c : Dev nD) (t : Fin grid0.N) (d) : (dat0 V a c).before (0 : Fin 5) t d = xb V a c t :=
  (dat0 V a c).before_in_eq_fetched (0 : Fin 5) rfl (fun _ => rfl) (fun _ _ _ => rfl) (fun _ => rfl) t d
theorem before1 (c : Dev nD) (t : Fin grid0.N) (d) : (dat0 V a c).before (1 : Fin 5) t d = wb1 V a c t :=
  (dat0 V a c).before_in_eq_fetched (1 : Fin 5) rfl (fun _ => rfl) (fun _ _ _ => rfl) (fun _ => rfl) t d
theorem before2 (c : Dev nD) (t : Fin grid0.N) (d) : (dat0 V a c).before (2 : Fin 5) t d = wb2 V a c t :=
  (dat0 V a c).before_in_eq_fetched (2 : Fin 5) rfl (fun _ => rfl) (fun _ _ _ => rfl) (fun _ => rfl) t d
theorem before3 (c : Dev nD) (t : Fin grid0.N) (d) : (dat0 V a c).before (3 : Fin 5) t d = wb3 V a c t :=
  (dat0 V a c).before_in_eq_fetched (3 : Fin 5) rfl (fun _ => rfl) (fun _ _ _ => rfl) (fun _ => rfl) t d

/-- The output window stores at every point: one of the two tests on the tile's number holds. -/
theorem not_idle (i : grid0.Coords) (n : BitVec 32) : (!(k0_cond1 i n == 1#1) && !(k0_cond3 i n == 1#1)) = false := by
  by_cases h : k0_cond3 i n = 1#1
  · simp [h]
  · simp [(cond1_iff i n).2 h]

/-- A point's staging buffers. -/
abbrev sM3 (t : Fin grid0.N) := spec0_0.stage ((cfg0 a).slots t (0 : Fin 5))
abbrev sM4 (t : Fin grid0.N) := spec0_1.stage ((cfg0 a).slots t (1 : Fin 5))
abbrev sM5 (t : Fin grid0.N) := spec0_2.stage ((cfg0 a).slots t (2 : Fin 5))
abbrev sM6 (t : Fin grid0.N) := spec0_3.stage ((cfg0 a).slots t (3 : Fin 5))
abbrev sM7 (t : Fin grid0.N) := spec0_4.stage ((cfg0 a).slots t (4 : Fin 5))

/-- The body at a point as the pipeline calls it, from the invariant and the staged blocks to the invariant after it and
    the blocks as left. -/
theorem point0 (c : Dev nD) (t : Fin grid0.N) (O : sProp 𝕄) (Q : PUnit → sProp 𝕄) :
    iprop(inv0 V a c t.val ∗ O
        ∗ (∃ f : Bf (F := F) c (sM3 a t), ⌜(sM3 a t).view.read (Elt F) f = xb V a c t⌝ ∗ pt c (sM3 a t) f)
        ∗ (∃ f : Bf (F := F) c (sM4 a t), ⌜(sM4 a t).view.read (Elt F) f = wb1 V a c t⌝ ∗ pt c (sM4 a t) f)
        ∗ (∃ f : Bf (F := F) c (sM5 a t), ⌜(sM5 a t).view.read (Elt F) f = wb2 V a c t⌝ ∗ pt c (sM5 a t) f)
        ∗ (∃ f : Bf (F := F) c (sM6 a t), ⌜(sM6 a t).view.read (Elt F) f = wb3 V a c t⌝ ∗ pt c (sM6 a t) f)
        ∗ (∃ f : Bf (F := F) c (sM7 a t), pt c (sM7 a t) f)
        ∗ (iprop(inv0 V a c (t.val + 1) ∗ O
        ∗ (∃ f : Bf (F := F) c (sM3 a t), ⌜(sM3 a t).view.read (Elt F) f = xb V a c t⌝ ∗ pt c (sM3 a t) f)
        ∗ (∃ f : Bf (F := F) c (sM4 a t), ⌜(sM4 a t).view.read (Elt F) f = wb1 V a c t⌝ ∗ pt c (sM4 a t) f)
        ∗ (∃ f : Bf (F := F) c (sM5 a t), ⌜(sM5 a t).view.read (Elt F) f = wb2 V a c t⌝ ∗ pt c (sM5 a t) f)
        ∗ (∃ f : Bf (F := F) c (sM6 a t), ⌜(sM6 a t).view.read (Elt F) f = wb3 V a c t⌝ ∗ pt c (sM6 a t) f)
        ∗ (∃ f : Bf (F := F) c (sM7 a t), ⌜(sM7 a t).view.read (Elt F) f = ob V a c t⌝ ∗ pt c (sM7 a t) f)) -∗ Q ⟨⟩))
      ⊢ wp frame (wpE (defs₀ (F := F)) 𝒱₀ c none) Set.univ (defs₀ .tc (cfg0 a).body ((cfg0 a).bodyArgs t ((cfg0 a).slots t))) Q := by
  unfold inv0 wscr
  iintro ⟨⟨HE, HN, ⟨%g0, H8⟩, ⟨%g1, %g2, %g3, %hg, H9, H10, H11⟩, Hoth⟩, HO, ⟨%f3, %h3, H3⟩, ⟨%f4, %h4, H4⟩, ⟨%f5, %h5, H5⟩, ⟨%f6, %h6, H6⟩, ⟨%f7, H7⟩, Hk⟩
  iapply (run_tile c (grid0.coords t) (sM3 a t) _ (sM4 a t) _ (sM5 a t) _ (sM6 a t) _ (sM7 a t) _ (Memref.whole cc0_scratch0) (Memref.isWhole_whole _)
    (Memref.whole cc0_scratch1) (Memref.isWhole_whole _) (Memref.whole cc0_scratch2) (Memref.isWhole_whole _) (Memref.whole cc0_scratch3) (Memref.isWhole_whole _)
    fullShare (tabE a c) (tabN a c) f3 f4 f5 f6 f7 g0 g1 g2 g3 Set.univ _)
  isplitl [HE]; · iexact HE
  isplitl [HN]; · iexact HN
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  rw [h3, h4, h5, h6]
  iintro ⟨HE, HN, H3, H4, H5, H6, ⟨%g7, %r7, H7⟩, H8, ⟨%k1, %r9, H9⟩, ⟨%k2, %r10, H10⟩, ⟨%k3, %r11, H11⟩⟩
  iapply Hk
  isplitl [HE HN H8 H9 H10 H11 Hoth]
  · isplitl [HE]; · iexact HE
    isplitl [HN]; · iexact HN
    isplitl [H8]; · iexact H8
    isplitl [H9 H10 H11]
    · iexists k1; iexists k2; iexists k3
      isplitr
      · ipureintro
        intro s hs ha
        obtain rfl : s = t := Fin.ext (Nat.succ.inj hs)
        obtain ⟨p1, p2, p3⟩ := pick_eq V a c s ha g1 g2 g3 hg
        exact ⟨r9.trans p1, r10.trans p2, r11.trans p3⟩
      isplitl [H9]; · iexact H9
      isplitl [H10]; · iexact H10
      iexact H11
    iexact Hoth
  isplitl [HO]; · iexact HO
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  iexists _; isplitr; swap; (· iexact H7); ipureintro
  exact r7.trans (blockOut_eq _ _ _ _ _ _ _ _ fun ha => pick_eq V a c t ha g1 g2 g3 hg)

/-- A staging buffer owned at a block is its memref's buffer held at contents reading as the block. -/
theorem owned (c : Dev nD) {sp : Space} {S : Shape} {e : EltTy} (M : Memref sig .tc sp S e) (hM : M.IsWhole) (X Y : S.Idx → Elt F e) (h : X = Y) :
    (owns (c : Thread nD τ) M fullShare X : sProp 𝕄) ⊢ iprop(∃ f : Bf (F := F) c M, ⌜M.view.read (Elt F) f = Y⌝ ∗ pt c M f) := by
  subst h; exact Entails.of_eq (owns_of_whole c M hM X)
theorem disown (c : Dev nD) {sp : Space} {S : Shape} {e : EltTy} (M : Memref sig .tc sp S e) (hM : M.IsWhole) (X Y : S.Idx → Elt F e) (h : X = Y) :
    iprop(∃ f : Bf (F := F) c M, ⌜M.view.read (Elt F) f = Y⌝ ∗ pt c M f) ⊢ (owns (c : Thread nD τ) M fullShare X : sProp 𝕄) := by
  subst h; exact Entails.of_eq (owns_of_whole c M hM X).symm

/-- The library's obligation on the body of the expert call. -/
theorem obligation0 (c : Dev nD) : BodyObligation (dat0 V a c) (defs₀ (F := F)) 𝒱₀ () Set.univ := fun t => by
  rw [bigSep_W0, bigSep_W0]
  dsimp only
  have hid : idle0 a.1 4 (((pcfg0 (F := F)).gridAt a.1).coords t) = false := not_idle _ _
  rw [hid]
  dsimp only
  rw [show (dat0 V a c).Φ t.castSucc = inv0 V a c t.val from rfl, show (dat0 V a c).Φ t.succ = inv0 V a c (t.val + 1) from rfl,
    show (dat0 V a c).owesAt () t.succ = (dat0 V a c).owesAt () t.castSucc from rfl]
  iintro ⟨HI, HO, ⟨%d0, H0⟩, ⟨%d1, H1⟩, ⟨%d2, H2⟩, ⟨%d3, H3⟩, ⟨%d4, H4⟩⟩
  iapply (point0 V a c t ((dat0 V a c).owesAt () t.castSucc) _)
  isplitl [HI]; · iexact HI
  isplitl [HO]; · iexact HO
  isplitl [H0]; · iapply (owned c (sM3 a t) (hstage0_0 _) _ _ (before0 V a c t d0)); iexact H0
  isplitl [H1]; · iapply (owned c (sM4 a t) (hstage0_1 _) _ _ (before1 V a c t d1)); iexact H1
  isplitl [H2]; · iapply (owned c (sM5 a t) (hstage0_2 _) _ _ (before2 V a c t d2)); iexact H2
  isplitl [H3]; · iapply (owned c (sM6 a t) (hstage0_3 _) _ _ (before3 V a c t d3)); iexact H3
  isplitl [H4]
  · ihave H4' := (owned c (sM7 a t) (hstage0_4 _) _ _ rfl) $$ H4
    icases H4' with ⟨%f, -, H4⟩
    iexists f; iexact H4
  iintro ⟨HI, HO, H0, H1, H2, H3, H4⟩
  isplitl [HI]; · iexact HI
  isplitl [HO]; · iexact HO
  isplitl [H0]; · iapply (disown c (sM3 a t) (hstage0_0 _) _ _ rfl); iexact H0
  isplitl [H1]; · iapply (disown c (sM4 a t) (hstage0_1 _) _ _ rfl); iexact H1
  isplitl [H2]; · iapply (disown c (sM5 a t) (hstage0_2 _) _ _ rfl); iexact H2
  isplitl [H3]; · iapply (disown c (sM6 a t) (hstage0_3 _) _ _ rfl); iexact H3
  iapply (disown c (sM7 a t) (hstage0_4 _) _ _ rfl); iexact H4

end Cert.Proof.IBody

end
-- ==== Proof.IdealRegions.lean ====
module

public import proofs.«01_k».proof.Proof.IdealTile
public import proofs.«01_k».proof.Proof.Gen.ExpertsIdeal.Regions
public import Idealize.ShloMosaic.Lib.Pipeline.RegionsLoop
public import Idealize.ShloMosaic.Lib.Pipeline.Kit

@[expose] public section

set_option maxRecDepth 16384

noncomputable section

namespace Cert.Proof.IBody

open Cert.ExpertsIdeal Cert.ExpertsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## The second call: the reader -/

section Reader

variable (V : (c : Dev nD) → (b : Ref sig .tc) → Buf (Elt F) ((c : Thread nD τ).loc b))

/-- The block of packed outputs the reader is given at point `t`. -/
abbrev yb (c : Dev nD) (t : Fin grid1.N) : S2048x2x128.Idx → Elt F .bf16 :=
  ((cfg1.win (0 : Fin 2)).blk t).view.read (Elt F) (V c main_v0)

/-- The proof data of the reader's call. -/
def dat1 (c : Dev nD) : Dat τ (Elt F) Unit ℕ UU ℕ cfg1 c where
  A w := V c (Pipeline.arrRef spec1 w)
  after w t := match w with
    | ⟨0, _⟩ => yb V c t
    | ⟨1, _⟩ => rdOut (yb V c t)
  Φ _ := Pipeline.scopedRest (Ix := Unit) (Name := ℕ) (U := UU) (Lvl := ℕ) (Val := Elt F) spec1 c
  q _ := fullShare
  owed _ := 0

theorem before1_0 (c : Dev nD) (t : Fin grid1.N) (d) : (dat1 V c).before (0 : Fin 2) t d = yb V c t :=
  (dat1 V c).before_in_eq_fetched (0 : Fin 2) rfl (fun _ => rfl) (fun _ _ _ => rfl) (fun _ => rfl) t d

abbrev rM0 (t : Fin grid1.N) := win1_0.stage (cfg1.slots t (0 : Fin 2))
abbrev rM1 (t : Fin grid1.N) := win1_1.stage (cfg1.slots t (1 : Fin 2))

/-- The library's obligation on the reader's body. -/
theorem obligation1 (c : Dev nD) : BodyObligation (dat1 V c) (defs₀ (F := F)) 𝒱₀ () Set.univ := fun t => by
  rw [bigSep_W1, bigSep_W1]
  dsimp only
  rw [show (dat1 V c).Φ t.succ = (dat1 V c).Φ t.castSucc from rfl,
    show (dat1 V c).owesAt () t.succ = (dat1 V c).owesAt () t.castSucc from rfl]
  iintro ⟨HI, HO, ⟨%d0, H0⟩, ⟨%d1, H1⟩⟩
  ihave H0' := (owned c (rM0 t) (hstage1_0 _) _ _ (before1_0 V c t d0)) $$ H0
  icases H0' with ⟨%f0, %h0, H0⟩
  ihave H1' := (owned c (rM1 t) (hstage1_1 _) _ _ rfl) $$ H1
  icases H1' with ⟨%f1, -, H1⟩
  iapply (run_read c (grid1.coords t) (rM0 t) _ (rM1 t) _ f0 f1 Set.univ _)
  isplitl [H0]; · iexact H0
  isplitl [H1]; · iexact H1
  rw [h0]
  iintro ⟨H0, ⟨%g, %hg, H1⟩⟩
  isplitl [HI]; · iexact HI
  isplitl [HO]; · iexact HO
  isplitl [H0]
  · iapply (disown c (rM0 t) (hstage1_0 _) _ (yb V c t) rfl)
    iexists f0; isplitr; · ipureintro; exact h0
    iexact H0
  iapply (disown c (rM1 t) (hstage1_1 _) _ (rdOut (yb V c t)) rfl)
  iexists g; isplitr; · ipureintro; exact hg
  iexact H1

end Reader

/-! ## The two calls in a row -/

variable (m : (ℓ : Loc nD τ sig) → Buf (Elt F) ℓ)

/-- The two tables at launch. -/
def pf0 : pre0.Contents (Elt F) := fun k => m (((0 : Dev nD) : Thread nD τ).loc (pre0.ref k))

variable (hok : ok0 (F := F) (pf0 m))

/-- The tables the pipelines run at. -/
abbrev a0 : (pcfg0 (F := F)).Adm := ⟨pf0 m, hok⟩
def adm : (p : Fin 2) → (pcfgs (F := F) p).Adm
  | ⟨0, _⟩ => a0 m hok
  | ⟨1, _⟩ => Pipeline.Cfg.toPCfg_adm cfg1

/-- The buffers at launch. -/
abbrev Va (c : Dev nD) (b : Ref sig .tc) : Buf (Elt F) ((c : Thread nD τ).loc b) := V0 m c b
/-- What the expert call leaves in its result. -/
@[irreducible] def o0 (c : Dev nD) : Buf (Elt F) ((c : Thread nD τ).loc main_v0) := (dat0 (Va m) (a0 m hok) c).arrAt 4 grid0.N
theorem o0_eq (c : Dev nD) : o0 m hok c = (dat0 (Va m) (a0 m hok) c).arrAt 4 grid0.N := by unfold o0; rfl
/-- The buffers between the two calls. -/
def U1 (c : Dev nD) : Valuation τ sig (Elt F) := Function.update (V0 m c) main_v0 (o0 m hok c)
abbrev Vb (c : Dev nD) (b : Ref sig .tc) : Buf (Elt F) ((c : Thread nD τ).loc b) := U1 m hok c b
/-- What the reader leaves in its result. -/
@[irreducible] def o1 (c : Dev nD) : Buf (Elt F) ((c : Thread nD τ).loc main_v1) := (dat1 (Vb m hok) c).arrAt 1 grid1.N
theorem o1_eq (c : Dev nD) : o1 m hok c = (dat1 (Vb m hok) c).arrAt 1 grid1.N := by unfold o1; rfl
/-- The buffers at the end. -/
def U2 (c : Dev nD) : Valuation τ sig (Elt F) := Function.update (U1 m hok c) main_v1 (o1 m hok c)
abbrev Vc (c : Dev nD) (b : Ref sig .tc) : Buf (Elt F) ((c : Thread nD τ).loc b) := U2 m hok c b

theorem U1_of (c : Dev nD) (r : Ref sig .tc) (h : r ≠ main_v0) : U1 m hok c r = V0 m c r := by
  simp only [U1, Function.update_of_ne (StableHlo.devRef_ne_of_ne h : (Proc.devRef .tc r : DevRef τ sig) ≠ Proc.devRef .tc main_v0)]
theorem U1_out (c : Dev nD) : U1 m hok c main_v0 = o0 m hok c := by simp only [U1, Function.update_self]
theorem U2_of (c : Dev nD) (r : Ref sig .tc) (h : r ≠ main_v1) : U2 m hok c r = U1 m hok c r := by
  simp only [U2, Function.update_of_ne (StableHlo.devRef_ne_of_ne h : (Proc.devRef .tc r : DevRef τ sig) ≠ Proc.devRef .tc main_v1)]
theorem U2_out (c : Dev nD) : U2 m hok c main_v1 = o1 m hok c := by simp only [U2, Function.update_self]

/-- The proof data of both calls. -/
def pdats : (p : Fin 2) → (c : Dev nD) → Dat τ (Elt F) Unit ℕ UU ℕ (Pipeline.pin (pcfgs (F := F)) (adm m hok) p) c
  | ⟨0, _⟩ => fun c => dat0 (Va m) (a0 m hok) c
  | ⟨1, _⟩ => fun c => dat1 (Vb m hok) c

/-- No core owes another anything. -/
abbrev L : GSem nD τ sig → Finset Unit := fun _ => ∅
abbrev lv : GSem nD τ sig → Unit → ℕ := fun _ _ => 0

/-- A core owes nothing. -/
abbrev owing (c : Dev nD) : sProp 𝕄 := iprop(∃ W, owes (c : Thread nD τ) (0 : CellTallies nD τ sig Unit) W)

/-- The two tables held at their contents at launch. -/
abbrev tabs (c : Dev nD) : sProp 𝕄 :=
  iprop(pt c (Memref.whole main_arg0) (tabE (a0 m hok) c) ∗ pt c (Memref.whole main_arg1) (tabN (a0 m hok) c))

theorem prefHeld_eq (c : Dev nD) : (Pipeline.prefHeld pre0 c (fun _ => fullShare) (pf0 m) : sProp 𝕄) = tabs m hok c := by
  unfold Pipeline.prefHeld
  rw [show (Finset.univ : Finset (Fin 2)) = insert 0 {1} from by decide, bigSep_insert (by decide), bigSep_singleton]
  rfl

theorem Va_pref (c : Dev nD) : (fun k => Va m c (pre0.ref k)) = pf0 m := by
  obtain rfl : c = 0 := Subsingleton.elim _ _
  rfl

set_option backward.isDefEq.respectTransparency.types false in
/-- The expert call, from the buffers at launch to them with its result. -/
def reg0 : RegionSeg (pcfgs (F := F)) (adm m hok) (pdats m hok) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (obligation0 (Va m) (a0 m hok) c).loose
  hwaits := Pipeline.hwaits_of_owed_zero _ _ _ _ L lv 0 fun _ _ => rfl
  pre c := iprop(unscopedBufs c (Va m c) ∗ owing c)
  post c := iprop(unscopedBufs c (Vb m hok c) ∗ owing c)
  X _ := BI.emp
  Y c := tabs m hok c
  Z c := Pipeline.unscopedRestP (Ix := Unit) (Name := ℕ) (U := UU) (Lvl := ℕ) pre0 spec0 c (Va m c)
  hentry c := by
    rw [Pipeline.ownSems0_none]
    have hsplit := Pipeline.arrays_of_unscopedBufs (p := 0) (pcfgs (F := F)) (adm m hok) (pdats m hok) (launch0 (F := F)).win (launch0 (F := F)).arr_whole c
      ((pdats m hok 0 c).share_full fun _ => rfl) (Va m c) fun _ => rfl
    have hrest := Pipeline.unscopedRest_split (Ix := Unit) (Name := ℕ) (U := UU) (Lvl := ℕ) (preFacts0) c (Va m c)
    rw [Va_pref] at hrest
    iintro ⟨⟨Hub, HO⟩, -, -⟩
    ihave H := hsplit $$ Hub
    icases H with ⟨Ha, Hrest⟩
    ihave H := (Entails.of_eq hrest) $$ Hrest
    icases H with ⟨Hp, Hr⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m hok 0 c).Φ 0 = inv0 (Va m) (a0 m hok) c 0 from rfl]
    unfold inv0 wscr others
    change (iprop(BI.emp ∗ Pipeline.prefHeld pre0 c (fun _ => fullShare) (pf0 m) ∗ Pipeline.scopedRest (Ix := Unit) (Name := ℕ) (U := UU) (Lvl := ℕ) (Val := Elt F) spec0 c) : sProp 𝕄) ⊢ _
    iintro ⟨-, Hp, Hr⟩
    ihave Hp' := (Entails.of_eq (prefHeld_eq m hok c)) $$ Hp
    icases Hp' with ⟨HE, HN⟩
    ihave Hr' := (Entails.of_eq (scopedRest0_eq (Ix := Unit) (Name := ℕ) (U := UU) (Lvl := ℕ) (Val := Elt F) c)) $$ Hr
    icases Hr' with ⟨H0, ⟨%g1, H1⟩, ⟨%g2, H2⟩, ⟨%g3, H3⟩, Hoth⟩
    isplitl [HE]; · iexact HE
    isplitl [HN]; · iexact HN
    isplitl [H0]; · iexact H0
    isplitl [H1 H2 H3]
    · iexists g1; iexists g2; iexists g3
      isplitr; · ipureintro; exact fun s h => absurd h (Nat.succ_ne_zero _)
      isplitl [H1]; · iexact H1
      isplitl [H2]; · iexact H2
      iexact H3
    iexact Hoth
  hout c := by
    rw [Pipeline.ownSems0_none, show (pdats m hok 0 c).Φ (Fin.last _) = inv0 (Va m) (a0 m hok) c grid0.N from rfl]
    unfold inv0 wscr others
    iintro ⟨HE, HN, H0, ⟨%g1, %g2, %g3, -, H1, H2, H3⟩, Hoth⟩
    isplitl [HE HN]; · isplitl [HE] <;> iassumption
    isplitr; · iempintro
    iapply (Entails.of_eq (scopedRest0_eq (Ix := Unit) (Name := ℕ) (U := UU) (Lvl := ℕ) (Val := Elt F) c).symm)
    isplitl [H0]; · iexact H0
    isplitl [H1]; · iexists g1; iexact H1
    isplitl [H2]; · iexists g2; iexact H2
    isplitl [H3]; · iexists g3; iexact H3
    iexact Hoth
  hexit c := by
    have hjoin := Pipeline.unscopedBufs_of_arrays (p := 0) (pcfgs (F := F)) (adm m hok) (Ix := Unit) (Name := ℕ) (U := UU) (Lvl := ℕ) (launch0 (F := F)).win (launch0 (F := F)).arr_whole c
      (pdats m hok) ((pdats m hok 0 c).share_full fun _ => rfl) (Va m c) (Vb m hok c) ((pdats m hok 0 c).arrAt · grid0.N)
      (fun w => by
        fin_cases w
        · exact ((pdats m hok 0 c).arrAt_in 0 rfl _).trans (U1_of m hok c main_arg2 (by decide)).symm
        · exact ((pdats m hok 0 c).arrAt_in 1 rfl _).trans (U1_of m hok c main_arg3 (by decide)).symm
        · exact ((pdats m hok 0 c).arrAt_in 2 rfl _).trans (U1_of m hok c main_arg4 (by decide)).symm
        · exact ((pdats m hok 0 c).arrAt_in 3 rfl _).trans (U1_of m hok c main_arg5 (by decide)).symm
        · exact ((U1_out m hok c).trans (o0_eq m hok c)).symm)
      (fun b hb => U1_of m hok c b fun h => hb (h ▸ Finset.mem_image.mpr ⟨(4 : Fin 5), Finset.mem_univ _, rfl⟩))
    have hrest := Pipeline.unscopedRest_split (Ix := Unit) (Name := ℕ) (U := UU) (Lvl := ℕ) (preFacts0) c (Va m c)
    rw [Va_pref, prefHeld_eq m hok c] at hrest
    iintro ⟨Ha, HO, Ht, Hr⟩
    imodintro
    isplitl [Ha Ht Hr]
    · iapply hjoin; isplitl [Ha]; · iexact Ha
      iapply (Entails.of_eq hrest.symm); isplitl [Ht] <;> iassumption
    unfold Pipeline.Dat.owesAt Pipeline.owesWithin
    icases HO with ⟨%W, -, HO⟩; iexists W; iexact HO

set_option backward.isDefEq.respectTransparency.types false in
/-- The reader's call, from the buffers the expert call leaves to them with its own result. -/
def reg1 : RegionSeg (pcfgs (F := F)) (adm m hok) (pdats m hok) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (obligation1 (Vb m hok) c).loose
  hwaits := Pipeline.hwaits_of_owed_zero _ _ _ _ L lv 1 fun _ _ => rfl
  pre c := iprop(unscopedBufs c (Vb m hok c) ∗ owing c)
  post c := iprop(unscopedBufs c (Vc m hok c) ∗ owing c)
  X _ := BI.emp
  Y _ := BI.emp
  Z c := Pipeline.unscopedRest (Ix := Unit) (Name := ℕ) (U := UU) (Lvl := ℕ) spec1 c (Vb m hok c)
  hentry c := by
    rw [Pipeline.ownSems0_none]
    have hsplit := Pipeline.arrays_of_unscopedBufs (p := 1) (pcfgs (F := F)) (adm m hok) (pdats m hok) (launch1 (F := F)).win (launch1 (F := F)).arr_whole c
      ((pdats m hok 1 c).share_full fun _ => rfl) (Vb m hok c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m hok 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats m hok 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) (adm m hok) (Ix := Unit) (Name := ℕ) (U := UU) (Lvl := ℕ) (launch1 (F := F)).win (launch1 (F := F)).arr_whole c
      (pdats m hok) ((pdats m hok 1 c).share_full fun _ => rfl) (Vb m hok c) (Vc m hok c) ((pdats m hok 1 c).arrAt · cfg1.N)
      (fun w => by
        fin_cases w
        · exact ((pdats m hok 1 c).arrAt_in 0 rfl _).trans (U2_of m hok c main_v0 (by decide)).symm
        · exact ((U2_out m hok c).trans (o1_eq m hok c)).symm)
      (fun b hb => U2_of m hok c b fun h => hb (h ▸ Finset.mem_image.mpr ⟨(1 : Fin 2), Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

abbrev EP : Emb (UR sig nD τ) 𝕄 := embL

/-- The library's launch element. -/
def u₀ : UU :=
  (initOf (Pipeline.cells (Pipeline.pin (pcfgs (F := F)) (adm m hok)) (cellOf_inj _)) (Pipeline.launchToks (Pipeline.pin (pcfgs (F := F)) (adm m hok)) (cellOf_inj _)), 1)

/-- The thread state at a valuation: the buffers held, and nothing owed. -/
abbrev state (W : Dev nD → Valuation τ sig (Elt F)) (c : Dev nD) : sProp 𝕄 :=
  iprop(StableHlo.held (c : Thread nD τ) (Pipeline.ucRefs τ sig) (W c) ∗ owing c)

theorem state_eq (W : Dev nD → Valuation τ sig (Elt F)) (c : Dev nD) :
    (state W c : sProp 𝕄) = iprop(unscopedBufs c (fun b => W c b) ∗ owing c) := by
  unfold state; rw [← Pipeline.unscopedBufs_held c (W c)]

set_option backward.isDefEq.respectTransparency.types false in
/-- The run: from any memory whose tables are within range, the two calls end with the arguments as they were, the
    result at what the reader leaves, and every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_v1) = o1 m hok c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) (adm m hok) (pdats m hok) () (cellOf_inj _) EP defs₀ 𝒱₀ L lv m ρ main
    (segs 𝒱₀ L lv (fun _ c => owing c) () (adm m hok) (pdats m hok) (reg0 m hok) (reg1 m hok))
    (fun c Q => by
      rewrite [main_chain c, Seg.run_eq_chain,
        show (segs 𝒱₀ L lv (fun _ c => owing c) () (adm m hok) (pdats m hok) (reg0 m hok) (reg1 m hok) c).map Seg.prog = [
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀ m hok)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := state (V0 m)) (Tₙ := fun c => StableHlo.held (c : Thread nD τ) (Pipeline.ucRefs τ sig) (U2 m hok c))
    (hch := fun c => ⟨Entails.of_eq (state_eq (V0 m) c), .rfl, Entails.of_eq (state_eq (U2 m hok) c).symm⟩)
    (hinit := ?_) (QY := fun c s => s.mem ((c.tc : Thread nD τ).loc main_v1) = o1 m hok c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · refine Pipeline.initEach L lv fun c => ?_
    rw [state_eq]
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (U2 m hok c) s') $$ [Hh HSI]
    · isplitl [Hh] <;> iassumption
    icases Hr with ⟨%h, HSI⟩
    imodintro
    isplitr
    · ipureintro
      have hrd (b : Ref sig .tc) (hb : (Proc.devRef .tc b : DevRef τ sig).isScoped = false) := h (Proc.devRef .tc b) (Finset.mem_filter.mpr ⟨StableHlo.devRef_mem_tcRefs b, by simp [hb]⟩)
      have harg (b : Ref sig .tc) (hb : (Proc.devRef .tc b : DevRef τ sig).isScoped = false) (h0 : b ≠ main_v0) (h1 : b ≠ main_v1) :=
        (hrd b hb).trans ((U2_of m hok c b h1).trans (U1_of m hok c b h0))
      exact ⟨(hrd main_v1 (by decide)).trans (U2_out m hok c), harg main_arg0 (by decide) (by decide) (by decide), harg main_arg1 (by decide) (by decide) (by decide),
        harg main_arg2 (by decide) (by decide) (by decide), harg main_arg3 (by decide) (by decide) (by decide),
        harg main_arg4 (by decide) (by decide) (by decide), harg main_arg5 (by decide) (by decide) (by decide)⟩
    · iexact HSI

end Cert.Proof.IBody

end
-- ==== Proof.Routed.lean ====
module

public import proofs.«01_k».proof.Proof.Gen.Pre_routed
public import Idealize.ShloMosaic.Lib.ReduceAll
public import Idealize.ShloMosaic.Lib.WordCmp

@[expose] public section

noncomputable section

namespace Cert.Proof.Routed

open Idealize.ShloMosaic Cert.Pre_routed

variable {F : FTy → Type} [FloatOps F]

instance : Subsingleton S_.Idx := ⟨fun i j => funext fun a => a.elim0⟩

/-- The precondition holds only of tables in the range the layer draws them from: every tile's expert is one of the 32,
    and between 1 and 163 tiles are active. -/
theorem range (a0 : IVec S163 32) (a1 : IVec S1 32) (a2 : IVec S333824x128 32) (a3 a4 : FVec F S32x2048x256 .f32) (a5 : FVec F S32x256x2048 .f32)
    (h : Cert.Pre_routed.fn (F := F) a0 a1 a2 a3 a4 a5 = (fun _ => 1#1)) :
    (∀ i, 0 ≤ (a0 i).toInt ∧ (a0 i).toInt < 32) ∧ ∀ i, 1 ≤ (a1 i).toInt ∧ (a1 i).toInt ≤ 163 := by
  have h0 := congrFun h (Shape.Idx.first Facts.h_S_)
  unfold Cert.Pre_routed.fn at h0
  obtain ⟨hA, hB⟩ := IntOp.andi_eq_one.1 h0
  refine ⟨fun i => ?_, fun i => ?_⟩
  · obtain ⟨h1, h2⟩ := IntOp.andi_eq_one.1 (Host.reduce_andi_all _ _ _ _ _ hA i)
    exact ⟨IntOp.cmpi_sge.1 h1, IntOp.cmpi_slt.1 h2⟩
  · obtain ⟨h1, h2⟩ := IntOp.andi_eq_one.1 (Host.reduce_andi_all _ _ _ _ _ hB i)
    exact ⟨IntOp.cmpi_sge.1 h1, IntOp.cmpi_sle.1 h2⟩

/-- A word in a range of small numbers, as a natural number. -/
theorem toNat_of_range (x : BitVec 32) (n : ℕ) (h0 : 0 ≤ x.toInt) (h1 : x.toInt < n) : x.toNat < n ∧ (x.toNat : ℤ) = x.toInt := by
  have h := BitVec.toInt_eq_toNat_cond x
  have := x.isLt
  split at h <;> omega

/-- The smaller of a tile's number and the last active tile's. -/
theorem minw (n : BitVec 32) (h1 : 1 ≤ n.toInt) (h2 : n.toInt ≤ 163) (t : ℕ) (ht : t < 163) :
    (Scalar.minsi (BitVec.ofNat 32 t) (Scalar.subi n 1#32)).toNat = min t (n.toNat - 1) := by
  have hn := toNat_of_range n 164 (by omega) (by omega)
  have hs : (Scalar.subi n 1#32).toNat = n.toNat - 1 := by
    show (n - 1#32).toNat = _
    rw [BitVec.toNat_sub]; simp; omega
  have hsi : (Scalar.subi n 1#32).toInt = (n.toNat : ℤ) - 1 := by
    rw [BitVec.toInt_eq_toNat_of_lt (by omega)]; omega
  have hti : (BitVec.ofNat 32 t).toInt = (t : ℤ) := by
    rw [BitVec.toInt_eq_toNat_of_lt (by rw [BitVec.toNat_ofNat]; omega), BitVec.toNat_ofNat]; omega
  show (if (BitVec.ofNat 32 t).slt (Scalar.subi n 1#32) then BitVec.ofNat 32 t else Scalar.subi n 1#32).toNat = _
  simp only [BitVec.slt_iff_toInt_lt, hsi, hti]
  split
  · rw [BitVec.toNat_ofNat]; omega
  · rw [hs]; omega

end Cert.Proof.Routed

end
-- ==== Proof.IdealRange.lean ====
module

public import proofs.«01_k».proof.Proof.IdealRegions
public import proofs.«01_k».proof.Proof.Routed

@[expose] public section

set_option maxRecDepth 16384

noncomputable section

namespace Cert.Proof.IBody

open Cert.ExpertsIdeal Cert.ExpertsIdeal.Gen

open Idealize.ShloMosaic
open Idealize.ShloMosaic.TcCoe

variable {F : FTy → Type} [FloatOps F]

/-- Tables within range put every block the windows name inside its array. -/
theorem ok_of_range (pf : pre0.Contents (Elt F)) (h0 : ∀ i : S163.Idx, 0 ≤ (show BitVec 32 from pf 0 i).toInt ∧ (show BitVec 32 from pf 0 i).toInt < 32)
    (h1 : ∀ i : S1.Idx, 1 ≤ (show BitVec 32 from pf 1 i).toInt ∧ (show BitVec 32 from pf 1 i).toInt ≤ 163) : ok0 pf := by
  have hn (i : grid0.Coords) : (cc0_transform_0 inb_S1_S1_0 numel1_S1 pf i) 0 < 163 := by
    obtain ⟨l, u⟩ := h1 ((Rect.unit (s := S1) ![0] S1.size inb_S1_S1_0).emb (Shape.Idx.first (by decide)))
    have hi : (i 0).val < 163 := (i 0).isLt
    have := Routed.minw _ l u (i 0).val hi
    refine lt_of_le_of_lt (le_of_eq this) ?_
    omega
  have he (i : grid0.Coords) : (cc0_transform_1 k0_off1_inb numel1_S1 pf i) 0 < 32 := by
    obtain ⟨l, u⟩ := h0 ((Rect.unit (s := S163) ![(Scalar.indexCast (BitVec.ofNat 32 (i 0).val) : BitVec 32).toNat] S1.size (k0_off1_inb i)).emb (Shape.Idx.first (show 0 < S1.numel from by decide)))
    exact (Routed.toNat_of_range _ 32 l (by exact_mod_cast u)).1
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · have h := hn i
    fin_cases a
    · show (cc0_transform_0 inb_S1_S1_0 numel1_S1 pf i 0 + 1) * 2048 ≤ 333824
      omega
    · show (0 + 1) * 128 ≤ 128
      omega
  · have h := he i
    fin_cases a
    · show (cc0_transform_1 k0_off1_inb numel1_S1 pf i 0 + 1) * 1 ≤ 32
      omega
    · show (0 + 1) * 2048 ≤ 2048
      omega
    · show (0 + 1) * 256 ≤ 256
      omega
  · have h := he i
    fin_cases a
    · show (cc0_transform_1 k0_off1_inb numel1_S1 pf i 0 + 1) * 1 ≤ 32
      omega
    · show (0 + 1) * 2048 ≤ 2048
      omega
    · show (0 + 1) * 256 ≤ 256
      omega
  · have h := he i
    fin_cases a
    · show (cc0_transform_1 k0_off1_inb numel1_S1 pf i 0 + 1) * 1 ≤ 32
      omega
    · show (0 + 1) * 256 ≤ 256
      omega
    · show (0 + 1) * 2048 ≤ 2048
      omega

/-- A memory that satisfies the precondition has its tables within range. -/
theorem ok_of_pre (m : (ℓ : Loc nD τ sig) → Buf (Elt F) ℓ)
    (h : ∀ c : Dev nD, Cert.Pre_routed.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = (fun _ => 1#1)) : ok0 (F := F) (pf0 m) :=
  ok_of_range _ (Routed.range _ _ _ _ _ _ (h 0)).1 (Routed.range _ _ _ _ _ _ (h 0)).2

end Cert.Proof.IBody

end
-- ==== Proof.BitsBody.lean ====
module

public import proofs.«01_k».proof.Proof.Gen.Experts.Launch
public import proofs.«01_k».proof.Proof.Gen.Experts.Skeleton
public import Idealize.ShloMosaic.Lib.Pipeline.RegionsLoop
public import Idealize.ShloMosaic.Lib.Tactic
public import Idealize.ShloMosaic.Lib.Pipeline.Value
public import Idealize.ShloMosaic.Lib.VecWindow

@[expose] public section

set_option maxRecDepth 16384

noncomputable section

namespace Cert.Proof.BBody

open Cert.Experts Cert.Experts.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

/-- The resource algebra of the launch: one copy of the pipelines' algebra. -/
abbrev UU : Type := UR sig nD τ × Counters

local notation "𝕄" => MT nD τ sig Unit (Elt F) ℕ UU ℕ

/-- A memref's buffer on core `c`: the type of its contents. -/
abbrev Bf (c : Dev nD) {sp : Space} {S : Shape} {e : EltTy} (M : Memref sig .tc sp S e) : Type := Buf (Elt F) (M.view.loc (c : Thread nD τ))
/-- A memref's buffer held whole at share `q` and contents `f`. -/
abbrev pq (c : Dev nD) (q : PosShare TreeShare) {sp : Space} {S : Shape} {e : EltTy} (M : Memref sig .tc sp S e) (f : Bf (F := F) c M) : sProp 𝕄 :=
  M.view.loc (c : Thread nD τ) ↦{q} f
/-- A memref's buffer held whole at contents `f`. -/
abbrev pt (c : Dev nD) {sp : Space} {S : Shape} {e : EltTy} (M : Memref sig .tc sp S e) (f : Bf (F := F) c M) : sProp 𝕄 := pq c fullShare M f

abbrev 𝒱₀ : Variants := Variants.none

/-- The number of active tiles, as the body reads it. -/
abbrev rdN (c : Dev nD) (f2 : Bf (F := F) c (Memref.whole main_arg1)) : BitVec 32 :=
  View.readAt (Elt F) (Memref.whole main_arg1).view (Rect.unit (s := S1) ![0] S1.size inb_S1_S1_0).toLoadRect f2 (Shape.Idx.first (by exact numel1_S1.symm ▸ Nat.one_pos))
/-- This tile's expert, as the body reads it. -/
abbrev rdT (c : Dev nD) (i : grid0.Coords) (f1 : Bf (F := F) c (Memref.whole main_arg0)) : BitVec 32 :=
  View.readAt (Elt F) (Memref.whole main_arg0).view (Rect.unit (s := S163) (k0_off2 i) S1.size (k0_off2_inb i)).toLoadRect f1 (Shape.Idx.first (by exact numel1_S1.symm ▸ Nat.one_pos))
/-- The expert of the tile before, as the body reads it. -/
abbrev rdP (c : Dev nD) (i : grid0.Coords) (f1 : Bf (F := F) c (Memref.whole main_arg0)) : BitVec 32 :=
  View.readAt (Elt F) (Memref.whole main_arg0).view (Rect.unit (s := S163) (k0_off3 i) S1.size (k0_off3_inb i)).toLoadRect f1 (Shape.Idx.first (by exact numel1_S1.symm ▸ Nat.one_pos))

/-- The condition under which the body recasts the weights: the tile is active, and it is the first one or its
    expert is not the one of the tile before. -/
def isNew (i : grid0.Coords) (n a b : BitVec 32) : BitVec 1 :=
  Scalar.cmpi .ne (Scalar.extui (Scalar.andi (Scalar.cmpi .slt (BitVec.ofNat 32 (i 0).val) n)
    (Scalar.ori (Scalar.cmpi .eq (BitVec.ofNat 32 (i 0).val) 0#32) (Scalar.cmpi .ne a b))) : BitVec 32) 0#32

/-! ## What a tile's run leaves, as functions of what the buffers read -/

/-- Rows 0, 0+8, 0+16, … of a block of words: the words of column slab 0 of every row of the tile. -/
abbrev sl0 (X : S2048x128.Idx → Elt F .i32) : Vec F S256x128 .i32 :=
  fun y => X ((⟨![0, 0], S256x128.size, ![8, 1], inb_S2048x128_S256x128_0_0_s_8_1⟩ : LoadRect S2048x128).idx y)
/-- Rows 1, 1+8, 1+16, … of a block of words: the words of column slab 1 of every row of the tile. -/
abbrev sl1 (X : S2048x128.Idx → Elt F .i32) : Vec F S256x128 .i32 :=
  fun y => X ((⟨![1, 0], S256x128.size, ![8, 1], inb_S2048x128_S256x128_1_0_s_8_1⟩ : LoadRect S2048x128).idx y)
/-- Rows 2, 2+8, 2+16, … of a block of words: the words of column slab 2 of every row of the tile. -/
abbrev sl2 (X : S2048x128.Idx → Elt F .i32) : Vec F S256x128 .i32 :=
  fun y => X ((⟨![2, 0], S256x128.size, ![8, 1], inb_S2048x128_S256x128_2_0_s_8_1⟩ : LoadRect S2048x128).idx y)
/-- Rows 3, 3+8, 3+16, … of a block of words: the words of column slab 3 of every row of the tile. -/
abbrev sl3 (X : S2048x128.Idx → Elt F .i32) : Vec F S256x128 .i32 :=
  fun y => X ((⟨![3, 0], S256x128.size, ![8, 1], inb_S2048x128_S256x128_3_0_s_8_1⟩ : LoadRect S2048x128).idx y)
/-- Rows 4, 4+8, 4+16, … of a block of words: the words of column slab 4 of every row of the tile. -/
abbrev sl4 (X : S2048x128.Idx → Elt F .i32) : Vec F S256x128 .i32 :=
  fun y => X ((⟨![4, 0], S256x128.size, ![8, 1], inb_S2048x128_S256x128_4_0_s_8_1⟩ : LoadRect S2048x128).idx y)
/-- Rows 5, 5+8, 5+16, … of a block of words: the words of column slab 5 of every row of the tile. -/
abbrev sl5 (X : S2048x128.Idx → Elt F .i32) : Vec F S256x128 .i32 :=
  fun y => X ((⟨![5, 0], S256x128.size, ![8, 1], inb_S2048x128_S256x128_5_0_s_8_1⟩ : LoadRect S2048x128).idx y)
/-- Rows 6, 6+8, 6+16, … of a block of words: the words of column slab 6 of every row of the tile. -/
abbrev sl6 (X : S2048x128.Idx → Elt F .i32) : Vec F S256x128 .i32 :=
  fun y => X ((⟨![6, 0], S256x128.size, ![8, 1], inb_S2048x128_S256x128_6_0_s_8_1⟩ : LoadRect S2048x128).idx y)
/-- Rows 7, 7+8, 7+16, … of a block of words: the words of column slab 7 of every row of the tile. -/
abbrev sl7 (X : S2048x128.Idx → Elt F .i32) : Vec F S256x128 .i32 :=
  fun y => X ((⟨![7, 0], S256x128.size, ![8, 1], inb_S2048x128_S256x128_7_0_s_8_1⟩ : LoadRect S2048x128).idx y)

/-- The stores that fill the buffer of activations from a block of words, the last one first. -/
def xList (X : S2048x128.Idx → Elt F .i32) : List (View.Piece (Elt F) S256x2048 .bf16) :=
  [⟨Rect.unit (s := S256x2048) ![0, 1920] S256x128.size inb_S256x2048_S256x128_0_1920, k0_pay29 (sl7 X)⟩,
   ⟨Rect.unit (s := S256x2048) ![0, 896] S256x128.size inb_S256x2048_S256x128_0_896, k0_pay28 (sl7 X)⟩,
   ⟨Rect.unit (s := S256x2048) ![0, 1792] S256x128.size inb_S256x2048_S256x128_0_1792, k0_pay27 (k0_pay24 (sl6 X))⟩,
   ⟨Rect.unit (s := S256x2048) ![0, 768] S256x128.size inb_S256x2048_S256x128_0_768, k0_pay26 (k0_pay25 (sl6 X))⟩,
   ⟨Rect.unit (s := S256x2048) ![0, 1664] S256x128.size inb_S256x2048_S256x128_0_1664, k0_pay23 (sl5 X)⟩,
   ⟨Rect.unit (s := S256x2048) ![0, 640] S256x128.size inb_S256x2048_S256x128_0_640, k0_pay22 (sl5 X)⟩,
   ⟨Rect.unit (s := S256x2048) ![0, 1536] S256x128.size inb_S256x2048_S256x128_0_1536, k0_pay21 (sl4 X)⟩,
   ⟨Rect.unit (s := S256x2048) ![0, 512] S256x128.size inb_S256x2048_S256x128_0_512, k0_pay20 (sl4 X)⟩,
   ⟨Rect.unit (s := S256x2048) ![0, 1408] S256x128.size inb_S256x2048_S256x128_0_1408, k0_pay19 (sl3 X)⟩,
   ⟨Rect.unit (s := S256x2048) ![0, 384] S256x128.size inb_S256x2048_S256x128_0_384, k0_pay18 (sl3 X)⟩,
   ⟨Rect.unit (s := S256x2048) ![0, 1280] S256x128.size inb_S256x2048_S256x128_0_1280, k0_pay17 (sl2 X)⟩,
   ⟨Rect.unit (s := S256x2048) ![0, 256] S256x128.size inb_S256x2048_S256x128_0_256, k0_pay16 (sl2 X)⟩,
   ⟨Rect.unit (s := S256x2048) ![0, 1152] S256x128.size inb_S256x2048_S256x128_0_1152, k0_pay15 (sl1 X)⟩,
   ⟨Rect.unit (s := S256x2048) ![0, 128] S256x128.size inb_S256x2048_S256x128_0_128, k0_pay14 (sl1 X)⟩,
   ⟨Rect.unit (s := S256x2048) ![0, 1024] S256x128.size inb_S256x2048_S256x128_0_1024, k0_pay13 (sl0 X)⟩,
   ⟨Rect.unit (s := S256x2048) ![0, 0] S256x128.size inb_S256x2048_S256x128_0_0, k0_pay12 (sl0 X)⟩]

/-- The stores that pack the products into the block of outputs, the last one first. -/
def outList (V : Vec F S256x2048 .bf16) (W₁ W₂ : Vec F S2048x256 .bf16) (W₃ : Vec F S256x2048 .bf16) : List (View.Piece (Elt F) S2048x128 .i32) :=
  [⟨⟨⟨![7, 0], S256x128.size, ![8, 1], inb_S2048x128_S256x128_7_0_s_8_1⟩, spos_8_1⟩, k0_pay11 (k0_pay30 V W₁ W₂ W₃)⟩,
   ⟨⟨⟨![6, 0], S256x128.size, ![8, 1], inb_S2048x128_S256x128_6_0_s_8_1⟩, spos_8_1⟩, k0_pay10 (k0_pay30 V W₁ W₂ W₃)⟩,
   ⟨⟨⟨![5, 0], S256x128.size, ![8, 1], inb_S2048x128_S256x128_5_0_s_8_1⟩, spos_8_1⟩, k0_pay9 (k0_pay30 V W₁ W₂ W₃)⟩,
   ⟨⟨⟨![4, 0], S256x128.size, ![8, 1], inb_S2048x128_S256x128_4_0_s_8_1⟩, spos_8_1⟩, k0_pay8 (k0_pay30 V W₁ W₂ W₃)⟩,
   ⟨⟨⟨![3, 0], S256x128.size, ![8, 1], inb_S2048x128_S256x128_3_0_s_8_1⟩, spos_8_1⟩, k0_pay7 (k0_pay30 V W₁ W₂ W₃)⟩,
   ⟨⟨⟨![2, 0], S256x128.size, ![8, 1], inb_S2048x128_S256x128_2_0_s_8_1⟩, spos_8_1⟩, k0_pay6 (k0_pay30 V W₁ W₂ W₃)⟩,
   ⟨⟨⟨![1, 0], S256x128.size, ![8, 1], inb_S2048x128_S256x128_1_0_s_8_1⟩, spos_8_1⟩, k0_pay5 (k0_pay30 V W₁ W₂ W₃)⟩,
   ⟨⟨⟨![0, 0], S256x128.size, ![8, 1], inb_S2048x128_S256x128_0_0_s_8_1⟩, spos_8_1⟩, k0_pay31 V W₁ W₂ W₃⟩]

/-- The block of outputs of an active tile, of its block of words and the three weights in the scratch buffers. -/
def tileOut (X : S2048x128.Idx → Elt F .i32) (W₁ W₂ : S2048x256.Idx → Elt F .bf16) (W₃ : S256x2048.Idx → Elt F .bf16) : S2048x128.Idx → Elt F .i32 :=
  View.canon (outList (View.canon (xList X)) W₁ W₂ W₃)

/-- Every row of the block of outputs is stored. -/
theorem cover_out (V : Vec F S256x2048 .bf16) (W₁ W₂ : Vec F S2048x256 .bf16) (W₃ : Vec F S256x2048 .bf16) (y : S2048x128.Idx) :
    ∃ p ∈ outList V W₁ W₂ W₃, y ∈ p.1.set := by
  have key : ∀ (r : Rect S2048x128) (h : ∃ x : r.shape.Idx, r.emb x = y), y ∈ r.set := by
    rintro r ⟨x, rfl⟩
    rw [← Rect.map_emb_univ]; exact Finset.mem_map_of_mem _ (Finset.mem_univ x)
  have hy0 : (y 0).val < 2048 := (y 0).isLt
  have hs : (y 0).val % 8 < 8 := Nat.mod_lt _ (by decide)
  have hd := Nat.div_add_mod (y 0).val 8
  generalize hq : (y 0).val % 8 = s at hs hd
  have hs' : s = 0 ∨ s = 1 ∨ s = 2 ∨ s = 3 ∨ s = 4 ∨ s = 5 ∨ s = 6 ∨ s = 7 := by omega
  have hlt : (y 0).val / 8 < 256 := by omega
  unfold outList
  rcases hs' with rfl | rfl | rfl | rfl | rfl | rfl | rfl | rfl
  · refine ⟨_, List.mem_cons_of_mem _ (List.mem_cons_of_mem _ (List.mem_cons_of_mem _ (List.mem_cons_of_mem _ (List.mem_cons_of_mem _ (List.mem_cons_of_mem _ (List.mem_cons_of_mem _ List.mem_cons_self)))))), key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 0 + 8 * ((y 0).val / 8) = (y 0).val; omega)
    | ⟨1, _⟩ => exact Fin.ext (by show 0 + 1 * (y 1).val = (y 1).val; omega)
  · refine ⟨_, List.mem_cons_of_mem _ (List.mem_cons_of_mem _ (List.mem_cons_of_mem _ (List.mem_cons_of_mem _ (List.mem_cons_of_mem _ (List.mem_cons_of_mem _ List.mem_cons_self))))), key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 1 + 8 * ((y 0).val / 8) = (y 0).val; omega)
    | ⟨1, _⟩ => exact Fin.ext (by show 0 + 1 * (y 1).val = (y 1).val; omega)
  · refine ⟨_, List.mem_cons_of_mem _ (List.mem_cons_of_mem _ (List.mem_cons_of_mem _ (List.mem_cons_of_mem _ (List.mem_cons_of_mem _ List.mem_cons_self)))), key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 2 + 8 * ((y 0).val / 8) = (y 0).val; omega)
    | ⟨1, _⟩ => exact Fin.ext (by show 0 + 1 * (y 1).val = (y 1).val; omega)
  · refine ⟨_, List.mem_cons_of_mem _ (List.mem_cons_of_mem _ (List.mem_cons_of_mem _ (List.mem_cons_of_mem _ List.mem_cons_self))), key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 3 + 8 * ((y 0).val / 8) = (y 0).val; omega)
    | ⟨1, _⟩ => exact Fin.ext (by show 0 + 1 * (y 1).val = (y 1).val; omega)
  · refine ⟨_, List.mem_cons_of_mem _ (List.mem_cons_of_mem _ (List.mem_cons_of_mem _ List.mem_cons_self)), key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 4 + 8 * ((y 0).val / 8) = (y 0).val; omega)
    | ⟨1, _⟩ => exact Fin.ext (by show 0 + 1 * (y 1).val = (y 1).val; omega)
  · refine ⟨_, List.mem_cons_of_mem _ (List.mem_cons_of_mem _ List.mem_cons_self), key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 5 + 8 * ((y 0).val / 8) = (y 0).val; omega)
    | ⟨1, _⟩ => exact Fin.ext (by show 0 + 1 * (y 1).val = (y 1).val; omega)
  · refine ⟨_, List.mem_cons_of_mem _ List.mem_cons_self, key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 6 + 8 * ((y 0).val / 8) = (y 0).val; omega)
    | ⟨1, _⟩ => exact Fin.ext (by show 0 + 1 * (y 1).val = (y 1).val; omega)
  · refine ⟨_, List.mem_cons_self, key _ ⟨fun a => match a with | ⟨0, _⟩ => ⟨(y 0).val / 8, hlt⟩ | ⟨1, _⟩ => ⟨(y 1).val, (y 1).isLt⟩, funext fun a => ?_⟩⟩
    match a with
    | ⟨0, _⟩ => exact Fin.ext (by show 7 + 8 * ((y 0).val / 8) = (y 0).val; omega)
    | ⟨1, _⟩ => exact Fin.ext (by show 0 + 1 * (y 1).val = (y 1).val; omega)

/-- A store over the whole of a buffer leaves its payload. -/
theorem read_full {sp : Space} {S : Shape} {e : EltTy} (v : View sig .tc sp S e) (f : v.ty.Contents (Elt F)) (off : Fin S.rank → ℕ)
    (h0 : off = fun _ => 0) (inb : ∀ a, off a + S.size a ≤ S.size a) (w : S.Idx → Elt F e) :
    v.read (Elt F) (v.writes (Elt F) f [⟨Rect.unit off S.size inb, w⟩]) = w := by
  subst h0
  exact View.read_writes_whole v f w

/-- A load of the whole of a buffer is what it reads. -/
theorem load_full {sp : Space} {S : Shape} {e : EltTy} (v : View sig .tc sp S e) (f : v.ty.Contents (Elt F)) (off : Fin S.rank → ℕ)
    (h0 : off = fun _ => 0) (inb : ∀ a, off a + S.size a ≤ S.size a) :
    v.readAt (Elt F) (Rect.unit off S.size inb).toLoadRect f = v.read (Elt F) f :=
  View.readAt_full v f inb

/-- A covered load of the whole of a buffer is the contents its stores leave. -/
theorem cov_full {sp : Space} {S : Shape} {e : EltTy} (v : View sig .tc sp S e) (L : List (View.Piece (Elt F) S e)) (off : Fin S.rank → ℕ)
    (h0 : off = fun _ => 0) (inb : ∀ a, off a + S.size a ≤ S.size a) :
    v.readCov L (Rect.unit off S.size inb).toLoadRect = View.canon L := by
  rw [View.readCov_eq_canon']
  exact View.ld_unit_zero h0 inb _

/-- A covered load of the whole of a buffer after one store over the whole of it is that store's payload. -/
theorem cov_one {sp : Space} {S : Shape} {e : EltTy} (v : View sig .tc sp S e) (off off' : Fin S.rank → ℕ)
    (h0 : off = fun _ => 0) (h0' : off' = fun _ => 0) (inb : ∀ a, off a + S.size a ≤ S.size a) (inb' : ∀ a, off' a + S.size a ≤ S.size a) (w : S.Idx → Elt F e) :
    v.readCov [⟨Rect.unit off S.size inb, w⟩] (Rect.unit off' S.size inb').toLoadRect = w :=
  View.readCov_full v inb' inb w []

theorem z2 : (![0, 0] : Fin 2 → ℕ) = fun _ => 0 := by decide
theorem z3 : (![0, 0, 0] : Fin 3 → ℕ) = fun _ => 0 := by decide

theorem out_congr {V V' : Vec F S256x2048 .bf16} {W₁ W₁' W₂ W₂' : Vec F S2048x256 .bf16} {W₃ W₃' : Vec F S256x2048 .bf16}
    (hV : V = V') (h₁ : W₁ = W₁') (h₂ : W₂ = W₂') (h₃ : W₃ = W₃') : outList V W₁ W₂ W₃ = outList V' W₁' W₂' W₃' := by
  subst hV h₁ h₂ h₃; rfl

/-- An inactive tile: the body stores zeros, and leaves the scratch buffers as they are. -/
theorem run_idle (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x128 .i32) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)
    (h1 : k0_cond1 i (rdN c f2) = 1#1) (h2 : ¬ isNew i (rdN c f2) (rdT c i f1) (rdP c i f1) = 1#1) (h3 : ¬ k0_cond3 i (rdN c f2) = 1#1)
    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = (k0_pay1 : S2048x128.Idx → Elt F .i32)⌝ ∗ pt c M7 g) ∗ (∃ g : Bf (F := F) c M8, pt c M8 g)
          ∗ (∃ g : Bf (F := F) c M9, ⌜M9.view.read (Elt F) g = (M9.view.read (Elt F) f9)⌝ ∗ pt c M9 g)
          ∗ (∃ g : Bf (F := F) c M10, ⌜M10.view.read (Elt F) g = (M10.view.read (Elt F) f10)⌝ ∗ pt c M10 g)
          ∗ (∃ g : Bf (F := F) c M11, ⌜M11.view.read (Elt F) g = (M11.view.read (Elt F) f11)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  iintro ⟨H1, H2, H3, H4, H5, H6, H7, H8, H9, H10, H11, Hk⟩
  rw [cc0_moe_experts_eq_skeleton]
  unfold cc0_moe_experts_skel
  sl_exec! (disch := first | exact h1 | exact h2 | exact h3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    exact read_full M7.view _ _ z2 _ _
  isplitl [H8]; · iexists _; iexact H8
  isplitl [H9]
  · iexists _; isplitr; swap; · iexact H9
    ipureintro
    rfl
  isplitl [H10]
  · iexists _; isplitr; swap; · iexact H10
    ipureintro
    rfl
  iexists _; isplitr; swap; · iexact H11
  ipureintro
  rfl

/-- An active tile with a new expert: the body recasts the weights, and packs the products of the tile with them. -/
theorem run_new (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x128 .i32) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)
    (h1 : ¬ k0_cond1 i (rdN c f2) = 1#1) (h2 : isNew i (rdN c f2) (rdT c i f1) (rdP c i f1) = 1#1) (h3 : k0_cond3 i (rdN c f2) = 1#1)
    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = tileOut (M3.view.read (Elt F) f3) (k0_pay2 (M4.view.read (Elt F) f4)) (k0_pay3 (M5.view.read (Elt F) f5)) (k0_pay4 (M6.view.read (Elt F) f6))⌝ ∗ pt c M7 g) ∗ (∃ g : Bf (F := F) c M8, pt c M8 g)
          ∗ (∃ g : Bf (F := F) c M9, ⌜M9.view.read (Elt F) g = k0_pay2 (M4.view.read (Elt F) f4)⌝ ∗ pt c M9 g)
          ∗ (∃ g : Bf (F := F) c M10, ⌜M10.view.read (Elt F) g = k0_pay3 (M5.view.read (Elt F) f5)⌝ ∗ pt c M10 g)
          ∗ (∃ g : Bf (F := F) c M11, ⌜M11.view.read (Elt F) g = k0_pay4 (M6.view.read (Elt F) f6)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  iintro ⟨H1, H2, H3, H4, H5, H6, H7, H8, H9, H10, H11, Hk⟩
  rw [cc0_moe_experts_eq_skeleton]
  unfold cc0_moe_experts_skel
  simp only [k0_part1_eq_skeleton, k0_part2_eq_skeleton, k0_part3_eq_skeleton]
  sl_exec! (disch := first | exact h1 | exact h2 | exact h3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    refine (View.read_writes_eq_canon M7.view _ (outList _ _ _ _) (cover_out _ _ _ _)).trans ?_
    exact congrArg View.canon (out_congr (cov_full M8.view (xList _) _ z2 _) ((cov_one M9.view _ _ z2 z2 _ _ _).trans (congrArg k0_pay2 (load_full M4.view f4 _ z3 _))) ((cov_one M10.view _ _ z2 z2 _ _ _).trans (congrArg k0_pay3 (load_full M5.view f5 _ z3 _))) ((cov_one M11.view _ _ z2 z2 _ _ _).trans (congrArg k0_pay4 (load_full M6.view f6 _ z3 _))))
  isplitl [H8]; · iexists _; iexact H8
  isplitl [H9]
  · iexists _; isplitr; swap; · iexact H9
    ipureintro
    exact (read_full M9.view _ _ z2 _ _).trans (congrArg k0_pay2 (load_full M4.view f4 _ z3 _))
  isplitl [H10]
  · iexists _; isplitr; swap; · iexact H10
    ipureintro
    exact (read_full M10.view _ _ z2 _ _).trans (congrArg k0_pay3 (load_full M5.view f5 _ z3 _))
  iexists _; isplitr; swap; · iexact H11
  ipureintro
  exact (read_full M11.view _ _ z2 _ _).trans (congrArg k0_pay4 (load_full M6.view f6 _ z3 _))

/-- An active tile with the expert of the tile before: the body packs the products of the tile with the weights in the scratch buffers. -/
theorem run_same (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x128 .i32) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)
    (h1 : ¬ k0_cond1 i (rdN c f2) = 1#1) (h2 : ¬ isNew i (rdN c f2) (rdT c i f1) (rdP c i f1) = 1#1) (h3 : k0_cond3 i (rdN c f2) = 1#1)
    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = tileOut (M3.view.read (Elt F) f3) (M9.view.read (Elt F) f9) (M10.view.read (Elt F) f10) (M11.view.read (Elt F) f11)⌝ ∗ pt c M7 g) ∗ (∃ g : Bf (F := F) c M8, pt c M8 g)
          ∗ (∃ g : Bf (F := F) c M9, ⌜M9.view.read (Elt F) g = (M9.view.read (Elt F) f9)⌝ ∗ pt c M9 g)
          ∗ (∃ g : Bf (F := F) c M10, ⌜M10.view.read (Elt F) g = (M10.view.read (Elt F) f10)⌝ ∗ pt c M10 g)
          ∗ (∃ g : Bf (F := F) c M11, ⌜M11.view.read (Elt F) g = (M11.view.read (Elt F) f11)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  iintro ⟨H1, H2, H3, H4, H5, H6, H7, H8, H9, H10, H11, Hk⟩
  rw [cc0_moe_experts_eq_skeleton]
  unfold cc0_moe_experts_skel
  simp only [k0_part1_eq_skeleton, k0_part2_eq_skeleton, k0_part3_eq_skeleton]
  sl_exec! (disch := first | exact h1 | exact h2 | exact h3)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; · iexact H7
    ipureintro
    refine (View.read_writes_eq_canon M7.view _ (outList _ _ _ _) (cover_out _ _ _ _)).trans ?_
    exact congrArg View.canon (out_congr (cov_full M8.view (xList _) _ z2 _) (load_full M9.view f9 _ z2 _) (load_full M10.view f10 _ z2 _) (load_full M11.view f11 _ z2 _))
  isplitl [H8]; · iexists _; iexact H8
  isplitl [H9]
  · iexists _; isplitr; swap; · iexact H9
    ipureintro
    rfl
  isplitl [H10]
  · iexists _; isplitr; swap; · iexact H10
    ipureintro
    rfl
  iexists _; isplitr; swap; · iexact H11
  ipureintro
  rfl

/-! ## The three cases together -/

/-- The body's two tests on the tile's number are complementary. -/
theorem cond1_iff (i : grid0.Coords) (n : BitVec 32) : k0_cond1 i n = 1#1 ↔ ¬ k0_cond3 i n = 1#1 := by
  unfold k0_cond1 k0_cond3
  simp only []
  generalize Scalar.cmpi .slt _ n = v
  revert v; decide

/-- Weights are recast at active tiles only. -/
theorem isNew_active (i : grid0.Coords) (n a b : BitVec 32) (h : isNew i n a b = 1#1) : k0_cond3 i n = 1#1 := by
  revert h
  unfold isNew k0_cond3
  simp only []
  generalize Scalar.cmpi .slt _ n = v
  generalize Scalar.ori _ _ = w
  revert v w; decide

/-- The weights in a scratch buffer after a tile: recast, or what they were. -/
def pick {S : Shape} (b : BitVec 1) (new old : S.Idx → Elt F .bf16) : S.Idx → Elt F .bf16 := if b = 1#1 then new else old

/-- The block of outputs after a tile: zeros, or the packed products. -/
def blockOut (k : BitVec 1) (X : S2048x128.Idx → Elt F .i32) (W₁ W₂ : S2048x256.Idx → Elt F .bf16) (W₃ : S256x2048.Idx → Elt F .bf16) : S2048x128.Idx → Elt F .i32 :=
  if k = 1#1 then tileOut X W₁ W₂ W₃ else (k0_pay1 : S2048x128.Idx → Elt F .i32)

/-- Any tile: the weights are recast or kept, and the block of outputs is the packed products, or zeros at an inactive tile. -/
theorem run_tile (c : Dev nD) (i : grid0.Coords) (M3 : Memref sig .tc .vmem S2048x128 .i32) (hM3 : M3.IsWhole) (M4 : Memref sig .tc .vmem S1x2048x256 .f32) (hM4 : M4.IsWhole) (M5 : Memref sig .tc .vmem S1x2048x256 .f32) (hM5 : M5.IsWhole) (M6 : Memref sig .tc .vmem S1x256x2048 .f32) (hM6 : M6.IsWhole) (M7 : Memref sig .tc .vmem S2048x128 .i32) (hM7 : M7.IsWhole) (M8 : Memref sig .tc .vmem S256x2048 .bf16) (hM8 : M8.IsWhole) (M9 : Memref sig .tc .vmem S2048x256 .bf16) (hM9 : M9.IsWhole) (M10 : Memref sig .tc .vmem S2048x256 .bf16) (hM10 : M10.IsWhole) (M11 : Memref sig .tc .vmem S256x2048 .bf16) (hM11 : M11.IsWhole)
    (q : PosShare TreeShare) (f1 : Bf (F := F) c (Memref.whole main_arg0)) (f2 : Bf (F := F) c (Memref.whole main_arg1))
    (f3 : Bf (F := F) c M3) (f4 : Bf (F := F) c M4) (f5 : Bf (F := F) c M5) (f6 : Bf (F := F) c M6)

    (f7 : Bf (F := F) c M7) (f8 : Bf (F := F) c M8) (f9 : Bf (F := F) c M9) (f10 : Bf (F := F) c M10) (f11 : Bf (F := F) c M11) (E : Set ℕ) (Q : PUnit → sProp 𝕄) :
    iprop(pq c q (Memref.whole main_arg0) f1 ∗ pq c q (Memref.whole main_arg1) f2 ∗ pt c M3 f3 ∗ pt c M4 f4 ∗ pt c M5 f5 ∗ pt c M6 f6 ∗ pt c M7 f7 ∗ pt c M8 f8 ∗ pt c M9 f9 ∗ pt c M10 f10 ∗ pt c M11 f11
        ∗ (iprop(pq c q (Memref.whole main_arg0) f1 ∗ pq c q (Memref.whole main_arg1) f2 ∗ pt c M3 f3 ∗ pt c M4 f4 ∗ pt c M5 f5 ∗ pt c M6 f6
          ∗ (∃ g : Bf (F := F) c M7, ⌜M7.view.read (Elt F) g = blockOut (k0_cond3 i (rdN c f2)) (M3.view.read (Elt F) f3) (pick (isNew i (rdN c f2) (rdT c i f1) (rdP c i f1)) (k0_pay2 (M4.view.read (Elt F) f4)) (M9.view.read (Elt F) f9)) (pick (isNew i (rdN c f2) (rdT c i f1) (rdP c i f1)) (k0_pay3 (M5.view.read (Elt F) f5)) (M10.view.read (Elt F) f10)) (pick (isNew i (rdN c f2) (rdT c i f1) (rdP c i f1)) (k0_pay4 (M6.view.read (Elt F) f6)) (M11.view.read (Elt F) f11))⌝ ∗ pt c M7 g) ∗ (∃ g : Bf (F := F) c M8, pt c M8 g)
          ∗ (∃ g : Bf (F := F) c M9, ⌜M9.view.read (Elt F) g = pick (isNew i (rdN c f2) (rdT c i f1) (rdP c i f1)) (k0_pay2 (M4.view.read (Elt F) f4)) (M9.view.read (Elt F) f9)⌝ ∗ pt c M9 g)
          ∗ (∃ g : Bf (F := F) c M10, ⌜M10.view.read (Elt F) g = pick (isNew i (rdN c f2) (rdT c i f1) (rdP c i f1)) (k0_pay3 (M5.view.read (Elt F) f5)) (M10.view.read (Elt F) f10)⌝ ∗ pt c M10 g)
          ∗ (∃ g : Bf (F := F) c M11, ⌜M11.view.read (Elt F) g = pick (isNew i (rdN c f2) (rdT c i f1) (rdP c i f1)) (k0_pay4 (M6.view.read (Elt F) f6)) (M11.view.read (Elt F) f11)⌝ ∗ pt c M11 g)) -∗ Q ⟨⟩))
      ⊢ wp frame (wpE (defs₀ (F := F)) 𝒱₀ c none) E (cc0_moe_experts i (Memref.whole main_arg0) (Memref.isWhole_whole _) (Memref.whole main_arg1) (Memref.isWhole_whole _) M3 hM3 M4 hM4 M5 hM5 M6 hM6 M7 hM7 M8 hM8 M9 hM9 M10 hM10 M11 hM11) Q := by
  unfold pick blockOut
  by_cases h3 : k0_cond3 i (rdN c f2) = 1#1
  · have h1 : ¬ k0_cond1 i (rdN c f2) = 1#1 := fun h => (cond1_iff i _).1 h h3
    by_cases h2 : isNew i (rdN c f2) (rdT c i f1) (rdP c i f1) = 1#1
    · simp only [if_pos h2, if_pos h3]
      exact run_new c i M3 hM3 M4 hM4 M5 hM5 M6 hM6 M7 hM7 M8 hM8 M9 hM9 M10 hM10 M11 hM11 q f1 f2 f3 f4 f5 f6 h1 h2 h3 f7 f8 f9 f10 f11 E Q
    · simp only [if_neg h2, if_pos h3]
      exact run_same c i M3 hM3 M4 hM4 M5 hM5 M6 hM6 M7 hM7 M8 hM8 M9 hM9 M10 hM10 M11 hM11 q f1 f2 f3 f4 f5 f6 h1 h2 h3 f7 f8 f9 f10 f11 E Q
  · have h1 : k0_cond1 i (rdN c f2) = 1#1 := (cond1_iff i _).2 h3
    have h2 : ¬ isNew i (rdN c f2) (rdT c i f1) (rdP c i f1) = 1#1 := fun h => h3 (isNew_active i _ _ _ h)
    simp only [if_neg h2, if_neg h3]
    exact run_idle c i M3 hM3 M4 hM4 M5 hM5 M6 hM6 M7 hM7 M8 hM8 M9 hM9 M10 hM10 M11 hM11 q f1 f2 f3 f4 f5 f6 h1 h2 h3 f7 f8 f9 f10 f11 E Q

end Cert.Proof.BBody

end
-- ==== Proof.BitsReader.lean ====
module

public import proofs.«01_k».proof.Proof.Gen.Experts.Launch
public import proofs.«01_k».proof.Proof.Gen.Experts.Skeleton
public import Idealize.ShloMosaic.Lib.Pipeline.RegionsLoop
public import proofs.«01_k».proof.Proof.BitsBody
public import Idealize.ShloMosaic.Lib.Tactic
public import Idealize.ShloMosaic.Lib.Pipeline.Value
public import Idealize.ShloMosaic.Lib.VecWindow

@[expose] public section

set_option maxRecDepth 16384

noncomputable section

namespace Cert.Proof.BBody

open Cert.Experts Cert.Experts.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ UU ℕ

/-- Rows 0, 0+8, … of a block of packed rows. -/
abbrev rsl0 (X : S2048x128.Idx → Elt F .i32) : Vec F S256x128 .i32 :=
  fun y => X ((⟨![0, 0], S256x128.size, ![8, 1], inb_S2048x128_S256x128_0_0_s_8_1⟩ : LoadRect S2048x128).idx y)
/-- Rows 1, 1+8, … of a block of packed rows. -/
abbrev rsl1 (X : S2048x128.Idx → Elt F .i32) : Vec F S256x128 .i32 :=
  fun y => X ((⟨![1, 0], S256x128.size, ![8, 1], inb_S2048x128_S256x128_1_0_s_8_1⟩ : LoadRect S2048x128).idx y)
/-- Rows 2, 2+8, … of a block of packed rows. -/
abbrev rsl2 (X : S2048x128.Idx → Elt F .i32) : Vec F S256x128 .i32 :=
  fun y => X ((⟨![2, 0], S256x128.size, ![8, 1], inb_S2048x128_S256x128_2_0_s_8_1⟩ : LoadRect S2048x128).idx y)
/-- Rows 3, 3+8, … of a block of packed rows. -/
abbrev rsl3 (X : S2048x128.Idx → Elt F .i32) : Vec F S256x128 .i32 :=
  fun y => X ((⟨![3, 0], S256x128.size, ![8, 1], inb_S2048x128_S256x128_3_0_s_8_1⟩ : LoadRect S2048x128).idx y)
/-- Rows 4, 4+8, … of a block of packed rows. -/
abbrev rsl4 (X : S2048x128.Idx → Elt F .i32) : Vec F S256x128 .i32 :=
  fun y => X ((⟨![4, 0], S256x128.size, ![8, 1], inb_S2048x128_S256x128_4_0_s_8_1⟩ : LoadRect S2048x128).idx y)
/-- Rows 5, 5+8, … of a block of packed rows. -/
abbrev rsl5 (X : S2048x128.Idx → Elt F .i32) : Vec F S256x128 .i32 :=
  fun y => X ((⟨![5, 0], S256x128.size, ![8, 1], inb_S2048x128_S256x128_5_0_s_8_1⟩ : LoadRect S2048x128).idx y)
/-- Rows 6, 6+8, … of a block of packed rows. -/
abbrev rsl6 (X : S2048x128.Idx → Elt F .i32) : Vec F S256x128 .i32 :=
  fun y => X ((⟨![6, 0], S256x128.size, ![8, 1], inb_S2048x128_S256x128_6_0_s_8_1⟩ : LoadRect S2048x128).idx y)
/-- Rows 7, 7+8, … of a block of packed rows. -/
abbrev rsl7 (X : S2048x128.Idx → Elt F .i32) : Vec F S256x128 .i32 :=
  fun y => X ((⟨![7, 0], S256x128.size, ![8, 1], inb_S2048x128_S256x128_7_0_s_8_1⟩ : LoadRect S2048x128).idx y)

/-- The stores that unpack a block of packed rows into a block of f32 rows, the last one first. -/
def rdList (X : S2048x128.Idx → Elt F .i32) : List (View.Piece (Elt F) S256x2048 .f32) :=
  [⟨Rect.unit (s := S256x2048) ![0, 1920] S256x128.size inb_S256x2048_S256x128_0_1920, k1_pay6 (rsl7 X)⟩,
   ⟨Rect.unit (s := S256x2048) ![0, 896] S256x128.size inb_S256x2048_S256x128_0_896, k1_pay5 (rsl7 X)⟩,
   ⟨Rect.unit (s := S256x2048) ![0, 1792] S256x128.size inb_S256x2048_S256x128_0_1792, k1_pay3 (rsl6 X)⟩,
   ⟨Rect.unit (s := S256x2048) ![0, 768] S256x128.size inb_S256x2048_S256x128_0_768, k1_pay2 (rsl6 X)⟩,
   ⟨Rect.unit (s := S256x2048) ![0, 1664] S256x128.size inb_S256x2048_S256x128_0_1664, k1_pay24 (rsl5 X)⟩,
   ⟨Rect.unit (s := S256x2048) ![0, 640] S256x128.size inb_S256x2048_S256x128_0_640, k1_pay23 (rsl5 X)⟩,
   ⟨Rect.unit (s := S256x2048) ![0, 1536] S256x128.size inb_S256x2048_S256x128_0_1536, k1_pay21 (rsl4 X)⟩,
   ⟨Rect.unit (s := S256x2048) ![0, 512] S256x128.size inb_S256x2048_S256x128_0_512, k1_pay20 (rsl4 X)⟩,
   ⟨Rect.unit (s := S256x2048) ![0, 1408] S256x128.size inb_S256x2048_S256x128_0_1408, k1_pay18 (rsl3 X)⟩,
   ⟨Rect.unit (s := S256x2048) ![0, 384] S256x128.size inb_S256x2048_S256x128_0_384, k1_pay17 (rsl3 X)⟩,
   ⟨Rect.unit (s := S256x2048) ![0, 1280] S256x128.size inb_S256x2048_S256x128_0_1280, k1_pay15 (rsl2 X)⟩,
   ⟨Rect.unit (s := S256x2048) ![0, 256] S256x128.size inb_S256x2048_S256x128_0_256, k1_pay14 (rsl2 X)⟩,
   ⟨Rect.unit (s := S256x2048) ![0, 1152] S256x128.size inb_S256x2048_S256x128_0_1152, k1_pay12 (rsl1 X)⟩,
   ⟨Rect.unit (s := S256x2048) ![0, 128] S256x128.size inb_S256x2048_S256x128_0_128, k1_pay11 (rsl1 X)⟩,
   ⟨Rect.unit (s := S256x2048) ![0, 1024] S256x128.size inb_S256x2048_S256x128_0_1024, k1_pay9 (rsl0 X)⟩,
   ⟨Rect.unit (s := S256x2048) ![0, 0] S256x128.size inb_S256x2048_S256x128_0_0, k1_pay8 (rsl0 X)⟩]

/-- The reader's block of a block of packed rows. -/
def rdOut (X : S2048x128.Idx → Elt F .i32) : S256x2048.Idx → Elt F .f32 := View.canon (rdList X)

/-- The reader's body at any point: it leaves the unpacked rows of its block. -/
theorem run_read (c : Dev nD) (i : grid1.Coords) (M1 : Memref sig .tc .vmem S2048x128 .i32) (hM1 : M1.IsWhole) (M2 : Memref sig .tc .vmem S256x2048 .f32) (hM2 : M2.IsWhole)
    (f1 : Bf (F := F) c M1) (f2 : Bf (F := F) c M2) (E : Set ℕ) (Q : PUnit → sProp 𝕄) :
    iprop(pt c M1 f1 ∗ pt c M2 f2 ∗ (iprop(pt c M1 f1 ∗ (∃ g : Bf (F := F) c M2, ⌜M2.view.read (Elt F) g = rdOut (M1.view.read (Elt F) f1)⌝ ∗ pt c M2 g)) -∗ Q ⟨⟩))
      ⊢ wp frame (wpE (defs₀ (F := F)) 𝒱₀ c none) E (cc1__reader i M1 hM1 M2 hM2) Q := by
  iintro ⟨H1, H2, Hk⟩
  rw [cc1__reader_eq_skeleton]
  unfold cc1__reader_skel
  simp only [k1_part1_eq_skeleton, k1_part2_eq_skeleton]
  sl_exec!
  sl_step
  iapply Hk
  isplitl [H1]; · iexact H1
  iexists _; isplitr; swap; · iexact H2
  ipureintro
  exact View.read_writes_junk_eq_canon M2.view (rdList (M1.view.read (Elt F) f1))

end Cert.Proof.BBody

end
-- ==== Proof.BitsRange.lean ====
module

public import proofs.«01_k».proof.Proof.BitsRegions
public import proofs.«01_k».proof.Proof.Routed

@[expose] public section

set_option maxRecDepth 16384

noncomputable section

namespace Cert.Proof.BBody

open Cert.Experts Cert.Experts.Gen

open Idealize.ShloMosaic
open Idealize.ShloMosaic.TcCoe

variable {F : FTy → Type} [BitOps F]

/-- Tables within range put every block the windows name inside its array. -/
theorem ok_of_range (pf : pre0.Contents (Elt F)) (h0 : ∀ i : S163.Idx, 0 ≤ (show BitVec 32 from pf 0 i).toInt ∧ (show BitVec 32 from pf 0 i).toInt < 32)
    (h1 : ∀ i : S1.Idx, 1 ≤ (show BitVec 32 from pf 1 i).toInt ∧ (show BitVec 32 from pf 1 i).toInt ≤ 163) : ok0 pf := by
  have hn (i : grid0.Coords) : (cc0_transform_0 inb_S1_S1_0 numel1_S1 pf i) 0 < 163 := by
    obtain ⟨l, u⟩ := h1 ((Rect.unit (s := S1) ![0] S1.size inb_S1_S1_0).emb (Shape.Idx.first (by decide)))
    have hi : (i 0).val < 163 := (i 0).isLt
    have := Routed.minw _ l u (i 0).val hi
    refine lt_of_le_of_lt (le_of_eq this) ?_
    omega
  have he (i : grid0.Coords) : (cc0_transform_1 k0_off1_inb numel1_S1 pf i) 0 < 32 := by
    obtain ⟨l, u⟩ := h0 ((Rect.unit (s := S163) ![(Scalar.indexCast (BitVec.ofNat 32 (i 0).val) : BitVec 32).toNat] S1.size (k0_off1_inb i)).emb (Shape.Idx.first (show 0 < S1.numel from by decide)))
    exact (Routed.toNat_of_range _ 32 l (by exact_mod_cast u)).1
  refine ⟨fun i => ⟨fun a => ?_, Or.inl rfl⟩, fun i => ⟨fun a => ?_, Or.inl rfl⟩, fun i => ⟨fun a => ?_, Or.inl rfl⟩, fun i => ⟨fun a => ?_, Or.inl rfl⟩⟩
  · have h := hn i
    fin_cases a
    · show (cc0_transform_0 inb_S1_S1_0 numel1_S1 pf i 0 + 1) * 2048 ≤ 333824
      omega
    · show (0 + 1) * 128 ≤ 128
      omega
  · have h := he i
    fin_cases a
    · show (cc0_transform_1 k0_off1_inb numel1_S1 pf i 0 + 1) * 1 ≤ 32
      omega
    · show (0 + 1) * 2048 ≤ 2048
      omega
    · show (0 + 1) * 256 ≤ 256
      omega
  · have h := he i
    fin_cases a
    · show (cc0_transform_1 k0_off1_inb numel1_S1 pf i 0 + 1) * 1 ≤ 32
      omega
    · show (0 + 1) * 2048 ≤ 2048
      omega
    · show (0 + 1) * 256 ≤ 256
      omega
  · have h := he i
    fin_cases a
    · show (cc0_transform_1 k0_off1_inb numel1_S1 pf i 0 + 1) * 1 ≤ 32
      omega
    · show (0 + 1) * 256 ≤ 256
      omega
    · show (0 + 1) * 2048 ≤ 2048
      omega

/-- A memory that satisfies the precondition has its tables within range. -/
theorem ok_of_pre (m : (ℓ : Loc nD τ sig) → Buf (Elt F) ℓ)
    (h : ∀ c : Dev nD, Cert.Pre_routed.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) = (fun _ => 1#1)) : ok0 (F := F) (pf0 m) :=
  ok_of_range _ (Routed.range _ _ _ _ _ _ (h 0)).1 (Routed.range _ _ _ _ _ _ (h 0)).2

end Cert.Proof.BBody

end
-- ==== Proof.Frames.lean ====
module

public import proofs.«01_k».proof.Defs
public import proofs.«01_k».proof.Proof.IdealRange
public import proofs.«01_k».proof.Proof.BitsRange
public import proofs.«01_k».proof.Proof.Gen.ReferenceIdeal.Run
public import Idealize.ShloMosaic.Lib.Quiescent
public import Idealize.ShloMosaic.Lib.Bf16Pair
public import Idealize.ShloMosaic.Lib.Bf16PairInverse

@[expose] public section

noncomputable section

namespace Cert.Proof

open Idealize.ShloMosaic Idealize.SL.Sem

/-- The kernel runs, leaves its arguments as they were and every semaphore at zero. -/
theorem frame_bits : Cert.quiescent_Experts := fun m g h =>
  (θ_run _ _ _).mono (fun _ hr => ⟨fun c => (hr.1 c).2, hr.2⟩) (BBody.run m (BBody.ok_of_pre m h) g)

/-- The kernel at the extended reals runs, leaves its arguments as they were and every semaphore at zero. -/
theorem frame_ideal : Cert.quiescent_ExpertsIdeal := fun m g h =>
  (θ_run _ _ _).mono (fun _ hr => ⟨fun c => (hr.1 c).2, hr.2⟩) (IBody.run m (IBody.ok_of_pre m h) g)

/-- The reference runs, leaves its arguments as they were and every semaphore at zero: it has none. -/
theorem frame_reference : Cert.quiescent_ReferenceIdeal := fun m g _ =>
  (θ_run _ _ _).mono (fun r hr => ⟨fun c => (hr c).2, sem_eq_zero_of_no_sems rfl r.2⟩) (Cert.ReferenceIdeal.Value.run m g)

/-- The same of the reference under the precondition. -/
theorem frame_reference_routed : Cert.quiescent_ReferenceIdeal_pre_routed := fun m g _ => frame_reference m g trivial

/-- The kernel at the extended reals is the kernel with words of two bf16 values read as pairs. -/
theorem idealized : Cert.preserves_Experts_ExpertsIdeal :=
  ⟨IdealRules.bf16_pair.bufferStatement _ _, IdealRules.bf16_pair.bufferStatement _ _, IdealRules.bf16_pair.selectZeroStatement _,
    IdealRules.bf16_pair.packStatement _, IdealRules.bf16_pair.statement _ _, IdealRules.bf16_pair.statement _ _⟩

end Cert.Proof

end
-- ==== Proof.ValueIn.lean ====
module

public import proofs.«01_k».proof.Proof.IdealReader
public import Idealize.ShloMosaic.Lib.MatmulPlain
public import Idealize.ShloMosaic.Lib.IdealHost
public import Idealize.ShloMosaic.Lib.ValueLayout

@[expose] public section

set_option maxRecDepth 16384

noncomputable section

namespace Cert.Proof.IBody

open Cert.ExpertsIdeal Cert.ExpertsIdeal.Gen
open Idealize.ShloMosaic Idealize.ShloMosaic.ValueIdx
open scoped BigOperators

/-! ## The columns of a block, slab by slab -/

/-- A slab of 128 columns holds the indices of its columns. -/
theorem mem_slab {off : ℕ} (inb : ∀ a, (![0, off] : Fin 2 → Nat) a + S256x128.size a ≤ S256x2048.size a) (y : S256x2048.Idx)
    (h : off ≤ (y 1).val) (h' : (y 1).val < off + 128) : y ∈ (Rect.unit (s := S256x2048) ![0, off] S256x128.size inb).set := by
  have key : ∀ (r : Rect S256x2048) (h : ∃ x : r.shape.Idx, r.emb x = y), y ∈ r.set := by
    rintro r ⟨x, rfl⟩
    rw [← Rect.map_emb_univ]; exact Finset.mem_map_of_mem _ (Finset.mem_univ x)
  refine key _ ⟨fun a => match a with | ⟨0, _⟩ => ⟨(y 0).val, (y 0).isLt⟩ | ⟨1, _⟩ => ⟨(y 1).val - off, by show _ < 128; omega⟩, funext fun a => ?_⟩
  match a with
  | ⟨0, _⟩ => exact Fin.ext (by show 0 + 1 * (y 0).val = (y 0).val; omega)
  | ⟨1, _⟩ => exact Fin.ext (by show off + 1 * ((y 1).val - off) = (y 1).val; omega)

/-- Every column is in one of the sixteen slabs. -/
theorem slab_of (y : S256x2048.Idx) : (1920 ≤ (y 1).val ∧ (y 1).val < 1920 + 128) ∨ (896 ≤ (y 1).val ∧ (y 1).val < 896 + 128) ∨ (1792 ≤ (y 1).val ∧ (y 1).val < 1792 + 128) ∨ (768 ≤ (y 1).val ∧ (y 1).val < 768 + 128) ∨ (1664 ≤ (y 1).val ∧ (y 1).val < 1664 + 128) ∨ (640 ≤ (y 1).val ∧ (y 1).val < 640 + 128) ∨ (1536 ≤ (y 1).val ∧ (y 1).val < 1536 + 128) ∨ (512 ≤ (y 1).val ∧ (y 1).val < 512 + 128) ∨ (1408 ≤ (y 1).val ∧ (y 1).val < 1408 + 128) ∨ (384 ≤ (y 1).val ∧ (y 1).val < 384 + 128) ∨ (1280 ≤ (y 1).val ∧ (y 1).val < 1280 + 128) ∨ (256 ≤ (y 1).val ∧ (y 1).val < 256 + 128) ∨ (1152 ≤ (y 1).val ∧ (y 1).val < 1152 + 128) ∨ (128 ≤ (y 1).val ∧ (y 1).val < 128 + 128) ∨ (1024 ≤ (y 1).val ∧ (y 1).val < 1024 + 128) ∨ (0 ≤ (y 1).val ∧ (y 1).val < 0 + 128) := by
  have := idx2_lt1 y
  omega

/-! ## The activations of a tile -/

/-- The activation at a row and column of a tile: one half of a word of the packed block, the column's slab of 128
    choosing the word's row and its half choosing the word's half. -/
def xval (X : S2048x128.Idx → BitVec 32) (y : S256x2048.Idx) : EReal :=
  FloatOps.ofBits (F := Ideal) .bf16 ((X (ix2 ⟨8 * (y 0).val + (y 1).val / 128 % 8, by have := idx2_lt0 y; omega⟩ ⟨(y 1).val % 128, Nat.mod_lt _ (by decide)⟩)).extractLsb' ((y 1).val / 1024 * 16) 16)

/-- The activations under one stored slab are the unpacked words of one strided slice. -/
theorem xpiece (X : S2048x128.Idx → BitVec 32) {off : ℕ} (s h : ℕ) (ho : off = h * 1024 + s * 128) (hs : s < 8)
    (inb : ∀ a, (![0, off] : Fin 2 → Nat) a + S256x128.size a ≤ S256x2048.size a)
    (x : S256x128.Idx) (i : S2048x128.Idx) (h0 : (i 0).val = s + 8 * (x 0).val) (h1 : (i 1).val = 0 + 1 * (x 1).val) :
    FloatOps.ofBits (F := Ideal) .bf16 ((X i).extractLsb' (h * 16) 16)
      = xval X ((Rect.unit (s := S256x2048) ![0, off] S256x128.size inb).emb x) := by
  have e0 : (((Rect.unit (s := S256x2048) ![0, off] S256x128.size inb).emb x) 0).val = 0 + 1 * (x 0).val := rfl
  have e1 : (((Rect.unit (s := S256x2048) ![0, off] S256x128.size inb).emb x) 1).val = off + 1 * (x 1).val := rfl
  have hx := idx2_lt1 x
  unfold xval
  have hd : (((Rect.unit (s := S256x2048) ![0, off] S256x128.size inb).emb x) 1).val / 1024 = h := by rw [e1]; omega
  rw [hd]
  refine congrArg (fun z : S2048x128.Idx => FloatOps.ofBits (F := Ideal) .bf16 ((X z).extractLsb' (h * 16) 16)) ?_
  funext a
  match a with
  | ⟨0, _⟩ => refine Fin.ext ?_; show (i 0).val = 8 * _ + _ / 128 % 8; rw [e0, e1, h0]; omega
  | ⟨1, _⟩ => refine Fin.ext ?_; show (i 1).val = _ % 128; rw [e1, h1]; omega

/-- The buffer of activations after the stores holds the activations. -/
theorem xList_apply (X : S2048x128.Idx → BitVec 32) (y : S256x2048.Idx) : View.canon (Val := Elt Ideal) (xList (F := Ideal) X) y = xval X y := by
  refine View.canon_apply_of_pieces (Val := Elt Ideal) (e := .bf16) (xval X) (xList (F := Ideal) X) ?_ y ?_
  · intro p hp
    simp only [xList, List.mem_cons, List.not_mem_nil, or_false] at hp
    rcases hp with rfl | rfl | rfl | rfl | rfl | rfl | rfl | rfl | rfl | rfl | rfl | rfl | rfl | rfl | rfl | rfl
    · intro x; simp only [k0_pay22, shapeCast_self]; exact xpiece X 7 1 (by norm_num) (by norm_num) inb_S256x2048_S256x128_0_1920 x _ rfl rfl
    · intro x; simp only [k0_pay21, shapeCast_self]; exact xpiece X 7 0 (by norm_num) (by norm_num) inb_S256x2048_S256x128_0_896 x _ rfl rfl
    · intro x; simp only [k0_pay20, k0_pay17, shapeCast_self]; exact xpiece X 6 1 (by norm_num) (by norm_num) inb_S256x2048_S256x128_0_1792 x _ rfl rfl
    · intro x; simp only [k0_pay19, k0_pay18, shapeCast_self]; exact xpiece X 6 0 (by norm_num) (by norm_num) inb_S256x2048_S256x128_0_768 x _ rfl rfl
    · intro x; simp only [k0_pay16, shapeCast_self]; exact xpiece X 5 1 (by norm_num) (by norm_num) inb_S256x2048_S256x128_0_1664 x _ rfl rfl
    · intro x; simp only [k0_pay15, shapeCast_self]; exact xpiece X 5 0 (by norm_num) (by norm_num) inb_S256x2048_S256x128_0_640 x _ rfl rfl
    · intro x; simp only [k0_pay14, shapeCast_self]; exact xpiece X 4 1 (by norm_num) (by norm_num) inb_S256x2048_S256x128_0_1536 x _ rfl rfl
    · intro x; simp only [k0_pay13, shapeCast_self]; exact xpiece X 4 0 (by norm_num) (by norm_num) inb_S256x2048_S256x128_0_512 x _ rfl rfl
    · intro x; simp only [k0_pay12, shapeCast_self]; exact xpiece X 3 1 (by norm_num) (by norm_num) inb_S256x2048_S256x128_0_1408 x _ rfl rfl
    · intro x; simp only [k0_pay11, shapeCast_self]; exact xpiece X 3 0 (by norm_num) (by norm_num) inb_S256x2048_S256x128_0_384 x _ rfl rfl
    · intro x; simp only [k0_pay10, shapeCast_self]; exact xpiece X 2 1 (by norm_num) (by norm_num) inb_S256x2048_S256x128_0_1280 x _ rfl rfl
    · intro x; simp only [k0_pay9, shapeCast_self]; exact xpiece X 2 0 (by norm_num) (by norm_num) inb_S256x2048_S256x128_0_256 x _ rfl rfl
    · intro x; simp only [k0_pay8, shapeCast_self]; exact xpiece X 1 1 (by norm_num) (by norm_num) inb_S256x2048_S256x128_0_1152 x _ rfl rfl
    · intro x; simp only [k0_pay7, shapeCast_self]; exact xpiece X 1 0 (by norm_num) (by norm_num) inb_S256x2048_S256x128_0_128 x _ rfl rfl
    · intro x; simp only [k0_pay6, shapeCast_self]; exact xpiece X 0 1 (by norm_num) (by norm_num) inb_S256x2048_S256x128_0_1024 x _ rfl rfl
    · intro x; simp only [k0_pay5, shapeCast_self]; exact xpiece X 0 0 (by norm_num) (by norm_num) inb_S256x2048_S256x128_0_0 x _ rfl rfl
  · unfold xList
    rcases slab_of y with h | h | h | h | h | h | h | h | h | h | h | h | h | h | h | h
    · exact ⟨_, List.mem_cons_self, mem_slab inb_S256x2048_S256x128_0_1920 y h.1 h.2⟩
    · exact ⟨_, List.mem_cons_of_mem _ List.mem_cons_self, mem_slab inb_S256x2048_S256x128_0_896 y h.1 h.2⟩
    · exact ⟨_, List.mem_cons_of_mem _ (List.mem_cons_of_mem _ List.mem_cons_self), mem_slab inb_S256x2048_S256x128_0_1792 y h.1 h.2⟩
    · exact ⟨_, List.mem_cons_of_mem _ (List.mem_cons_of_mem _ (List.mem_cons_of_mem _ List.mem_cons_self)), mem_slab inb_S256x2048_S256x128_0_768 y h.1 h.2⟩
    · exact ⟨_, List.mem_cons_of_mem _ (List.mem_cons_of_mem _ (List.mem_cons_of_mem _ (List.mem_cons_of_mem _ List.mem_cons_self))), mem_slab inb_S256x2048_S256x128_0_1664 y h.1 h.2⟩
    · exact ⟨_, List.mem_cons_of_mem _ (List.mem_cons_of_mem _ (List.mem_cons_of_mem _ (List.mem_cons_of_mem _ (List.mem_cons_of_mem _ List.mem_cons_self)))), mem_slab inb_S256x2048_S256x128_0_640 y h.1 h.2⟩
    · exact ⟨_, List.mem_cons_of_mem _ (List.mem_cons_of_mem _ (List.mem_cons_of_mem _ (List.mem_cons_of_mem _ (List.mem_cons_of_mem _ (List.mem_cons_of_mem _ List.mem_cons_self))))), mem_slab inb_S256x2048_S256x128_0_1536 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slab inb_S256x2048_S256x128_0_512 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slab inb_S256x2048_S256x128_0_1408 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slab inb_S256x2048_S256x128_0_384 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slab inb_S256x2048_S256x128_0_1280 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slab inb_S256x2048_S256x128_0_256 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slab inb_S256x2048_S256x128_0_1152 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slab inb_S256x2048_S256x128_0_128 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slab inb_S256x2048_S256x128_0_1024 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slab inb_S256x2048_S256x128_0_0 y h.1 h.2⟩

end Cert.Proof.IBody

end
-- ==== Proof.ValueOut.lean ====
module

public import proofs.«01_k».proof.Proof.ValueIn
public import Idealize.ShloMosaic.Lib.MatmulPlain
public import Idealize.ShloMosaic.Lib.IdealHost
public import Idealize.ShloMosaic.Lib.ValueLayout

@[expose] public section

set_option maxRecDepth 16384

noncomputable section

namespace Cert.Proof.IBody

open Cert.ExpertsIdeal Cert.ExpertsIdeal.Gen
open Idealize.ShloMosaic Idealize.ShloMosaic.ValueIdx
open scoped BigOperators

/-! ## Packing and unpacking pairs of rows -/

/-- A pair of column slabs interleaved, read at an index: the first slab in the low half of the pair, the second in the high half. -/
theorem pair_apply (a b : S256x128.Idx → EReal) (x : S256x2x128.Idx) :
    interleaveRows S256x2x128 (shapeCast S256x1x128 a shapeCasts_S256x128_S256x1x128) (shapeCast S256x1x128 b shapeCasts_S256x128_S256x1x128) bitcasts_S256x2x128_w16_S256x1x128_w32 x
      = if (x 1).val = 0 then a (ix2 (x 0) (x 2)) else b (ix2 (x 0) (x 2)) := by
  have hr : S256x2x128.row x = (x 1).val := rfl
  have hx : (x 1).val < 2 := (x 1).isLt
  have key : ∀ (v : S256x128.Idx → EReal) (z : S256x1x128.Idx) (h0 : (z 0).val = (x 0).val) (h2 : (z 2).val = (x 2).val),
      shapeCast S256x1x128 v shapeCasts_S256x128_S256x1x128 z = v (ix2 (x 0) (x 2)) := by
    intro v z h0 h2
    refine shapeCast_apply v _ z (ix2 (x 0) (x 2)) ?_
    have hz : (z 1).val < 1 := (z 1).isLt
    rw [Shape.rowMajor_val_two, Shape.rowMajor_val_three]
    show (x 0).val * 128 + (x 2).val = ((z 0).val * 1 + (z 1).val) * 128 + (z 2).val
    omega
  unfold interleaveRows
  dsimp only
  rw [hr]
  by_cases h : (x 1).val = 0
  · rw [if_pos (by omega), if_pos h]; exact key a _ rfl rfl
  · rw [if_neg (by omega), if_neg h]; exact key b _ rfl rfl

/-- One half of a pair of rows, read at an index. -/
theorem unpair_apply (p : Fin 2) (X : S256x2x128.Idx → EReal) (x : S256x128.Idx) :
    shapeCast S256x128 (rowsOfParity p S256x1x128 X bitcasts_S256x2x128_w16_S256x1x128_w32) shapeCasts_S256x1x128_S256x128 x
      = X (ix3 (x 0) p (x 1)) := by
  refine (shapeCast_apply (t := S256x128) _ _ x (ix3 (n0 := 256) (n1 := 1) (n2 := 128) (x 0) 0 (x 1)) (by
    rw [Shape.rowMajor_val_two, Shape.rowMajor_val_three]
    show ((x 0).val * 1 + 0) * 128 + (x 1).val = (x 0).val * 128 + (x 1).val
    omega)).trans ?_
  unfold rowsOfParity
  dsimp only
  refine congrArg X ?_
  funext a
  match a with
  | ⟨0, _⟩ => exact Fin.ext rfl
  | ⟨1, _⟩ => exact Fin.ext (by show 2 * 0 + p.val = p.val; omega)
  | ⟨2, _⟩ => exact Fin.ext rfl

/-! ## The block of outputs -/

/-- The products of a tile, in the packed layout of the block of outputs. -/
def outval (Y : S256x2048.Idx → EReal) (y : S2048x2x128.Idx) : EReal :=
  Y (ix2 ⟨(y 0).val / 8, by have : (y 0).val < 2048 := (y 0).isLt; omega⟩
    ⟨(y 1).val * 1024 + (y 0).val % 8 * 128 + (y 2).val, by have : (y 1).val < 2 := (y 1).isLt; have : (y 2).val < 128 := (y 2).isLt; omega⟩)

/-- The products under one stored slab pair. -/
theorem outpiece (Y : S256x2048.Idx → EReal) {o₁ o₂ : ℕ} (s : ℕ) (hs : s < 8) (h₁ : o₁ = s * 128) (h₂ : o₂ = 1024 + s * 128)
    (sl₁ : S256x2048.Slices ![0, o₁] S256x128) (sl₂ : S256x2048.Slices ![0, o₂] S256x128) (x : S256x2x128.Idx) (i : S2048x2x128.Idx)
    (e0 : (i 0).val = s + 8 * (x 0).val) (e1 : (i 1).val = 0 + 1 * (x 1).val) (e2 : (i 2).val = 0 + 1 * (x 2).val) :
    interleaveRows S256x2x128 (shapeCast S256x1x128 (extractStridedSlice S256x128 ![0, o₁] Y sl₁) shapeCasts_S256x128_S256x1x128)
        (shapeCast S256x1x128 (extractStridedSlice S256x128 ![0, o₂] Y sl₂) shapeCasts_S256x128_S256x1x128) bitcasts_S256x2x128_w16_S256x1x128_w32 x
      = outval Y i := by
  have hx : (x 1).val < 2 := (x 1).isLt
  rw [pair_apply]
  unfold outval
  by_cases h : (x 1).val = 0
  · rw [if_pos h, extractStridedSlice_apply]
    intro a
    match a with
    | ⟨0, _⟩ => show (i 0).val / 8 = 0 + (x 0).val; omega
    | ⟨1, _⟩ => show (i 1).val * 1024 + (i 0).val % 8 * 128 + (i 2).val = o₁ + (x 2).val; omega
  · rw [if_neg h, extractStridedSlice_apply]
    intro a
    match a with
    | ⟨0, _⟩ => show (i 0).val / 8 = 0 + (x 0).val; omega
    | ⟨1, _⟩ => show (i 1).val * 1024 + (i 0).val % 8 * 128 + (i 2).val = o₂ + (x 2).val; omega

/-- The block of outputs of an active tile holds its products. -/
theorem outList_apply (V : S256x2048.Idx → EReal) (W₁ W₂ : S2048x256.Idx → EReal) (W₃ : S256x2048.Idx → EReal) (y : S2048x2x128.Idx) :
    View.canon (Val := Elt Ideal) (outList (F := Ideal) V W₁ W₂ W₃) y = outval (k0_pay23 (F := Ideal) V W₁ W₂ W₃) y := by
  refine View.canon_apply_of_pieces (Val := Elt Ideal) (e := .bf16) (outval (k0_pay23 (F := Ideal) V W₁ W₂ W₃)) (outList (F := Ideal) V W₁ W₂ W₃) ?_ y (cover_out (F := Ideal) V W₁ W₂ W₃ y)
  intro p hp
  simp only [outList, List.mem_cons, List.not_mem_nil, or_false] at hp
  rcases hp with rfl | rfl | rfl | rfl | rfl | rfl | rfl | rfl
  · intro x; exact outpiece (k0_pay23 (F := Ideal) V W₁ W₂ W₃) 7 (by norm_num) (by norm_num) (by norm_num) slices_S256x2048_o0_896_S256x128 slices_S256x2048_o0_1920_S256x128 x ((⟨⟨![7, 0, 0], S256x2x128.size, ![8, 1, 1], inb_S2048x2x128_S256x2x128_7_0_0_s_8_1_1⟩, spos_8_1_1⟩ : Rect S2048x2x128).emb x) rfl rfl rfl
  · intro x; exact outpiece (k0_pay23 (F := Ideal) V W₁ W₂ W₃) 6 (by norm_num) (by norm_num) (by norm_num) slices_S256x2048_o0_768_S256x128 slices_S256x2048_o0_1792_S256x128 x ((⟨⟨![6, 0, 0], S256x2x128.size, ![8, 1, 1], inb_S2048x2x128_S256x2x128_6_0_0_s_8_1_1⟩, spos_8_1_1⟩ : Rect S2048x2x128).emb x) rfl rfl rfl
  · intro x; exact outpiece (k0_pay23 (F := Ideal) V W₁ W₂ W₃) 5 (by norm_num) (by norm_num) (by norm_num) slices_S256x2048_o0_640_S256x128 slices_S256x2048_o0_1664_S256x128 x ((⟨⟨![5, 0, 0], S256x2x128.size, ![8, 1, 1], inb_S2048x2x128_S256x2x128_5_0_0_s_8_1_1⟩, spos_8_1_1⟩ : Rect S2048x2x128).emb x) rfl rfl rfl
  · intro x; exact outpiece (k0_pay23 (F := Ideal) V W₁ W₂ W₃) 4 (by norm_num) (by norm_num) (by norm_num) slices_S256x2048_o0_512_S256x128 slices_S256x2048_o0_1536_S256x128 x ((⟨⟨![4, 0, 0], S256x2x128.size, ![8, 1, 1], inb_S2048x2x128_S256x2x128_4_0_0_s_8_1_1⟩, spos_8_1_1⟩ : Rect S2048x2x128).emb x) rfl rfl rfl
  · intro x; exact outpiece (k0_pay23 (F := Ideal) V W₁ W₂ W₃) 3 (by norm_num) (by norm_num) (by norm_num) slices_S256x2048_o0_384_S256x128 slices_S256x2048_o0_1408_S256x128 x ((⟨⟨![3, 0, 0], S256x2x128.size, ![8, 1, 1], inb_S2048x2x128_S256x2x128_3_0_0_s_8_1_1⟩, spos_8_1_1⟩ : Rect S2048x2x128).emb x) rfl rfl rfl
  · intro x; exact outpiece (k0_pay23 (F := Ideal) V W₁ W₂ W₃) 2 (by norm_num) (by norm_num) (by norm_num) slices_S256x2048_o0_256_S256x128 slices_S256x2048_o0_1280_S256x128 x ((⟨⟨![2, 0, 0], S256x2x128.size, ![8, 1, 1], inb_S2048x2x128_S256x2x128_2_0_0_s_8_1_1⟩, spos_8_1_1⟩ : Rect S2048x2x128).emb x) rfl rfl rfl
  · intro x; exact outpiece (k0_pay23 (F := Ideal) V W₁ W₂ W₃) 1 (by norm_num) (by norm_num) (by norm_num) slices_S256x2048_o0_128_S256x128 slices_S256x2048_o0_1152_S256x128 x ((⟨⟨![1, 0, 0], S256x2x128.size, ![8, 1, 1], inb_S2048x2x128_S256x2x128_1_0_0_s_8_1_1⟩, spos_8_1_1⟩ : Rect S2048x2x128).emb x) rfl rfl rfl
  · intro x; exact outpiece (k0_pay23 (F := Ideal) V W₁ W₂ W₃) 0 (by norm_num) (by norm_num) (by norm_num) slices_S256x2048_o0_0_S256x128 slices_S256x2048_o0_1024_S256x128 x ((⟨⟨![0, 0, 0], S256x2x128.size, ![8, 1, 1], inb_S2048x2x128_S256x2x128_0_0_0_s_8_1_1⟩, spos_8_1_1⟩ : Rect S2048x2x128).emb x) rfl rfl rfl

/-! ## The reader's block -/

/-- The rows the reader leaves of a block of packed rows. -/
def rdval (X : S2048x2x128.Idx → EReal) (y : S256x2048.Idx) : EReal :=
  X (ix3 ⟨8 * (y 0).val + (y 1).val / 128 % 8, by have := idx2_lt0 y; omega⟩ ⟨(y 1).val / 1024, by have := idx2_lt1 y; omega⟩ ⟨(y 1).val % 128, Nat.mod_lt _ (by decide)⟩)

/-- The rows under one of the reader's stored slabs. -/
theorem rdpiece (X : S2048x2x128.Idx → EReal) {off : ℕ} (s : ℕ) (h : Fin 2) (ho : off = h.val * 1024 + s * 128) (hs : s < 8)
    (inb : ∀ a, (![0, off] : Fin 2 → Nat) a + S256x128.size a ≤ S256x2048.size a)
    (x : S256x128.Idx) (i : S2048x2x128.Idx) (h0 : (i 0).val = s + 8 * (x 0).val) (h1 : (i 1).val = 0 + 1 * h.val) (h2 : (i 2).val = 0 + 1 * (x 1).val) :
    X i = rdval X ((Rect.unit (s := S256x2048) ![0, off] S256x128.size inb).emb x) := by
  have e0 : (((Rect.unit (s := S256x2048) ![0, off] S256x128.size inb).emb x) 0).val = 0 + 1 * (x 0).val := rfl
  have e1 : (((Rect.unit (s := S256x2048) ![0, off] S256x128.size inb).emb x) 1).val = off + 1 * (x 1).val := rfl
  have hx := idx2_lt1 x
  unfold rdval
  refine congrArg X ?_
  funext a
  match a with
  | ⟨0, _⟩ => refine Fin.ext ?_; show (i 0).val = 8 * _ + _ / 128 % 8; rw [e0, e1, h0]; omega
  | ⟨1, _⟩ => refine Fin.ext ?_; show (i 1).val = _ / 1024; rw [e1, h1]; omega
  | ⟨2, _⟩ => refine Fin.ext ?_; show (i 2).val = _ % 128; rw [e1, h2]; omega

/-- The reader's block holds the rows of its packed block. -/
theorem rdOut_apply (X : S2048x2x128.Idx → EReal) (y : S256x2048.Idx) : rdOut (F := Ideal) X y = rdval X y := by
  unfold rdOut
  refine View.canon_apply_of_pieces (Val := Elt Ideal) (e := .f32) (rdval X) (rdList (F := Ideal) X) ?_ y ?_
  · intro p hp
    simp only [rdList, List.mem_cons, List.not_mem_nil, or_false] at hp
    rcases hp with rfl | rfl | rfl | rfl | rfl | rfl | rfl | rfl | rfl | rfl | rfl | rfl | rfl | rfl | rfl | rfl
    · intro x; exact (unpair_apply 1 (rsl7 (F := Ideal) X) x).trans (rdpiece X 7 1 (by norm_num) (by norm_num) inb_S256x2048_S256x128_0_1920 x _ rfl rfl rfl)
    · intro x; exact (unpair_apply 0 (rsl7 (F := Ideal) X) x).trans (rdpiece X 7 0 (by norm_num) (by norm_num) inb_S256x2048_S256x128_0_896 x _ rfl rfl rfl)
    · intro x; exact (unpair_apply 1 (rsl6 (F := Ideal) X) x).trans (rdpiece X 6 1 (by norm_num) (by norm_num) inb_S256x2048_S256x128_0_1792 x _ rfl rfl rfl)
    · intro x; exact (unpair_apply 0 (rsl6 (F := Ideal) X) x).trans (rdpiece X 6 0 (by norm_num) (by norm_num) inb_S256x2048_S256x128_0_768 x _ rfl rfl rfl)
    · intro x; exact (unpair_apply 1 (rsl5 (F := Ideal) X) x).trans (rdpiece X 5 1 (by norm_num) (by norm_num) inb_S256x2048_S256x128_0_1664 x _ rfl rfl rfl)
    · intro x; exact (unpair_apply 0 (rsl5 (F := Ideal) X) x).trans (rdpiece X 5 0 (by norm_num) (by norm_num) inb_S256x2048_S256x128_0_640 x _ rfl rfl rfl)
    · intro x; exact (unpair_apply 1 (rsl4 (F := Ideal) X) x).trans (rdpiece X 4 1 (by norm_num) (by norm_num) inb_S256x2048_S256x128_0_1536 x _ rfl rfl rfl)
    · intro x; exact (unpair_apply 0 (rsl4 (F := Ideal) X) x).trans (rdpiece X 4 0 (by norm_num) (by norm_num) inb_S256x2048_S256x128_0_512 x _ rfl rfl rfl)
    · intro x; exact (unpair_apply 1 (rsl3 (F := Ideal) X) x).trans (rdpiece X 3 1 (by norm_num) (by norm_num) inb_S256x2048_S256x128_0_1408 x _ rfl rfl rfl)
    · intro x; exact (unpair_apply 0 (rsl3 (F := Ideal) X) x).trans (rdpiece X 3 0 (by norm_num) (by norm_num) inb_S256x2048_S256x128_0_384 x _ rfl rfl rfl)
    · intro x; exact (unpair_apply 1 (rsl2 (F := Ideal) X) x).trans (rdpiece X 2 1 (by norm_num) (by norm_num) inb_S256x2048_S256x128_0_1280 x _ rfl rfl rfl)
    · intro x; exact (unpair_apply 0 (rsl2 (F := Ideal) X) x).trans (rdpiece X 2 0 (by norm_num) (by norm_num) inb_S256x2048_S256x128_0_256 x _ rfl rfl rfl)
    · intro x; exact (unpair_apply 1 (rsl1 (F := Ideal) X) x).trans (rdpiece X 1 1 (by norm_num) (by norm_num) inb_S256x2048_S256x128_0_1152 x _ rfl rfl rfl)
    · intro x; exact (unpair_apply 0 (rsl1 (F := Ideal) X) x).trans (rdpiece X 1 0 (by norm_num) (by norm_num) inb_S256x2048_S256x128_0_128 x _ rfl rfl rfl)
    · intro x; exact (unpair_apply 1 (rsl0 (F := Ideal) X) x).trans (rdpiece X 0 1 (by norm_num) (by norm_num) inb_S256x2048_S256x128_0_1024 x _ rfl rfl rfl)
    · intro x; exact (unpair_apply 0 (rsl0 (F := Ideal) X) x).trans (rdpiece X 0 0 (by norm_num) (by norm_num) inb_S256x2048_S256x128_0_0 x _ rfl rfl rfl)
  · unfold rdList
    rcases slab_of y with h | h | h | h | h | h | h | h | h | h | h | h | h | h | h | h
    · exact ⟨_, List.mem_cons_self, mem_slab inb_S256x2048_S256x128_0_1920 y h.1 h.2⟩
    · exact ⟨_, List.mem_cons_of_mem _ List.mem_cons_self, mem_slab inb_S256x2048_S256x128_0_896 y h.1 h.2⟩
    · exact ⟨_, List.mem_cons_of_mem _ (List.mem_cons_of_mem _ List.mem_cons_self), mem_slab inb_S256x2048_S256x128_0_1792 y h.1 h.2⟩
    · exact ⟨_, List.mem_cons_of_mem _ (List.mem_cons_of_mem _ (List.mem_cons_of_mem _ List.mem_cons_self)), mem_slab inb_S256x2048_S256x128_0_768 y h.1 h.2⟩
    · exact ⟨_, List.mem_cons_of_mem _ (List.mem_cons_of_mem _ (List.mem_cons_of_mem _ (List.mem_cons_of_mem _ List.mem_cons_self))), mem_slab inb_S256x2048_S256x128_0_1664 y h.1 h.2⟩
    · exact ⟨_, List.mem_cons_of_mem _ (List.mem_cons_of_mem _ (List.mem_cons_of_mem _ (List.mem_cons_of_mem _ (List.mem_cons_of_mem _ List.mem_cons_self)))), mem_slab inb_S256x2048_S256x128_0_640 y h.1 h.2⟩
    · exact ⟨_, List.mem_cons_of_mem _ (List.mem_cons_of_mem _ (List.mem_cons_of_mem _ (List.mem_cons_of_mem _ (List.mem_cons_of_mem _ (List.mem_cons_of_mem _ List.mem_cons_self))))), mem_slab inb_S256x2048_S256x128_0_1536 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem_slab inb_S256x2048_S256x128_0_512 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), mem_slab inb_S256x2048_S256x128_0_1408 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), mem_slab inb_S256x2048_S256x128_0_384 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), mem_slab inb_S256x2048_S256x128_0_1280 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), mem_slab inb_S256x2048_S256x128_0_256 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), mem_slab inb_S256x2048_S256x128_0_1152 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), mem_slab inb_S256x2048_S256x128_0_128 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), mem_slab inb_S256x2048_S256x128_0_1024 y h.1 h.2⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), mem_slab inb_S256x2048_S256x128_0_0 y h.1 h.2⟩

end Cert.Proof.IBody

end
-- ==== Proof.Spec.lean ====
module

public import Idealize.ShloMosaic.PureOps.Ideal.Laws
public import Idealize.ShloMosaic.Lib.ValueIdxCore

@[expose] public section

noncomputable section

namespace Cert.Proof.Spec

open Idealize.ShloMosaic Idealize.ShloMosaic.ValueIdx
open scoped BigOperators

/-! The result both programs compute, over the extended reals: every row of an active tile goes through the gated
    feed-forward layer of its tile's expert, and the rows of the other tiles are zero. -/

/-- The gated hidden unit `j` of a row: the gate's product through `g · sigmoid g`, times the up product. -/
def hid (x : Fin 2048 → EReal) (w1 w2 : Fin 2048 → Fin 256 → EReal) (j : Fin 256) : EReal :=
  (∑ k : Fin 2048, x k * w1 k j) * Ideal.logistic (∑ k : Fin 2048, x k * w1 k j) * ∑ k : Fin 2048, x k * w2 k j

/-- The feed-forward layer of one row at column `c`. -/
def ffn (x : Fin 2048 → EReal) (w1 w2 : Fin 2048 → Fin 256 → EReal) (w3 : Fin 256 → Fin 2048 → EReal) (c : Fin 2048) : EReal :=
  ∑ j : Fin 256, hid x w1 w2 j * w3 j c

/-- The packed rows' value at row `r`, column `k`: half `k / 1024` of the word in row `8 r + (k / 128) mod 8`, lane `k mod 128`. -/
def row (a2 : (⟨2, ![333824, 128]⟩ : Shape).Idx → BitVec 32) (r : Fin 41728) (k : Fin 2048) : EReal :=
  FloatOps.ofBits (F := Ideal) .bf16
    ((a2 (ix2 ⟨8 * r.val + k.val / 128 % 8, by omega⟩ ⟨k.val % 128, Nat.mod_lt _ (by decide)⟩)).extractLsb' (k.val / 1024 * 16) 16)

/-- The expert of tile `t`. -/
def exp (a0 : (⟨1, ![163]⟩ : Shape).Idx → BitVec 32) (t : Fin 163) : Fin 32 := ⟨(a0 (ix1 t)).toNat % 32, Nat.mod_lt _ (by decide)⟩

/-- The result at row `r` and column `c`. -/
def out (a0 : (⟨1, ![163]⟩ : Shape).Idx → BitVec 32) (a1 : (⟨1, ![1]⟩ : Shape).Idx → BitVec 32)
    (a2 : (⟨2, ![333824, 128]⟩ : Shape).Idx → BitVec 32) (a3 a4 : (⟨3, ![32, 2048, 256]⟩ : Shape).Idx → EReal)
    (a5 : (⟨3, ![32, 256, 2048]⟩ : Shape).Idx → EReal) (r : Fin 41728) (c : Fin 2048) : EReal :=
  if ((r.val / 256 : ℕ) : ℤ) < (a1 (ix1 0)).toInt then
    ffn (row a2 r) (fun k j => a3 (ix3 (exp a0 ⟨r.val / 256, by omega⟩) k j)) (fun k j => a4 (ix3 (exp a0 ⟨r.val / 256, by omega⟩) k j))
      (fun j c => a5 (ix3 (exp a0 ⟨r.val / 256, by omega⟩) j c)) c
  else 0

end Cert.Proof.Spec

end
-- ==== Proof.ValueTile.lean ====
module

public import proofs.«01_k».proof.Proof.ValueOut
public import proofs.«01_k».proof.Proof.Spec

@[expose] public section

set_option maxRecDepth 16384

noncomputable section

namespace Cert.Proof.IBody

open Cert.ExpertsIdeal Cert.ExpertsIdeal.Gen
open Idealize.ShloMosaic Idealize.ShloMosaic.ValueIdx
open scoped BigOperators

/-- The gate or up product of a tile at an index. -/
theorem up_apply (V : S256x2048.Idx → EReal) (W : S2048x256.Idx → EReal) (p j : Fin 256) :
    matmul (F := Ideal) (φ₁ := .bf16) (φ₂ := .bf16) dot_S256x2048_S2048x256_S256x256_1_0_0_1_n_n none V W (constant (F := Ideal) S256x256 .f32 0x00000000#32) (ix2 p j)
      = ∑ k : Fin 2048, V (ix2 p k) * W (ix2 k j) := by
  refine (Ideal.matmul_plain_apply (M := 256) (K := 2048) (N := 256) (φ₁ := .bf16) (φ₂ := .bf16) none V W (constant (F := Ideal) S256x256 .f32 0x00000000#32) p j).trans ?_
  rw [show (constant (F := Ideal) S256x256 .f32 0x00000000#32) (ix2 p j) = (0 : EReal) from Ideal.ofBits_zero_f32, zero_add]

/-- The down product of a tile at an index. -/
theorem down_apply (H : S256x256.Idx → EReal) (W : S256x2048.Idx → EReal) (p : Fin 256) (c : Fin 2048) :
    matmul (F := Ideal) (φ₁ := .bf16) (φ₂ := .bf16) dot_S256x256_S256x2048_S256x2048_1_0_0_1_n_n none H W (constant (F := Ideal) S256x2048 .f32 0x00000000#32) (ix2 p c)
      = ∑ j : Fin 256, H (ix2 p j) * W (ix2 j c) := by
  refine (Ideal.matmul_plain_apply (M := 256) (K := 256) (N := 2048) (φ₁ := .bf16) (φ₂ := .bf16) none H W (constant (F := Ideal) S256x2048 .f32 0x00000000#32) p c).trans ?_
  rw [show (constant (F := Ideal) S256x2048 .f32 0x00000000#32) (ix2 p c) = (0 : EReal) from Ideal.ofBits_zero_f32, zero_add]

/-- The products of a tile are the feed-forward layer of its rows. -/
theorem tile_apply (V : S256x2048.Idx → EReal) (W₁ W₂ : S2048x256.Idx → EReal) (W₃ : S256x2048.Idx → EReal) (p : Fin 256) (c : Fin 2048) :
    k0_pay23 (F := Ideal) V W₁ W₂ W₃ (ix2 p c)
      = Spec.ffn (fun k => V (ix2 p k)) (fun k j => W₁ (ix2 k j)) (fun k j => W₂ (ix2 k j)) (fun j c => W₃ (ix2 j c)) c := by
  unfold k0_pay23
  refine (down_apply _ W₃ p c).trans (Finset.sum_congr rfl fun j _ => ?_)
  refine congrArg (· * W₃ (ix2 j c)) ?_
  unfold Spec.hid
  rw [← up_apply V W₁ p j, ← up_apply V W₂ p j]
  rfl

/-- A block of gate or up weights, as the scratch buffer holds it. -/
theorem pay1_apply (v : S1x2048x256.Idx → EReal) (k : Fin 2048) (j : Fin 256) : k0_pay1 (F := Ideal) v (ix2 k j) = v (ix3 0 k j) := by
  unfold k0_pay1
  simp only [shapeCast_self]
  exact shapeCast_1ab_ab_apply v _ k j
theorem pay2_apply (v : S1x2048x256.Idx → EReal) (k : Fin 2048) (j : Fin 256) : k0_pay2 (F := Ideal) v (ix2 k j) = v (ix3 0 k j) := by
  unfold k0_pay2
  simp only [shapeCast_self]
  exact shapeCast_1ab_ab_apply v _ k j
/-- A block of down weights, as the scratch buffer holds it. -/
theorem pay3_apply (v : S1x256x2048.Idx → EReal) (j : Fin 256) (c : Fin 2048) : k0_pay3 (F := Ideal) v (ix2 j c) = v (ix3 0 j c) := by
  unfold k0_pay3
  simp only [shapeCast_self]
  exact shapeCast_1ab_ab_apply v _ j c

/-- The block of outputs of a tile: at an active tile the feed-forward layer of its rows in the packed layout, else zero. -/
theorem blockOut_apply (k : BitVec 1) (X : S2048x128.Idx → BitVec 32) (W₁ W₂ : S1x2048x256.Idx → EReal) (W₃ : S1x256x2048.Idx → EReal) (y : S2048x2x128.Idx)
    (p : Fin 256) (c : Fin 2048) (hp : p.val = (y 0).val / 8) (hc : c.val = (y 1).val * 1024 + (y 0).val % 8 * 128 + (y 2).val) :
    blockOut (F := Ideal) k X (k0_pay1 (F := Ideal) W₁) (k0_pay2 (F := Ideal) W₂) (k0_pay3 (F := Ideal) W₃) y
      = if k = 1#1 then Spec.ffn (fun i => xval X (ix2 p i)) (fun i j => W₁ (ix3 0 i j)) (fun i j => W₂ (ix3 0 i j)) (fun j c => W₃ (ix3 0 j c)) c else 0 := by
  unfold blockOut
  by_cases h : k = 1#1
  · rw [if_pos h, if_pos h]
    unfold tileOut
    rw [outList_apply]
    unfold outval
    rw [show (View.canon (Val := Elt Ideal) (xList (F := Ideal) X)) = xval X from funext (xList_apply X)]
    have e : (ix2 ⟨(y 0).val / 8, by have : (y 0).val < 2048 := (y 0).isLt; omega⟩
      ⟨(y 1).val * 1024 + (y 0).val % 8 * 128 + (y 2).val, by have : (y 1).val < 2 := (y 1).isLt; have : (y 2).val < 128 := (y 2).isLt; omega⟩ : S256x2048.Idx) = ix2 p c := by
      congr 1
      · exact Fin.ext hp.symm
      · exact Fin.ext hc.symm
    rw [e, tile_apply]
    simp only [pay1_apply, pay2_apply, pay3_apply]
  · rw [if_neg h, if_neg h]
    exact Ideal.ofBits_zero_bf16

end Cert.Proof.IBody

end
-- ==== Proof.ValueReader.lean ====
module

public import proofs.«01_k».proof.Proof.ValueTile
public import proofs.«01_k».proof.Proof.IdealRegions
public import Idealize.ShloMosaic.Lib.Pipeline.ValueKit.Geometry

@[expose] public section

set_option maxRecDepth 16384

noncomputable section

namespace Cert.Proof.IBody

open Cert.ExpertsIdeal Cert.ExpertsIdeal.Gen
open Idealize.ShloMosaic Idealize.ShloMosaic.TcCoe Idealize.ShloMosaic.ValueIdx
open Idealize.ShloMosaic.Pipeline (Dat Cfg Window)

/-- The reader's blocks, by the grid point. -/
theorem rd_index1 : ∀ t : Fin grid1.N, ((cfg1.win (1 : Fin 2)).index t) = ![t.val, 0] := by decide +kernel
theorem rd_index0 : ∀ t : Fin grid1.N, ((cfg1.win (0 : Fin 2)).index t) = ![t.val, 0, 0] := by decide +kernel

/-- The rows the reader leaves, of the packed array it is given. -/
def rdArr (O : S333824x2x128.Idx → EReal) (i : S41728x2048.Idx) : EReal :=
  O (ix3 ⟨8 * (i 0).val + (i 1).val / 128 % 8, by have := idx2_lt0 i; omega⟩ ⟨(i 1).val / 1024, by have := idx2_lt1 i; omega⟩ ⟨(i 1).val % 128, Nat.mod_lt _ (by decide)⟩)

/-- The reader's result, of the packed array it is given. -/
theorem o1_arr (V : (c : Dev nD) → (b : Ref sig .tc) → Buf (Elt Ideal) ((c : Thread nD τ).loc b)) (c : Dev nD) :
    (dat1 (F := Ideal) V c).arrAt 1 grid1.N = rdArr (V c main_v0) := by
  refine (dat1 (F := Ideal) V c).arrAt_eq_of_covers (1 : Fin 2) (rdArr (V c main_v0)) (by decide +kernel) fun t hf y => ?_
  show rdOut (F := Ideal) (yb V c t) y = _
  rw [rdOut_apply]
  unfold rdval rdArr
  show V c main_v0 (((cfg1.win (0 : Fin 2)).blk t).view.emb _) = _
  refine congrArg (V c main_v0) ?_
  have e0 : ((((cfg1.win (1 : Fin 2)).blk t).view.emb y) 0).val = t.val * 256 + (y 0).val := by
    refine (Window.rect_emb_val (cfg1.win (1 : Fin 2)) t y 0).trans ?_
    rw [rd_index1]; rfl
  have e1 : ((((cfg1.win (1 : Fin 2)).blk t).view.emb y) 1).val = 0 * 2048 + (y 1).val := by
    refine (Window.rect_emb_val (cfg1.win (1 : Fin 2)) t y 1).trans ?_
    rw [rd_index1]; rfl
  have hy : (y 1).val < 2048 := (y 1).isLt
  funext a
  refine Fin.ext ?_
  refine (Window.rect_emb_val (cfg1.win (0 : Fin 2)) t _ a).trans ?_
  rw [rd_index0]
  match a with
  | ⟨0, _⟩ => show t.val * 2048 + (8 * (y 0).val + (y 1).val / 128 % 8) = 8 * _ + _ / 128 % 8; rw [e0, e1]; omega
  | ⟨1, _⟩ => show 0 * 2 + (y 1).val / 1024 = _ / 1024; rw [e1]; omega
  | ⟨2, _⟩ => show 0 * 128 + (y 1).val % 128 = _ % 128; rw [e1]; omega

end Cert.Proof.IBody

end
-- ==== Proof.ValueArr.lean ====
module

public import proofs.«01_k».proof.Proof.ValueReader
public import proofs.«01_k».proof.Proof.IdealRange
public import Idealize.ShloMosaic.Lib.Pipeline.Covers

@[expose] public section

set_option maxRecDepth 16384

noncomputable section

namespace Cert.Proof.IBody

open Cert.ExpertsIdeal Cert.ExpertsIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))
variable (a : (pcfg0 (F := Ideal)).Adm)

/-- The two tables, as arrays of words. -/
abbrev tE : S163.Idx → BitVec 32 := a.1 0
abbrev tN : S1.Idx → BitVec 32 := a.1 1

theorem lt163 (t : Fin grid0.N) : t.val < 163 := lt_of_lt_of_eq t.isLt N_0

/-- The number of active tiles, as the body reads it. -/
theorem rdN_eq (c : Dev nD) : rdN c (tabN a c) = tN a (ix1 0) := by
  show tN a _ = _
  refine congrArg (tN a) ?_
  funext d
  match d with
  | ⟨0, _⟩ => exact Fin.ext (by
      have h : ∀ z : Fin 1, z.val = 0 := fun z => by omega
      exact (h _).trans (h _).symm)

/-- A tile's expert, as the body reads it. -/
theorem rdT_eq (c : Dev nD) (t : Fin grid0.N) : rdT c (grid0.coords t) (tabE a c) = tE a (ix1 ⟨t.val, lt163 t⟩) := by
  show tE a _ = _
  refine congrArg (tE a) ?_
  funext d
  match d with
  | ⟨0, _⟩ =>
    refine Fin.ext ?_
    show (BitVec.ofNat 32 (grid0.coords t 0).val).toNat + 1 * _ = t.val
    have h : ∀ z : Fin 1, z.val = 0 := fun z => by omega
    rw [coords0, BitVec.toNat_ofNat, Nat.mod_eq_of_lt (by have := lt163 t; omega)]
    exact (congrArg (t.val + 1 * ·) (h _)).trans (by omega)

/-- The blocks of rows and of outputs, by the tile. -/
theorem index4_eq (t : Fin grid0.N) : ((cfg0 a).win (4 : Fin 5)).index t = ![t.val, 0, 0] := by
  refine (show ((cfg0 a).win (4 : Fin 5)).index t = ![(BitVec.ofNat 32 (grid0.coords t 0).val).toNat, 0, 0] from rfl).trans ?_
  rw [coords0, BitVec.toNat_ofNat, Nat.mod_eq_of_lt (by have := lt163 t; omega)]

theorem index0_eq (c : Dev nD) (t : Fin grid0.N) : ((cfg0 a).win (0 : Fin 5)).index t
    = ![(Scalar.minsi (BitVec.ofNat 32 (grid0.coords t 0).val) (Scalar.subi (rdN c (tabN a c)) 1#32)).toNat, 0] := rfl

/-- The packed result, of the tables and the four arrays. -/
def outArr (c : Dev nD) (i : S333824x2x128.Idx) : EReal :=
  Spec.out (tE a) (tN a) (V c main_arg2) (V c main_arg3) (V c main_arg4) (V c main_arg5)
    ⟨(i 0).val / 8, by have : (i 0).val < 333824 := (i 0).isLt; omega⟩
    ⟨(i 1).val * 1024 + (i 0).val % 8 * 128 + (i 2).val, by have : (i 1).val < 2 := (i 1).isLt; have : (i 2).val < 128 := (i 2).isLt; omega⟩

/-- The outputs' blocks cover the packed result. -/
theorem covers4 : ((cfg0 a).win (4 : Fin 5)).Covers := by
  refine Window.covers_of_index_surj _ rfl ?_ fun β => ?_
  · intro d
    match d with
    | ⟨0, _⟩ => show 0 < 2048; decide
    | ⟨1, _⟩ => show 0 < 2; decide
    | ⟨2, _⟩ => show 0 < 128; decide
  · have h0 : (β 0).val < 163 := lt_of_lt_of_eq (β 0).isLt (show (333824 + 2048 - 1) / 2048 = 163 by decide)
    have h1 : (β 1).val < 1 := lt_of_lt_of_eq (β 1).isLt (show (2 + 2 - 1) / 2 = 1 by decide)
    have h2 : (β 2).val < 1 := lt_of_lt_of_eq (β 2).isLt (show (128 + 128 - 1) / 128 = 1 by decide)
    refine ⟨(⟨(β 0).val, lt_of_lt_of_eq h0 N_0.symm⟩ : Fin grid0.N), fun d => ?_⟩
    rw [index4_eq]
    match d with
    | ⟨0, _⟩ => rfl
    | ⟨1, _⟩ => show 0 = (β 1).val; omega
    | ⟨2, _⟩ => show 0 = (β 2).val; omega

/-- The rows of an active tile are the tile's rows of the packed array. -/
theorem xrow_eq (c : Dev nD) (t : Fin grid0.N) (h1 : 1 ≤ (tN a (ix1 0)).toInt) (h2 : (tN a (ix1 0)).toInt ≤ 163)
    (ht : (t.val : ℤ) < (tN a (ix1 0)).toInt) (p : Fin 256) (r : Fin 41728) (hr : r.val = t.val * 256 + p.val) (k : Fin 2048) :
    xval (xb V a c t) (ix2 p k) = Spec.row (V c main_arg2) r k := by
  unfold xval Spec.row
  show FloatOps.ofBits (F := Ideal) .bf16 ((V c main_arg2 ((((cfg0 a).win (0 : Fin 5)).blk t).view.emb _)).extractLsb' (k.val / 1024 * 16) 16) = _
  refine congrArg (fun z : S333824x128.Idx => FloatOps.ofBits (F := Ideal) .bf16 (((V c main_arg2 : S333824x128.Idx → BitVec 32) z).extractLsb' (k.val / 1024 * 16) 16)) ?_
  have hm : (Scalar.minsi (BitVec.ofNat 32 (grid0.coords t 0).val) (Scalar.subi (rdN c (tabN a c)) 1#32)).toNat = t.val := by
    rw [rdN_eq, coords0, Routed.minw _ h1 h2 t.val (lt163 t)]
    have := Routed.toNat_of_range (tN a (ix1 0)) 164 (by omega) (by omega)
    omega
  funext d
  refine Fin.ext ?_
  refine (Window.rect_emb_val ((cfg0 a).win (0 : Fin 5)) t _ d).trans ?_
  rw [index0_eq a c t, hm]
  match d with
  | ⟨0, _⟩ => show t.val * 2048 + (8 * p.val + k.val / 128 % 8) = 8 * r.val + k.val / 128 % 8; omega
  | ⟨1, _⟩ => show 0 * 128 + k.val % 128 = k.val % 128; omega

/-- The weights of a tile are its expert's. -/
theorem wb1_eq (c : Dev nD) (t : Fin grid0.N) (h0 : 0 ≤ (tE a (ix1 ⟨t.val, lt163 t⟩)).toInt) (h1 : (tE a (ix1 ⟨t.val, lt163 t⟩)).toInt < 32) (k : Fin 2048) (j : Fin 256) :
    wb1 V a c t (ix3 0 k j) = V c main_arg3 (ix3 (Spec.exp (tE a) ⟨t.val, lt163 t⟩) k j) := by
  show V c main_arg3 ((((cfg0 a).win (1 : Fin 5)).blk t).view.emb _) = _
  refine congrArg (V c main_arg3) ?_
  have := (Routed.toNat_of_range (tE a (ix1 ⟨t.val, lt163 t⟩)) 32 h0 (by exact_mod_cast h1)).1
  funext d
  refine Fin.ext ?_
  refine (Window.rect_emb_val ((cfg0 a).win (1 : Fin 5)) t _ d).trans ?_
  rw [index1_eq a c t, rdT_eq]
  match d with
  | ⟨0, _⟩ => show (tE a (ix1 ⟨t.val, lt163 t⟩)).toNat * 1 + 0 = (tE a (ix1 ⟨t.val, lt163 t⟩)).toNat % 32; omega
  | ⟨1, _⟩ => show 0 * 2048 + k.val = k.val; omega
  | ⟨2, _⟩ => show 0 * 256 + j.val = j.val; omega
theorem wb2_eq (c : Dev nD) (t : Fin grid0.N) (h0 : 0 ≤ (tE a (ix1 ⟨t.val, lt163 t⟩)).toInt) (h1 : (tE a (ix1 ⟨t.val, lt163 t⟩)).toInt < 32) (k : Fin 2048) (j : Fin 256) :
    wb2 V a c t (ix3 0 k j) = V c main_arg4 (ix3 (Spec.exp (tE a) ⟨t.val, lt163 t⟩) k j) := by
  show V c main_arg4 ((((cfg0 a).win (2 : Fin 5)).blk t).view.emb _) = _
  refine congrArg (V c main_arg4) ?_
  have := (Routed.toNat_of_range (tE a (ix1 ⟨t.val, lt163 t⟩)) 32 h0 (by exact_mod_cast h1)).1
  funext d
  refine Fin.ext ?_
  refine (Window.rect_emb_val ((cfg0 a).win (2 : Fin 5)) t _ d).trans ?_
  rw [index2_eq a c t, rdT_eq]
  match d with
  | ⟨0, _⟩ => show (tE a (ix1 ⟨t.val, lt163 t⟩)).toNat * 1 + 0 = (tE a (ix1 ⟨t.val, lt163 t⟩)).toNat % 32; omega
  | ⟨1, _⟩ => show 0 * 2048 + k.val = k.val; omega
  | ⟨2, _⟩ => show 0 * 256 + j.val = j.val; omega
theorem wb3_eq (c : Dev nD) (t : Fin grid0.N) (h0 : 0 ≤ (tE a (ix1 ⟨t.val, lt163 t⟩)).toInt) (h1 : (tE a (ix1 ⟨t.val, lt163 t⟩)).toInt < 32) (j : Fin 256) (k : Fin 2048) :
    wb3 V a c t (ix3 0 j k) = V c main_arg5 (ix3 (Spec.exp (tE a) ⟨t.val, lt163 t⟩) j k) := by
  show V c main_arg5 ((((cfg0 a).win (3 : Fin 5)).blk t).view.emb _) = _
  refine congrArg (V c main_arg5) ?_
  have := (Routed.toNat_of_range (tE a (ix1 ⟨t.val, lt163 t⟩)) 32 h0 (by exact_mod_cast h1)).1
  funext d
  refine Fin.ext ?_
  refine (Window.rect_emb_val ((cfg0 a).win (3 : Fin 5)) t _ d).trans ?_
  rw [index3_eq a c t, rdT_eq]
  match d with
  | ⟨0, _⟩ => show (tE a (ix1 ⟨t.val, lt163 t⟩)).toNat * 1 + 0 = (tE a (ix1 ⟨t.val, lt163 t⟩)).toNat % 32; omega
  | ⟨1, _⟩ => show 0 * 256 + j.val = j.val; omega
  | ⟨2, _⟩ => show 0 * 2048 + k.val = k.val; omega

/-- One entry of a tile's block. -/
theorem ob_apply (c : Dev nD) (hE : ∀ i, 0 ≤ (tE a i).toInt ∧ (tE a i).toInt < 32) (hN : ∀ i, 1 ≤ (tN a i).toInt ∧ (tN a i).toInt ≤ 163)
    (t : Fin grid0.N) (y : S2048x2x128.Idx) (p : Fin 256) (r : Fin 41728) (cc : Fin 2048) (hp : p.val = (y 0).val / 8) (hr : r.val = t.val * 256 + p.val)
    (hc : cc.val = (y 1).val * 1024 + (y 0).val % 8 * 128 + (y 2).val) :
    ob V a c t y = Spec.out (tE a) (tN a) (V c main_arg2) (V c main_arg3) (V c main_arg4) (V c main_arg5) r cc := by
  unfold ob
  rw [blockOut_apply _ _ _ _ _ y p cc hp hc]
  have ht := lt163 t
  have hq : r.val / 256 = t.val := by omega
  have hact : act a c t = 1#1 ↔ ((t.val : ℕ) : ℤ) < (tN a (ix1 0)).toInt := by
    unfold act
    rw [cond3_iff, coords0, rdN_eq]
  have hfin : (⟨r.val / 256, by omega⟩ : Fin 163) = ⟨t.val, ht⟩ := Fin.ext hq
  unfold Spec.out
  rw [hfin, hq]
  by_cases h : act a c t = 1#1
  · have h' := hact.1 h
    rw [if_pos h, if_pos h']
    have ex : (fun i => xval (xb V a c t) (ix2 p i)) = Spec.row (V c main_arg2) r :=
      funext fun k => xrow_eq V a c t (hN _).1 (hN _).2 h' p r hr k
    have e1 : (fun i j => wb1 V a c t (ix3 0 i j)) = fun i j => V c main_arg3 (ix3 (Spec.exp (tE a) ⟨t.val, ht⟩) i j) :=
      funext fun k => funext fun j => wb1_eq V a c t (hE _).1 (hE _).2 k j
    have e2 : (fun i j => wb2 V a c t (ix3 0 i j)) = fun i j => V c main_arg4 (ix3 (Spec.exp (tE a) ⟨t.val, ht⟩) i j) :=
      funext fun k => funext fun j => wb2_eq V a c t (hE _).1 (hE _).2 k j
    have e3 : (fun i j => wb3 V a c t (ix3 0 i j)) = fun i j => V c main_arg5 (ix3 (Spec.exp (tE a) ⟨t.val, ht⟩) i j) :=
      funext fun k => funext fun j => wb3_eq V a c t (hE _).1 (hE _).2 k j
    rw [ex, e1, e2, e3]
  · rw [if_neg h, if_neg fun h' => h (hact.2 h')]

/-- The expert call's result, for tables within range. -/
theorem o0_arr (c : Dev nD) (hE : ∀ i, 0 ≤ (tE a i).toInt ∧ (tE a i).toInt < 32) (hN : ∀ i, 1 ≤ (tN a i).toInt ∧ (tN a i).toInt ≤ 163) :
    (dat0 V a c).arrAt 4 grid0.N = outArr V a c := by
  refine (dat0 V a c).arrAt_eq_of_covers (4 : Fin 5) (outArr V a c) (covers4 a) fun t hf y => ?_
  show ob V a c t y = outArr V a c ((((cfg0 a).win (4 : Fin 5)).blk t).view.emb y)
  have e0 : (((((cfg0 a).win (4 : Fin 5)).blk t).view.emb y) 0).val = t.val * 2048 + (y 0).val := by
    refine (Window.rect_emb_val ((cfg0 a).win (4 : Fin 5)) t y 0).trans ?_
    rw [index4_eq]; rfl
  have e1 : (((((cfg0 a).win (4 : Fin 5)).blk t).view.emb y) 1).val = 0 * 2 + (y 1).val := by
    refine (Window.rect_emb_val ((cfg0 a).win (4 : Fin 5)) t y 1).trans ?_
    rw [index4_eq]; rfl
  have e2 : (((((cfg0 a).win (4 : Fin 5)).blk t).view.emb y) 2).val = 0 * 128 + (y 2).val := by
    refine (Window.rect_emb_val ((cfg0 a).win (4 : Fin 5)) t y 2).trans ?_
    rw [index4_eq]; rfl
  generalize ((((cfg0 a).win (4 : Fin 5)).blk t).view.emb y) = z at e0 e1 e2 ⊢
  have y0 : (y 0).val < 2048 := (y 0).isLt
  refine ob_apply V a c hE hN t y ⟨(y 0).val / 8, by omega⟩ _ _ rfl ?_ ?_
  · show (z 0).val / 8 = t.val * 256 + (y 0).val / 8
    rw [e0]; omega
  · show (z 1).val * 1024 + (z 0).val % 8 * 128 + (z 2).val = (y 1).val * 1024 + (y 0).val % 8 * 128 + (y 2).val
    rw [e0, e1, e2]; omega

end Cert.Proof.IBody

end
-- ==== Proof.ValueKernel.lean ====
module

public import proofs.«01_k».proof.Proof.ValueArr

@[expose] public section

set_option maxRecDepth 16384

noncomputable section

namespace Cert.Proof.IBody

open Cert.ExpertsIdeal Cert.ExpertsIdeal.Gen
open Idealize.ShloMosaic Idealize.ShloMosaic.TcCoe Idealize.ShloMosaic.ValueIdx

variable (m : (ℓ : Loc nD τ sig) → Buf (Elt Ideal) ℓ) (hok : ok0 (F := Ideal) (pf0 m))

/-- The reader's result, for tables within range: every row of an active tile through its expert's layer, the other
    rows zero. -/
theorem o1_out (c : Dev nD)
    (hE : ∀ i : S163.Idx, 0 ≤ (show BitVec 32 from pf0 m 0 i).toInt ∧ (show BitVec 32 from pf0 m 0 i).toInt < 32)
    (hN : ∀ i : S1.Idx, 1 ≤ (show BitVec 32 from pf0 m 1 i).toInt ∧ (show BitVec 32 from pf0 m 1 i).toInt ≤ 163) (i : S41728x2048.Idx) :
    (o1 m hok c : S41728x2048.Idx → EReal) i = Spec.out (pf0 m 0) (pf0 m 1) (m ((c.tc : Thread nD τ).loc main_arg2)) (m ((c.tc : Thread nD τ).loc main_arg3))
      (m ((c.tc : Thread nD τ).loc main_arg4)) (m ((c.tc : Thread nD τ).loc main_arg5)) (i 0) (i 1) := by
  have i0 : (i 0).val < 41728 := (i 0).isLt
  have i1 : (i 1).val < 2048 := (i 1).isLt
  have e : o1 m hok c = rdArr (outArr (Va m) (a0 m hok) c) := by
    rw [o1_eq, o1_arr, ← o0_arr (Va m) (a0 m hok) c hE hN, ← o0_eq, ← U1_out]
  rw [e]
  show outArr (Va m) (a0 m hok) c (ix3 _ _ _) = _
  unfold outArr
  have er (h) : (⟨(8 * (i 0).val + (i 1).val / 128 % 8) / 8, h⟩ : Fin 41728) = i 0 := Fin.ext (by show (8 * (i 0).val + (i 1).val / 128 % 8) / 8 = (i 0).val; omega)
  have ec (h) : (⟨(i 1).val / 1024 * 1024 + (8 * (i 0).val + (i 1).val / 128 % 8) % 8 * 128 + (i 1).val % 128, h⟩ : Fin 2048) = i 1 :=
    Fin.ext (by show (i 1).val / 1024 * 1024 + (8 * (i 0).val + (i 1).val / 128 % 8) % 8 * 128 + (i 1).val % 128 = (i 1).val; omega)
  show Spec.out _ _ _ _ _ _ ⟨(8 * (i 0).val + (i 1).val / 128 % 8) / 8, _⟩ ⟨(i 1).val / 1024 * 1024 + (8 * (i 0).val + (i 1).val / 128 % 8) % 8 * 128 + (i 1).val % 128, _⟩ = _
  rw [er, ec]

end Cert.Proof.IBody

end
-- ==== Proof.ValueRows.lean ====
module

public import proofs.«01_k».proof.Proof.Gen.ReferenceIdeal
public import proofs.«01_k».proof.Proof.Spec
public import Idealize.ShloMosaic.Lib.Pipeline.Value
public import Idealize.ShloMosaic.Lib.BitcastConvert
public import Idealize.ShloMosaic.Lib.WordCmp

@[expose] public section

set_option maxRecDepth 16384

noncomputable section

namespace Cert.Proof.RefVal

open Cert.ReferenceIdeal Cert.ReferenceIdeal.Gen
open Idealize.ShloMosaic Idealize.ShloMosaic.ValueIdx
open scoped BigOperators

/-- The reference's unpacked words: every word of a row as its two bf16 halves. -/
def halves (x : S333824x128.Idx → BitVec 32) : S41728x1024x2.Idx → EReal :=
  extf (F := Ideal) .f32 (bitcastToFloat (F := Ideal) .bf16 (Host.bitcastConvertNarrow S41728x1024x2 16 (shapeCast S41728x1024 x shapeCasts_S333824x128_S41728x1024) splits_S41728x1024_w32_S41728x1024x2_w16)) bitsLt_bf16_f32

/-- The reference's rows: the low halves, then the high ones. -/
def rows (x : S333824x128.Idx → BitVec 32) : S41728x2048.Idx → EReal :=
  concatenate S41728x2048 1 [⟨S41728x1024, (shapeCast S41728x1024 (extractStridedSlice S41728x1024x1 ![0, 0, 0] (halves x) slices_S41728x1024x2_S41728x1024x1_0_0_0) shapeCasts_S41728x1024x1_S41728x1024)⟩,
    ⟨S41728x1024, (shapeCast S41728x1024 (extractStridedSlice S41728x1024x1 ![0, 0, 1] (halves x) slices_S41728x1024x2_S41728x1024x1_0_0_1) shapeCasts_S41728x1024x1_S41728x1024)⟩] concatenates_S41728x1024_S41728x1024_S41728x2048_d1

theorem halves_apply (x : S333824x128.Idx → BitVec 32) (r : Fin 41728) (k : Fin 1024) (q : Fin 2) :
    halves x (ix3 r k q) = FloatOps.ofBits (F := Ideal) .bf16
      ((x (ix2 ⟨8 * r.val + k.val / 128, by omega⟩ ⟨k.val % 128, Nat.mod_lt _ (by decide)⟩)).extractLsb' (q.val * 16) 16) := by
  show FloatOps.ofBits (F := Ideal) .bf16 ((shapeCast S41728x1024 x shapeCasts_S333824x128_S41728x1024 (splits_S41728x1024_w32_S41728x1024x2_w16.drop (ix3 r k q))).extractLsb' (q.val * 16) 16) = _
  refine congrArg (fun z : BitVec 32 => FloatOps.ofBits (F := Ideal) .bf16 (z.extractLsb' (q.val * 16) 16)) ?_
  refine shapeCast_apply x _ _ _ ?_
  rw [Shape.rowMajor_val_two, Shape.rowMajor_val_two]
  show (8 * r.val + k.val / 128) * 128 + k.val % 128 = r.val * 1024 + k.val
  omega

theorem rows_apply (x : S333824x128.Idx → BitVec 32) (r : Fin 41728) (k : Fin 2048) : rows x (ix2 r k) = Spec.row x r k := by
  unfold rows Spec.row
  by_cases hk : k.val < 1024
  · refine (concatenate_pair_apply_left (s₁ := S41728x1024) (s₂ := S41728x1024) (t := S41728x2048) 1 _ _ _ (ix2 r k) rfl (ix2 r ⟨k.val, hk⟩) ?_).trans ?_
    · intro b; match b with
      | ⟨0, _⟩ => rfl
      | ⟨1, _⟩ => rfl
    refine (shapeCast_apply _ _ _ (ix3 r ⟨k.val, hk⟩ 0) ?_).trans ?_
    · rw [Shape.rowMajor_val_two, Shape.rowMajor_val_three]
      show (r.val * 1024 + k.val) * 1 + 0 = r.val * 1024 + k.val
      omega
    refine (extractStridedSlice_apply _ _ _ _ (ix3 r ⟨k.val, hk⟩ 0) ?_).trans ?_
    · intro b; match b with
      | ⟨0, _⟩ => exact (Nat.zero_add _).symm
      | ⟨1, _⟩ => exact (Nat.zero_add _).symm
      | ⟨2, _⟩ => rfl
    rw [halves_apply]
    have h1 : k.val / 128 % 8 = k.val / 128 := by omega
    have h2 : k.val / 1024 = 0 := by omega
    simp only [h1, h2]
    rfl
  · refine (concatenate_pair_apply_right (s₁ := S41728x1024) (s₂ := S41728x1024) (t := S41728x2048) 1 _ _ _ (ix2 r k) rfl rfl (ix2 r ⟨k.val - 1024, by omega⟩) ?_ ?_).trans ?_
    · intro b hb; match b, hb with
      | ⟨0, _⟩, _ => rfl
      | ⟨1, _⟩, hb => exact absurd rfl hb
    · show k.val - 1024 + 1024 = k.val
      omega
    refine (shapeCast_apply _ _ _ (ix3 r ⟨k.val - 1024, by omega⟩ 0) ?_).trans ?_
    · rw [Shape.rowMajor_val_two, Shape.rowMajor_val_three]
      show (r.val * 1024 + (k.val - 1024)) * 1 + 0 = r.val * 1024 + (k.val - 1024)
      omega
    refine (extractStridedSlice_apply _ _ _ _ (ix3 r ⟨k.val - 1024, by omega⟩ 1) ?_).trans ?_
    · intro b; match b with
      | ⟨0, _⟩ => exact (Nat.zero_add _).symm
      | ⟨1, _⟩ => exact (Nat.zero_add _).symm
      | ⟨2, _⟩ => rfl
    rw [halves_apply]
    have h1 : (k.val - 1024) / 128 = k.val / 128 % 8 := by omega
    have h2 : k.val / 1024 = 1 := by omega
    have h3 : (k.val - 1024) % 128 = k.val % 128 := by omega
    simp only [h1, h2, h3]
    rfl

/-- The reference's expert of every row, −1 past the active tiles. -/
def expert (a0 : S163.Idx → BitVec 32) (a1 : S1.Idx → BitVec 32) : S41728.Idx → BitVec 32 :=
  select (cmpi .slt (iotaInDim S41728 32 0) (broadcastInDim S41728 ![0] bcast_S1_S41728_0 (muli a1 (broadcastInDim S1 ![] bcast_S_S1 (constantI S_ 32 256#32)))))
    (shapeCast S41728 (broadcastInDim S163x256 ![0, 1] bcast_S163x1_S163x256_0_1 (broadcastInDim S163x1 ![0] bcast_S163_S163x1_0 a0)) shapeCasts_S163x256_S41728)
    (broadcastInDim S41728 ![] bcast_S_S41728 (id (constantI S_ 32 4294967295#32)))

theorem expert_apply (a0 : S163.Idx → BitVec 32) (a1 : S1.Idx → BitVec 32) (h1 : 1 ≤ (a1 (ix1 0)).toInt) (h2 : (a1 (ix1 0)).toInt ≤ 163) (r : Fin 41728) :
    expert a0 a1 (ix1 r) = if ((r.val / 256 : ℕ) : ℤ) < (a1 (ix1 0)).toInt then a0 (ix1 ⟨r.val / 256, by omega⟩) else 4294967295#32 := by
  have e1 : broadcastInDim S41728 ![0] bcast_S1_S41728_0 (muli a1 (broadcastInDim S1 ![] bcast_S_S1 (constantI S_ 32 256#32))) (ix1 r) = a1 (ix1 0) * 256#32 := by
    refine (broadcastInDim_apply _ _ _ _ (ix1 0) ?_).trans rfl
    intro b; match b with
    | ⟨0, _⟩ => rfl
  have e2 : shapeCast S41728 (broadcastInDim S163x256 ![0, 1] bcast_S163x1_S163x256_0_1 (broadcastInDim S163x1 ![0] bcast_S163_S163x1_0 a0)) shapeCasts_S163x256_S41728 (ix1 r)
      = a0 (ix1 ⟨r.val / 256, by omega⟩) := by
    refine (shapeCast_apply _ _ _ (ix2 ⟨r.val / 256, by omega⟩ ⟨r.val % 256, Nat.mod_lt _ (by decide)⟩) ?_).trans ?_
    · rw [Shape.rowMajor_val_two, Shape.rowMajor_val_one]
      show r.val / 256 * 256 + r.val % 256 = r.val
      omega
    refine (broadcastInDim_apply _ _ _ _ (ix2 ⟨r.val / 256, by omega⟩ 0) ?_).trans ?_
    · intro b; match b with
      | ⟨0, _⟩ => rfl
      | ⟨1, _⟩ => rfl
    refine (broadcastInDim_apply _ _ _ _ (ix1 ⟨r.val / 256, by omega⟩) ?_)
    intro b; match b with
    | ⟨0, _⟩ => rfl
  have hn : (a1 (ix1 0) * 256#32).toInt = (a1 (ix1 0)).toInt * 256 := by
    have h := BitVec.toInt_eq_toNat_cond (a1 (ix1 0))
    have hl := (a1 (ix1 0)).isLt
    have hv : (a1 (ix1 0)).toNat ≤ 163 ∧ ((a1 (ix1 0)).toNat : ℤ) = (a1 (ix1 0)).toInt := by split at h <;> omega
    have hm : (a1 (ix1 0) * 256#32).toNat = (a1 (ix1 0)).toNat * 256 := by
      rw [BitVec.toNat_mul]
      show (a1 (ix1 0)).toNat * 256 % 2 ^ 32 = _
      omega
    rw [BitVec.toInt_eq_toNat_of_lt (by omega), hm]
    omega
  have hr : (BitVec.ofNat 32 r.val).toInt = (r.val : ℤ) := by
    have := r.isLt
    rw [BitVec.toInt_eq_toNat_of_lt (by rw [BitVec.toNat_ofNat]; omega), BitVec.toNat_ofNat]; omega
  unfold expert
  show (if IntOp.cmpi .slt (BitVec.ofNat 32 r.val) _ = 1#1 then _ else 4294967295#32) = _
  rw [e1, e2]
  have hc : IntOp.cmpi .slt (BitVec.ofNat 32 r.val) (a1 (ix1 0) * 256#32) = 1#1 ↔ ((r.val / 256 : ℕ) : ℤ) < (a1 (ix1 0)).toInt := by
    rw [IntOp.cmpi_slt, hn, hr]; omega
  simp only [hc]

/-- The reference's mask: an expert's slice keeps the rows whose expert it is. -/
def mask (E : S41728.Idx → BitVec 32) : S32x41728x2048.Idx → BitVec 1 :=
  broadcastInDim S32x41728x2048 ![0, 1, 2] bcast_S32x41728x1_S32x41728x2048_0_1_2 (broadcastInDim S32x41728x1 ![0, 1] bcast_S32x41728_S32x41728x1_0_1
    (cmpi .eq (broadcastInDim S32x41728 ![0, 1] bcast_S32x1_S32x41728_0_1 (broadcastInDim S32x1 ![0] bcast_S32_S32x1_0 (iotaInDim S32 32 0)))
      (broadcastInDim S32x41728 ![0, 1] bcast_S1x41728_S32x41728_0_1 (broadcastInDim S1x41728 ![1] bcast_S41728_S1x41728_1 E))))

theorem mask_apply (E : S41728.Idx → BitVec 32) (e : Fin 32) (r : Fin 41728) (c : Fin 2048) :
    mask E (ix3 e r c) = IntOp.cmpi .eq (BitVec.ofNat 32 e.val) (E (ix1 r)) := by
  unfold mask
  refine (broadcastInDim_apply _ _ _ _ (ix3 e r 0) ?_).trans ?_
  · intro b; match b with
    | ⟨0, _⟩ => rfl
    | ⟨1, _⟩ => rfl
    | ⟨2, _⟩ => rfl
  refine (broadcastInDim_apply _ _ _ _ (ix2 e r) ?_).trans ?_
  · intro b; match b with
    | ⟨0, _⟩ => rfl
    | ⟨1, _⟩ => rfl
  show IntOp.cmpi .eq _ _ = _
  have e1 : broadcastInDim S32x41728 ![0, 1] bcast_S32x1_S32x41728_0_1 (broadcastInDim S32x1 ![0] bcast_S32_S32x1_0 (iotaInDim S32 32 0)) (ix2 e r) = BitVec.ofNat 32 e.val := by
    refine (broadcastInDim_apply _ _ _ _ (ix2 e 0) ?_).trans ?_
    · intro b; match b with
      | ⟨0, _⟩ => rfl
      | ⟨1, _⟩ => rfl
    refine (broadcastInDim_apply _ _ _ _ (ix1 e) ?_).trans rfl
    intro b; match b with
    | ⟨0, _⟩ => rfl
  have e2 : broadcastInDim S32x41728 ![0, 1] bcast_S1x41728_S32x41728_0_1 (broadcastInDim S1x41728 ![1] bcast_S41728_S1x41728_1 E) (ix2 e r) = E (ix1 r) := by
    refine (broadcastInDim_apply _ _ _ _ (ix2 0 r) ?_).trans ?_
    · intro b; match b with
      | ⟨0, _⟩ => rfl
      | ⟨1, _⟩ => rfl
    refine (broadcastInDim_apply _ _ _ _ (ix1 r) ?_).trans rfl
    intro b; match b with
    | ⟨0, _⟩ => rfl
  rw [e1, e2]

end Cert.Proof.RefVal

end
-- ==== Proof.ValueDots.lean ====
module

public import proofs.«01_k».proof.Proof.Gen.ReferenceIdeal
public import Idealize.ShloMosaic.Lib.ValueIdxCore
public import Idealize.ShloMosaic.Lib.Pointwise.Contract
public import Idealize.ShloMosaic.Lib.Pointwise.ElementwiseCore

@[expose] public section

set_option maxRecDepth 16384

noncomputable section

namespace Cert.Proof.RefVal

open Cert.ReferenceIdeal Cert.ReferenceIdeal.Gen
open Idealize.ShloMosaic
open scoped BigOperators

/-- The reference's gate and up products at an index: a row against an expert's column. -/
theorem dot_in (X : S41728x2048.Idx → EReal) (W : S32x2048x256.Idx → EReal) (r : Fin 41728) (e : Fin 32) (j : Fin 256) :
    Host.dotGeneral (F := Ideal) (φ₁ := .f32) (φ₂ := .f32) dot_S41728x2048_S32x2048x256_S41728x32x256_1_1_0_02_n_n none X W (ValueIdx.ix3 r e j)
      = ∑ k : Fin 2048, X (ValueIdx.ix2 r k) * W (ValueIdx.ix3 e k j) := by
  simp only [pointwise]
  exact zero_add _

/-- The reference's down product at an index. -/
theorem dot_out (H : S41728x32x256.Idx → EReal) (W : S32x256x2048.Idx → EReal) (e : Fin 32) (r : Fin 41728) (c : Fin 2048) :
    Host.dotGeneral (F := Ideal) (φ₁ := .f32) (φ₂ := .f32) dot_S41728x32x256_S32x256x2048_S32x41728x2048_2_1_0_2_1_0 none H W (ValueIdx.ix3 e r c)
      = ∑ j : Fin 256, H (ValueIdx.ix3 r e j) * W (ValueIdx.ix3 e j c) := by
  simp only [pointwise]
  exact zero_add _

end Cert.Proof.RefVal

end
-- ==== Proof.ValueReference.lean ====
module

public import proofs.«01_k».proof.Proof.ValueRows
public import proofs.«01_k».proof.Proof.ValueDots
public import proofs.«01_k».proof.Proof.Gen.ReferenceIdeal.Run
public import Idealize.ShloMosaic.Lib.IdealHost

@[expose] public section

set_option maxRecDepth 16384

noncomputable section

namespace Cert.Proof.RefVal

open Cert.ReferenceIdeal Cert.ReferenceIdeal.Gen
open Idealize.ShloMosaic Idealize.ShloMosaic.TcCoe
open scoped BigOperators

/-- The reference's gate or up product of every row with every expert. -/
def up (X : S41728x2048.Idx → EReal) (W : S32x2048x256.Idx → EReal) : S41728x32x256.Idx → EReal :=
  Host.dotGeneral (F := Ideal) (φ₁ := .f32) (φ₂ := .f32) dot_S41728x2048_S32x2048x256_S41728x32x256_1_1_0_02_n_n none X W

/-- The reference's gated hidden units. -/
def hidden (X : S41728x2048.Idx → EReal) (W₁ W₂ : S32x2048x256.Idx → EReal) : S41728x32x256.Idx → EReal :=
  mulf (F := Ideal) (φ := .f32) (mulf (F := Ideal) (φ := .f32) (up X W₁) (Host.divf (F := Ideal) (φ := .f32) (broadcastInDim S41728x32x256 ![] bcast_S_S41728x32x256 (constant (F := Ideal) S_ .f32 0x3F800000#32))
    (addf (F := Ideal) (φ := .f32) (broadcastInDim S41728x32x256 ![] bcast_S_S41728x32x256 (constant (F := Ideal) S_ .f32 0x3F800000#32)) (Host.exp (F := Ideal) (φ := .f32) (Host.negf (F := Ideal) (φ := .f32) (up X W₁)))))) (up X W₂)

theorem hidden_apply (x : S333824x128.Idx → BitVec 32) (W₁ W₂ : S32x2048x256.Idx → EReal) (r : Fin 41728) (e : Fin 32) (j : Fin 256) :
    hidden (rows x) W₁ W₂ (ValueIdx.ix3 r e j) = Spec.hid (Spec.row x r) (fun k j => W₁ (ValueIdx.ix3 e k j)) (fun k j => W₂ (ValueIdx.ix3 e k j)) j := by
  have h (W : S32x2048x256.Idx → EReal) : up (rows x) W (ValueIdx.ix3 r e j) = ∑ k : Fin 2048, Spec.row x r k * W (ValueIdx.ix3 e k j) := by
    refine (dot_in (rows x) W r e j).trans (Finset.sum_congr rfl fun k _ => ?_)
    rw [rows_apply]
  unfold Spec.hid
  rw [← h W₁, ← h W₂]
  unfold hidden
  show up (rows x) W₁ (ValueIdx.ix3 r e j) * Ideal.div (Ideal.ofBits .f32 0x3F800000#32) (Ideal.ofBits .f32 0x3F800000#32 + Ideal.exp (-(up (rows x) W₁ (ValueIdx.ix3 r e j)))) * _ = _
  rw [Ideal.ofBits_one_f32]
  rfl

/-- The reference's result, by its parts. -/
def result (X : S41728x2048.Idx → EReal) (E : S41728.Idx → BitVec 32) (W₁ W₂ : S32x2048x256.Idx → EReal) (W₃ : S32x256x2048.Idx → EReal) : S41728x2048.Idx → EReal :=
  Host.reduceAdd (F := Ideal) (φ := .f32) (select (mask E)
    (Host.dotGeneral (F := Ideal) (φ₁ := .f32) (φ₂ := .f32) dot_S41728x32x256_S32x256x2048_S32x41728x2048_2_1_0_2_1_0 none (hidden X W₁ W₂) W₃)
    (broadcastInDim S32x41728x2048 ![] bcast_S_S32x41728x2048 (id (constant (F := Ideal) S_ .f32 0x00000000#32)))) (constant (F := Ideal) S_ .f32 0x00000000#32) reducesTo_S32x41728x2048_S41728x2048_d0 h_S_

theorem res_eq (m : (ℓ : Loc nD τ sig) → Buf (Elt Ideal) ℓ) (c : Dev nD) :
    Value.res_main_v30 (F := Ideal) m c = result (rows (m ((c.tc : Thread nD τ).loc main_arg2))) (expert (m ((c.tc : Thread nD τ).loc main_arg0)) (m ((c.tc : Thread nD τ).loc main_arg1)))
      (m ((c.tc : Thread nD τ).loc main_arg3)) (m ((c.tc : Thread nD τ).loc main_arg4)) (m ((c.tc : Thread nD τ).loc main_arg5)) := by
  unfold Value.res_main_v30 result hidden up rows halves expert mask
  rfl

/-- The summand of expert `e` at a row and column. -/
theorem part_apply (x : S333824x128.Idx → BitVec 32) (E : S41728.Idx → BitVec 32) (W₁ W₂ : S32x2048x256.Idx → EReal) (W₃ : S32x256x2048.Idx → EReal) (e : Fin 32) (r : Fin 41728) (c : Fin 2048) :
    select (mask E) (Host.dotGeneral (F := Ideal) (φ₁ := .f32) (φ₂ := .f32) dot_S41728x32x256_S32x256x2048_S32x41728x2048_2_1_0_2_1_0 none (hidden (rows x) W₁ W₂) W₃)
      (broadcastInDim S32x41728x2048 ![] bcast_S_S32x41728x2048 (id (constant (F := Ideal) S_ .f32 0x00000000#32))) (ValueIdx.ix3 e r c)
    = if BitVec.ofNat 32 e.val = E (ValueIdx.ix1 r) then Spec.ffn (Spec.row x r) (fun k j => W₁ (ValueIdx.ix3 e k j)) (fun k j => W₂ (ValueIdx.ix3 e k j)) (fun j c => W₃ (ValueIdx.ix3 e j c)) c else 0 := by
  show (if mask E (ValueIdx.ix3 e r c) = 1 then _ else _) = _
  rw [mask_apply]
  have hz : broadcastInDim S32x41728x2048 ![] bcast_S_S32x41728x2048 (id (constant (F := Ideal) S_ .f32 0x00000000#32)) (ValueIdx.ix3 e r c) = (0 : EReal) := Ideal.ofBits_zero_f32
  rw [hz, dot_out]
  have hh : ∑ j : Fin 256, hidden (rows x) W₁ W₂ (ValueIdx.ix3 r e j) * W₃ (ValueIdx.ix3 e j c)
      = Spec.ffn (Spec.row x r) (fun k j => W₁ (ValueIdx.ix3 e k j)) (fun k j => W₂ (ValueIdx.ix3 e k j)) (fun j c => W₃ (ValueIdx.ix3 e j c)) c := by
    unfold Spec.ffn
    refine Finset.sum_congr rfl fun j _ => ?_
    rw [hidden_apply]
  rw [hh]
  have hc : IntOp.cmpi .eq (BitVec.ofNat 32 e.val) (E (ValueIdx.ix1 r)) = 1 ↔ BitVec.ofNat 32 e.val = E (ValueIdx.ix1 r) := IntOp.cmpi_eq
  simp only [hc]

/-- The reference's result at a row and column, for tables within range. -/
theorem result_apply (a0 : S163.Idx → BitVec 32) (a1 : S1.Idx → BitVec 32) (x : S333824x128.Idx → BitVec 32) (W₁ W₂ : S32x2048x256.Idx → EReal) (W₃ : S32x256x2048.Idx → EReal)
    (hE : ∀ i, 0 ≤ (a0 i).toInt ∧ (a0 i).toInt < 32) (hN : ∀ i, 1 ≤ (a1 i).toInt ∧ (a1 i).toInt ≤ 163) (i : S41728x2048.Idx) :
    result (rows x) (expert a0 a1) W₁ W₂ W₃ i = Spec.out a0 a1 x W₁ W₂ W₃ (i 0) (i 1) := by
  have hred : S32x41728x2048.Reduces [0] S41728x2048 := by decide
  refine (Ideal.hostReduceAdd_single reducesTo_S32x41728x2048_S41728x2048_d0 hred _ (Ideal.ofBits .f32 0x00000000#32) i).trans ?_
  rw [Ideal.ofBits_zero_f32, zero_add]
  have hl (e : Fin 32) : hred.lift i e = ValueIdx.ix3 e (i 0) (i 1) := by
    funext b
    match b with
    | ⟨0, _⟩ => rfl
    | ⟨1, _⟩ => rfl
    | ⟨2, _⟩ => rfl
  refine (Finset.sum_congr rfl fun e _ => (congrArg _ (hl e)).trans (part_apply x (expert a0 a1) W₁ W₂ W₃ e (i 0) (i 1))).trans ?_
  show ∑ e : Fin 32, _ = _
  have hx := expert_apply a0 a1 (hN _).1 (hN _).2 (i 0)
  rw [hx]
  unfold Spec.out
  have hr : (i 0).val < 41728 := (i 0).isLt
  by_cases h : (((i 0).val / 256 : ℕ) : ℤ) < (a1 (ValueIdx.ix1 0)).toInt
  · simp only [if_pos h]
    obtain ⟨l, u⟩ := hE (ValueIdx.ix1 ⟨(i 0).val / 256, by omega⟩)
    have hv : (a0 (ValueIdx.ix1 ⟨(i 0).val / 256, by omega⟩)).toNat < 32 := by
      have h := BitVec.toInt_eq_toNat_cond (a0 (ValueIdx.ix1 ⟨(i 0).val / 256, by omega⟩))
      have := (a0 (ValueIdx.ix1 ⟨(i 0).val / 256, by omega⟩)).isLt
      split at h <;> omega
    have he (e : Fin 32) : BitVec.ofNat 32 e.val = a0 (ValueIdx.ix1 ⟨(i 0).val / 256, by omega⟩) ↔ e = Spec.exp a0 ⟨(i 0).val / 256, by omega⟩ := by
      rw [← BitVec.toNat_inj, BitVec.toNat_ofNat, Fin.ext_iff]
      show e.val % 2 ^ 32 = _ ↔ e.val = (a0 (ValueIdx.ix1 ⟨(i 0).val / 256, _⟩)).toNat % 32
      have := e.isLt
      rw [Nat.mod_eq_of_lt hv, Nat.mod_eq_of_lt (by omega)]
    simp only [he]
    rw [Finset.sum_ite_eq' Finset.univ, if_pos (Finset.mem_univ _)]
  · simp only [if_neg h]
    refine Finset.sum_eq_zero fun e _ => if_neg fun hh => ?_
    have := congrArg BitVec.toNat hh
    rw [BitVec.toNat_ofNat] at this
    have := e.isLt
    have h3 : (4294967295#32).toNat = 4294967295 := rfl
    omega

end Cert.Proof.RefVal

end
-- ==== Proof.Value.lean ====
module

public import proofs.«01_k».proof.Defs
public import proofs.«01_k».proof.Proof.ValueKernel
public import proofs.«01_k».proof.Proof.ValueReference

@[expose] public section

set_option maxRecDepth 16384

noncomputable section

namespace Cert.Proof

open Idealize.ShloMosaic Idealize.SL.Sem

/-- The kernel at the extended reals and the reference leave the same result, from equal arguments whose tables are
    within range: both leave `Spec.out`. -/
theorem value : Cert.algebraic_ExpertsIdeal_ReferenceIdeal := fun m g m' g' hpre heq => by
  have hok := IBody.ok_of_pre m hpre
  have hr := Routed.range _ _ _ _ _ _ (hpre 0)
  refine ⟨fun c => IBody.o1 m hok c, (θ_run _ _ _).mono (fun _ h => h.1) (IBody.run m hok g), (θ_run _ _ _).mono (fun r h c => ?_) (Cert.ReferenceIdeal.Value.run m' g')⟩
  obtain ⟨h30, hargs⟩ := h c
  refine ⟨h30.trans ?_, hargs⟩
  have hc : c = 0 := Subsingleton.elim (α := Fin 1) c 0
  subst hc
  obtain ⟨e0, e1, e2, e3, e4, e5⟩ := heq 0
  refine (RefVal.res_eq m' 0).trans ?_
  rw [e0, e1, e2, e3, e4, e5]
  funext i
  exact (RefVal.result_apply _ _ _ _ _ _ hr.1 hr.2 i).trans (IBody.o1_out m hok 0 hr.1 hr.2 i).symm

end Cert.Proof

end
-- ==== Proof.ProjIdealBase.lean ====
module

public import proofs.«01_k».proof.Proof.Gen.ProjectionsIdeal.Launch
public import proofs.«01_k».proof.Proof.Gen.ProjectionsIdeal.Skeleton
public import proofs.«01_k».proof.Proof.Gen.ProjectionsIdeal.Regions
public import Idealize.ShloMosaic.Lib.Pipeline.RegionsLoop
public import Idealize.ShloMosaic.Lib.Pipeline.Kit
public import Idealize.ShloMosaic.Lib.Tactic
public import Idealize.ShloMosaic.Lib.Pipeline.Value
public import Idealize.ShloMosaic.Lib.VecWindow

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

/-- The resource algebra of the launch: one copy of the pipelines' algebra. -/
abbrev UU : Type := UR sig nD τ × Counters

local notation "𝕄" => MT nD τ sig Unit (Elt F) ℕ UU ℕ

/-- A memref's buffer on core `c`: the type of its contents. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

abbrev 𝒱₀ : Variants := Variants.none
/-- No core owes another anything. -/
abbrev L : GSem nD τ sig → Finset Unit := fun _ => ∅
abbrev lv : GSem nD τ sig → Unit → ℕ := fun _ _ => 0
/-- A core owes nothing. -/
abbrev owing (c : Dev nD) : sProp 𝕄 := iprop(∃ W, owes (c : Thread nD τ) (0 : CellTallies nD τ sig Unit) W)

/-- A store over the whole of a buffer leaves its payload. -/
theorem read_full {sp : Space} {S : Shape} {e : EltTy} (v : View sig .tc sp S e) (f : v.ty.Contents (Elt F)) (off : Fin S.rank → ℕ)
    (h0 : off = fun _ => 0) (inb : ∀ a, off a + S.size a ≤ S.size a) (w : S.Idx → Elt F e) :
    v.read (Elt F) (v.writes (Elt F) f [⟨Rect.unit off S.size inb, w⟩]) = w := by
  subst h0
  exact View.read_writes_whole v f w

/-- A load of the whole of a buffer is what it reads. -/
theorem load_full {sp : Space} {S : Shape} {e : EltTy} (v : View sig .tc sp S e) (f : v.ty.Contents (Elt F)) (off : Fin S.rank → ℕ)
    (h0 : off = fun _ => 0) (inb : ∀ a, off a + S.size a ≤ S.size a) :
    v.readAt (Elt F) (Rect.unit off S.size inb).toLoadRect f = v.read (Elt F) f :=
  View.readAt_full v f inb

theorem z2 : (![0, 0] : Fin 2 → ℕ) = fun _ => 0 := by decide

/-- A staging buffer owned at a block is its memref's buffer held at contents reading as the block. -/
theorem owned (c : Dev nD) {sp : Space} {S : Shape} {e : EltTy} (M : Memref sig .tc sp S e) (hM : M.IsWhole) (X Y : S.Idx → Elt F e) (h : X = Y) :
    (owns (c : Thread nD τ) M fullShare X : sProp 𝕄) ⊢ iprop(∃ f : Bf (F := F) c M, ⌜M.view.read (Elt F) f = Y⌝ ∗ pt c M f) := by
  subst h; unfold owns; rw [hM.set_eq_univ]
theorem disown (c : Dev nD) {sp : Space} {S : Shape} {e : EltTy} (M : Memref sig .tc sp S e) (hM : M.IsWhole) (X Y : S.Idx → Elt F e) (h : X = Y) :
    iprop(∃ f : Bf (F := F) c M, ⌜M.view.read (Elt F) f = Y⌝ ∗ pt c M f) ⊢ (owns (c : Thread nD τ) M fullShare X : sProp 𝕄) := by
  subst h; unfold owns; rw [hM.set_eq_univ]

/-! ## The blocks of the body -/

abbrev S2 (a b : ℕ) : Shape := ⟨2, ![a, b]⟩
theorem inb0 (a b : ℕ) : ∀ x, (![0, 0] : Fin 2 → ℕ) x + (S2 a b).size x ≤ (S2 a b).size x := fun x => by
  match x with
  | ⟨0, _⟩ => exact (Nat.zero_add _).le
  | ⟨1, _⟩ => exact (Nat.zero_add _).le
abbrev R0 (a b : ℕ) : Rect (S2 a b) := Rect.unit (s := S2 a b) ![0, 0] (S2 a b).size (inb0 a b)
abbrev Mr (a b : ℕ) (e : EltTy) : Type := Memref sig .tc .vmem (S2 a b) e
abbrev Ar (F : FTy → Type) [FloatOps F] (a b : ℕ) (e : EltTy) : Type := (S2 a b).Idx → Elt F e
abbrev own (c : Dev nD) {a b : ℕ} {e : EltTy} (M : Mr a b e) (X : Ar F a b e) : sProp 𝕄 := owns (c : Thread nD τ) M fullShare X

/-- The weights, cast into the scratch buffer. -/
def castB (b1 : BitVec 1) {k n : ℕ} (M : Mr k n .f32) (N : Mr k n .bf16) (h : 0 < (S2 k n).numel)
    (sN : (N.access (R0 k n)).Stores Finset.univ) (pay : Ar F k n .f32 → Ar F k n .bf16) : (K : Prog (TpuEff nD τ sig (Elt F) Λ₀ .tc) PUnit) → Prog (TpuEff nD τ sig (Elt F) Λ₀ .tc) PUnit := fun K => do
  if _h : b1 = 1#1 then do
    let v : Ar F k n .f32 ← Prog.lift (.load M (R0 k n).toLoadRect (View.loadsAt_vmem h))
    let _ : Ar F k n .bf16 ← Prog.lift (.load N (R0 k n).toLoadRect (View.loadsAt_vmem h))
    Prog.lift (.store N (R0 k n) (pay v) Finset.univ sN (.inl rfl))
    pure ⟨⟩
  else do
    pure ⟨⟩
  K

/-- Rows against the weights in the scratch buffer. -/
def prod2 (b : BitVec 1) {r k n : ℕ} {o : EltTy} (A : Mr r k .bf16) (N : Mr k n .bf16) (O : Mr r n o) (hA : 0 < (S2 r k).numel) (hN : 0 < (S2 k n).numel)
    (hO : 0 < (S2 r n).numel) (sO : (O.access (R0 r n)).Stores Finset.univ) (pay : Ar F r k .bf16 → Ar F k n .bf16 → Ar F r n o) : (K : Prog (TpuEff nD τ sig (Elt F) Λ₀ .tc) PUnit) → Prog (TpuEff nD τ sig (Elt F) Λ₀ .tc) PUnit := fun K => do
  if _h : b = 1#1 then do
    let v : Ar F r k .bf16 ← Prog.lift (.load A (R0 r k).toLoadRect (View.loadsAt_vmem hA))
    let w : Ar F k n .bf16 ← Prog.lift (.load N (R0 k n).toLoadRect (View.loadsAt_vmem hN))
    let _ : Ar F r n o ← Prog.lift (.load O (R0 r n).toLoadRect (View.loadsAt_vmem hO))
    Prog.lift (.store O (R0 r n) (pay v w) Finset.univ sO (.inl rfl))
    pure ⟨⟩
  else do
    pure ⟨⟩
  K
theorem run_cast (c : Dev nD) (b1 : BitVec 1) {k n : ℕ} (M : Mr k n .f32) (N : Mr k n .bf16) (h) (sN) (pay : Ar F k n .f32 → Ar F k n .bf16) (hM : M.IsWhole) (X : Ar F k n .f32) (g : Bf (F := F) c N)
    (hb : ¬ b1 = 1#1 → N.view.read (Elt F) g = pay X) (K : Prog (TpuEff nD τ sig (Elt F) Λ₀ .tc) PUnit) (E : Set ℕ) (Q : PUnit → sProp 𝕄) :
    iprop(own c M X ∗ pt c N g ∗ (iprop(own c M X ∗ (∃ g : Bf (F := F) c N, ⌜N.view.read (Elt F) g = pay X⌝ ∗ pt c N g)) -∗ wp frame (wpE (defs₀ (F := F)) 𝒱₀ c none) E K Q))
      ⊢ wp frame (wpE (defs₀ (F := F)) 𝒱₀ c none) E (castB b1 M N h sN pay K) Q := by
  iintro ⟨HM, HN, Hk⟩
  unfold castB
  by_cases e : b1 = 1#1
  · ihave HM' := (owned c M hM _ X rfl) $$ HM
    icases HM' with ⟨%f, %rf, HM⟩
    sl_exec! (disch := exact e)
    iapply Hk
    isplitl [HM]; · iapply (disown c M hM X X rfl); iexists f; isplitr; (· ipureintro; exact rf); iexact HM
    iexists _; isplitr; swap; · iexact HN
    ipureintro
    exact (read_full N.view _ _ z2 _ _).trans (congrArg pay ((load_full M.view f _ z2 _).trans rf))
  · sl_exec! (disch := exact e)
    iapply Hk
    isplitl [HM]; · iexact HM
    iexists g; isplitr; (· ipureintro; exact hb e); iexact HN

theorem run_prod2 (c : Dev nD) (b : BitVec 1) {r k n : ℕ} {o : EltTy} (A : Mr r k .bf16) (N : Mr k n .bf16) (O : Mr r n o) (hA) (hN) (hO) (sO) (pay : Ar F r k .bf16 → Ar F k n .bf16 → Ar F r n o)
    (wA : A.IsWhole) (wO : O.IsWhole) (X : Ar F r k .bf16) (W : Ar F k n .bf16) (Y : Ar F r n o) (g : Bf (F := F) c N) (hg : N.view.read (Elt F) g = W) (K : Prog (TpuEff nD τ sig (Elt F) Λ₀ .tc) PUnit) (E : Set ℕ) (Q : PUnit → sProp 𝕄) :
    iprop(own c A X ∗ pt c N g ∗ own c O Y ∗ (iprop(own c A X ∗ pt c N g ∗ own c O (if b = 1#1 then pay X W else Y)) -∗ wp frame (wpE (defs₀ (F := F)) 𝒱₀ c none) E K Q))
      ⊢ wp frame (wpE (defs₀ (F := F)) 𝒱₀ c none) E (prod2 b A N O hA hN hO sO pay K) Q := by
  iintro ⟨HA, HN, HO, Hk⟩
  unfold prod2
  by_cases e : b = 1#1
  · rw [if_pos e]
    ihave HA' := (owned c A wA _ X rfl) $$ HA
    icases HA' with ⟨%fA, %rA, HA⟩
    ihave HO' := (owned c O wO _ Y rfl) $$ HO
    icases HO' with ⟨%fO, -, HO⟩
    sl_exec! (disch := exact e)
    iapply Hk
    isplitl [HA]; · iapply (disown c A wA X X rfl); iexists fA; isplitr; (· ipureintro; exact rA); iexact HA
    isplitl [HN]; · iexact HN
    iapply (disown c O wO _ _ rfl); iexists _; isplitr; swap; · iexact HO
    ipureintro
    refine (read_full O.view _ _ z2 _ _).trans ?_
    rw [load_full A.view fA _ z2 _, load_full N.view g _ z2 _, rA, hg]
  · rw [if_neg e]
    sl_exec! (disch := exact e)
    iapply Hk
    isplitl [HA]; · iexact HA
    isplitl [HN]; · iexact HN
    iexact HO

/-! ## A point's obligation -/

/-- What a point leaves in a window of results: the new block, or, where it keeps the block, what it found. -/
abbrev left {D α : Type} (i f : Bool) (P : α → sProp 𝕄) (B : D → α) (Z : α) : sProp 𝕄 :=
  match i with
  | true => match f with
    | false => iprop(∃ d, P (B d))
    | true => P Z
  | false => P Z
theorem left_of {D α : Type} (b : BitVec 1) (i f : Bool) (P : α → sProp 𝕄) (B : D → α) (Z : α) (d : D) (hi : b = 1#1 → i = false)
    (hk : ¬ b = 1#1 → i = true ∧ (f = true → ∀ d, B d = Z)) : P (if b = 1#1 then Z else B d) ⊢ left i f P B Z := by
  by_cases e : b = 1#1
  · rw [if_pos e, hi e]
  · rw [if_neg e, (hk e).1]
    match f, (hk e).2 with
    | false, _ => iintro H; iexists d; iexact H
    | true, h => rw [h rfl d]

/-- A window of results is kept where the body does not store it. -/
theorem idle_of (b : BitVec 1) (h : b = 1#1) : (!(b == 1#1)) = false := by rw [h]; rfl
theorem idle_not (b : BitVec 1) (h : ¬ b = 1#1) : (!(b == 1#1)) = true := by rw [beq_false_of_ne h]; rfl

/-- The scratch buffer held at any contents, and held at contents of which something is known. -/
theorem scr_in (c : Dev nD) {S : Shape} {e : EltTy} (N : Memref sig .tc .vmem S e) (P : Bf (F := F) c N → Prop) {R : sProp 𝕄} (h : ∀ g, P g) :
    iprop((∃ g : Bf (F := F) c N, pt c N g) ∗ R) ⊢ iprop((∃ g : Bf (F := F) c N, ⌜P g⌝ ∗ pt c N g) ∗ R) := by
  iintro ⟨⟨%g, Hs⟩, HR⟩
  isplitl [Hs]; · iexists g; isplitr; (· ipureintro; exact h g); iexact Hs
  iexact HR
theorem scr_out (c : Dev nD) {S : Shape} {e : EltTy} (N : Memref sig .tc .vmem S e) (P : Bf (F := F) c N → Prop) {R : sProp 𝕄} :
    iprop((∃ g : Bf (F := F) c N, ⌜P g⌝ ∗ pt c N g) ∗ R) ⊢ iprop((∃ g : Bf (F := F) c N, pt c N g) ∗ R) := by
  iintro ⟨⟨%g, -, Hs⟩, HR⟩
  isplitl [Hs]; · iexists g; iexact Hs
  iexact HR

set_option maxHeartbeats 1000000 in
/-- The body at a point: from the blocks a point is given to what it leaves. -/
theorem obl2 (c : Dev nD) (b1 b2 b3 : BitVec 1) {r1 r2 k n : ℕ} {o : EltTy} (A1 : Mr r1 k .bf16) (A2 : Mr r2 k .bf16) (W : Mr k n .f32) (O1 : Mr r1 n o) (O2 : Mr r2 n o) (N : Mr k n .bf16)
    (hA1) (hA2) (hN) (hO1) (hO2) (sN) (sO1) (sO2) (p1 : Ar F k n .f32 → Ar F k n .bf16) (p2 : Ar F r1 k .bf16 → Ar F k n .bf16 → Ar F r1 n o) (p3 : Ar F r2 k .bf16 → Ar F k n .bf16 → Ar F r2 n o)
    (wA1 : A1.IsWhole) (wA2 : A2.IsWhole) (wW : W.IsWhole) (wO1 : O1.IsWhole) (wO2 : O2.IsWhole)
    {TA1 TA2 TW TO1 TO2 : Type} (BA1 : TA1 → Ar F r1 k .bf16) (BA2 : TA2 → Ar F r2 k .bf16) (BW : TW → Ar F k n .f32) (BO1 : TO1 → Ar F r1 n o) (BO2 : TO2 → Ar F r2 n o)
    (XA1) (XA2) (XW) (hA1x : ∀ d, BA1 d = XA1) (hA2x : ∀ d, BA2 d = XA2) (hWx : ∀ d, BW d = XW)
    (i1 f1 i2 f2 : Bool) (hi1 : b2 = 1#1 → i1 = false) (hk1 : ¬ b2 = 1#1 → i1 = true ∧ (f1 = true → ∀ d, BO1 d = p2 XA1 (p1 XW)))
    (hi2 : b3 = 1#1 → i2 = false) (hk2 : ¬ b3 = 1#1 → i2 = true ∧ (f2 = true → ∀ d, BO2 d = p3 XA2 (p1 XW)))
    (Pg Pg' : Bf (F := F) c N → Prop) (hg : ∀ g, Pg g → ¬ b1 = 1#1 → N.view.read (Elt F) g = p1 XW) (hg' : ∀ g, N.view.read (Elt F) g = p1 XW → Pg' g) (R H : sProp 𝕄) :
    iprop(((∃ g, ⌜Pg g⌝ ∗ pt c N g) ∗ R) ∗ H ∗ (∃ d, own c A1 (BA1 d)) ∗ (∃ d, own c A2 (BA2 d)) ∗ (∃ d, own c W (BW d)) ∗ (∃ d, own c O1 (BO1 d)) ∗ (∃ d, own c O2 (BO2 d)))
      ⊢ wp frame (wpE (defs₀ (F := F)) 𝒱₀ c none) Set.univ (castB b1 W N hN sN p1 (prod2 b2 A1 N O1 hA1 hN hO1 sO1 p2 (prod2 b3 A2 N O2 hA2 hN hO2 sO2 p3 (pure ⟨⟩))))
        (fun _ => iprop(((∃ g, ⌜Pg' g⌝ ∗ pt c N g) ∗ R) ∗ H ∗ own c A1 XA1 ∗ own c A2 XA2 ∗ own c W XW ∗ left i1 f1 (own c O1) BO1 (p2 XA1 (p1 XW)) ∗ left i2 f2 (own c O2) BO2 (p3 XA2 (p1 XW)))) := by
  obtain rfl : BA1 = fun _ => XA1 := funext hA1x
  obtain rfl : BA2 = fun _ => XA2 := funext hA2x
  obtain rfl : BW = fun _ => XW := funext hWx
  iintro ⟨⟨⟨%g, %hgg, Hs⟩, HR⟩, HH, ⟨%dA1, HA1⟩, ⟨%dA2, HA2⟩, ⟨%dW, HW⟩, ⟨%dO1, HO1⟩, ⟨%dO2, HO2⟩⟩
  iapply (run_cast c b1 W N hN sN p1 wW XW g (hg g hgg) _ Set.univ _)
  isplitl [HW]; · iexact HW
  isplitl [Hs]; · iexact Hs
  iintro ⟨HW, ⟨%g', %hr, Hs⟩⟩
  iapply (run_prod2 c b2 A1 N O1 hA1 hN hO1 sO1 p2 wA1 wO1 XA1 (p1 XW) (BO1 dO1) g' hr _ Set.univ _)
  isplitl [HA1]; · iexact HA1
  isplitl [Hs]; · iexact Hs
  isplitl [HO1]; · iexact HO1
  iintro ⟨HA1, Hs, HO1⟩
  iapply (run_prod2 c b3 A2 N O2 hA2 hN hO2 sO2 p3 wA2 wO2 XA2 (p1 XW) (BO2 dO2) g' hr _ Set.univ _)
  isplitl [HA2]; · iexact HA2
  isplitl [Hs]; · iexact Hs
  isplitl [HO2]; · iexact HO2
  iintro ⟨HA2, Hs, HO2⟩
  sl_step
  isplitl [Hs HR]
  · isplitl [Hs]; · iexists g'; isplitr; (· ipureintro; exact hg' g' hr); iexact Hs
    iexact HR
  isplitl [HH]; · iexact HH
  isplitl [HA1]; · iexact HA1
  isplitl [HA2]; · iexact HA2
  isplitl [HW]; · iexact HW
  isplitl [HO1]; · iapply (left_of b2 i1 f1 (own c O1) BO1 _ dO1 hi1 hk1); iexact HO1
  iapply (left_of b3 i2 f2 (own c O2) BO2 _ dO2 hi2 hk2); iexact HO2

/-- What a window that keeps its block finds at a point: what the point before left. -/
theorem left_over {cfg : Cfg sig Λ₀} {c : Dev nD} (D : Dat τ (Elt F) Unit ℕ UU ℕ cfg c) (w : Fin cfg.W) (t t' : Fin cfg.N) (ht : t'.val + 1 = t.val)
    (hfe : (cfg.win w).fetch t = false) (hx : (cfg.win w).index t = (cfg.win w).index t') (hid : cfg.idle w (cfg.grid.coords t') = false) (d) : D.before w t d = D.kept w t' d := by
  have h0 : t.val ≠ 0 := by omega
  have hfl : (cfg.win w).flush t' = false := by
    have hne : ¬ t'.val + 1 = cfg.N := fun e => absurd t.isLt (by rw [← ht, e]; exact lt_irrefl _)
    unfold Pipeline.Window.flush
    rw [decide_eq_false hne, decide_eq_false (fun ⟨hl, hn⟩ => hn (by rw [show (⟨t'.val + 1, hl⟩ : Fin cfg.N) = t from Fin.ext ht]; exact hx))]
    simp
  have e : (⟨t.val - 1, by omega⟩ : Fin cfg.N) = t' := Fin.ext (by show t.val - 1 = t'.val; omega)
  unfold Pipeline.Dat.before
  rw [if_neg (by rw [hfe]; exact Bool.false_ne_true), if_neg h0]
  dsimp only
  rw [e, hfl, if_neg Bool.false_ne_true, hid]

set_option backward.isDefEq.respectTransparency.types false in
/-- A call as an item of the program, from the buffers before it to the buffers after it: its arrays are whole distinct buffers,
    and it owes nothing. -/
def mkReg (pd : (p : Fin 8) → (c : Dev nD) → Dat τ (Elt F) Unit ℕ UU ℕ (cfgs p) c) (p : Fin 8)
    (lf : Pipeline.LaunchFacts (nD := nD) (τ := τ) cfgs p) (A B : Dev nD → Valuation τ sig (Elt F))
    (hq : ∀ c w, (pd p c).q w = fullShare) (hA : ∀ c w, (pd p c).A w = A c (Pipeline.arrRef (cfgs p).spec w))
    (ho : ∀ c t, (pd p c).owed t = 0) (hr : ∀ c, (pd p c).recorded 0 = Set.univ)
    (hbody : ∀ c, BodyObligation (pd p c) (defs₀ (F := F)) 𝒱₀ () Set.univ)
    (hin : ∀ c, (Pipeline.scopedRest (Ix := Unit) (Name := ℕ) (U := UU) (Lvl := ℕ) (Val := Elt F) (cfgs p).spec c : sProp 𝕄) ⊢ (pd p c).Φ 0)
    (hout : ∀ c, (pd p c).Φ (Fin.last _) ⊢ (Pipeline.scopedRest (Ix := Unit) (Name := ℕ) (U := UU) (Lvl := ℕ) (Val := Elt F) (cfgs p).spec c : sProp 𝕄))
    (hB : ∀ c w, (pd p c).arrAt w (cfgs p).N = B c (Pipeline.arrRef (cfgs p).spec w))
    (hrest : ∀ c b, b ∉ Finset.univ.image (Pipeline.arrRef (cfgs p).spec) → B c b = A c b) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(unscopedBufs c (fun b => A c b) ∗ owing c)
  post c := iprop(unscopedBufs c (fun b => B c b) ∗ owing c)
  X _ := BI.emp
  Y _ := BI.emp
  Z c := Pipeline.unscopedRest (Ix := Unit) (Name := ℕ) (U := UU) (Lvl := ℕ) (cfgs p).spec c (fun b => A c b)
  hentry c := by
    rw [Pipeline.ownSems0_none]
    have hsplit := Pipeline.arrays_of_unscopedBufs (p := p) (pcfgs (F := F)) adm pd lf.win lf.arr_whole c
      ((pd p c).share_full (hq c)) (fun b => A c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (by rw [hr c]; trivial)
      iexact HO
    isplitr; · iempintro
    iexact Hrest
  hin c := by
    iintro ⟨-, -, Hr⟩
    iapply (hin c); iexact Hr
  hout c := by
    rw [Pipeline.ownSems0_none]
    iintro Hr
    isplitr; · iempintro
    isplitr; · iempintro
    iapply (hout c); iexact Hr
  hexit c := by
    have hjoin := Pipeline.unscopedBufs_of_arrays (p := p) (pcfgs (F := F)) adm (Ix := Unit) (Name := ℕ) (U := UU) (Lvl := ℕ) lf.win lf.arr_whole c
      pd ((pd p c).share_full (hq c)) (fun b => A c b) (fun b => B c b) ((pd p c).arrAt · (cfgs p).N) (hB c) (fun b hb => hrest c b hb)
    iintro ⟨Ha, HO, -, Hrest⟩
    imodintro
    isplitl [Ha Hrest]
    · iapply hjoin; isplitl [Ha] <;> iassumption
    unfold Pipeline.Dat.owesAt Pipeline.owesWithin
    rw [ho c]
    icases HO with ⟨%W, -, HO⟩; iexists W; iexact HO

end Cert.Proof.PI

end
-- ==== Proof.ProjIdealCall0.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## The body of call 0 -/

/-- The body scales the rows by their reciprocal root mean square and the weight. -/
theorem run0 (c : Dev nD) (i : grid0.Coords) (M1 : Memref sig .tc .vmem S512x2048 .f32) (hM1 : M1.IsWhole) (M2 : Memref sig .tc .vmem S1x2048 .f32) (hM2 : M2.IsWhole) (M3 : Memref sig .tc .vmem S512x2048 .bf16) (hM3 : M3.IsWhole)
    (f1 : Bf (F := F) c M1) (f2 : Bf (F := F) c M2) (f3 : Bf (F := F) c M3) (E : Set ℕ) (Q : PUnit → sProp 𝕄) :
    iprop(pt c M1 f1 ∗ pt c M2 f2 ∗ pt c M3 f3
        ∗ (iprop(pt c M1 f1 ∗ pt c M2 f2
          ∗ (∃ g : Bf (F := F) c M3, ⌜M3.view.read (Elt F) g = k0_pay1 (M1.view.read (Elt F) f1) (M2.view.read (Elt F) f2)⌝ ∗ pt c M3 g)) -∗ Q ⟨⟩))
      ⊢ wp frame (wpE (defs₀ (F := F)) 𝒱₀ c none) E (cc0_rmsnorm i M1 hM1 M2 hM2 M3 hM3) Q := by
  iintro ⟨H1, H2, H3, Hk⟩
  rw [cc0_rmsnorm_eq_skeleton]
  unfold cc0_rmsnorm_skel
  sl_exec!
  sl_step
  iapply Hk
  isplitl [H1]; · iexact H1
  isplitl [H2]; · iexact H2
  iexists _; isplitr; swap; · iexact H3
  ipureintro
  exact (read_full M3.view _ _ z2 _ _).trans (congrArg₂ k0_pay1 (load_full M1.view f1 _ z2 _) (load_full M2.view f2 _ z2 _))

/-! ## The proof data of call 0 -/

variable (V : (c : Dev nD) → (b : Ref sig .tc) → Buf (Elt F) ((c : Thread nD τ).loc b))

/-- The blocks a point is given: rows, weight. -/
abbrev xb0 (c : Dev nD) (t : Fin grid0.N) : S512x2048.Idx → Elt F .f32 := ((cfg0.win (0 : Fin 3)).blk t).view.read (Elt F) (V c main_v1)
abbrev nb0 (c : Dev nD) (t : Fin grid0.N) : S1x2048.Idx → Elt F .f32 := ((cfg0.win (1 : Fin 3)).blk t).view.read (Elt F) (V c main_v4)
/-- The block of rows a point leaves. -/
abbrev ho0 (c : Dev nD) (t : Fin grid0.N) : S512x2048.Idx → Elt F .bf16 := k0_pay1 (xb0 V c t) (nb0 V c t)

/-- The proof data of the call. -/
def dat0 (c : Dev nD) : Dat τ (Elt F) Unit ℕ UU ℕ cfg0 c where
  A w := V c (Pipeline.arrRef spec0 w)
  after w t := match w with
    | ⟨0, _⟩ => xb0 V c t
    | ⟨1, _⟩ => nb0 V c t
    | ⟨2, _⟩ => ho0 V c t
  Φ _ := Pipeline.scopedRest (Ix := Unit) (Name := ℕ) (U := UU) (Lvl := ℕ) (Val := Elt F) spec0 c
  q _ := fullShare
  owed _ := 0

theorem before0_0 (c : Dev nD) (t : Fin grid0.N) (d) : (dat0 V c).before (0 : Fin 3) t d = xb0 V c t :=
  (dat0 V c).before_in_eq_fetched (0 : Fin 3) rfl (fun _ => rfl) (fun _ _ _ => rfl) (fun _ => rfl) t d
theorem before0_1 (c : Dev nD) (t : Fin grid0.N) (d) : (dat0 V c).before (1 : Fin 3) t d = nb0 V c t :=
  (dat0 V c).before_in_eq_fetched (1 : Fin 3) rfl (fun _ => rfl) (fun _ _ _ => rfl) (fun _ => rfl) t d

abbrev s0_0 (t : Fin grid0.N) := win0_0.stage (cfg0.slots t (0 : Fin 3))
abbrev s0_1 (t : Fin grid0.N) := win0_1.stage (cfg0.slots t (1 : Fin 3))
abbrev s0_2 (t : Fin grid0.N) := win0_2.stage (cfg0.slots t (2 : Fin 3))

/-- The library's obligation on the body of the call. -/
theorem obligation0 (c : Dev nD) : BodyObligation (dat0 V c) (defs₀ (F := F)) 𝒱₀ () Set.univ := fun t => by
  rw [bigSep_W0, bigSep_W0]
  dsimp only
  rw [show (dat0 V c).Φ t.succ = (dat0 V c).Φ t.castSucc from rfl,
    show (dat0 V c).owesAt () t.succ = (dat0 V c).owesAt () t.castSucc from rfl]
  iintro ⟨HI, HO, ⟨%d0, H0⟩, ⟨%d1, H1⟩, ⟨%d2, H2⟩⟩
  ihave H0' := (owned c (s0_0 t) (hstage0_0 _) _ _ (before0_0 V c t d0)) $$ H0
  icases H0' with ⟨%f0, %r0, H0⟩
  ihave H1' := (owned c (s0_1 t) (hstage0_1 _) _ _ (before0_1 V c t d1)) $$ H1
  icases H1' with ⟨%f1, %r1, H1⟩
  ihave H2' := (owned c (s0_2 t) (hstage0_2 _) _ _ rfl) $$ H2
  icases H2' with ⟨%f2, -, H2⟩
  iapply (run0 c (grid0.coords t) (s0_0 t) (hstage0_0 _) (s0_1 t) (hstage0_1 _) (s0_2 t) (hstage0_2 _) f0 f1 f2 Set.univ _)
  isplitl [H0]; · iexact H0
  isplitl [H1]; · iexact H1
  isplitl [H2]; · iexact H2
  rw [r0, r1]
  iintro ⟨H0, H1, H2⟩
  isplitl [HI]; · iexact HI
  isplitl [HO]; · iexact HO
  isplitl [H0]; · iapply (disown c (s0_0 t) (hstage0_0 _) _ (xb0 V c t) rfl); iexists f0; isplitr; (· ipureintro; exact r0); iexact H0
  isplitl [H1]; · iapply (disown c (s0_1 t) (hstage0_1 _) _ (nb0 V c t) rfl); iexists f1; isplitr; (· ipureintro; exact r1); iexact H1
  iapply (disown c (s0_2 t) (hstage0_2 _) _ (ho0 V c t) rfl); iexact H2

end Cert.Proof.PI

end
-- ==== Proof.ProjIdealCall1.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## The body of call 1 -/

/-- The body scales the rows by their reciprocal root mean square and the weight. -/
theorem run1 (c : Dev nD) (i : grid1.Coords) (M1 : Memref sig .tc .vmem S512x2048 .f32) (hM1 : M1.IsWhole) (M2 : Memref sig .tc .vmem S1x2048 .f32) (hM2 : M2.IsWhole) (M3 : Memref sig .tc .vmem S512x2048 .bf16) (hM3 : M3.IsWhole)
    (f1 : Bf (F := F) c M1) (f2 : Bf (F := F) c M2) (f3 : Bf (F := F) c M3) (E : Set ℕ) (Q : PUnit → sProp 𝕄) :
    iprop(pt c M1 f1 ∗ pt c M2 f2 ∗ pt c M3 f3
        ∗ (iprop(pt c M1 f1 ∗ pt c M2 f2
          ∗ (∃ g : Bf (F := F) c M3, ⌜M3.view.read (Elt F) g = k1_pay1 (M1.view.read (Elt F) f1) (M2.view.read (Elt F) f2)⌝ ∗ pt c M3 g)) -∗ Q ⟨⟩))
      ⊢ wp frame (wpE (defs₀ (F := F)) 𝒱₀ c none) E (cc1_rmsnorm i M1 hM1 M2 hM2 M3 hM3) Q := by
  iintro ⟨H1, H2, H3, Hk⟩
  rw [cc1_rmsnorm_eq_skeleton]
  unfold cc1_rmsnorm_skel
  sl_exec!
  sl_step
  iapply Hk
  isplitl [H1]; · iexact H1
  isplitl [H2]; · iexact H2
  iexists _; isplitr; swap; · iexact H3
  ipureintro
  exact (read_full M3.view _ _ z2 _ _).trans (congrArg₂ k1_pay1 (load_full M1.view f1 _ z2 _) (load_full M2.view f2 _ z2 _))

/-! ## The proof data of call 1 -/

variable (V : (c : Dev nD) → (b : Ref sig .tc) → Buf (Elt F) ((c : Thread nD τ).loc b))

/-- The blocks a point is given: rows, weight. -/
abbrev xb1 (c : Dev nD) (t : Fin grid1.N) : S512x2048.Idx → Elt F .f32 := ((cfg1.win (0 : Fin 3)).blk t).view.read (Elt F) (V c main_v2)
abbrev nb1 (c : Dev nD) (t : Fin grid1.N) : S1x2048.Idx → Elt F .f32 := ((cfg1.win (1 : Fin 3)).blk t).view.read (Elt F) (V c main_v7)
/-- The block of rows a point leaves. -/
abbrev ho1 (c : Dev nD) (t : Fin grid1.N) : S512x2048.Idx → Elt F .bf16 := k1_pay1 (xb1 V c t) (nb1 V c t)

/-- The proof data of the call. -/
def dat1 (c : Dev nD) : Dat τ (Elt F) Unit ℕ UU ℕ cfg1 c where
  A w := V c (Pipeline.arrRef spec1 w)
  after w t := match w with
    | ⟨0, _⟩ => xb1 V c t
    | ⟨1, _⟩ => nb1 V c t
    | ⟨2, _⟩ => ho1 V c t
  Φ _ := Pipeline.scopedRest (Ix := Unit) (Name := ℕ) (U := UU) (Lvl := ℕ) (Val := Elt F) spec1 c
  q _ := fullShare
  owed _ := 0

theorem before1_0 (c : Dev nD) (t : Fin grid1.N) (d) : (dat1 V c).before (0 : Fin 3) t d = xb1 V c t :=
  (dat1 V c).before_in_eq_fetched (0 : Fin 3) rfl (fun _ => rfl) (fun _ _ _ => rfl) (fun _ => rfl) t d
theorem before1_1 (c : Dev nD) (t : Fin grid1.N) (d) : (dat1 V c).before (1 : Fin 3) t d = nb1 V c t :=
  (dat1 V c).before_in_eq_fetched (1 : Fin 3) rfl (fun _ => rfl) (fun _ _ _ => rfl) (fun _ => rfl) t d

abbrev s1_0 (t : Fin grid1.N) := win1_0.stage (cfg1.slots t (0 : Fin 3))
abbrev s1_1 (t : Fin grid1.N) := win1_1.stage (cfg1.slots t (1 : Fin 3))
abbrev s1_2 (t : Fin grid1.N) := win1_2.stage (cfg1.slots t (2 : Fin 3))

/-- The library's obligation on the body of the call. -/
theorem obligation1 (c : Dev nD) : BodyObligation (dat1 V c) (defs₀ (F := F)) 𝒱₀ () Set.univ := fun t => by
  rw [bigSep_W1, bigSep_W1]
  dsimp only
  rw [show (dat1 V c).Φ t.succ = (dat1 V c).Φ t.castSucc from rfl,
    show (dat1 V c).owesAt () t.succ = (dat1 V c).owesAt () t.castSucc from rfl]
  iintro ⟨HI, HO, ⟨%d0, H0⟩, ⟨%d1, H1⟩, ⟨%d2, H2⟩⟩
  ihave H0' := (owned c (s1_0 t) (hstage1_0 _) _ _ (before1_0 V c t d0)) $$ H0
  icases H0' with ⟨%f0, %r0, H0⟩
  ihave H1' := (owned c (s1_1 t) (hstage1_1 _) _ _ (before1_1 V c t d1)) $$ H1
  icases H1' with ⟨%f1, %r1, H1⟩
  ihave H2' := (owned c (s1_2 t) (hstage1_2 _) _ _ rfl) $$ H2
  icases H2' with ⟨%f2, -, H2⟩
  iapply (run1 c (grid1.coords t) (s1_0 t) (hstage1_0 _) (s1_1 t) (hstage1_1 _) (s1_2 t) (hstage1_2 _) f0 f1 f2 Set.univ _)
  isplitl [H0]; · iexact H0
  isplitl [H1]; · iexact H1
  isplitl [H2]; · iexact H2
  rw [r0, r1]
  iintro ⟨H0, H1, H2⟩
  isplitl [HI]; · iexact HI
  isplitl [HO]; · iexact HO
  isplitl [H0]; · iapply (disown c (s1_0 t) (hstage1_0 _) _ (xb1 V c t) rfl); iexists f0; isplitr; (· ipureintro; exact r0); iexact H0
  isplitl [H1]; · iapply (disown c (s1_1 t) (hstage1_1 _) _ (nb1 V c t) rfl); iexists f1; isplitr; (· ipureintro; exact r1); iexact H1
  iapply (disown c (s1_2 t) (hstage1_2 _) _ (ho1 V c t) rfl); iexact H2

end Cert.Proof.PI

end
-- ==== Proof.ProjIdealCall2.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 2 -/

/-- Whether a point is the first of its column of blocks, as the body's condition. -/
abbrev first2 (i : grid2.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: prompt rows, sample rows, weights. -/
abbrev pb2 (c : Dev nD) (t : Fin grid2.N) : S1024x2048.Idx → Elt F .bf16 := ((cfg2.win (0 : Fin 5)).blk t).view.read (Elt F) (V c main_v5)
abbrev sb2 (c : Dev nD) (t : Fin grid2.N) : S512x2048.Idx → Elt F .bf16 := ((cfg2.win (1 : Fin 5)).blk t).view.read (Elt F) (V c main_v8)
abbrev wb2 (c : Dev nD) (t : Fin grid2.N) : S2048x1024.Idx → Elt F .f32 := ((cfg2.win (2 : Fin 5)).blk t).view.read (Elt F) (V c main_v0)

/-- The products of the rows of a point with its weights. -/
abbrev po2 (c : Dev nD) (t : Fin grid2.N) : S1024x1024.Idx → Elt F .f32 := k2_pay2 (pb2 V c t) (k2_pay1 (wb2 V c t))
abbrev so2 (c : Dev nD) (t : Fin grid2.N) : S512x1024.Idx → Elt F .f32 := k2_pay3 (sb2 V c t) (k2_pay1 (wb2 V c t))

/-- What the scratch buffer holds before point `n`: the weights of the point before. -/
abbrev scr2 (c : Dev nD) (n : ℕ) (g : Bf (F := F) c (Memref.whole cc2_scratch0)) : Prop :=
  ∀ s : Fin grid2.N, s.val + 1 = n → (Memref.whole cc2_scratch0).view.read (Elt F) g = k2_pay1 (wb2 V c s)
/-- The buffers besides the windows' before point `n`. -/
abbrev inv2 (c : Dev nD) (n : ℕ) : sProp 𝕄 :=
  iprop((∃ g : Bf (F := F) c (Memref.whole cc2_scratch0), ⌜scr2 V c n g⌝ ∗ pt c (Memref.whole cc2_scratch0) g)
    ∗ Pipeline.scopedRestBut (Ix := Unit) (Name := ℕ) (U := UU) (Lvl := ℕ) (Val := Elt F) spec2 c [cc2_scratch0])

/-- The proof data of the call. -/
def dat2 (c : Dev nD) : Dat τ (Elt F) Unit ℕ UU ℕ cfg2 c where
  A w := V c (Pipeline.arrRef spec2 w)
  after w t := match w with
    | ⟨0, _⟩ => pb2 V c t
    | ⟨1, _⟩ => sb2 V c t
    | ⟨2, _⟩ => wb2 V c t
    | ⟨3, _⟩ => po2 V c t
    | ⟨4, _⟩ => so2 V c t
  Φ t := inv2 V c t.val
  q _ := fullShare
  owed _ := 0

/-- The point before. -/
abbrev prev2 (t : Fin grid2.N) : Fin grid2.N := ⟨t.val - 1, lt_of_le_of_lt (Nat.sub_le _ _) t.isLt⟩

theorem cast2 : ∀ t : Fin grid2.N, ¬ first2 (grid2.coords t) = 1#1 → t.val ≠ 0 ∧ cc2_transform_2 (grid2.coords t) = cc2_transform_2 (grid2.coords (prev2 t)) := by decide +kernel
theorem keep2 : ∀ t : Fin grid2.N, ¬ k2_cond2 (grid2.coords t) = 1#1 → ¬ first2 (grid2.coords t) = 1#1 ∧ k2_cond2 (grid2.coords (prev2 t)) = 1#1
    ∧ cc2_transform_0 (grid2.coords t) = cc2_transform_0 (grid2.coords (prev2 t))
    ∧ cc2_transform_3 (grid2.coords t) = cc2_transform_3 (grid2.coords (prev2 t)) := by decide +kernel
theorem noflush2 : ∀ t : Fin grid2.N, ¬ k2_cond3 (grid2.coords t) = 1#1 → win2_4.flush t = false := by decide +kernel

theorem wb_congr2 (c : Dev nD) (t : Fin grid2.N) (h : ¬ first2 (grid2.coords t) = 1#1) : wb2 V c t = wb2 V c (prev2 t) :=
  (dat2 V c).fetched_congr 2 (t := t) (t' := prev2 t) (cast2 t h).2 rfl (wb2 V c t)

theorem before2 (c : Dev nD) (t : Fin grid2.N) (w : Fin 5) (hw : w.val < 3) (d) : (dat2 V c).before w t d = (dat2 V c).after w t :=
  match w, hw, d with
  | ⟨0, _⟩, _, d => (dat2 V c).before_in_eq_fetched (0 : Fin 5) rfl (fun _ => rfl) (fun _ _ _ => rfl) (fun _ => rfl) t d
  | ⟨1, _⟩, _, d => (dat2 V c).before_in_eq_fetched (1 : Fin 5) rfl (fun _ => rfl) (fun _ _ _ => rfl) (fun _ => rfl) t d
  | ⟨2, _⟩, _, d => (dat2 V c).before_in_eq_fetched (2 : Fin 5) rfl (fun _ => rfl) (fun _ _ _ => rfl) (fun _ => rfl) t d

/-- At the last point of a column the block of prompt results is still what the point before left. -/
theorem kept2 (c : Dev nD) (t : Fin grid2.N) (h : ¬ k2_cond2 (grid2.coords t) = 1#1) (d) : (dat2 V c).before (3 : Fin 5) t d = po2 V c t := by
  obtain ⟨h1, hp, h0, hx⟩ := keep2 t h
  refine (left_over (dat2 V c) (3 : Fin 5) t (prev2 t) (Nat.succ_pred_eq_of_ne_zero (cast2 t h1).1) rfl hx (idle_of _ hp) d).trans ?_
  show k2_pay2 _ _ = k2_pay2 _ _
  rw [wb_congr2 V c t h1, show pb2 V c t = pb2 V c (prev2 t) from (dat2 V c).fetched_congr 0 (t := t) (t' := prev2 t) h0 rfl (pb2 V c t)]

set_option maxHeartbeats 2000000 in
set_option backward.isDefEq.respectTransparency.types false in
/-- The library's obligation on the body of the call. -/
theorem obligation2 (c : Dev nD) : BodyObligation (dat2 V c) (defs₀ (F := F)) 𝒱₀ () Set.univ := fun t => by
  rw [bigSep_W2, bigSep_W2]
  dsimp only
  exact obl2 c (first2 (grid2.coords t)) (k2_cond2 (grid2.coords t)) (k2_cond3 (grid2.coords t))
    (win2_0.stage (cfg2.slots t (0 : Fin 5))) (win2_1.stage (cfg2.slots t (1 : Fin 5))) (win2_2.stage (cfg2.slots t (2 : Fin 5))) (win2_3.stage (cfg2.slots t (3 : Fin 5))) (win2_4.stage (cfg2.slots t (4 : Fin 5)))
    (Memref.whole cc2_scratch0) h_S1024x2048 h_S512x2048 h_S2048x1024 h_S1024x1024 h_S512x1024 _ _ _ k2_pay1 k2_pay2 k2_pay3 (hstage2_0 _) (hstage2_1 _) (hstage2_2 _) (hstage2_3 _) (hstage2_4 _)
    ((dat2 V c).before (0 : Fin 5) t) ((dat2 V c).before (1 : Fin 5) t) ((dat2 V c).before (2 : Fin 5) t) ((dat2 V c).before (3 : Fin 5) t) ((dat2 V c).before (4 : Fin 5) t)
    (pb2 V c t) (sb2 V c t) (wb2 V c t) (before2 V c t 0 (by decide)) (before2 V c t 1 (by decide)) (before2 V c t 2 (by decide))
    (idle2 (3 : Fin 5) (grid2.coords t)) (win2_3.flush t) (idle2 (4 : Fin 5) (grid2.coords t)) (win2_4.flush t)
    (idle_of _) (fun h => ⟨idle_not _ h, fun _ d => kept2 V c t h d⟩) (idle_of _) (fun h => ⟨idle_not _ h, fun e => absurd (e.symm.trans (noflush2 t h)) (by decide)⟩)
    (scr2 V c t.val) (scr2 V c (t.val + 1)) (fun g hg h => (hg (prev2 t) (Nat.succ_pred_eq_of_ne_zero (cast2 t h).1)).trans (congrArg k2_pay1 (wb_congr2 V c t h).symm))
    (fun g hr s hs => by obtain rfl : s = t := Fin.ext (Nat.succ.inj hs); exact hr) _ _

/-- Before the first point the scratch buffer holds anything; after the last it is given back. -/
theorem inv_in2 (c : Dev nD) : (Pipeline.scopedRest (Ix := Unit) (Name := ℕ) (U := UU) (Lvl := ℕ) (Val := Elt F) spec2 c : sProp 𝕄) ⊢ inv2 V c 0 :=
  (Entails.of_eq (scopedRest2_split (Ix := Unit) (Name := ℕ) (U := UU) (Lvl := ℕ) (Val := Elt F) c)).trans
    (scr_in _ (Memref.whole cc2_scratch0) _ fun _ _ h => absurd h (Nat.succ_ne_zero _))
theorem inv_out2 (c : Dev nD) (n : ℕ) : inv2 V c n ⊢ (Pipeline.scopedRest (Ix := Unit) (Name := ℕ) (U := UU) (Lvl := ℕ) (Val := Elt F) spec2 c : sProp 𝕄) :=
  (scr_out _ (Memref.whole cc2_scratch0) _).trans
    (Entails.of_eq (scopedRest2_split (Ix := Unit) (Name := ℕ) (U := UU) (Lvl := ℕ) (Val := Elt F) c).symm)

end Cert.Proof.PI

end
-- ==== Proof.ProjIdealCall3.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 3 -/

/-- Whether a point is the first of its column of blocks, as the body's condition. -/
abbrev first3 (i : grid3.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: prompt rows, sample rows, weights. -/
abbrev pb3 (c : Dev nD) (t : Fin grid3.N) : S1024x2048.Idx → Elt F .bf16 := ((cfg3.win (0 : Fin 5)).blk t).view.read (Elt F) (V c main_v5)
abbrev sb3 (c : Dev nD) (t : Fin grid3.N) : S512x2048.Idx → Elt F .bf16 := ((cfg3.win (1 : Fin 5)).blk t).view.read (Elt F) (V c main_v8)
abbrev wb3 (c : Dev nD) (t : Fin grid3.N) : S2048x1024.Idx → Elt F .f32 := ((cfg3.win (2 : Fin 5)).blk t).view.read (Elt F) (V c main_v0)

/-- The products of the rows of a point with its weights. -/
abbrev po3 (c : Dev nD) (t : Fin grid3.N) : S1024x1024.Idx → Elt F .f32 := k3_pay2 (pb3 V c t) (k3_pay1 (wb3 V c t))
abbrev so3 (c : Dev nD) (t : Fin grid3.N) : S512x1024.Idx → Elt F .f32 := k3_pay3 (sb3 V c t) (k3_pay1 (wb3 V c t))

/-- What the scratch buffer holds before point `n`: the weights of the point before. -/
abbrev scr3 (c : Dev nD) (n : ℕ) (g : Bf (F := F) c (Memref.whole cc3_scratch0)) : Prop :=
  ∀ s : Fin grid3.N, s.val + 1 = n → (Memref.whole cc3_scratch0).view.read (Elt F) g = k3_pay1 (wb3 V c s)
/-- The buffers besides the windows' before point `n`. -/
abbrev inv3 (c : Dev nD) (n : ℕ) : sProp 𝕄 :=
  iprop((∃ g : Bf (F := F) c (Memref.whole cc3_scratch0), ⌜scr3 V c n g⌝ ∗ pt c (Memref.whole cc3_scratch0) g)
    ∗ Pipeline.scopedRestBut (Ix := Unit) (Name := ℕ) (U := UU) (Lvl := ℕ) (Val := Elt F) spec3 c [cc3_scratch0])

/-- The proof data of the call. -/
def dat3 (c : Dev nD) : Dat τ (Elt F) Unit ℕ UU ℕ cfg3 c where
  A w := V c (Pipeline.arrRef spec3 w)
  after w t := match w with
    | ⟨0, _⟩ => pb3 V c t
    | ⟨1, _⟩ => sb3 V c t
    | ⟨2, _⟩ => wb3 V c t
    | ⟨3, _⟩ => po3 V c t
    | ⟨4, _⟩ => so3 V c t
  Φ t := inv3 V c t.val
  q _ := fullShare
  owed _ := 0

/-- The point before. -/
abbrev prev3 (t : Fin grid3.N) : Fin grid3.N := ⟨t.val - 1, lt_of_le_of_lt (Nat.sub_le _ _) t.isLt⟩

theorem cast3 : ∀ t : Fin grid3.N, ¬ first3 (grid3.coords t) = 1#1 → t.val ≠ 0 ∧ cc3_transform_2 (grid3.coords t) = cc3_transform_2 (grid3.coords (prev3 t)) := by decide +kernel
theorem keep3 : ∀ t : Fin grid3.N, ¬ k3_cond2 (grid3.coords t) = 1#1 → ¬ first3 (grid3.coords t) = 1#1 ∧ k3_cond2 (grid3.coords (prev3 t)) = 1#1
    ∧ cc3_transform_0 (grid3.coords t) = cc3_transform_0 (grid3.coords (prev3 t))
    ∧ cc3_transform_3 (grid3.coords t) = cc3_transform_3 (grid3.coords (prev3 t)) := by decide +kernel
theorem noflush3 : ∀ t : Fin grid3.N, ¬ k3_cond3 (grid3.coords t) = 1#1 → win3_4.flush t = false := by decide +kernel

theorem wb_congr3 (c : Dev nD) (t : Fin grid3.N) (h : ¬ first3 (grid3.coords t) = 1#1) : wb3 V c t = wb3 V c (prev3 t) :=
  (dat3 V c).fetched_congr 2 (t := t) (t' := prev3 t) (cast3 t h).2 rfl (wb3 V c t)

theorem before3 (c : Dev nD) (t : Fin grid3.N) (w : Fin 5) (hw : w.val < 3) (d) : (dat3 V c).before w t d = (dat3 V c).after w t :=
  match w, hw, d with
  | ⟨0, _⟩, _, d => (dat3 V c).before_in_eq_fetched (0 : Fin 5) rfl (fun _ => rfl) (fun _ _ _ => rfl) (fun _ => rfl) t d
  | ⟨1, _⟩, _, d => (dat3 V c).before_in_eq_fetched (1 : Fin 5) rfl (fun _ => rfl) (fun _ _ _ => rfl) (fun _ => rfl) t d
  | ⟨2, _⟩, _, d => (dat3 V c).before_in_eq_fetched (2 : Fin 5) rfl (fun _ => rfl) (fun _ _ _ => rfl) (fun _ => rfl) t d

/-- At the last point of a column the block of prompt results is still what the point before left. -/
theorem kept3 (c : Dev nD) (t : Fin grid3.N) (h : ¬ k3_cond2 (grid3.coords t) = 1#1) (d) : (dat3 V c).before (3 : Fin 5) t d = po3 V c t := by
  obtain ⟨h1, hp, h0, hx⟩ := keep3 t h
  refine (left_over (dat3 V c) (3 : Fin 5) t (prev3 t) (Nat.succ_pred_eq_of_ne_zero (cast3 t h1).1) rfl hx (idle_of _ hp) d).trans ?_
  show k3_pay2 _ _ = k3_pay2 _ _
  rw [wb_congr3 V c t h1, show pb3 V c t = pb3 V c (prev3 t) from (dat3 V c).fetched_congr 0 (t := t) (t' := prev3 t) h0 rfl (pb3 V c t)]

set_option maxHeartbeats 2000000 in
set_option backward.isDefEq.respectTransparency.types false in
/-- The library's obligation on the body of the call. -/
theorem obligation3 (c : Dev nD) : BodyObligation (dat3 V c) (defs₀ (F := F)) 𝒱₀ () Set.univ := fun t => by
  rw [bigSep_W3, bigSep_W3]
  dsimp only
  exact obl2 c (first3 (grid3.coords t)) (k3_cond2 (grid3.coords t)) (k3_cond3 (grid3.coords t))
    (win3_0.stage (cfg3.slots t (0 : Fin 5))) (win3_1.stage (cfg3.slots t (1 : Fin 5))) (win3_2.stage (cfg3.slots t (2 : Fin 5))) (win3_3.stage (cfg3.slots t (3 : Fin 5))) (win3_4.stage (cfg3.slots t (4 : Fin 5)))
    (Memref.whole cc3_scratch0) h_S1024x2048 h_S512x2048 h_S2048x1024 h_S1024x1024 h_S512x1024 _ _ _ k3_pay1 k3_pay2 k3_pay3 (hstage3_0 _) (hstage3_1 _) (hstage3_2 _) (hstage3_3 _) (hstage3_4 _)
    ((dat3 V c).before (0 : Fin 5) t) ((dat3 V c).before (1 : Fin 5) t) ((dat3 V c).before (2 : Fin 5) t) ((dat3 V c).before (3 : Fin 5) t) ((dat3 V c).before (4 : Fin 5) t)
    (pb3 V c t) (sb3 V c t) (wb3 V c t) (before3 V c t 0 (by decide)) (before3 V c t 1 (by decide)) (before3 V c t 2 (by decide))
    (idle3 (3 : Fin 5) (grid3.coords t)) (win3_3.flush t) (idle3 (4 : Fin 5) (grid3.coords t)) (win3_4.flush t)
    (idle_of _) (fun h => ⟨idle_not _ h, fun _ d => kept3 V c t h d⟩) (idle_of _) (fun h => ⟨idle_not _ h, fun e => absurd (e.symm.trans (noflush3 t h)) (by decide)⟩)
    (scr3 V c t.val) (scr3 V c (t.val + 1)) (fun g hg h => (hg (prev3 t) (Nat.succ_pred_eq_of_ne_zero (cast3 t h).1)).trans (congrArg k3_pay1 (wb_congr3 V c t h).symm))
    (fun g hr s hs => by obtain rfl : s = t := Fin.ext (Nat.succ.inj hs); exact hr) _ _

/-- Before the first point the scratch buffer holds anything; after the last it is given back. -/
theorem inv_in3 (c : Dev nD) : (Pipeline.scopedRest (Ix := Unit) (Name := ℕ) (U := UU) (Lvl := ℕ) (Val := Elt F) spec3 c : sProp 𝕄) ⊢ inv3 V c 0 :=
  (Entails.of_eq (scopedRest3_split (Ix := Unit) (Name := ℕ) (U := UU) (Lvl := ℕ) (Val := Elt F) c)).trans
    (scr_in _ (Memref.whole cc3_scratch0) _ fun _ _ h => absurd h (Nat.succ_ne_zero _))
theorem inv_out3 (c : Dev nD) (n : ℕ) : inv3 V c n ⊢ (Pipeline.scopedRest (Ix := Unit) (Name := ℕ) (U := UU) (Lvl := ℕ) (Val := Elt F) spec3 c : sProp 𝕄) :=
  (scr_out _ (Memref.whole cc3_scratch0) _).trans
    (Entails.of_eq (scopedRest3_split (Ix := Unit) (Name := ℕ) (U := UU) (Lvl := ℕ) (Val := Elt F) c).symm)

end Cert.Proof.PI

end
-- ==== Proof.ProjIdealCall4.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 4 -/

/-- Whether a point is the first of its column of blocks, as the body's condition. -/
abbrev first4 (i : grid4.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: prompt rows, sample rows, weights. -/
abbrev pb4 (c : Dev nD) (t : Fin grid4.N) : S1024x2048.Idx → Elt F .bf16 := ((cfg4.win (0 : Fin 5)).blk t).view.read (Elt F) (V c main_v5)
abbrev sb4 (c : Dev nD) (t : Fin grid4.N) : S512x2048.Idx → Elt F .bf16 := ((cfg4.win (1 : Fin 5)).blk t).view.read (Elt F) (V c main_v8)
abbrev wb4 (c : Dev nD) (t : Fin grid4.N) : S2048x1024.Idx → Elt F .f32 := ((cfg4.win (2 : Fin 5)).blk t).view.read (Elt F) (V c main_v0)

/-- The products of the rows of a point with its weights. -/
abbrev po4 (c : Dev nD) (t : Fin grid4.N) : S1024x1024.Idx → Elt F .f32 := k4_pay2 (pb4 V c t) (k4_pay1 (wb4 V c t))
abbrev so4 (c : Dev nD) (t : Fin grid4.N) : S512x1024.Idx → Elt F .f32 := k4_pay3 (sb4 V c t) (k4_pay1 (wb4 V c t))

/-- What the scratch buffer holds before point `n`: the weights of the point before. -/
abbrev scr4 (c : Dev nD) (n : ℕ) (g : Bf (F := F) c (Memref.whole cc4_scratch0)) : Prop :=
  ∀ s : Fin grid4.N, s.val + 1 = n → (Memref.whole cc4_scratch0).view.read (Elt F) g = k4_pay1 (wb4 V c s)
/-- The buffers besides the windows' before point `n`. -/
abbrev inv4 (c : Dev nD) (n : ℕ) : sProp 𝕄 :=
  iprop((∃ g : Bf (F := F) c (Memref.whole cc4_scratch0), ⌜scr4 V c n g⌝ ∗ pt c (Memref.whole cc4_scratch0) g)
    ∗ Pipeline.scopedRestBut (Ix := Unit) (Name := ℕ) (U := UU) (Lvl := ℕ) (Val := Elt F) spec4 c [cc4_scratch0])

/-- The proof data of the call. -/
def dat4 (c : Dev nD) : Dat τ (Elt F) Unit ℕ UU ℕ cfg4 c where
  A w := V c (Pipeline.arrRef spec4 w)
  after w t := match w with
    | ⟨0, _⟩ => pb4 V c t
    | ⟨1, _⟩ => sb4 V c t
    | ⟨2, _⟩ => wb4 V c t
    | ⟨3, _⟩ => po4 V c t
    | ⟨4, _⟩ => so4 V c t
  Φ t := inv4 V c t.val
  q _ := fullShare
  owed _ := 0

/-- The point before. -/
abbrev prev4 (t : Fin grid4.N) : Fin grid4.N := ⟨t.val - 1, lt_of_le_of_lt (Nat.sub_le _ _) t.isLt⟩

theorem cast4 : ∀ t : Fin grid4.N, ¬ first4 (grid4.coords t) = 1#1 → t.val ≠ 0 ∧ cc4_transform_2 (grid4.coords t) = cc4_transform_2 (grid4.coords (prev4 t)) := by decide +kernel
theorem keep4 : ∀ t : Fin grid4.N, ¬ k4_cond2 (grid4.coords t) = 1#1 → ¬ first4 (grid4.coords t) = 1#1 ∧ k4_cond2 (grid4.coords (prev4 t)) = 1#1
    ∧ cc4_transform_0 (grid4.coords t) = cc4_transform_0 (grid4.coords (prev4 t))
    ∧ cc4_transform_3 (grid4.coords t) = cc4_transform_3 (grid4.coords (prev4 t)) := by decide +kernel
theorem noflush4 : ∀ t : Fin grid4.N, ¬ k4_cond3 (grid4.coords t) = 1#1 → win4_4.flush t = false := by decide +kernel

theorem wb_congr4 (c : Dev nD) (t : Fin grid4.N) (h : ¬ first4 (grid4.coords t) = 1#1) : wb4 V c t = wb4 V c (prev4 t) :=
  (dat4 V c).fetched_congr 2 (t := t) (t' := prev4 t) (cast4 t h).2 rfl (wb4 V c t)

theorem before4 (c : Dev nD) (t : Fin grid4.N) (w : Fin 5) (hw : w.val < 3) (d) : (dat4 V c).before w t d = (dat4 V c).after w t :=
  match w, hw, d with
  | ⟨0, _⟩, _, d => (dat4 V c).before_in_eq_fetched (0 : Fin 5) rfl (fun _ => rfl) (fun _ _ _ => rfl) (fun _ => rfl) t d
  | ⟨1, _⟩, _, d => (dat4 V c).before_in_eq_fetched (1 : Fin 5) rfl (fun _ => rfl) (fun _ _ _ => rfl) (fun _ => rfl) t d
  | ⟨2, _⟩, _, d => (dat4 V c).before_in_eq_fetched (2 : Fin 5) rfl (fun _ => rfl) (fun _ _ _ => rfl) (fun _ => rfl) t d

/-- At the last point of a column the block of prompt results is still what the point before left. -/
theorem kept4 (c : Dev nD) (t : Fin grid4.N) (h : ¬ k4_cond2 (grid4.coords t) = 1#1) (d) : (dat4 V c).before (3 : Fin 5) t d = po4 V c t := by
  obtain ⟨h1, hp, h0, hx⟩ := keep4 t h
  refine (left_over (dat4 V c) (3 : Fin 5) t (prev4 t) (Nat.succ_pred_eq_of_ne_zero (cast4 t h1).1) rfl hx (idle_of _ hp) d).trans ?_
  show k4_pay2 _ _ = k4_pay2 _ _
  rw [wb_congr4 V c t h1, show pb4 V c t = pb4 V c (prev4 t) from (dat4 V c).fetched_congr 0 (t := t) (t' := prev4 t) h0 rfl (pb4 V c t)]

set_option maxHeartbeats 2000000 in
set_option backward.isDefEq.respectTransparency.types false in
/-- The library's obligation on the body of the call. -/
theorem obligation4 (c : Dev nD) : BodyObligation (dat4 V c) (defs₀ (F := F)) 𝒱₀ () Set.univ := fun t => by
  rw [bigSep_W4, bigSep_W4]
  dsimp only
  exact obl2 c (first4 (grid4.coords t)) (k4_cond2 (grid4.coords t)) (k4_cond3 (grid4.coords t))
    (win4_0.stage (cfg4.slots t (0 : Fin 5))) (win4_1.stage (cfg4.slots t (1 : Fin 5))) (win4_2.stage (cfg4.slots t (2 : Fin 5))) (win4_3.stage (cfg4.slots t (3 : Fin 5))) (win4_4.stage (cfg4.slots t (4 : Fin 5)))
    (Memref.whole cc4_scratch0) h_S1024x2048 h_S512x2048 h_S2048x1024 h_S1024x1024 h_S512x1024 _ _ _ k4_pay1 k4_pay2 k4_pay3 (hstage4_0 _) (hstage4_1 _) (hstage4_2 _) (hstage4_3 _) (hstage4_4 _)
    ((dat4 V c).before (0 : Fin 5) t) ((dat4 V c).before (1 : Fin 5) t) ((dat4 V c).before (2 : Fin 5) t) ((dat4 V c).before (3 : Fin 5) t) ((dat4 V c).before (4 : Fin 5) t)
    (pb4 V c t) (sb4 V c t) (wb4 V c t) (before4 V c t 0 (by decide)) (before4 V c t 1 (by decide)) (before4 V c t 2 (by decide))
    (idle4 (3 : Fin 5) (grid4.coords t)) (win4_3.flush t) (idle4 (4 : Fin 5) (grid4.coords t)) (win4_4.flush t)
    (idle_of _) (fun h => ⟨idle_not _ h, fun _ d => kept4 V c t h d⟩) (idle_of _) (fun h => ⟨idle_not _ h, fun e => absurd (e.symm.trans (noflush4 t h)) (by decide)⟩)
    (scr4 V c t.val) (scr4 V c (t.val + 1)) (fun g hg h => (hg (prev4 t) (Nat.succ_pred_eq_of_ne_zero (cast4 t h).1)).trans (congrArg k4_pay1 (wb_congr4 V c t h).symm))
    (fun g hr s hs => by obtain rfl : s = t := Fin.ext (Nat.succ.inj hs); exact hr) _ _

/-- Before the first point the scratch buffer holds anything; after the last it is given back. -/
theorem inv_in4 (c : Dev nD) : (Pipeline.scopedRest (Ix := Unit) (Name := ℕ) (U := UU) (Lvl := ℕ) (Val := Elt F) spec4 c : sProp 𝕄) ⊢ inv4 V c 0 :=
  (Entails.of_eq (scopedRest4_split (Ix := Unit) (Name := ℕ) (U := UU) (Lvl := ℕ) (Val := Elt F) c)).trans
    (scr_in _ (Memref.whole cc4_scratch0) _ fun _ _ h => absurd h (Nat.succ_ne_zero _))
theorem inv_out4 (c : Dev nD) (n : ℕ) : inv4 V c n ⊢ (Pipeline.scopedRest (Ix := Unit) (Name := ℕ) (U := UU) (Lvl := ℕ) (Val := Elt F) spec4 c : sProp 𝕄) :=
  (scr_out _ (Memref.whole cc4_scratch0) _).trans
    (Entails.of_eq (scopedRest4_split (Ix := Unit) (Name := ℕ) (U := UU) (Lvl := ℕ) (Val := Elt F) c).symm)

end Cert.Proof.PI

end
-- ==== Proof.ProjIdealCall5.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 5 -/

/-- Whether a point is the first of its column of blocks, as the body's condition. -/
abbrev first5 (i : grid5.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: prompt rows, sample rows, weights. -/
abbrev pb5 (c : Dev nD) (t : Fin grid5.N) : S1024x2048.Idx → Elt F .bf16 := ((cfg5.win (0 : Fin 5)).blk t).view.read (Elt F) (V c main_v5)
abbrev sb5 (c : Dev nD) (t : Fin grid5.N) : S512x2048.Idx → Elt F .bf16 := ((cfg5.win (1 : Fin 5)).blk t).view.read (Elt F) (V c main_v8)
abbrev wb5 (c : Dev nD) (t : Fin grid5.N) : S2048x1024.Idx → Elt F .f32 := ((cfg5.win (2 : Fin 5)).blk t).view.read (Elt F) (V c main_v0)

/-- The products of the rows of a point with its weights. -/
abbrev po5 (c : Dev nD) (t : Fin grid5.N) : S1024x1024.Idx → Elt F .f32 := k5_pay2 (pb5 V c t) (k5_pay1 (wb5 V c t))
abbrev so5 (c : Dev nD) (t : Fin grid5.N) : S512x1024.Idx → Elt F .f32 := k5_pay3 (sb5 V c t) (k5_pay1 (wb5 V c t))

/-- What the scratch buffer holds before point `n`: the weights of the point before. -/
abbrev scr5 (c : Dev nD) (n : ℕ) (g : Bf (F := F) c (Memref.whole cc5_scratch0)) : Prop :=
  ∀ s : Fin grid5.N, s.val + 1 = n → (Memref.whole cc5_scratch0).view.read (Elt F) g = k5_pay1 (wb5 V c s)
/-- The buffers besides the windows' before point `n`. -/
abbrev inv5 (c : Dev nD) (n : ℕ) : sProp 𝕄 :=
  iprop((∃ g : Bf (F := F) c (Memref.whole cc5_scratch0), ⌜scr5 V c n g⌝ ∗ pt c (Memref.whole cc5_scratch0) g)
    ∗ Pipeline.scopedRestBut (Ix := Unit) (Name := ℕ) (U := UU) (Lvl := ℕ) (Val := Elt F) spec5 c [cc5_scratch0])

/-- The proof data of the call. -/
def dat5 (c : Dev nD) : Dat τ (Elt F) Unit ℕ UU ℕ cfg5 c where
  A w := V c (Pipeline.arrRef spec5 w)
  after w t := match w with
    | ⟨0, _⟩ => pb5 V c t
    | ⟨1, _⟩ => sb5 V c t
    | ⟨2, _⟩ => wb5 V c t
    | ⟨3, _⟩ => po5 V c t
    | ⟨4, _⟩ => so5 V c t
  Φ t := inv5 V c t.val
  q _ := fullShare
  owed _ := 0

/-- The point before. -/
abbrev prev5 (t : Fin grid5.N) : Fin grid5.N := ⟨t.val - 1, lt_of_le_of_lt (Nat.sub_le _ _) t.isLt⟩

theorem cast5 : ∀ t : Fin grid5.N, ¬ first5 (grid5.coords t) = 1#1 → t.val ≠ 0 ∧ cc5_transform_2 (grid5.coords t) = cc5_transform_2 (grid5.coords (prev5 t)) := by decide +kernel
theorem keep5 : ∀ t : Fin grid5.N, ¬ k5_cond2 (grid5.coords t) = 1#1 → ¬ first5 (grid5.coords t) = 1#1 ∧ k5_cond2 (grid5.coords (prev5 t)) = 1#1
    ∧ cc5_transform_0 (grid5.coords t) = cc5_transform_0 (grid5.coords (prev5 t))
    ∧ cc5_transform_3 (grid5.coords t) = cc5_transform_3 (grid5.coords (prev5 t)) := by decide +kernel
theorem noflush5 : ∀ t : Fin grid5.N, ¬ k5_cond3 (grid5.coords t) = 1#1 → win5_4.flush t = false := by decide +kernel

theorem wb_congr5 (c : Dev nD) (t : Fin grid5.N) (h : ¬ first5 (grid5.coords t) = 1#1) : wb5 V c t = wb5 V c (prev5 t) :=
  (dat5 V c).fetched_congr 2 (t := t) (t' := prev5 t) (cast5 t h).2 rfl (wb5 V c t)

theorem before5 (c : Dev nD) (t : Fin grid5.N) (w : Fin 5) (hw : w.val < 3) (d) : (dat5 V c).before w t d = (dat5 V c).after w t :=
  match w, hw, d with
  | ⟨0, _⟩, _, d => (dat5 V c).before_in_eq_fetched (0 : Fin 5) rfl (fun _ => rfl) (fun _ _ _ => rfl) (fun _ => rfl) t d
  | ⟨1, _⟩, _, d => (dat5 V c).before_in_eq_fetched (1 : Fin 5) rfl (fun _ => rfl) (fun _ _ _ => rfl) (fun _ => rfl) t d
  | ⟨2, _⟩, _, d => (dat5 V c).before_in_eq_fetched (2 : Fin 5) rfl (fun _ => rfl) (fun _ _ _ => rfl) (fun _ => rfl) t d

/-- At the last point of a column the block of prompt results is still what the point before left. -/
theorem kept5 (c : Dev nD) (t : Fin grid5.N) (h : ¬ k5_cond2 (grid5.coords t) = 1#1) (d) : (dat5 V c).before (3 : Fin 5) t d = po5 V c t := by
  obtain ⟨h1, hp, h0, hx⟩ := keep5 t h
  refine (left_over (dat5 V c) (3 : Fin 5) t (prev5 t) (Nat.succ_pred_eq_of_ne_zero (cast5 t h1).1) rfl hx (idle_of _ hp) d).trans ?_
  show k5_pay2 _ _ = k5_pay2 _ _
  rw [wb_congr5 V c t h1, show pb5 V c t = pb5 V c (prev5 t) from (dat5 V c).fetched_congr 0 (t := t) (t' := prev5 t) h0 rfl (pb5 V c t)]

set_option maxHeartbeats 2000000 in
set_option backward.isDefEq.respectTransparency.types false in
/-- The library's obligation on the body of the call. -/
theorem obligation5 (c : Dev nD) : BodyObligation (dat5 V c) (defs₀ (F := F)) 𝒱₀ () Set.univ := fun t => by
  rw [bigSep_W5, bigSep_W5]
  dsimp only
  exact obl2 c (first5 (grid5.coords t)) (k5_cond2 (grid5.coords t)) (k5_cond3 (grid5.coords t))
    (win5_0.stage (cfg5.slots t (0 : Fin 5))) (win5_1.stage (cfg5.slots t (1 : Fin 5))) (win5_2.stage (cfg5.slots t (2 : Fin 5))) (win5_3.stage (cfg5.slots t (3 : Fin 5))) (win5_4.stage (cfg5.slots t (4 : Fin 5)))
    (Memref.whole cc5_scratch0) h_S1024x2048 h_S512x2048 h_S2048x1024 h_S1024x1024 h_S512x1024 _ _ _ k5_pay1 k5_pay2 k5_pay3 (hstage5_0 _) (hstage5_1 _) (hstage5_2 _) (hstage5_3 _) (hstage5_4 _)
    ((dat5 V c).before (0 : Fin 5) t) ((dat5 V c).before (1 : Fin 5) t) ((dat5 V c).before (2 : Fin 5) t) ((dat5 V c).before (3 : Fin 5) t) ((dat5 V c).before (4 : Fin 5) t)
    (pb5 V c t) (sb5 V c t) (wb5 V c t) (before5 V c t 0 (by decide)) (before5 V c t 1 (by decide)) (before5 V c t 2 (by decide))
    (idle5 (3 : Fin 5) (grid5.coords t)) (win5_3.flush t) (idle5 (4 : Fin 5) (grid5.coords t)) (win5_4.flush t)
    (idle_of _) (fun h => ⟨idle_not _ h, fun _ d => kept5 V c t h d⟩) (idle_of _) (fun h => ⟨idle_not _ h, fun e => absurd (e.symm.trans (noflush5 t h)) (by decide)⟩)
    (scr5 V c t.val) (scr5 V c (t.val + 1)) (fun g hg h => (hg (prev5 t) (Nat.succ_pred_eq_of_ne_zero (cast5 t h).1)).trans (congrArg k5_pay1 (wb_congr5 V c t h).symm))
    (fun g hr s hs => by obtain rfl : s = t := Fin.ext (Nat.succ.inj hs); exact hr) _ _

/-- Before the first point the scratch buffer holds anything; after the last it is given back. -/
theorem inv_in5 (c : Dev nD) : (Pipeline.scopedRest (Ix := Unit) (Name := ℕ) (U := UU) (Lvl := ℕ) (Val := Elt F) spec5 c : sProp 𝕄) ⊢ inv5 V c 0 :=
  (Entails.of_eq (scopedRest5_split (Ix := Unit) (Name := ℕ) (U := UU) (Lvl := ℕ) (Val := Elt F) c)).trans
    (scr_in _ (Memref.whole cc5_scratch0) _ fun _ _ h => absurd h (Nat.succ_ne_zero _))
theorem inv_out5 (c : Dev nD) (n : ℕ) : inv5 V c n ⊢ (Pipeline.scopedRest (Ix := Unit) (Name := ℕ) (U := UU) (Lvl := ℕ) (Val := Elt F) spec5 c : sProp 𝕄) :=
  (scr_out _ (Memref.whole cc5_scratch0) _).trans
    (Entails.of_eq (scopedRest5_split (Ix := Unit) (Name := ℕ) (U := UU) (Lvl := ℕ) (Val := Elt F) c).symm)

end Cert.Proof.PI

end
-- ==== Proof.ProjIdealCall6.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 6 -/

/-- Whether a point is the first of its column of blocks, as the body's condition. -/
abbrev first6 (i : grid6.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: prompt rows, sample rows, weights. -/
abbrev pb6 (c : Dev nD) (t : Fin grid6.N) : S1024x2048.Idx → Elt F .bf16 := ((cfg6.win (0 : Fin 5)).blk t).view.read (Elt F) (V c main_v5)
abbrev sb6 (c : Dev nD) (t : Fin grid6.N) : S512x2048.Idx → Elt F .bf16 := ((cfg6.win (1 : Fin 5)).blk t).view.read (Elt F) (V c main_v8)
abbrev wb6 (c : Dev nD) (t : Fin grid6.N) : S2048x1024.Idx → Elt F .f32 := ((cfg6.win (2 : Fin 5)).blk t).view.read (Elt F) (V c main_v0)

/-- The products of the rows of a point with its weights. -/
abbrev po6 (c : Dev nD) (t : Fin grid6.N) : S1024x1024.Idx → Elt F .bf16 := k6_pay2 (pb6 V c t) (k6_pay1 (wb6 V c t))
abbrev so6 (c : Dev nD) (t : Fin grid6.N) : S512x1024.Idx → Elt F .bf16 := k6_pay3 (sb6 V c t) (k6_pay1 (wb6 V c t))

/-- What the scratch buffer holds before point `n`: the weights of the point before. -/
abbrev scr6 (c : Dev nD) (n : ℕ) (g : Bf (F := F) c (Memref.whole cc6_scratch0)) : Prop :=
  ∀ s : Fin grid6.N, s.val + 1 = n → (Memref.whole cc6_scratch0).view.read (Elt F) g = k6_pay1 (wb6 V c s)
/-- The buffers besides the windows' before point `n`. -/
abbrev inv6 (c : Dev nD) (n : ℕ) : sProp 𝕄 :=
  iprop((∃ g : Bf (F := F) c (Memref.whole cc6_scratch0), ⌜scr6 V c n g⌝ ∗ pt c (Memref.whole cc6_scratch0) g)
    ∗ Pipeline.scopedRestBut (Ix := Unit) (Name := ℕ) (U := UU) (Lvl := ℕ) (Val := Elt F) spec6 c [cc6_scratch0])

/-- The proof data of the call. -/
def dat6 (c : Dev nD) : Dat τ (Elt F) Unit ℕ UU ℕ cfg6 c where
  A w := V c (Pipeline.arrRef spec6 w)
  after w t := match w with
    | ⟨0, _⟩ => pb6 V c t
    | ⟨1, _⟩ => sb6 V c t
    | ⟨2, _⟩ => wb6 V c t
    | ⟨3, _⟩ => po6 V c t
    | ⟨4, _⟩ => so6 V c t
  Φ t := inv6 V c t.val
  q _ := fullShare
  owed _ := 0

/-- The point before. -/
abbrev prev6 (t : Fin grid6.N) : Fin grid6.N := ⟨t.val - 1, lt_of_le_of_lt (Nat.sub_le _ _) t.isLt⟩

theorem cast6 : ∀ t : Fin grid6.N, ¬ first6 (grid6.coords t) = 1#1 → t.val ≠ 0 ∧ cc6_transform_2 (grid6.coords t) = cc6_transform_2 (grid6.coords (prev6 t)) := by decide +kernel
theorem keep6 : ∀ t : Fin grid6.N, ¬ k6_cond2 (grid6.coords t) = 1#1 → ¬ first6 (grid6.coords t) = 1#1 ∧ k6_cond2 (grid6.coords (prev6 t)) = 1#1
    ∧ cc6_transform_0 (grid6.coords t) = cc6_transform_0 (grid6.coords (prev6 t))
    ∧ cc6_transform_3 (grid6.coords t) = cc6_transform_3 (grid6.coords (prev6 t)) := by decide +kernel
theorem noflush6 : ∀ t : Fin grid6.N, ¬ k6_cond3 (grid6.coords t) = 1#1 → win6_4.flush t = false := by decide +kernel

theorem wb_congr6 (c : Dev nD) (t : Fin grid6.N) (h : ¬ first6 (grid6.coords t) = 1#1) : wb6 V c t = wb6 V c (prev6 t) :=
  (dat6 V c).fetched_congr 2 (t := t) (t' := prev6 t) (cast6 t h).2 rfl (wb6 V c t)

theorem before6 (c : Dev nD) (t : Fin grid6.N) (w : Fin 5) (hw : w.val < 3) (d) : (dat6 V c).before w t d = (dat6 V c).after w t :=
  match w, hw, d with
  | ⟨0, _⟩, _, d => (dat6 V c).before_in_eq_fetched (0 : Fin 5) rfl (fun _ => rfl) (fun _ _ _ => rfl) (fun _ => rfl) t d
  | ⟨1, _⟩, _, d => (dat6 V c).before_in_eq_fetched (1 : Fin 5) rfl (fun _ => rfl) (fun _ _ _ => rfl) (fun _ => rfl) t d
  | ⟨2, _⟩, _, d => (dat6 V c).before_in_eq_fetched (2 : Fin 5) rfl (fun _ => rfl) (fun _ _ _ => rfl) (fun _ => rfl) t d

/-- At the last point of a column the block of prompt results is still what the point before left. -/
theorem kept6 (c : Dev nD) (t : Fin grid6.N) (h : ¬ k6_cond2 (grid6.coords t) = 1#1) (d) : (dat6 V c).before (3 : Fin 5) t d = po6 V c t := by
  obtain ⟨h1, hp, h0, hx⟩ := keep6 t h
  refine (left_over (dat6 V c) (3 : Fin 5) t (prev6 t) (Nat.succ_pred_eq_of_ne_zero (cast6 t h1).1) rfl hx (idle_of _ hp) d).trans ?_
  show k6_pay2 _ _ = k6_pay2 _ _
  rw [wb_congr6 V c t h1, show pb6 V c t = pb6 V c (prev6 t) from (dat6 V c).fetched_congr 0 (t := t) (t' := prev6 t) h0 rfl (pb6 V c t)]

set_option maxHeartbeats 2000000 in
set_option backward.isDefEq.respectTransparency.types false in
/-- The library's obligation on the body of the call. -/
theorem obligation6 (c : Dev nD) : BodyObligation (dat6 V c) (defs₀ (F := F)) 𝒱₀ () Set.univ := fun t => by
  rw [bigSep_W6, bigSep_W6]
  dsimp only
  exact obl2 c (first6 (grid6.coords t)) (k6_cond2 (grid6.coords t)) (k6_cond3 (grid6.coords t))
    (win6_0.stage (cfg6.slots t (0 : Fin 5))) (win6_1.stage (cfg6.slots t (1 : Fin 5))) (win6_2.stage (cfg6.slots t (2 : Fin 5))) (win6_3.stage (cfg6.slots t (3 : Fin 5))) (win6_4.stage (cfg6.slots t (4 : Fin 5)))
    (Memref.whole cc6_scratch0) h_S1024x2048 h_S512x2048 h_S2048x1024 h_S1024x1024 h_S512x1024 _ _ _ k6_pay1 k6_pay2 k6_pay3 (hstage6_0 _) (hstage6_1 _) (hstage6_2 _) (hstage6_3 _) (hstage6_4 _)
    ((dat6 V c).before (0 : Fin 5) t) ((dat6 V c).before (1 : Fin 5) t) ((dat6 V c).before (2 : Fin 5) t) ((dat6 V c).before (3 : Fin 5) t) ((dat6 V c).before (4 : Fin 5) t)
    (pb6 V c t) (sb6 V c t) (wb6 V c t) (before6 V c t 0 (by decide)) (before6 V c t 1 (by decide)) (before6 V c t 2 (by decide))
    (idle6 (3 : Fin 5) (grid6.coords t)) (win6_3.flush t) (idle6 (4 : Fin 5) (grid6.coords t)) (win6_4.flush t)
    (idle_of _) (fun h => ⟨idle_not _ h, fun _ d => kept6 V c t h d⟩) (idle_of _) (fun h => ⟨idle_not _ h, fun e => absurd (e.symm.trans (noflush6 t h)) (by decide)⟩)
    (scr6 V c t.val) (scr6 V c (t.val + 1)) (fun g hg h => (hg (prev6 t) (Nat.succ_pred_eq_of_ne_zero (cast6 t h).1)).trans (congrArg k6_pay1 (wb_congr6 V c t h).symm))
    (fun g hr s hs => by obtain rfl : s = t := Fin.ext (Nat.succ.inj hs); exact hr) _ _

/-- Before the first point the scratch buffer holds anything; after the last it is given back. -/
theorem inv_in6 (c : Dev nD) : (Pipeline.scopedRest (Ix := Unit) (Name := ℕ) (U := UU) (Lvl := ℕ) (Val := Elt F) spec6 c : sProp 𝕄) ⊢ inv6 V c 0 :=
  (Entails.of_eq (scopedRest6_split (Ix := Unit) (Name := ℕ) (U := UU) (Lvl := ℕ) (Val := Elt F) c)).trans
    (scr_in _ (Memref.whole cc6_scratch0) _ fun _ _ h => absurd h (Nat.succ_ne_zero _))
theorem inv_out6 (c : Dev nD) (n : ℕ) : inv6 V c n ⊢ (Pipeline.scopedRest (Ix := Unit) (Name := ℕ) (U := UU) (Lvl := ℕ) (Val := Elt F) spec6 c : sProp 𝕄) :=
  (scr_out _ (Memref.whole cc6_scratch0) _).trans
    (Entails.of_eq (scopedRest6_split (Ix := Unit) (Name := ℕ) (U := UU) (Lvl := ℕ) (Val := Elt F) c).symm)

end Cert.Proof.PI

end
-- ==== Proof.ProjIdealCall7.lean ====
module

public import proofs.«01_k».proof.Proof.ProjIdealBase

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 7 -/

/-- Whether a point is the first of its column of blocks, as the body's condition. -/
abbrev first7 (i : grid7.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: prompt rows, sample rows, weights. -/
abbrev pb7 (c : Dev nD) (t : Fin grid7.N) : S1024x2048.Idx → Elt F .bf16 := ((cfg7.win (0 : Fin 5)).blk t).view.read (Elt F) (V c main_v5)
abbrev sb7 (c : Dev nD) (t : Fin grid7.N) : S512x2048.Idx → Elt F .bf16 := ((cfg7.win (1 : Fin 5)).blk t).view.read (Elt F) (V c main_v8)
abbrev wb7 (c : Dev nD) (t : Fin grid7.N) : S2048x1024.Idx → Elt F .f32 := ((cfg7.win (2 : Fin 5)).blk t).view.read (Elt F) (V c main_v0)

/-- The products of the rows of a point with its weights. -/
abbrev po7 (c : Dev nD) (t : Fin grid7.N) : S1024x1024.Idx → Elt F .bf16 := k7_pay2 (pb7 V c t) (k7_pay1 (wb7 V c t))
abbrev so7 (c : Dev nD) (t : Fin grid7.N) : S512x1024.Idx → Elt F .bf16 := k7_pay3 (sb7 V c t) (k7_pay1 (wb7 V c t))

/-- What the scratch buffer holds before point `n`: the weights of the point before. -/
abbrev scr7 (c : Dev nD) (n : ℕ) (g : Bf (F := F) c (Memref.whole cc7_scratch0)) : Prop :=
  ∀ s : Fin grid7.N, s.val + 1 = n → (Memref.whole cc7_scratch0).view.read (Elt F) g = k7_pay1 (wb7 V c s)
/-- The buffers besides the windows' before point `n`. -/
abbrev inv7 (c : Dev nD) (n : ℕ) : sProp 𝕄 :=
  iprop((∃ g : Bf (F := F) c (Memref.whole cc7_scratch0), ⌜scr7 V c n g⌝ ∗ pt c (Memref.whole cc7_scratch0) g)
    ∗ Pipeline.scopedRestBut (Ix := Unit) (Name := ℕ) (U := UU) (Lvl := ℕ) (Val := Elt F) spec7 c [cc7_scratch0])

/-- The proof data of the call. -/
def dat7 (c : Dev nD) : Dat τ (Elt F) Unit ℕ UU ℕ cfg7 c where
  A w := V c (Pipeline.arrRef spec7 w)
  after w t := match w with
    | ⟨0, _⟩ => pb7 V c t
    | ⟨1, _⟩ => sb7 V c t
    | ⟨2, _⟩ => wb7 V c t
    | ⟨3, _⟩ => po7 V c t
    | ⟨4, _⟩ => so7 V c t
  Φ t := inv7 V c t.val
  q _ := fullShare
  owed _ := 0

/-- The point before. -/
abbrev prev7 (t : Fin grid7.N) : Fin grid7.N := ⟨t.val - 1, lt_of_le_of_lt (Nat.sub_le _ _) t.isLt⟩

theorem cast7 : ∀ t : Fin grid7.N, ¬ first7 (grid7.coords t) = 1#1 → t.val ≠ 0 ∧ cc7_transform_2 (grid7.coords t) = cc7_transform_2 (grid7.coords (prev7 t)) := by decide +kernel
theorem keep7 : ∀ t : Fin grid7.N, ¬ k7_cond2 (grid7.coords t) = 1#1 → ¬ first7 (grid7.coords t) = 1#1 ∧ k7_cond2 (grid7.coords (prev7 t)) = 1#1
    ∧ cc7_transform_0 (grid7.coords t) = cc7_transform_0 (grid7.coords (prev7 t))
    ∧ cc7_transform_3 (grid7.coords t) = cc7_transform_3 (grid7.coords (prev7 t)) := by decide +kernel
theorem noflush7 : ∀ t : Fin grid7.N, ¬ k7_cond3 (grid7.coords t) = 1#1 → win7_4.flush t = false := by decide +kernel

theorem wb_congr7 (c : Dev nD) (t : Fin grid7.N) (h : ¬ first7 (grid7.coords t) = 1#1) : wb7 V c t = wb7 V c (prev7 t) :=
  (dat7 V c).fetched_congr 2 (t := t) (t' := prev7 t) (cast7 t h).2 rfl (wb7 V c t)

theorem before7 (c : Dev nD) (t : Fin grid7.N) (w : Fin 5) (hw : w.val < 3) (d) : (dat7 V c).before w t d = (dat7 V c).after w t :=
  match w, hw, d with
  | ⟨0, _⟩, _, d => (dat7 V c).before_in_eq_fetched (0 : Fin 5) rfl (fun _ => rfl) (fun _ _ _ => rfl) (fun _ => rfl) t d
  | ⟨1, _⟩, _, d => (dat7 V c).before_in_eq_fetched (1 : Fin 5) rfl (fun _ => rfl) (fun _ _ _ => rfl) (fun _ => rfl) t d
  | ⟨2, _⟩, _, d => (dat7 V c).before_in_eq_fetched (2 : Fin 5) rfl (fun _ => rfl) (fun _ _ _ => rfl) (fun _ => rfl) t d

/-- At the last point of a column the block of prompt results is still what the point before left. -/
theorem kept7 (c : Dev nD) (t : Fin grid7.N) (h : ¬ k7_cond2 (grid7.coords t) = 1#1) (d) : (dat7 V c).before (3 : Fin 5) t d = po7 V c t := by
  obtain ⟨h1, hp, h0, hx⟩ := keep7 t h
  refine (left_over (dat7 V c) (3 : Fin 5) t (prev7 t) (Nat.succ_pred_eq_of_ne_zero (cast7 t h1).1) rfl hx (idle_of _ hp) d).trans ?_
  show k7_pay2 _ _ = k7_pay2 _ _
  rw [wb_congr7 V c t h1, show pb7 V c t = pb7 V c (prev7 t) from (dat7 V c).fetched_congr 0 (t := t) (t' := prev7 t) h0 rfl (pb7 V c t)]

set_option maxHeartbeats 2000000 in
set_option backward.isDefEq.respectTransparency.types false in
/-- The library's obligation on the body of the call. -/
theorem obligation7 (c : Dev nD) : BodyObligation (dat7 V c) (defs₀ (F := F)) 𝒱₀ () Set.univ := fun t => by
  rw [bigSep_W7, bigSep_W7]
  dsimp only
  exact obl2 c (first7 (grid7.coords t)) (k7_cond2 (grid7.coords t)) (k7_cond3 (grid7.coords t))
    (win7_0.stage (cfg7.slots t (0 : Fin 5))) (win7_1.stage (cfg7.slots t (1 : Fin 5))) (win7_2.stage (cfg7.slots t (2 : Fin 5))) (win7_3.stage (cfg7.slots t (3 : Fin 5))) (win7_4.stage (cfg7.slots t (4 : Fin 5)))
    (Memref.whole cc7_scratch0) h_S1024x2048 h_S512x2048 h_S2048x1024 h_S1024x1024 h_S512x1024 _ _ _ k7_pay1 k7_pay2 k7_pay3 (hstage7_0 _) (hstage7_1 _) (hstage7_2 _) (hstage7_3 _) (hstage7_4 _)
    ((dat7 V c).before (0 : Fin 5) t) ((dat7 V c).before (1 : Fin 5) t) ((dat7 V c).before (2 : Fin 5) t) ((dat7 V c).before (3 : Fin 5) t) ((dat7 V c).before (4 : Fin 5) t)
    (pb7 V c t) (sb7 V c t) (wb7 V c t) (before7 V c t 0 (by decide)) (before7 V c t 1 (by decide)) (before7 V c t 2 (by decide))
    (idle7 (3 : Fin 5) (grid7.coords t)) (win7_3.flush t) (idle7 (4 : Fin 5) (grid7.coords t)) (win7_4.flush t)
    (idle_of _) (fun h => ⟨idle_not _ h, fun _ d => kept7 V c t h d⟩) (idle_of _) (fun h => ⟨idle_not _ h, fun e => absurd (e.symm.trans (noflush7 t h)) (by decide)⟩)
    (scr7 V c t.val) (scr7 V c (t.val + 1)) (fun g hg h => (hg (prev7 t) (Nat.succ_pred_eq_of_ne_zero (cast7 t h).1)).trans (congrArg k7_pay1 (wb_congr7 V c t h).symm))
    (fun g hr s hs => by obtain rfl : s = t := Fin.ext (Nat.succ.inj hs); exact hr) _ _

/-- Before the first point the scratch buffer holds anything; after the last it is given back. -/
theorem inv_in7 (c : Dev nD) : (Pipeline.scopedRest (Ix := Unit) (Name := ℕ) (U := UU) (Lvl := ℕ) (Val := Elt F) spec7 c : sProp 𝕄) ⊢ inv7 V c 0 :=
  (Entails.of_eq (scopedRest7_split (Ix := Unit) (Name := ℕ) (U := UU) (Lvl := ℕ) (Val := Elt F) c)).trans
    (scr_in _ (Memref.whole cc7_scratch0) _ fun _ _ h => absurd h (Nat.succ_ne_zero _))
theorem inv_out7 (c : Dev nD) (n : ℕ) : inv7 V c n ⊢ (Pipeline.scopedRest (Ix := Unit) (Name := ℕ) (U := UU) (Lvl := ℕ) (Val := Elt F) spec7 c : sProp 𝕄) :=
  (scr_out _ (Memref.whole cc7_scratch0) _).trans
    (Entails.of_eq (scopedRest7_split (Ix := Unit) (Name := ℕ) (U := UU) (Lvl := ℕ) (Val := Elt F) c).symm)

end Cert.Proof.PI

end
-- ==== Proof.ProjIdealBuffers.lean ====
module

public import proofs.«01_k».proof.Proof.ProjIdealCall0
public import proofs.«01_k».proof.Proof.ProjIdealCall1
public import proofs.«01_k».proof.Proof.ProjIdealCall2
public import proofs.«01_k».proof.Proof.ProjIdealCall3
public import proofs.«01_k».proof.Proof.ProjIdealCall4
public import proofs.«01_k».proof.Proof.ProjIdealCall5
public import proofs.«01_k».proof.Proof.ProjIdealCall6
public import proofs.«01_k».proof.Proof.ProjIdealCall7

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

variable (m : (ℓ : Loc nD τ sig) → Buf (Elt F) ℓ)

/-! ## The buffers between the items -/

/-- The buffers at launch, and after the first reshapes. -/
def U0 (c : Dev nD) : Valuation τ sig (Elt F) := fun b => m (c, b)
def U1 (c : Dev nD) : Valuation τ sig (Elt F) := StableHlo.after hostOps0 (U0 m c)
theorem U1_of (c : Dev nD) (r : Ref sig .tc) (h : r ∉ hostOps0_W) : U1 m c r = U0 m c r :=
  StableHlo.after_of_writes_sub hostOps0 _ hostOps0_writes h

/-- What call 0 leaves in its results, and the buffers after it. -/
@[irreducible] def o0a (c : Dev nD) : Buf (Elt F) ((c : Thread nD τ).loc main_v5) := (dat0 (fun c b => U1 m c b) c).arrAt 2 grid0.N
theorem o0a_eq (c : Dev nD) : o0a m c = (dat0 (fun c b => U1 m c b) c).arrAt 2 grid0.N := by unfold o0a; rfl
def U2 (c : Dev nD) : Valuation τ sig (Elt F) := Function.update (U1 m c) main_v5 (o0a m c)
theorem U2_of (c : Dev nD) (r : Ref sig .tc) (h : r ≠ main_v5) : U2 m c r = U1 m c r := by
  simp only [U2, Function.update_of_ne (StableHlo.devRef_ne_of_ne h : (Proc.devRef .tc r : DevRef τ sig) ≠ Proc.devRef .tc main_v5)]
theorem U2_a (c : Dev nD) : U2 m c main_v5 = o0a m c := by simp only [U2, Function.update_self]

/-- The buffers after the second reshapes of the weight. -/
def U3 (c : Dev nD) : Valuation τ sig (Elt F) := StableHlo.after hostOps1 (U2 m c)
theorem U3_of (c : Dev nD) (r : Ref sig .tc) (h : r ∉ hostOps1_W) : U3 m c r = U2 m c r :=
  StableHlo.after_of_writes_sub hostOps1 _ hostOps1_writes h

/-- What call 1 leaves in its results, and the buffers after it. -/
@[irreducible] def o1a (c : Dev nD) : Buf (Elt F) ((c : Thread nD τ).loc main_v8) := (dat1 (fun c b => U3 m c b) c).arrAt 2 grid1.N
theorem o1a_eq (c : Dev nD) : o1a m c = (dat1 (fun c b => U3 m c b) c).arrAt 2 grid1.N := by unfold o1a; rfl
def U4 (c : Dev nD) : Valuation τ sig (Elt F) := Function.update (U3 m c) main_v8 (o1a m c)
theorem U4_of (c : Dev nD) (r : Ref sig .tc) (h : r ≠ main_v8) : U4 m c r = U3 m c r := by
  simp only [U4, Function.update_of_ne (StableHlo.devRef_ne_of_ne h : (Proc.devRef .tc r : DevRef τ sig) ≠ Proc.devRef .tc main_v8)]
theorem U4_a (c : Dev nD) : U4 m c main_v8 = o1a m c := by simp only [U4, Function.update_self]

/-- What call 2 leaves in its results, and the buffers after it. -/
@[irreducible] def o2a (c : Dev nD) : Buf (Elt F) ((c : Thread nD τ).loc main_v9_0) := (dat2 (fun c b => U4 m c b) c).arrAt 3 grid2.N
theorem o2a_eq (c : Dev nD) : o2a m c = (dat2 (fun c b => U4 m c b) c).arrAt 3 grid2.N := by unfold o2a; rfl
@[irreducible] def o2b (c : Dev nD) : Buf (Elt F) ((c : Thread nD τ).loc main_v9_1) := (dat2 (fun c b => U4 m c b) c).arrAt 4 grid2.N
theorem o2b_eq (c : Dev nD) : o2b m c = (dat2 (fun c b => U4 m c b) c).arrAt 4 grid2.N := by unfold o2b; rfl
def U5 (c : Dev nD) : Valuation τ sig (Elt F) := Function.update (Function.update (U4 m c) main_v9_0 (o2a m c)) main_v9_1 (o2b m c)
theorem U5_of (c : Dev nD) (r : Ref sig .tc) (h : r ≠ main_v9_0) (h' : r ≠ main_v9_1) : U5 m c r = U4 m c r := by
  simp only [U5, Function.update_of_ne (StableHlo.devRef_ne_of_ne h : (Proc.devRef .tc r : DevRef τ sig) ≠ Proc.devRef .tc main_v9_0),
    Function.update_of_ne (StableHlo.devRef_ne_of_ne h' : (Proc.devRef .tc r : DevRef τ sig) ≠ Proc.devRef .tc main_v9_1)]
theorem U5_a (c : Dev nD) : U5 m c main_v9_0 = o2a m c := by
  simp only [U5, Function.update_of_ne (StableHlo.devRef_ne_of_ne (by decide) : (Proc.devRef .tc main_v9_0 : DevRef τ sig) ≠ Proc.devRef .tc main_v9_1), Function.update_self]
theorem U5_b (c : Dev nD) : U5 m c main_v9_1 = o2b m c := by simp only [U5, Function.update_self]

/-- What call 3 leaves in its results, and the buffers after it. -/
@[irreducible] def o3a (c : Dev nD) : Buf (Elt F) ((c : Thread nD τ).loc main_v10_0) := (dat3 (fun c b => U5 m c b) c).arrAt 3 grid3.N
theorem o3a_eq (c : Dev nD) : o3a m c = (dat3 (fun c b => U5 m c b) c).arrAt 3 grid3.N := by unfold o3a; rfl
@[irreducible] def o3b (c : Dev nD) : Buf (Elt F) ((c : Thread nD τ).loc main_v10_1) := (dat3 (fun c b => U5 m c b) c).arrAt 4 grid3.N
theorem o3b_eq (c : Dev nD) : o3b m c = (dat3 (fun c b => U5 m c b) c).arrAt 4 grid3.N := by unfold o3b; rfl
def U6 (c : Dev nD) : Valuation τ sig (Elt F) := Function.update (Function.update (U5 m c) main_v10_0 (o3a m c)) main_v10_1 (o3b m c)
theorem U6_of (c : Dev nD) (r : Ref sig .tc) (h : r ≠ main_v10_0) (h' : r ≠ main_v10_1) : U6 m c r = U5 m c r := by
  simp only [U6, Function.update_of_ne (StableHlo.devRef_ne_of_ne h : (Proc.devRef .tc r : DevRef τ sig) ≠ Proc.devRef .tc main_v10_0),
    Function.update_of_ne (StableHlo.devRef_ne_of_ne h' : (Proc.devRef .tc r : DevRef τ sig) ≠ Proc.devRef .tc main_v10_1)]
theorem U6_a (c : Dev nD) : U6 m c main_v10_0 = o3a m c := by
  simp only [U6, Function.update_of_ne (StableHlo.devRef_ne_of_ne (by decide) : (Proc.devRef .tc main_v10_0 : DevRef τ sig) ≠ Proc.devRef .tc main_v10_1), Function.update_self]
theorem U6_b (c : Dev nD) : U6 m c main_v10_1 = o3b m c := by simp only [U6, Function.update_self]

/-- What call 4 leaves in its results, and the buffers after it. -/
@[irreducible] def o4a (c : Dev nD) : Buf (Elt F) ((c : Thread nD τ).loc main_v11_0) := (dat4 (fun c b => U6 m c b) c).arrAt 3 grid4.N
theorem o4a_eq (c : Dev nD) : o4a m c = (dat4 (fun c b => U6 m c b) c).arrAt 3 grid4.N := by unfold o4a; rfl
@[irreducible] def o4b (c : Dev nD) : Buf (Elt F) ((c : Thread nD τ).loc main_v11_1) := (dat4 (fun c b => U6 m c b) c).arrAt 4 grid4.N
theorem o4b_eq (c : Dev nD) : o4b m c = (dat4 (fun c b => U6 m c b) c).arrAt 4 grid4.N := by unfold o4b; rfl
def U7 (c : Dev nD) : Valuation τ sig (Elt F) := Function.update (Function.update (U6 m c) main_v11_0 (o4a m c)) main_v11_1 (o4b m c)
theorem U7_of (c : Dev nD) (r : Ref sig .tc) (h : r ≠ main_v11_0) (h' : r ≠ main_v11_1) : U7 m c r = U6 m c r := by
  simp only [U7, Function.update_of_ne (StableHlo.devRef_ne_of_ne h : (Proc.devRef .tc r : DevRef τ sig) ≠ Proc.devRef .tc main_v11_0),
    Function.update_of_ne (StableHlo.devRef_ne_of_ne h' : (Proc.devRef .tc r : DevRef τ sig) ≠ Proc.devRef .tc main_v11_1)]
theorem U7_a (c : Dev nD) : U7 m c main_v11_0 = o4a m c := by
  simp only [U7, Function.update_of_ne (StableHlo.devRef_ne_of_ne (by decide) : (Proc.devRef .tc main_v11_0 : DevRef τ sig) ≠ Proc.devRef .tc main_v11_1), Function.update_self]
theorem U7_b (c : Dev nD) : U7 m c main_v11_1 = o4b m c := by simp only [U7, Function.update_self]

/-- What call 5 leaves in its results, and the buffers after it. -/
@[irreducible] def o5a (c : Dev nD) : Buf (Elt F) ((c : Thread nD τ).loc main_v12_0) := (dat5 (fun c b => U7 m c b) c).arrAt 3 grid5.N
theorem o5a_eq (c : Dev nD) : o5a m c = (dat5 (fun c b => U7 m c b) c).arrAt 3 grid5.N := by unfold o5a; rfl
@[irreducible] def o5b (c : Dev nD) : Buf (Elt F) ((c : Thread nD τ).loc main_v12_1) := (dat5 (fun c b => U7 m c b) c).arrAt 4 grid5.N
theorem o5b_eq (c : Dev nD) : o5b m c = (dat5 (fun c b => U7 m c b) c).arrAt 4 grid5.N := by unfold o5b; rfl
def U8 (c : Dev nD) : Valuation τ sig (Elt F) := Function.update (Function.update (U7 m c) main_v12_0 (o5a m c)) main_v12_1 (o5b m c)
theorem U8_of (c : Dev nD) (r : Ref sig .tc) (h : r ≠ main_v12_0) (h' : r ≠ main_v12_1) : U8 m c r = U7 m c r := by
  simp only [U8, Function.update_of_ne (StableHlo.devRef_ne_of_ne h : (Proc.devRef .tc r : DevRef τ sig) ≠ Proc.devRef .tc main_v12_0),
    Function.update_of_ne (StableHlo.devRef_ne_of_ne h' : (Proc.devRef .tc r : DevRef τ sig) ≠ Proc.devRef .tc main_v12_1)]
theorem U8_a (c : Dev nD) : U8 m c main_v12_0 = o5a m c := by
  simp only [U8, Function.update_of_ne (StableHlo.devRef_ne_of_ne (by decide) : (Proc.devRef .tc main_v12_0 : DevRef τ sig) ≠ Proc.devRef .tc main_v12_1), Function.update_self]
theorem U8_b (c : Dev nD) : U8 m c main_v12_1 = o5b m c := by simp only [U8, Function.update_self]

/-- What call 6 leaves in its results, and the buffers after it. -/
@[irreducible] def o6a (c : Dev nD) : Buf (Elt F) ((c : Thread nD τ).loc main_v13_0) := (dat6 (fun c b => U8 m c b) c).arrAt 3 grid6.N
theorem o6a_eq (c : Dev nD) : o6a m c = (dat6 (fun c b => U8 m c b) c).arrAt 3 grid6.N := by unfold o6a; rfl
@[irreducible] def o6b (c : Dev nD) : Buf (Elt F) ((c : Thread nD τ).loc main_v13_1) := (dat6 (fun c b => U8 m c b) c).arrAt 4 grid6.N
theorem o6b_eq (c : Dev nD) : o6b m c = (dat6 (fun c b => U8 m c b) c).arrAt 4 grid6.N := by unfold o6b; rfl
def U9 (c : Dev nD) : Valuation τ sig (Elt F) := Function.update (Function.update (U8 m c) main_v13_0 (o6a m c)) main_v13_1 (o6b m c)
theorem U9_of (c : Dev nD) (r : Ref sig .tc) (h : r ≠ main_v13_0) (h' : r ≠ main_v13_1) : U9 m c r = U8 m c r := by
  simp only [U9, Function.update_of_ne (StableHlo.devRef_ne_of_ne h : (Proc.devRef .tc r : DevRef τ sig) ≠ Proc.devRef .tc main_v13_0),
    Function.update_of_ne (StableHlo.devRef_ne_of_ne h' : (Proc.devRef .tc r : DevRef τ sig) ≠ Proc.devRef .tc main_v13_1)]
theorem U9_a (c : Dev nD) : U9 m c main_v13_0 = o6a m c := by
  simp only [U9, Function.update_of_ne (StableHlo.devRef_ne_of_ne (by decide) : (Proc.devRef .tc main_v13_0 : DevRef τ sig) ≠ Proc.devRef .tc main_v13_1), Function.update_self]
theorem U9_b (c : Dev nD) : U9 m c main_v13_1 = o6b m c := by simp only [U9, Function.update_self]

/-- What call 7 leaves in its results, and the buffers after it. -/
@[irreducible] def o7a (c : Dev nD) : Buf (Elt F) ((c : Thread nD τ).loc main_v14_0) := (dat7 (fun c b => U9 m c b) c).arrAt 3 grid7.N
theorem o7a_eq (c : Dev nD) : o7a m c = (dat7 (fun c b => U9 m c b) c).arrAt 3 grid7.N := by unfold o7a; rfl
@[irreducible] def o7b (c : Dev nD) : Buf (Elt F) ((c : Thread nD τ).loc main_v14_1) := (dat7 (fun c b => U9 m c b) c).arrAt 4 grid7.N
theorem o7b_eq (c : Dev nD) : o7b m c = (dat7 (fun c b => U9 m c b) c).arrAt 4 grid7.N := by unfold o7b; rfl
def U10 (c : Dev nD) : Valuation τ sig (Elt F) := Function.update (Function.update (U9 m c) main_v14_0 (o7a m c)) main_v14_1 (o7b m c)
theorem U10_of (c : Dev nD) (r : Ref sig .tc) (h : r ≠ main_v14_0) (h' : r ≠ main_v14_1) : U10 m c r = U9 m c r := by
  simp only [U10, Function.update_of_ne (StableHlo.devRef_ne_of_ne h : (Proc.devRef .tc r : DevRef τ sig) ≠ Proc.devRef .tc main_v14_0),
    Function.update_of_ne (StableHlo.devRef_ne_of_ne h' : (Proc.devRef .tc r : DevRef τ sig) ≠ Proc.devRef .tc main_v14_1)]
theorem U10_a (c : Dev nD) : U10 m c main_v14_0 = o7a m c := by
  simp only [U10, Function.update_of_ne (StableHlo.devRef_ne_of_ne (by decide) : (Proc.devRef .tc main_v14_0 : DevRef τ sig) ≠ Proc.devRef .tc main_v14_1), Function.update_self]
theorem U10_b (c : Dev nD) : U10 m c main_v14_1 = o7b m c := by simp only [U10, Function.update_self]

/-- The buffers at the end, after the last reshapes. -/
def U11 (c : Dev nD) : Valuation τ sig (Elt F) := StableHlo.after hostOps8 (U10 m c)
theorem U11_of (c : Dev nD) (r : Ref sig .tc) (h : r ∉ hostOps8_W) : U11 m c r = U10 m c r :=
  StableHlo.after_of_writes_sub hostOps8 _ hostOps8_writes h

/-- The proof data of the calls. -/
def pdats : (p : Fin 8) → (c : Dev nD) → Dat τ (Elt F) Unit ℕ UU ℕ (cfgs p) c
  | ⟨0, _⟩ => fun c => dat0 (fun c b => U1 m c b) c
  | ⟨1, _⟩ => fun c => dat1 (fun c b => U3 m c b) c
  | ⟨2, _⟩ => fun c => dat2 (fun c b => U4 m c b) c
  | ⟨3, _⟩ => fun c => dat3 (fun c b => U5 m c b) c
  | ⟨4, _⟩ => fun c => dat4 (fun c b => U6 m c b) c
  | ⟨5, _⟩ => fun c => dat5 (fun c b => U7 m c b) c
  | ⟨6, _⟩ => fun c => dat6 (fun c b => U8 m c b) c
  | ⟨7, _⟩ => fun c => dat7 (fun c b => U9 m c b) c

end Cert.Proof.PI

end
-- ==== Proof.ProjIdealRegions.lean ====
module

public import proofs.«01_k».proof.Proof.ProjIdealBuffers

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

variable (m : (ℓ : Loc nD τ sig) → Buf (Elt F) ℓ)

set_option backward.isDefEq.respectTransparency.types false in
def reg0 : RegionSeg (pcfgs (F := F)) adm (pdats m) () defs₀ 𝒱₀ L lv 0 :=
  mkReg (pdats m) 0 launch0 (U1 m) (U2 m) (fun _ _ => rfl) (fun _ _ => rfl) (fun _ _ => rfl) (fun _ => rfl) (fun c => obligation0 (fun c b => U1 m c b) c)
    (fun _ => .rfl) (fun _ => .rfl)
    (fun c w => by
    fin_cases w
    · exact ((pdats m 0 c).arrAt_in 0 rfl _).trans (U2_of m c main_v1 (by decide)).symm
    · exact ((pdats m 0 c).arrAt_in 1 rfl _).trans (U2_of m c main_v4 (by decide)).symm
    · exact ((U2_a m c).trans (o0a_eq m c)).symm)
    (fun c b hb => U2_of m c b (fun h => hb (h ▸ Finset.mem_image.mpr ⟨(2 : Fin 3), Finset.mem_univ _, rfl⟩)))

set_option backward.isDefEq.respectTransparency.types false in
def reg1 : RegionSeg (pcfgs (F := F)) adm (pdats m) () defs₀ 𝒱₀ L lv 1 :=
  mkReg (pdats m) 1 launch1 (U3 m) (U4 m) (fun _ _ => rfl) (fun _ _ => rfl) (fun _ _ => rfl) (fun _ => rfl) (fun c => obligation1 (fun c b => U3 m c b) c)
    (fun _ => .rfl) (fun _ => .rfl)
    (fun c w => by
    fin_cases w
    · exact ((pdats m 1 c).arrAt_in 0 rfl _).trans (U4_of m c main_v2 (by decide)).symm
    · exact ((pdats m 1 c).arrAt_in 1 rfl _).trans (U4_of m c main_v7 (by decide)).symm
    · exact ((U4_a m c).trans (o1a_eq m c)).symm)
    (fun c b hb => U4_of m c b (fun h => hb (h ▸ Finset.mem_image.mpr ⟨(2 : Fin 3), Finset.mem_univ _, rfl⟩)))

set_option backward.isDefEq.respectTransparency.types false in
def reg2 : RegionSeg (pcfgs (F := F)) adm (pdats m) () defs₀ 𝒱₀ L lv 2 :=
  mkReg (pdats m) 2 launch2 (U4 m) (U5 m) (fun _ _ => rfl) (fun _ _ => rfl) (fun _ _ => rfl) (fun _ => rfl) (fun c => obligation2 (fun c b => U4 m c b) c)
    (fun c => inv_in2 _ c) (fun c => inv_out2 _ c _)
    (fun c w => by
    fin_cases w
    · exact ((pdats m 2 c).arrAt_in 0 rfl _).trans (U5_of m c main_v5 (by decide) (by decide)).symm
    · exact ((pdats m 2 c).arrAt_in 1 rfl _).trans (U5_of m c main_v8 (by decide) (by decide)).symm
    · exact ((pdats m 2 c).arrAt_in 2 rfl _).trans (U5_of m c main_v0 (by decide) (by decide)).symm
    · exact ((U5_a m c).trans (o2a_eq m c)).symm
    · exact ((U5_b m c).trans (o2b_eq m c)).symm)
    (fun c b hb => U5_of m c b (fun h => hb (h ▸ Finset.mem_image.mpr ⟨(3 : Fin 5), Finset.mem_univ _, rfl⟩)) (fun h => hb (h ▸ Finset.mem_image.mpr ⟨(4 : Fin 5), Finset.mem_univ _, rfl⟩)))

set_option backward.isDefEq.respectTransparency.types false in
def reg3 : RegionSeg (pcfgs (F := F)) adm (pdats m) () defs₀ 𝒱₀ L lv 3 :=
  mkReg (pdats m) 3 launch3 (U5 m) (U6 m) (fun _ _ => rfl) (fun _ _ => rfl) (fun _ _ => rfl) (fun _ => rfl) (fun c => obligation3 (fun c b => U5 m c b) c)
    (fun c => inv_in3 _ c) (fun c => inv_out3 _ c _)
    (fun c w => by
    fin_cases w
    · exact ((pdats m 3 c).arrAt_in 0 rfl _).trans (U6_of m c main_v5 (by decide) (by decide)).symm
    · exact ((pdats m 3 c).arrAt_in 1 rfl _).trans (U6_of m c main_v8 (by decide) (by decide)).symm
    · exact ((pdats m 3 c).arrAt_in 2 rfl _).trans (U6_of m c main_v0 (by decide) (by decide)).symm
    · exact ((U6_a m c).trans (o3a_eq m c)).symm
    · exact ((U6_b m c).trans (o3b_eq m c)).symm)
    (fun c b hb => U6_of m c b (fun h => hb (h ▸ Finset.mem_image.mpr ⟨(3 : Fin 5), Finset.mem_univ _, rfl⟩)) (fun h => hb (h ▸ Finset.mem_image.mpr ⟨(4 : Fin 5), Finset.mem_univ _, rfl⟩)))

set_option backward.isDefEq.respectTransparency.types false in
def reg4 : RegionSeg (pcfgs (F := F)) adm (pdats m) () defs₀ 𝒱₀ L lv 4 :=
  mkReg (pdats m) 4 launch4 (U6 m) (U7 m) (fun _ _ => rfl) (fun _ _ => rfl) (fun _ _ => rfl) (fun _ => rfl) (fun c => obligation4 (fun c b => U6 m c b) c)
    (fun c => inv_in4 _ c) (fun c => inv_out4 _ c _)
    (fun c w => by
    fin_cases w
    · exact ((pdats m 4 c).arrAt_in 0 rfl _).trans (U7_of m c main_v5 (by decide) (by decide)).symm
    · exact ((pdats m 4 c).arrAt_in 1 rfl _).trans (U7_of m c main_v8 (by decide) (by decide)).symm
    · exact ((pdats m 4 c).arrAt_in 2 rfl _).trans (U7_of m c main_v0 (by decide) (by decide)).symm
    · exact ((U7_a m c).trans (o4a_eq m c)).symm
    · exact ((U7_b m c).trans (o4b_eq m c)).symm)
    (fun c b hb => U7_of m c b (fun h => hb (h ▸ Finset.mem_image.mpr ⟨(3 : Fin 5), Finset.mem_univ _, rfl⟩)) (fun h => hb (h ▸ Finset.mem_image.mpr ⟨(4 : Fin 5), Finset.mem_univ _, rfl⟩)))

set_option backward.isDefEq.respectTransparency.types false in
def reg5 : RegionSeg (pcfgs (F := F)) adm (pdats m) () defs₀ 𝒱₀ L lv 5 :=
  mkReg (pdats m) 5 launch5 (U7 m) (U8 m) (fun _ _ => rfl) (fun _ _ => rfl) (fun _ _ => rfl) (fun _ => rfl) (fun c => obligation5 (fun c b => U7 m c b) c)
    (fun c => inv_in5 _ c) (fun c => inv_out5 _ c _)
    (fun c w => by
    fin_cases w
    · exact ((pdats m 5 c).arrAt_in 0 rfl _).trans (U8_of m c main_v5 (by decide) (by decide)).symm
    · exact ((pdats m 5 c).arrAt_in 1 rfl _).trans (U8_of m c main_v8 (by decide) (by decide)).symm
    · exact ((pdats m 5 c).arrAt_in 2 rfl _).trans (U8_of m c main_v0 (by decide) (by decide)).symm
    · exact ((U8_a m c).trans (o5a_eq m c)).symm
    · exact ((U8_b m c).trans (o5b_eq m c)).symm)
    (fun c b hb => U8_of m c b (fun h => hb (h ▸ Finset.mem_image.mpr ⟨(3 : Fin 5), Finset.mem_univ _, rfl⟩)) (fun h => hb (h ▸ Finset.mem_image.mpr ⟨(4 : Fin 5), Finset.mem_univ _, rfl⟩)))

set_option backward.isDefEq.respectTransparency.types false in
def reg6 : RegionSeg (pcfgs (F := F)) adm (pdats m) () defs₀ 𝒱₀ L lv 6 :=
  mkReg (pdats m) 6 launch6 (U8 m) (U9 m) (fun _ _ => rfl) (fun _ _ => rfl) (fun _ _ => rfl) (fun _ => rfl) (fun c => obligation6 (fun c b => U8 m c b) c)
    (fun c => inv_in6 _ c) (fun c => inv_out6 _ c _)
    (fun c w => by
    fin_cases w
    · exact ((pdats m 6 c).arrAt_in 0 rfl _).trans (U9_of m c main_v5 (by decide) (by decide)).symm
    · exact ((pdats m 6 c).arrAt_in 1 rfl _).trans (U9_of m c main_v8 (by decide) (by decide)).symm
    · exact ((pdats m 6 c).arrAt_in 2 rfl _).trans (U9_of m c main_v0 (by decide) (by decide)).symm
    · exact ((U9_a m c).trans (o6a_eq m c)).symm
    · exact ((U9_b m c).trans (o6b_eq m c)).symm)
    (fun c b hb => U9_of m c b (fun h => hb (h ▸ Finset.mem_image.mpr ⟨(3 : Fin 5), Finset.mem_univ _, rfl⟩)) (fun h => hb (h ▸ Finset.mem_image.mpr ⟨(4 : Fin 5), Finset.mem_univ _, rfl⟩)))

set_option backward.isDefEq.respectTransparency.types false in
def reg7 : RegionSeg (pcfgs (F := F)) adm (pdats m) () defs₀ 𝒱₀ L lv 7 :=
  mkReg (pdats m) 7 launch7 (U9 m) (U10 m) (fun _ _ => rfl) (fun _ _ => rfl) (fun _ _ => rfl) (fun _ => rfl) (fun c => obligation7 (fun c b => U9 m c b) c)
    (fun c => inv_in7 _ c) (fun c => inv_out7 _ c _)
    (fun c w => by
    fin_cases w
    · exact ((pdats m 7 c).arrAt_in 0 rfl _).trans (U10_of m c main_v5 (by decide) (by decide)).symm
    · exact ((pdats m 7 c).arrAt_in 1 rfl _).trans (U10_of m c main_v8 (by decide) (by decide)).symm
    · exact ((pdats m 7 c).arrAt_in 2 rfl _).trans (U10_of m c main_v0 (by decide) (by decide)).symm
    · exact ((U10_a m c).trans (o7a_eq m c)).symm
    · exact ((U10_b m c).trans (o7b_eq m c)).symm)
    (fun c b hb => U10_of m c b (fun h => hb (h ▸ Finset.mem_image.mpr ⟨(3 : Fin 5), Finset.mem_univ _, rfl⟩)) (fun h => hb (h ▸ Finset.mem_image.mpr ⟨(4 : Fin 5), Finset.mem_univ _, rfl⟩)))

end Cert.Proof.PI

end
-- ==== Proof.ProjIdealRun.lean ====
module

public import proofs.«01_k».proof.Proof.ProjIdealRegions

@[expose] public section

set_option maxRecDepth 16384

noncomputable section

namespace Cert.Proof.PI

open Cert.ProjectionsIdeal Cert.ProjectionsIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

open Idealize.ShloMosaic.Pipeline (HostSeg)

local notation "𝕄" => MT nD τ sig Unit (Elt F) ℕ UU ℕ

variable (m : (ℓ : Loc nD τ sig) → Buf (Elt F) ℓ)

abbrev EP : Emb (UR sig nD τ) 𝕄 := embL

/-- The library's launch element. -/
def u₀ : UU := (initOf (Pipeline.cells cfgs cellOf_inj) (Pipeline.launchToks cfgs cellOf_inj), 1)

/-- The thread state at a valuation: the buffers held, and nothing owed. -/
abbrev state (W : Dev nD → Valuation τ sig (Elt F)) (c : Dev nD) : sProp 𝕄 :=
  iprop(StableHlo.held (c : Thread nD τ) (Pipeline.ucRefs τ sig) (W c) ∗ owing c)

theorem state_eq (W : Dev nD → Valuation τ sig (Elt F)) (c : Dev nD) :
    (state W c : sProp 𝕄) = iprop(unscopedBufs c (fun b => W c b) ∗ owing c) := by
  unfold state; rw [← Pipeline.unscopedBufs_held c (W c)]

/-- The reshapes at the start, between the two normalizations and at the end. -/
def hseg0 : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) (fun c => owing c)
def hseg1 : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) (fun c => owing c)
def hseg8 : HostSeg (Ix := Unit) (Name := ℕ) (U := UU) (Lvl := ℕ) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (U10 m) (fun c => owing c)

/-- The items of the program on a core. -/
abbrev items (_ : Dev nD) : List (Seg (pcfgs (F := F)) adm (pdats m) () defs₀ 𝒱₀ L lv) :=
  [.host (hseg0 m), .region (reg0 m), .host (hseg1 m), .region (reg1 m), .region (reg2 m), .region (reg3 m), .region (reg4 m), .region (reg5 m),
    .region (reg6 m), .region (reg7 m), .host (hseg8 m)]

set_option backward.isDefEq.respectTransparency.types false in
/-- The run: from any memory the calls end with every buffer of the program at the last valuation, and every semaphore at zero. -/
theorem run (ρ : Dev nD → PrngReg) :
    θ_run defs (onTc (τ := τ) (main (F := F))) ⟨m, fun _ => 0, ρ⟩ (fun r => (∀ (c : Dev nD) (b : Ref sig .tc),
      (Proc.devRef .tc b : DevRef τ sig).isScoped = false → r.2.mem ((c.tc : Thread nD τ).loc b) = U11 m c b)
      ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8 ] from rfl]
      dsimp (config := { failIfUnchanged := false }) only
      exact .rfl)
    (fun c => by simp only [items, Seg.pipes_host, Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := state (U0 m)) (Tₙ := fun c => StableHlo.held (c : Thread nD τ) (Pipeline.ucRefs τ sig) (U11 m c))
    (hch := fun c => ⟨.rfl, Entails.of_eq (state_eq (U1 m) c), Entails.of_eq (state_eq (U2 m) c).symm, Entails.of_eq (state_eq (U3 m) c),
      .rfl, .rfl, .rfl, .rfl, .rfl, .rfl, Entails.of_eq (state_eq (U10 m) c).symm, .rfl⟩)
    (hinit := ?_) (QY := fun c s => ∀ b : Ref sig .tc, (Proc.devRef .tc b : DevRef τ sig).isScoped = false → s.mem ((c.tc : Thread nD τ).loc b) = U11 m c b)
    (hfin := fun c s' => ?_) (hQ := fun _ h hz => ⟨h, funext fun g => hz g (.inr (regions_no_unscoped g.2))⟩)
  · refine Pipeline.initEach L lv fun c => ?_
    rw [state_eq]
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (U11 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simp [hb]⟩)
    · iexact HSI

theorem arg0 (c : Dev nD) : U11 m c main_arg0 = m ((c : Thread nD τ).loc main_arg0) :=
  (U11_of m c main_arg0 (by decide)).trans <| (U10_of m c main_arg0 (by decide) (by decide)).trans <| (U9_of m c main_arg0 (by decide) (by decide)).trans <| (U8_of m c main_arg0 (by decide) (by decide)).trans <| (U7_of m c main_arg0 (by decide) (by decide)).trans <| (U6_of m c main_arg0 (by decide) (by decide)).trans <| (U5_of m c main_arg0 (by decide) (by decide)).trans <| (U4_of m c main_arg0 (by decide)).trans <| (U3_of m c main_arg0 (by decide)).trans <| (U2_of m c main_arg0 (by decide)).trans <| (U1_of m c main_arg0 (by decide))

theorem arg1 (c : Dev nD) : U11 m c main_arg1 = m ((c : Thread nD τ).loc main_arg1) :=
  (U11_of m c main_arg1 (by decide)).trans <| (U10_of m c main_arg1 (by decide) (by decide)).trans <| (U9_of m c main_arg1 (by decide) (by decide)).trans <| (U8_of m c main_arg1 (by decide) (by decide)).trans <| (U7_of m c main_arg1 (by decide) (by decide)).trans <| (U6_of m c main_arg1 (by decide) (by decide)).trans <| (U5_of m c main_arg1 (by decide) (by decide)).trans <| (U4_of m c main_arg1 (by decide)).trans <| (U3_of m c main_arg1 (by decide)).trans <| (U2_of m c main_arg1 (by decide)).trans <| (U1_of m c main_arg1 (by decide))

theorem arg2 (c : Dev nD) : U11 m c main_arg2 = m ((c : Thread nD τ).loc main_arg2) :=
  (U11_of m c main_arg2 (by decide)).trans <| (U10_of m c main_arg2 (by decide) (by decide)).trans <| (U9_of m c main_arg2 (by decide) (by decide)).trans <| (U8_of m c main_arg2 (by decide) (by decide)).trans <| (U7_of m c main_arg2 (by decide) (by decide)).trans <| (U6_of m c main_arg2 (by decide) (by decide)).trans <| (U5_of m c main_arg2 (by decide) (by decide)).trans <| (U4_of m c main_arg2 (by decide)).trans <| (U3_of m c main_arg2 (by decide)).trans <| (U2_of m c main_arg2 (by decide)).trans <| (U1_of m c main_arg2 (by decide))

theorem arg3 (c : Dev nD) : U11 m c main_arg3 = m ((c : Thread nD τ).loc main_arg3) :=
  (U11_of m c main_arg3 (by decide)).trans <| (U10_of m c main_arg3 (by decide) (by decide)).trans <| (U9_of m c main_arg3 (by decide) (by decide)).trans <| (U8_of m c main_arg3 (by decide) (by decide)).trans <| (U7_of m c main_arg3 (by decide) (by decide)).trans <| (U6_of m c main_arg3 (by decide) (by decide)).trans <| (U5_of m c main_arg3 (by decide) (by decide)).trans <| (U4_of m c main_arg3 (by decide)).trans <| (U3_of m c main_arg3 (by decide)).trans <| (U2_of m c main_arg3 (by decide)).trans <| (U1_of m c main_arg3 (by decide))

end Cert.Proof.PI

end
-- ==== Proof.PSame.lean ====
module

public import proofs.«01_k».proof.Proof.Gen.ProjectionsIdeal
public import proofs.«01_k».proof.Proof.Gen.Projections

@[expose] public section

set_option maxHeartbeats 4000000
set_option backward.isDefEq.respectTransparency.types false

noncomputable section

namespace Cert.Proof

open Idealize.ShloMosaic

variable {F : FTy → Type} [FloatOps F]

/-- The two programs of the projections have the same body at every label. -/
theorem bodies_same : Cert.Projections.defs₀ (F := F) = Cert.ProjectionsIdeal.defs₀ (F := F) := by
  unfold Cert.Projections.defs₀ Cert.ProjectionsIdeal.defs₀
  refine congrArg Defs.onTc (funext fun l => funext fun a => ?_)
  match l, a with
  | 0, (t, s) => rfl
  | 1, (t, s) => rfl
  | 2, (t, s) => rfl
  | 3, (t, s) => rfl
  | 4, (t, s) => rfl
  | 5, (t, s) => rfl
  | 6, (t, s) => rfl
  | 7, (t, s) => rfl

/-- So they have the same table of bodies and regions. -/
theorem defs_same : Cert.Projections.defs (F := F) = Cert.ProjectionsIdeal.defs (F := F) :=
  congrArg (Pipeline.defs Cert.ProjectionsIdeal.pcfgs) bodies_same

end Cert.Proof

end
-- ==== Proof.PFrames.lean ====
module

public import proofs.«01_k».proof.Defs
public import proofs.«01_k».proof.Proof.ProjIdealRun
public import proofs.«01_k».proof.Proof.PSame
public import proofs.«01_k».proof.Proof.Gen.ProjectionsReferenceIdeal.Run
public import Idealize.ShloMosaic.Lib.Quiescent

@[expose] public section

noncomputable section

namespace Cert.Proof

open Idealize.ShloMosaic Idealize.SL.Sem

set_option maxHeartbeats 8000000 in
set_option backward.isDefEq.respectTransparency.types false in
/-- The projections' kernel runs, leaves its arguments as they were and every semaphore at zero. -/
theorem proj_frame_bits : Cert.quiescent_Projections := fun m g _ => by
  rw [defs_same]
  exact (θ_run Cert.ProjectionsIdeal.defs _ _).mono (fun _ h => ⟨fun c => ⟨(h.1 c _ rfl).trans (PI.arg0 (F := Bits) m c), (h.1 c _ rfl).trans (PI.arg1 (F := Bits) m c),
    (h.1 c _ rfl).trans (PI.arg2 (F := Bits) m c), (h.1 c _ rfl).trans (PI.arg3 (F := Bits) m c)⟩, h.2⟩) (PI.run (F := Bits) m g)

/-- The kernel at the extended reals runs, leaves its arguments as they were and every semaphore at zero. -/
theorem proj_frame_ideal : Cert.quiescent_ProjectionsIdeal := fun m g _ =>
  (θ_run _ _ _).mono (fun _ h => ⟨fun c => ⟨(h.1 c _ rfl).trans (PI.arg0 m c), (h.1 c _ rfl).trans (PI.arg1 m c), (h.1 c _ rfl).trans (PI.arg2 m c), (h.1 c _ rfl).trans (PI.arg3 m c)⟩, h.2⟩) (PI.run m g)

/-- The reference runs, leaves its arguments as they were and every semaphore at zero: it has none. -/
theorem proj_frame_reference : Cert.quiescent_ProjectionsReferenceIdeal := fun m g _ =>
  (θ_run _ _ _).mono (fun r h => ⟨fun c => (h c).2.2.2.2.2.2.2.2.2.2.2.2, sem_eq_zero_of_no_sems rfl r.2⟩) (Cert.ProjectionsReferenceIdeal.Value.run m g)

/-- The ideal program is the kernel's own text. -/
theorem proj_idealized : Cert.preserves_Projections_ProjectionsIdeal := trivial

end Cert.Proof

end
-- ==== Proof.PNorm.lean ====
module

public import proofs.«01_k».proof.Proof.Gen.ProjectionsIdeal.Skeleton
public import Idealize.ShloMosaic.Lib.MatmulPlain
public import Idealize.ShloMosaic.Lib.ValueIdxCore
public import Idealize.ShloMosaic.Lib.Pipeline.Value

@[expose] public section

set_option maxRecDepth 16384

noncomputable section

namespace Cert.Proof.PSpec

open Idealize.ShloMosaic Idealize.ShloMosaic.ValueIdx
open scoped BigOperators

/-- An entry of a row under RMS normalization with the weights `g`. -/
def nrm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- All rows of an array under it. -/
def nrms {M : ℕ} (X : (⟨2, ![M, 2048]⟩ : Shape).Idx → EReal) (G : (⟨2, ![1, 2048]⟩ : Shape).Idx → EReal) : (⟨2, ![M, 2048]⟩ : Shape).Idx → EReal :=
  fun i => nrm (fun j => X (ix2 (n0 := M) (i 0) j)) (fun j => G (ix2 0 j)) (i 1)

/-- The product of the rows of an array with `N` columns of the weights, from column `o` on. -/
def mm {M N : ℕ} (o : ℕ) (h : o + N ≤ 15360) (X : (⟨2, ![M, 2048]⟩ : Shape).Idx → EReal) (W : (⟨2, ![2048, 15360]⟩ : Shape).Idx → EReal) : (⟨2, ![M, N]⟩ : Shape).Idx → EReal :=
  fun i => ∑ k : Fin 2048, X (ix2 (n0 := M) (i 0) k) * W (ix2 k ⟨o + (i 1).val, lt_of_lt_of_le (Nat.add_lt_add_left (i 1).isLt o) h⟩)

end Cert.Proof.PSpec

namespace Cert.Proof.PI

open Cert.ProjectionsIdeal Cert.ProjectionsIdeal.Gen
open Idealize.ShloMosaic Idealize.ShloMosaic.ValueIdx
open scoped BigOperators

/-- A block of rows, normalized. -/
theorem norm_apply (X : S512x2048.Idx → EReal) (G : S1x2048.Idx → EReal) (p : Fin 512) (k : Fin 2048) :
    k0_pay1 (F := Ideal) X G (ix2 p k) = PSpec.nrm (fun j => X (ix2 p j)) (fun j => G (ix2 0 j)) k := by
  unfold k0_pay1 PSpec.nrm
  simp only [shapeCast_self]
  show X (ix2 p k) * broadcastTo S512x2048 _ _ (ix2 p k) * broadcastTo S512x2048 G _ (ix2 p k) = _
  rw [broadcastTo_apply G _ (ix2 p k) (ix2 0 k) (by intro b; match b with
    | ⟨0, _⟩ => rfl
    | ⟨1, _⟩ => rfl)]
  rw [broadcastTo_apply _ _ (ix2 p k) (ix2 p 0) (by intro b; match b with
    | ⟨0, _⟩ => rfl
    | ⟨1, _⟩ => rfl)]
  show X (ix2 p k) * Ideal.rsqrt (Ideal.div (shapeCast S512x1 _ _ (ix2 p 0)) (Ideal.ofBits .f32 0x45000000#32) + Ideal.ofBits .f32 0x358637BD#32) * G (ix2 0 k) = _
  rw [shapeCast_apply _ _ (ix2 p 0) (ix1 p) (by
    rw [Shape.rowMajor_val_two, Shape.rowMajor_val_one]
    show p.val = p.val * 1 + 0
    omega)]
  refine congrArg (fun z => X (ix2 p k) * Ideal.rsqrt (Ideal.div z (Ideal.ofBits .f32 0x45000000#32) + Ideal.ofBits .f32 0x358637BD#32) * G (ix2 0 k)) ?_
  refine (Ideal.multiReduction_add_single _ _ _ _ _ _).trans ?_
  have hl (j : Fin 2048) : reduces_S512x2048_S512.lift (ix1 p) j = ix2 p j := by
    funext b
    match b with
    | ⟨0, _⟩ => rfl
    | ⟨1, _⟩ => rfl
  exact Finset.sum_congr rfl fun j _ => congrArg (fun z => X z * X z) (hl j)

theorem norm_apply' (X : S512x2048.Idx → EReal) (G : S1x2048.Idx → EReal) (p : Fin 512) (k : Fin 2048) :
    k1_pay1 (F := Ideal) X G (ix2 p k) = PSpec.nrm (fun j => X (ix2 p j)) (fun j => G (ix2 0 j)) k := norm_apply X G p k

/-- A block of prompt rows or of sample rows against a block of weights. -/
theorem prompt_apply (X : S1024x2048.Idx → EReal) (W : S2048x1024.Idx → EReal) (p j : Fin 1024) :
    k2_pay2 (F := Ideal) X (k2_pay1 (F := Ideal) W) (ix2 p j) = ∑ k : Fin 2048, X (ix2 p k) * W (ix2 k j) := by
  unfold k2_pay2 k2_pay1
  simp only [shapeCast_self]
  refine (Ideal.matmul_plain_apply (M := 1024) (K := 2048) (N := 1024) (φ₁ := .bf16) (φ₂ := .bf16) none X W (constant (F := Ideal) S1024x1024 .f32 0x00000000#32) p j).trans ?_
  rw [show (constant (F := Ideal) S1024x1024 .f32 0x00000000#32) (ix2 p j) = (0 : EReal) from Ideal.ofBits_zero_f32, zero_add]
theorem sample_apply (X : S512x2048.Idx → EReal) (W : S2048x1024.Idx → EReal) (p : Fin 512) (j : Fin 1024) :
    k2_pay3 (F := Ideal) X (k2_pay1 (F := Ideal) W) (ix2 p j) = ∑ k : Fin 2048, X (ix2 p k) * W (ix2 k j) := by
  unfold k2_pay3 k2_pay1
  simp only [shapeCast_self]
  refine (Ideal.matmul_plain_apply (M := 512) (K := 2048) (N := 1024) (φ₁ := .bf16) (φ₂ := .bf16) none X W (constant (F := Ideal) S512x1024 .f32 0x00000000#32) p j).trans ?_
  rw [show (constant (F := Ideal) S512x1024 .f32 0x00000000#32) (ix2 p j) = (0 : EReal) from Ideal.ofBits_zero_f32, zero_add]

end Cert.Proof.PI

end
-- ==== Proof.PArr0.lean ====
module

public import proofs.«01_k».proof.Proof.PNorm
public import proofs.«01_k».proof.Proof.ProjIdealCall0
public import proofs.«01_k».proof.Proof.ProjIdealCall1
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 0 -/

theorem idx0 : ∀ t : Fin grid0.N, cc0_transform_0 (grid0.coords t) = ![cc0_transform_2 (grid0.coords t) 0, 0] ∧ cc0_transform_1 (grid0.coords t) = ![0, 0]
    ∧ cc0_transform_2 (grid0.coords t) 1 = 0 := by decide +kernel
theorem cov0 : (cfg0.win (2 : Fin 3)).Covers := by decide +kernel

/-- What call 0 leaves in its result: its rows, normalized. -/
theorem arr0 (c : Dev nD) : (dat0 V c).arrAt 2 grid0.N = PSpec.nrms (M := 16384) (V c main_v1) (V c main_v4) := by
  refine (dat0 V c).arrAt_eq_of_covers (2 : Fin 3) (PSpec.nrms (M := 16384) (V c main_v1) (V c main_v4)) cov0 fun t _ y => ?_
  show k0_pay1 (F := Ideal) (xb0 V c t) (nb0 V c t) y = PSpec.nrms (M := 16384) (V c main_v1) (V c main_v4) (((cfg0.win (2 : Fin 3)).blk t).view.emb y)
  obtain ⟨h0, h1, h2⟩ := idx0 t
  have e0 : (((((cfg0.win (2 : Fin 3)).blk t).view.emb y) 0).val) = cc0_transform_2 (grid0.coords t) 0 * 512 + (y 0).val :=
    Window.rect_emb_val (cfg0.win (2 : Fin 3)) t y 0
  have e1 : (((((cfg0.win (2 : Fin 3)).blk t).view.emb y) 1).val) = cc0_transform_2 (grid0.coords t) 1 * 2048 + (y 1).val :=
    Window.rect_emb_val (cfg0.win (2 : Fin 3)) t y 1
  rw [h2] at e1
  generalize ((cfg0.win (2 : Fin 3)).blk t).view.emb y = z at e0 e1 ⊢
  refine (congrArg _ (eq_ix2 y)).trans ((norm_apply (xb0 V c t) (nb0 V c t) (y 0) (y 1)).trans ?_)
  have hx (k : Fin 2048) : xb0 V c t (ix2 (y 0) k) = V c main_v1 (ix2 (z 0) k) := by
    refine congrArg (V c main_v1) ?_
    funext d
    refine Fin.ext ((Window.rect_emb_val (cfg0.win (0 : Fin 3)) t (ix2 (y 0) k) d).trans ?_)
    show cc0_transform_0 (grid0.coords t) d * _ + _ = _
    rw [h0]
    match d with
    | ⟨0, _⟩ => exact e0.symm
    | ⟨1, _⟩ => show 0 * 2048 + k.val = k.val; omega
  have hg (k : Fin 2048) : nb0 V c t (ix2 0 k) = V c main_v4 (ix2 0 k) := by
    refine congrArg (V c main_v4) ?_
    funext d
    refine Fin.ext ((Window.rect_emb_val (cfg0.win (1 : Fin 3)) t (ix2 0 k) d).trans ?_)
    show cc0_transform_1 (grid0.coords t) d * _ + _ = _
    rw [h1]
    match d with
    | ⟨0, _⟩ => rfl
    | ⟨1, _⟩ => show 0 * 2048 + k.val = k.val; omega
  rw [show (fun j => xb0 V c t (ix2 (y 0) j)) = fun j => V c main_v1 (ix2 (z 0) j) from funext hx,
    show (fun j => nb0 V c t (ix2 0 j)) = fun j => V c main_v4 (ix2 0 j) from funext hg]
  show PSpec.nrm _ _ (y 1) = PSpec.nrm _ _ (z 1)
  exact congrArg _ (Fin.ext (by rw [e1, Nat.zero_mul, Nat.zero_add]))

/-! ## Call 1 -/

theorem idx1 : ∀ t : Fin grid1.N, cc1_transform_0 (grid1.coords t) = ![cc1_transform_2 (grid1.coords t) 0, 0] ∧ cc1_transform_1 (grid1.coords t) = ![0, 0]
    ∧ cc1_transform_2 (grid1.coords t) 1 = 0 := by decide +kernel
theorem cov1 : (cfg1.win (2 : Fin 3)).Covers := by decide +kernel

/-- What call 1 leaves in its result: its rows, normalized. -/
theorem arr1 (c : Dev nD) : (dat1 V c).arrAt 2 grid1.N = PSpec.nrms (M := 512) (V c main_v2) (V c main_v7) := by
  refine (dat1 V c).arrAt_eq_of_covers (2 : Fin 3) (PSpec.nrms (M := 512) (V c main_v2) (V c main_v7)) cov1 fun t _ y => ?_
  show k1_pay1 (F := Ideal) (xb1 V c t) (nb1 V c t) y = PSpec.nrms (M := 512) (V c main_v2) (V c main_v7) (((cfg1.win (2 : Fin 3)).blk t).view.emb y)
  obtain ⟨h0, h1, h2⟩ := idx1 t
  have e0 : (((((cfg1.win (2 : Fin 3)).blk t).view.emb y) 0).val) = cc1_transform_2 (grid1.coords t) 0 * 512 + (y 0).val :=
    Window.rect_emb_val (cfg1.win (2 : Fin 3)) t y 0
  have e1 : (((((cfg1.win (2 : Fin 3)).blk t).view.emb y) 1).val) = cc1_transform_2 (grid1.coords t) 1 * 2048 + (y 1).val :=
    Window.rect_emb_val (cfg1.win (2 : Fin 3)) t y 1
  rw [h2] at e1
  generalize ((cfg1.win (2 : Fin 3)).blk t).view.emb y = z at e0 e1 ⊢
  refine (congrArg _ (eq_ix2 y)).trans ((norm_apply (xb1 V c t) (nb1 V c t) (y 0) (y 1)).trans ?_)
  have hx (k : Fin 2048) : xb1 V c t (ix2 (y 0) k) = V c main_v2 (ix2 (z 0) k) := by
    refine congrArg (V c main_v2) ?_
    funext d
    refine Fin.ext ((Window.rect_emb_val (cfg1.win (0 : Fin 3)) t (ix2 (y 0) k) d).trans ?_)
    show cc1_transform_0 (grid1.coords t) d * _ + _ = _
    rw [h0]
    match d with
    | ⟨0, _⟩ => exact e0.symm
    | ⟨1, _⟩ => show 0 * 2048 + k.val = k.val; omega
  have hg (k : Fin 2048) : nb1 V c t (ix2 0 k) = V c main_v7 (ix2 0 k) := by
    refine congrArg (V c main_v7) ?_
    funext d
    refine Fin.ext ((Window.rect_emb_val (cfg1.win (1 : Fin 3)) t (ix2 0 k) d).trans ?_)
    show cc1_transform_1 (grid1.coords t) d * _ + _ = _
    rw [h1]
    match d with
    | ⟨0, _⟩ => rfl
    | ⟨1, _⟩ => show 0 * 2048 + k.val = k.val; omega
  rw [show (fun j => xb1 V c t (ix2 (y 0) j)) = fun j => V c main_v2 (ix2 (z 0) j) from funext hx,
    show (fun j => nb1 V c t (ix2 0 j)) = fun j => V c main_v7 (ix2 0 j) from funext hg]
  show PSpec.nrm _ _ (y 1) = PSpec.nrm _ _ (z 1)
  exact congrArg _ (Fin.ext (by rw [e1, Nat.zero_mul, Nat.zero_add]))

end Cert.Proof.PI

end
-- ==== Proof.PArr2.lean ====
module

public import proofs.«01_k».proof.Proof.PNorm
public import proofs.«01_k».proof.Proof.ProjIdealCall2
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 2 -/

theorem idx2 : ∀ t : Fin grid2.N, cc2_transform_0 (grid2.coords t) = ![cc2_transform_3 (grid2.coords t) 0, 0] ∧ cc2_transform_1 (grid2.coords t) = ![0, 0]
    ∧ cc2_transform_2 (grid2.coords t) = ![0, 0 + cc2_transform_3 (grid2.coords t) 1] ∧ cc2_transform_4 (grid2.coords t) = ![0, cc2_transform_3 (grid2.coords t) 1] := by
  decide +kernel
theorem cova2 : (cfg2.win (3 : Fin 5)).Covers := by decide +kernel
theorem covb2 : (cfg2.win (4 : Fin 5)).Covers := by decide +kernel

/-- The weights of a point are columns of the whole's. -/
theorem wb2_eq (c : Dev nD) (t : Fin grid2.N) (k : Fin 2048) (j : Fin 1024) (n : Fin 15360) (hn : n.val = 0 + (cc2_transform_3 (grid2.coords t) 1 * 1024 + j.val)) :
    wb2 V c t (ix2 k j) = V c main_v0 (ix2 k n) := by
  refine congrArg (V c main_v0) ?_
  funext d
  refine Fin.ext ((Window.rect_emb_val (cfg2.win (2 : Fin 5)) t (ix2 k j) d).trans ?_)
  show cc2_transform_2 (grid2.coords t) d * _ + _ = _
  rw [(idx2 t).2.2.1]
  match d with
  | ⟨0, _⟩ => show 0 * 2048 + k.val = k.val; omega
  | ⟨1, _⟩ => show (0 + cc2_transform_3 (grid2.coords t) 1) * 1024 + j.val = n.val; omega

/-- What call 2 leaves of the prompt rows: the product of the rows with its columns of the weights. -/
theorem arr2a (c : Dev nD) : (dat2 V c).arrAt 3 grid2.N = PSpec.mm (M := 16384) (N := 2048) 0 (by decide) (V c main_v5) (V c main_v0) := by
  refine (dat2 V c).arrAt_eq_of_covers (3 : Fin 5) (PSpec.mm (M := 16384) (N := 2048) 0 (by decide) (V c main_v5) (V c main_v0)) cova2 fun t _ y => ?_
  show k2_pay2 (F := Ideal) (pb2 V c t) (k2_pay1 (F := Ideal) (wb2 V c t)) y = PSpec.mm (M := 16384) (N := 2048) 0 (by decide) (V c main_v5) (V c main_v0) (((cfg2.win (3 : Fin 5)).blk t).view.emb y)
  obtain ⟨h0, h1, -, h4⟩ := idx2 t
  have e0 : (((((cfg2.win (3 : Fin 5)).blk t).view.emb y) 0).val) = cc2_transform_3 (grid2.coords t) 0 * 1024 + (y 0).val :=
    Window.rect_emb_val (cfg2.win (3 : Fin 5)) t y 0
  have e1 : (((((cfg2.win (3 : Fin 5)).blk t).view.emb y) 1).val) = cc2_transform_3 (grid2.coords t) 1 * 1024 + (y 1).val :=
    Window.rect_emb_val (cfg2.win (3 : Fin 5)) t y 1
  generalize ((cfg2.win (3 : Fin 5)).blk t).view.emb y = z at e0 e1 ⊢
  refine (congrArg _ (eq_ix2 y)).trans ((prompt_apply (pb2 V c t) (wb2 V c t) (y 0) (y 1)).trans ?_)
  refine Finset.sum_congr rfl fun k _ => congrArg₂ (· * ·) ?_ (wb2_eq V c t k (y 1) _ (congrArg (0 + ·) e1))
  refine congrArg (V c main_v5) ?_
  funext d
  refine Fin.ext ((Window.rect_emb_val (cfg2.win (0 : Fin 5)) t (ix2 (y 0) k) d).trans ?_)
  show cc2_transform_0 (grid2.coords t) d * _ + _ = _
  rw [h0]
  match d with
  | ⟨0, _⟩ => exact e0.symm
  | ⟨1, _⟩ => show 0 * 2048 + k.val = k.val; omega

/-- What call 2 leaves of the sample rows: the product of the rows with its columns of the weights. -/
theorem arr2b (c : Dev nD) : (dat2 V c).arrAt 4 grid2.N = PSpec.mm (M := 512) (N := 2048) 0 (by decide) (V c main_v8) (V c main_v0) := by
  refine (dat2 V c).arrAt_eq_of_covers (4 : Fin 5) (PSpec.mm (M := 512) (N := 2048) 0 (by decide) (V c main_v8) (V c main_v0)) covb2 fun t _ y => ?_
  show k2_pay3 (F := Ideal) (sb2 V c t) (k2_pay1 (F := Ideal) (wb2 V c t)) y = PSpec.mm (M := 512) (N := 2048) 0 (by decide) (V c main_v8) (V c main_v0) (((cfg2.win (4 : Fin 5)).blk t).view.emb y)
  obtain ⟨h0, h1, -, h4⟩ := idx2 t
  have e0 : (((((cfg2.win (4 : Fin 5)).blk t).view.emb y) 0).val) = cc2_transform_4 (grid2.coords t) 0 * 512 + (y 0).val :=
    Window.rect_emb_val (cfg2.win (4 : Fin 5)) t y 0
  have e1 : (((((cfg2.win (4 : Fin 5)).blk t).view.emb y) 1).val) = cc2_transform_4 (grid2.coords t) 1 * 1024 + (y 1).val :=
    Window.rect_emb_val (cfg2.win (4 : Fin 5)) t y 1
  rw [h4] at e0 e1
  generalize ((cfg2.win (4 : Fin 5)).blk t).view.emb y = z at e0 e1 ⊢
  refine (congrArg _ (eq_ix2 y)).trans ((sample_apply (sb2 V c t) (wb2 V c t) (y 0) (y 1)).trans ?_)
  refine Finset.sum_congr rfl fun k _ => congrArg₂ (· * ·) ?_ (wb2_eq V c t k (y 1) _ (congrArg (0 + ·) e1))
  refine congrArg (V c main_v8) ?_
  funext d
  refine Fin.ext ((Window.rect_emb_val (cfg2.win (1 : Fin 5)) t (ix2 (y 0) k) d).trans ?_)
  show cc2_transform_1 (grid2.coords t) d * _ + _ = _
  rw [h1]
  match d with
  | ⟨0, _⟩ => exact e0.symm
  | ⟨1, _⟩ => show 0 * 2048 + k.val = k.val; omega

end Cert.Proof.PI

end
-- ==== Proof.PArr3.lean ====
module

public import proofs.«01_k».proof.Proof.PNorm
public import proofs.«01_k».proof.Proof.ProjIdealCall3
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 3 -/

theorem idx3 : ∀ t : Fin grid3.N, cc3_transform_0 (grid3.coords t) = ![cc3_transform_3 (grid3.coords t) 0, 0] ∧ cc3_transform_1 (grid3.coords t) = ![0, 0]
    ∧ cc3_transform_2 (grid3.coords t) = ![0, 2 + cc3_transform_3 (grid3.coords t) 1] ∧ cc3_transform_4 (grid3.coords t) = ![0, cc3_transform_3 (grid3.coords t) 1] := by
  decide +kernel
theorem cova3 : (cfg3.win (3 : Fin 5)).Covers := by decide +kernel
theorem covb3 : (cfg3.win (4 : Fin 5)).Covers := by decide +kernel

/-- The weights of a point are columns of the whole's. -/
theorem wb3_eq (c : Dev nD) (t : Fin grid3.N) (k : Fin 2048) (j : Fin 1024) (n : Fin 15360) (hn : n.val = 2048 + (cc3_transform_3 (grid3.coords t) 1 * 1024 + j.val)) :
    wb3 V c t (ix2 k j) = V c main_v0 (ix2 k n) := by
  refine congrArg (V c main_v0) ?_
  funext d
  refine Fin.ext ((Window.rect_emb_val (cfg3.win (2 : Fin 5)) t (ix2 k j) d).trans ?_)
  show cc3_transform_2 (grid3.coords t) d * _ + _ = _
  rw [(idx3 t).2.2.1]
  match d with
  | ⟨0, _⟩ => show 0 * 2048 + k.val = k.val; omega
  | ⟨1, _⟩ => show (2 + cc3_transform_3 (grid3.coords t) 1) * 1024 + j.val = n.val; omega

/-- What call 3 leaves of the prompt rows: the product of the rows with its columns of the weights. -/
theorem arr3a (c : Dev nD) : (dat3 V c).arrAt 3 grid3.N = PSpec.mm (M := 16384) (N := 2048) 2048 (by decide) (V c main_v5) (V c main_v0) := by
  refine (dat3 V c).arrAt_eq_of_covers (3 : Fin 5) (PSpec.mm (M := 16384) (N := 2048) 2048 (by decide) (V c main_v5) (V c main_v0)) cova3 fun t _ y => ?_
  show k3_pay2 (F := Ideal) (pb3 V c t) (k3_pay1 (F := Ideal) (wb3 V c t)) y = PSpec.mm (M := 16384) (N := 2048) 2048 (by decide) (V c main_v5) (V c main_v0) (((cfg3.win (3 : Fin 5)).blk t).view.emb y)
  obtain ⟨h0, h1, -, h4⟩ := idx3 t
  have e0 : (((((cfg3.win (3 : Fin 5)).blk t).view.emb y) 0).val) = cc3_transform_3 (grid3.coords t) 0 * 1024 + (y 0).val :=
    Window.rect_emb_val (cfg3.win (3 : Fin 5)) t y 0
  have e1 : (((((cfg3.win (3 : Fin 5)).blk t).view.emb y) 1).val) = cc3_transform_3 (grid3.coords t) 1 * 1024 + (y 1).val :=
    Window.rect_emb_val (cfg3.win (3 : Fin 5)) t y 1
  generalize ((cfg3.win (3 : Fin 5)).blk t).view.emb y = z at e0 e1 ⊢
  refine (congrArg _ (eq_ix2 y)).trans ((prompt_apply (pb3 V c t) (wb3 V c t) (y 0) (y 1)).trans ?_)
  refine Finset.sum_congr rfl fun k _ => congrArg₂ (· * ·) ?_ (wb3_eq V c t k (y 1) _ (congrArg (2048 + ·) e1))
  refine congrArg (V c main_v5) ?_
  funext d
  refine Fin.ext ((Window.rect_emb_val (cfg3.win (0 : Fin 5)) t (ix2 (y 0) k) d).trans ?_)
  show cc3_transform_0 (grid3.coords t) d * _ + _ = _
  rw [h0]
  match d with
  | ⟨0, _⟩ => exact e0.symm
  | ⟨1, _⟩ => show 0 * 2048 + k.val = k.val; omega

/-- What call 3 leaves of the sample rows: the product of the rows with its columns of the weights. -/
theorem arr3b (c : Dev nD) : (dat3 V c).arrAt 4 grid3.N = PSpec.mm (M := 512) (N := 2048) 2048 (by decide) (V c main_v8) (V c main_v0) := by
  refine (dat3 V c).arrAt_eq_of_covers (4 : Fin 5) (PSpec.mm (M := 512) (N := 2048) 2048 (by decide) (V c main_v8) (V c main_v0)) covb3 fun t _ y => ?_
  show k3_pay3 (F := Ideal) (sb3 V c t) (k3_pay1 (F := Ideal) (wb3 V c t)) y = PSpec.mm (M := 512) (N := 2048) 2048 (by decide) (V c main_v8) (V c main_v0) (((cfg3.win (4 : Fin 5)).blk t).view.emb y)
  obtain ⟨h0, h1, -, h4⟩ := idx3 t
  have e0 : (((((cfg3.win (4 : Fin 5)).blk t).view.emb y) 0).val) = cc3_transform_4 (grid3.coords t) 0 * 512 + (y 0).val :=
    Window.rect_emb_val (cfg3.win (4 : Fin 5)) t y 0
  have e1 : (((((cfg3.win (4 : Fin 5)).blk t).view.emb y) 1).val) = cc3_transform_4 (grid3.coords t) 1 * 1024 + (y 1).val :=
    Window.rect_emb_val (cfg3.win (4 : Fin 5)) t y 1
  rw [h4] at e0 e1
  generalize ((cfg3.win (4 : Fin 5)).blk t).view.emb y = z at e0 e1 ⊢
  refine (congrArg _ (eq_ix2 y)).trans ((sample_apply (sb3 V c t) (wb3 V c t) (y 0) (y 1)).trans ?_)
  refine Finset.sum_congr rfl fun k _ => congrArg₂ (· * ·) ?_ (wb3_eq V c t k (y 1) _ (congrArg (2048 + ·) e1))
  refine congrArg (V c main_v8) ?_
  funext d
  refine Fin.ext ((Window.rect_emb_val (cfg3.win (1 : Fin 5)) t (ix2 (y 0) k) d).trans ?_)
  show cc3_transform_1 (grid3.coords t) d * _ + _ = _
  rw [h1]
  match d with
  | ⟨0, _⟩ => exact e0.symm
  | ⟨1, _⟩ => show 0 * 2048 + k.val = k.val; omega

end Cert.Proof.PI

end
-- ==== Proof.PArr4.lean ====
module

public import proofs.«01_k».proof.Proof.PNorm
public import proofs.«01_k».proof.Proof.ProjIdealCall4
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 4 -/

theorem idx4 : ∀ t : Fin grid4.N, cc4_transform_0 (grid4.coords t) = ![cc4_transform_3 (grid4.coords t) 0, 0] ∧ cc4_transform_1 (grid4.coords t) = ![0, 0]
    ∧ cc4_transform_2 (grid4.coords t) = ![0, 4 + cc4_transform_3 (grid4.coords t) 1] ∧ cc4_transform_4 (grid4.coords t) = ![0, cc4_transform_3 (grid4.coords t) 1] := by
  decide +kernel
theorem cova4 : (cfg4.win (3 : Fin 5)).Covers := by decide +kernel
theorem covb4 : (cfg4.win (4 : Fin 5)).Covers := by decide +kernel

/-- The weights of a point are columns of the whole's. -/
theorem wb4_eq (c : Dev nD) (t : Fin grid4.N) (k : Fin 2048) (j : Fin 1024) (n : Fin 15360) (hn : n.val = 4096 + (cc4_transform_3 (grid4.coords t) 1 * 1024 + j.val)) :
    wb4 V c t (ix2 k j) = V c main_v0 (ix2 k n) := by
  refine congrArg (V c main_v0) ?_
  funext d
  refine Fin.ext ((Window.rect_emb_val (cfg4.win (2 : Fin 5)) t (ix2 k j) d).trans ?_)
  show cc4_transform_2 (grid4.coords t) d * _ + _ = _
  rw [(idx4 t).2.2.1]
  match d with
  | ⟨0, _⟩ => show 0 * 2048 + k.val = k.val; omega
  | ⟨1, _⟩ => show (4 + cc4_transform_3 (grid4.coords t) 1) * 1024 + j.val = n.val; omega

/-- What call 4 leaves of the prompt rows: the product of the rows with its columns of the weights. -/
theorem arr4a (c : Dev nD) : (dat4 V c).arrAt 3 grid4.N = PSpec.mm (M := 16384) (N := 2048) 4096 (by decide) (V c main_v5) (V c main_v0) := by
  refine (dat4 V c).arrAt_eq_of_covers (3 : Fin 5) (PSpec.mm (M := 16384) (N := 2048) 4096 (by decide) (V c main_v5) (V c main_v0)) cova4 fun t _ y => ?_
  show k4_pay2 (F := Ideal) (pb4 V c t) (k4_pay1 (F := Ideal) (wb4 V c t)) y = PSpec.mm (M := 16384) (N := 2048) 4096 (by decide) (V c main_v5) (V c main_v0) (((cfg4.win (3 : Fin 5)).blk t).view.emb y)
  obtain ⟨h0, h1, -, h4⟩ := idx4 t
  have e0 : (((((cfg4.win (3 : Fin 5)).blk t).view.emb y) 0).val) = cc4_transform_3 (grid4.coords t) 0 * 1024 + (y 0).val :=
    Window.rect_emb_val (cfg4.win (3 : Fin 5)) t y 0
  have e1 : (((((cfg4.win (3 : Fin 5)).blk t).view.emb y) 1).val) = cc4_transform_3 (grid4.coords t) 1 * 1024 + (y 1).val :=
    Window.rect_emb_val (cfg4.win (3 : Fin 5)) t y 1
  generalize ((cfg4.win (3 : Fin 5)).blk t).view.emb y = z at e0 e1 ⊢
  refine (congrArg _ (eq_ix2 y)).trans ((prompt_apply (pb4 V c t) (wb4 V c t) (y 0) (y 1)).trans ?_)
  refine Finset.sum_congr rfl fun k _ => congrArg₂ (· * ·) ?_ (wb4_eq V c t k (y 1) _ (congrArg (4096 + ·) e1))
  refine congrArg (V c main_v5) ?_
  funext d
  refine Fin.ext ((Window.rect_emb_val (cfg4.win (0 : Fin 5)) t (ix2 (y 0) k) d).trans ?_)
  show cc4_transform_0 (grid4.coords t) d * _ + _ = _
  rw [h0]
  match d with
  | ⟨0, _⟩ => exact e0.symm
  | ⟨1, _⟩ => show 0 * 2048 + k.val = k.val; omega

/-- What call 4 leaves of the sample rows: the product of the rows with its columns of the weights. -/
theorem arr4b (c : Dev nD) : (dat4 V c).arrAt 4 grid4.N = PSpec.mm (M := 512) (N := 2048) 4096 (by decide) (V c main_v8) (V c main_v0) := by
  refine (dat4 V c).arrAt_eq_of_covers (4 : Fin 5) (PSpec.mm (M := 512) (N := 2048) 4096 (by decide) (V c main_v8) (V c main_v0)) covb4 fun t _ y => ?_
  show k4_pay3 (F := Ideal) (sb4 V c t) (k4_pay1 (F := Ideal) (wb4 V c t)) y = PSpec.mm (M := 512) (N := 2048) 4096 (by decide) (V c main_v8) (V c main_v0) (((cfg4.win (4 : Fin 5)).blk t).view.emb y)
  obtain ⟨h0, h1, -, h4⟩ := idx4 t
  have e0 : (((((cfg4.win (4 : Fin 5)).blk t).view.emb y) 0).val) = cc4_transform_4 (grid4.coords t) 0 * 512 + (y 0).val :=
    Window.rect_emb_val (cfg4.win (4 : Fin 5)) t y 0
  have e1 : (((((cfg4.win (4 : Fin 5)).blk t).view.emb y) 1).val) = cc4_transform_4 (grid4.coords t) 1 * 1024 + (y 1).val :=
    Window.rect_emb_val (cfg4.win (4 : Fin 5)) t y 1
  rw [h4] at e0 e1
  generalize ((cfg4.win (4 : Fin 5)).blk t).view.emb y = z at e0 e1 ⊢
  refine (congrArg _ (eq_ix2 y)).trans ((sample_apply (sb4 V c t) (wb4 V c t) (y 0) (y 1)).trans ?_)
  refine Finset.sum_congr rfl fun k _ => congrArg₂ (· * ·) ?_ (wb4_eq V c t k (y 1) _ (congrArg (4096 + ·) e1))
  refine congrArg (V c main_v8) ?_
  funext d
  refine Fin.ext ((Window.rect_emb_val (cfg4.win (1 : Fin 5)) t (ix2 (y 0) k) d).trans ?_)
  show cc4_transform_1 (grid4.coords t) d * _ + _ = _
  rw [h1]
  match d with
  | ⟨0, _⟩ => exact e0.symm
  | ⟨1, _⟩ => show 0 * 2048 + k.val = k.val; omega

end Cert.Proof.PI

end
-- ==== Proof.PArr5.lean ====
module

public import proofs.«01_k».proof.Proof.PNorm
public import proofs.«01_k».proof.Proof.ProjIdealCall5
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 5 -/

theorem idx5 : ∀ t : Fin grid5.N, cc5_transform_0 (grid5.coords t) = ![cc5_transform_3 (grid5.coords t) 0, 0] ∧ cc5_transform_1 (grid5.coords t) = ![0, 0]
    ∧ cc5_transform_2 (grid5.coords t) = ![0, 6 + cc5_transform_3 (grid5.coords t) 1] ∧ cc5_transform_4 (grid5.coords t) = ![0, cc5_transform_3 (grid5.coords t) 1] := by
  decide +kernel
theorem cova5 : (cfg5.win (3 : Fin 5)).Covers := by decide +kernel
theorem covb5 : (cfg5.win (4 : Fin 5)).Covers := by decide +kernel

/-- The weights of a point are columns of the whole's. -/
theorem wb5_eq (c : Dev nD) (t : Fin grid5.N) (k : Fin 2048) (j : Fin 1024) (n : Fin 15360) (hn : n.val = 6144 + (cc5_transform_3 (grid5.coords t) 1 * 1024 + j.val)) :
    wb5 V c t (ix2 k j) = V c main_v0 (ix2 k n) := by
  refine congrArg (V c main_v0) ?_
  funext d
  refine Fin.ext ((Window.rect_emb_val (cfg5.win (2 : Fin 5)) t (ix2 k j) d).trans ?_)
  show cc5_transform_2 (grid5.coords t) d * _ + _ = _
  rw [(idx5 t).2.2.1]
  match d with
  | ⟨0, _⟩ => show 0 * 2048 + k.val = k.val; omega
  | ⟨1, _⟩ => show (6 + cc5_transform_3 (grid5.coords t) 1) * 1024 + j.val = n.val; omega

/-- What call 5 leaves of the prompt rows: the product of the rows with its columns of the weights. -/
theorem arr5a (c : Dev nD) : (dat5 V c).arrAt 3 grid5.N = PSpec.mm (M := 16384) (N := 2048) 6144 (by decide) (V c main_v5) (V c main_v0) := by
  refine (dat5 V c).arrAt_eq_of_covers (3 : Fin 5) (PSpec.mm (M := 16384) (N := 2048) 6144 (by decide) (V c main_v5) (V c main_v0)) cova5 fun t _ y => ?_
  show k5_pay2 (F := Ideal) (pb5 V c t) (k5_pay1 (F := Ideal) (wb5 V c t)) y = PSpec.mm (M := 16384) (N := 2048) 6144 (by decide) (V c main_v5) (V c main_v0) (((cfg5.win (3 : Fin 5)).blk t).view.emb y)
  obtain ⟨h0, h1, -, h4⟩ := idx5 t
  have e0 : (((((cfg5.win (3 : Fin 5)).blk t).view.emb y) 0).val) = cc5_transform_3 (grid5.coords t) 0 * 1024 + (y 0).val :=
    Window.rect_emb_val (cfg5.win (3 : Fin 5)) t y 0
  have e1 : (((((cfg5.win (3 : Fin 5)).blk t).view.emb y) 1).val) = cc5_transform_3 (grid5.coords t) 1 * 1024 + (y 1).val :=
    Window.rect_emb_val (cfg5.win (3 : Fin 5)) t y 1
  generalize ((cfg5.win (3 : Fin 5)).blk t).view.emb y = z at e0 e1 ⊢
  refine (congrArg _ (eq_ix2 y)).trans ((prompt_apply (pb5 V c t) (wb5 V c t) (y 0) (y 1)).trans ?_)
  refine Finset.sum_congr rfl fun k _ => congrArg₂ (· * ·) ?_ (wb5_eq V c t k (y 1) _ (congrArg (6144 + ·) e1))
  refine congrArg (V c main_v5) ?_
  funext d
  refine Fin.ext ((Window.rect_emb_val (cfg5.win (0 : Fin 5)) t (ix2 (y 0) k) d).trans ?_)
  show cc5_transform_0 (grid5.coords t) d * _ + _ = _
  rw [h0]
  match d with
  | ⟨0, _⟩ => exact e0.symm
  | ⟨1, _⟩ => show 0 * 2048 + k.val = k.val; omega

/-- What call 5 leaves of the sample rows: the product of the rows with its columns of the weights. -/
theorem arr5b (c : Dev nD) : (dat5 V c).arrAt 4 grid5.N = PSpec.mm (M := 512) (N := 2048) 6144 (by decide) (V c main_v8) (V c main_v0) := by
  refine (dat5 V c).arrAt_eq_of_covers (4 : Fin 5) (PSpec.mm (M := 512) (N := 2048) 6144 (by decide) (V c main_v8) (V c main_v0)) covb5 fun t _ y => ?_
  show k5_pay3 (F := Ideal) (sb5 V c t) (k5_pay1 (F := Ideal) (wb5 V c t)) y = PSpec.mm (M := 512) (N := 2048) 6144 (by decide) (V c main_v8) (V c main_v0) (((cfg5.win (4 : Fin 5)).blk t).view.emb y)
  obtain ⟨h0, h1, -, h4⟩ := idx5 t
  have e0 : (((((cfg5.win (4 : Fin 5)).blk t).view.emb y) 0).val) = cc5_transform_4 (grid5.coords t) 0 * 512 + (y 0).val :=
    Window.rect_emb_val (cfg5.win (4 : Fin 5)) t y 0
  have e1 : (((((cfg5.win (4 : Fin 5)).blk t).view.emb y) 1).val) = cc5_transform_4 (grid5.coords t) 1 * 1024 + (y 1).val :=
    Window.rect_emb_val (cfg5.win (4 : Fin 5)) t y 1
  rw [h4] at e0 e1
  generalize ((cfg5.win (4 : Fin 5)).blk t).view.emb y = z at e0 e1 ⊢
  refine (congrArg _ (eq_ix2 y)).trans ((sample_apply (sb5 V c t) (wb5 V c t) (y 0) (y 1)).trans ?_)
  refine Finset.sum_congr rfl fun k _ => congrArg₂ (· * ·) ?_ (wb5_eq V c t k (y 1) _ (congrArg (6144 + ·) e1))
  refine congrArg (V c main_v8) ?_
  funext d
  refine Fin.ext ((Window.rect_emb_val (cfg5.win (1 : Fin 5)) t (ix2 (y 0) k) d).trans ?_)
  show cc5_transform_1 (grid5.coords t) d * _ + _ = _
  rw [h1]
  match d with
  | ⟨0, _⟩ => exact e0.symm
  | ⟨1, _⟩ => show 0 * 2048 + k.val = k.val; omega

end Cert.Proof.PI

end
-- ==== Proof.PArr6.lean ====
module

public import proofs.«01_k».proof.Proof.PNorm
public import proofs.«01_k».proof.Proof.ProjIdealCall6
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 6 -/

theorem idx6 : ∀ t : Fin grid6.N, cc6_transform_0 (grid6.coords t) = ![cc6_transform_3 (grid6.coords t) 0, 0] ∧ cc6_transform_1 (grid6.coords t) = ![0, 0]
    ∧ cc6_transform_2 (grid6.coords t) = ![0, 8 + cc6_transform_3 (grid6.coords t) 1] ∧ cc6_transform_4 (grid6.coords t) = ![0, cc6_transform_3 (grid6.coords t) 1] := by
  decide +kernel
theorem cova6 : (cfg6.win (3 : Fin 5)).Covers := by decide +kernel
theorem covb6 : (cfg6.win (4 : Fin 5)).Covers := by decide +kernel

/-- The weights of a point are columns of the whole's. -/
theorem wb6_eq (c : Dev nD) (t : Fin grid6.N) (k : Fin 2048) (j : Fin 1024) (n : Fin 15360) (hn : n.val = 8192 + (cc6_transform_3 (grid6.coords t) 1 * 1024 + j.val)) :
    wb6 V c t (ix2 k j) = V c main_v0 (ix2 k n) := by
  refine congrArg (V c main_v0) ?_
  funext d
  refine Fin.ext ((Window.rect_emb_val (cfg6.win (2 : Fin 5)) t (ix2 k j) d).trans ?_)
  show cc6_transform_2 (grid6.coords t) d * _ + _ = _
  rw [(idx6 t).2.2.1]
  match d with
  | ⟨0, _⟩ => show 0 * 2048 + k.val = k.val; omega
  | ⟨1, _⟩ => show (8 + cc6_transform_3 (grid6.coords t) 1) * 1024 + j.val = n.val; omega

/-- What call 6 leaves of the prompt rows: the product of the rows with its columns of the weights. -/
theorem arr6a (c : Dev nD) : (dat6 V c).arrAt 3 grid6.N = PSpec.mm (M := 16384) (N := 1024) 8192 (by decide) (V c main_v5) (V c main_v0) := by
  refine (dat6 V c).arrAt_eq_of_covers (3 : Fin 5) (PSpec.mm (M := 16384) (N := 1024) 8192 (by decide) (V c main_v5) (V c main_v0)) cova6 fun t _ y => ?_
  show k6_pay2 (F := Ideal) (pb6 V c t) (k6_pay1 (F := Ideal) (wb6 V c t)) y = PSpec.mm (M := 16384) (N := 1024) 8192 (by decide) (V c main_v5) (V c main_v0) (((cfg6.win (3 : Fin 5)).blk t).view.emb y)
  obtain ⟨h0, h1, -, h4⟩ := idx6 t
  have e0 : (((((cfg6.win (3 : Fin 5)).blk t).view.emb y) 0).val) = cc6_transform_3 (grid6.coords t) 0 * 1024 + (y 0).val :=
    Window.rect_emb_val (cfg6.win (3 : Fin 5)) t y 0
  have e1 : (((((cfg6.win (3 : Fin 5)).blk t).view.emb y) 1).val) = cc6_transform_3 (grid6.coords t) 1 * 1024 + (y 1).val :=
    Window.rect_emb_val (cfg6.win (3 : Fin 5)) t y 1
  generalize ((cfg6.win (3 : Fin 5)).blk t).view.emb y = z at e0 e1 ⊢
  refine (congrArg _ (eq_ix2 y)).trans ((prompt_apply (pb6 V c t) (wb6 V c t) (y 0) (y 1)).trans ?_)
  refine Finset.sum_congr rfl fun k _ => congrArg₂ (· * ·) ?_ (wb6_eq V c t k (y 1) _ (congrArg (8192 + ·) e1))
  refine congrArg (V c main_v5) ?_
  funext d
  refine Fin.ext ((Window.rect_emb_val (cfg6.win (0 : Fin 5)) t (ix2 (y 0) k) d).trans ?_)
  show cc6_transform_0 (grid6.coords t) d * _ + _ = _
  rw [h0]
  match d with
  | ⟨0, _⟩ => exact e0.symm
  | ⟨1, _⟩ => show 0 * 2048 + k.val = k.val; omega

/-- What call 6 leaves of the sample rows: the product of the rows with its columns of the weights. -/
theorem arr6b (c : Dev nD) : (dat6 V c).arrAt 4 grid6.N = PSpec.mm (M := 512) (N := 1024) 8192 (by decide) (V c main_v8) (V c main_v0) := by
  refine (dat6 V c).arrAt_eq_of_covers (4 : Fin 5) (PSpec.mm (M := 512) (N := 1024) 8192 (by decide) (V c main_v8) (V c main_v0)) covb6 fun t _ y => ?_
  show k6_pay3 (F := Ideal) (sb6 V c t) (k6_pay1 (F := Ideal) (wb6 V c t)) y = PSpec.mm (M := 512) (N := 1024) 8192 (by decide) (V c main_v8) (V c main_v0) (((cfg6.win (4 : Fin 5)).blk t).view.emb y)
  obtain ⟨h0, h1, -, h4⟩ := idx6 t
  have e0 : (((((cfg6.win (4 : Fin 5)).blk t).view.emb y) 0).val) = cc6_transform_4 (grid6.coords t) 0 * 512 + (y 0).val :=
    Window.rect_emb_val (cfg6.win (4 : Fin 5)) t y 0
  have e1 : (((((cfg6.win (4 : Fin 5)).blk t).view.emb y) 1).val) = cc6_transform_4 (grid6.coords t) 1 * 1024 + (y 1).val :=
    Window.rect_emb_val (cfg6.win (4 : Fin 5)) t y 1
  rw [h4] at e0 e1
  generalize ((cfg6.win (4 : Fin 5)).blk t).view.emb y = z at e0 e1 ⊢
  refine (congrArg _ (eq_ix2 y)).trans ((sample_apply (sb6 V c t) (wb6 V c t) (y 0) (y 1)).trans ?_)
  refine Finset.sum_congr rfl fun k _ => congrArg₂ (· * ·) ?_ (wb6_eq V c t k (y 1) _ (congrArg (8192 + ·) e1))
  refine congrArg (V c main_v8) ?_
  funext d
  refine Fin.ext ((Window.rect_emb_val (cfg6.win (1 : Fin 5)) t (ix2 (y 0) k) d).trans ?_)
  show cc6_transform_1 (grid6.coords t) d * _ + _ = _
  rw [h1]
  match d with
  | ⟨0, _⟩ => exact e0.symm
  | ⟨1, _⟩ => show 0 * 2048 + k.val = k.val; omega

end Cert.Proof.PI

end
-- ==== Proof.PArr7.lean ====
module

public import proofs.«01_k».proof.Proof.PNorm
public import proofs.«01_k».proof.Proof.ProjIdealCall7
public import Idealize.ShloMosaic.Lib.Pipeline.Covers

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-! ## Call 7 -/

theorem idx7 : ∀ t : Fin grid7.N, cc7_transform_0 (grid7.coords t) = ![cc7_transform_3 (grid7.coords t) 0, 0] ∧ cc7_transform_1 (grid7.coords t) = ![0, 0]
    ∧ cc7_transform_2 (grid7.coords t) = ![0, 9 + cc7_transform_3 (grid7.coords t) 1] ∧ cc7_transform_4 (grid7.coords t) = ![0, cc7_transform_3 (grid7.coords t) 1] := by
  decide +kernel
theorem cova7 : (cfg7.win (3 : Fin 5)).Covers := by decide +kernel
theorem covb7 : (cfg7.win (4 : Fin 5)).Covers := by decide +kernel

/-- The weights of a point are columns of the whole's. -/
theorem wb7_eq (c : Dev nD) (t : Fin grid7.N) (k : Fin 2048) (j : Fin 1024) (n : Fin 15360) (hn : n.val = 9216 + (cc7_transform_3 (grid7.coords t) 1 * 1024 + j.val)) :
    wb7 V c t (ix2 k j) = V c main_v0 (ix2 k n) := by
  refine congrArg (V c main_v0) ?_
  funext d
  refine Fin.ext ((Window.rect_emb_val (cfg7.win (2 : Fin 5)) t (ix2 k j) d).trans ?_)
  show cc7_transform_2 (grid7.coords t) d * _ + _ = _
  rw [(idx7 t).2.2.1]
  match d with
  | ⟨0, _⟩ => show 0 * 2048 + k.val = k.val; omega
  | ⟨1, _⟩ => show (9 + cc7_transform_3 (grid7.coords t) 1) * 1024 + j.val = n.val; omega

/-- What call 7 leaves of the prompt rows: the product of the rows with its columns of the weights. -/
theorem arr7a (c : Dev nD) : (dat7 V c).arrAt 3 grid7.N = PSpec.mm (M := 16384) (N := 6144) 9216 (by decide) (V c main_v5) (V c main_v0) := by
  refine (dat7 V c).arrAt_eq_of_covers (3 : Fin 5) (PSpec.mm (M := 16384) (N := 6144) 9216 (by decide) (V c main_v5) (V c main_v0)) cova7 fun t _ y => ?_
  show k7_pay2 (F := Ideal) (pb7 V c t) (k7_pay1 (F := Ideal) (wb7 V c t)) y = PSpec.mm (M := 16384) (N := 6144) 9216 (by decide) (V c main_v5) (V c main_v0) (((cfg7.win (3 : Fin 5)).blk t).view.emb y)
  obtain ⟨h0, h1, -, h4⟩ := idx7 t
  have e0 : (((((cfg7.win (3 : Fin 5)).blk t).view.emb y) 0).val) = cc7_transform_3 (grid7.coords t) 0 * 1024 + (y 0).val :=
    Window.rect_emb_val (cfg7.win (3 : Fin 5)) t y 0
  have e1 : (((((cfg7.win (3 : Fin 5)).blk t).view.emb y) 1).val) = cc7_transform_3 (grid7.coords t) 1 * 1024 + (y 1).val :=
    Window.rect_emb_val (cfg7.win (3 : Fin 5)) t y 1
  generalize ((cfg7.win (3 : Fin 5)).blk t).view.emb y = z at e0 e1 ⊢
  refine (congrArg _ (eq_ix2 y)).trans ((prompt_apply (pb7 V c t) (wb7 V c t) (y 0) (y 1)).trans ?_)
  refine Finset.sum_congr rfl fun k _ => congrArg₂ (· * ·) ?_ (wb7_eq V c t k (y 1) _ (congrArg (9216 + ·) e1))
  refine congrArg (V c main_v5) ?_
  funext d
  refine Fin.ext ((Window.rect_emb_val (cfg7.win (0 : Fin 5)) t (ix2 (y 0) k) d).trans ?_)
  show cc7_transform_0 (grid7.coords t) d * _ + _ = _
  rw [h0]
  match d with
  | ⟨0, _⟩ => exact e0.symm
  | ⟨1, _⟩ => show 0 * 2048 + k.val = k.val; omega

/-- What call 7 leaves of the sample rows: the product of the rows with its columns of the weights. -/
theorem arr7b (c : Dev nD) : (dat7 V c).arrAt 4 grid7.N = PSpec.mm (M := 512) (N := 6144) 9216 (by decide) (V c main_v8) (V c main_v0) := by
  refine (dat7 V c).arrAt_eq_of_covers (4 : Fin 5) (PSpec.mm (M := 512) (N := 6144) 9216 (by decide) (V c main_v8) (V c main_v0)) covb7 fun t _ y => ?_
  show k7_pay3 (F := Ideal) (sb7 V c t) (k7_pay1 (F := Ideal) (wb7 V c t)) y = PSpec.mm (M := 512) (N := 6144) 9216 (by decide) (V c main_v8) (V c main_v0) (((cfg7.win (4 : Fin 5)).blk t).view.emb y)
  obtain ⟨h0, h1, -, h4⟩ := idx7 t
  have e0 : (((((cfg7.win (4 : Fin 5)).blk t).view.emb y) 0).val) = cc7_transform_4 (grid7.coords t) 0 * 512 + (y 0).val :=
    Window.rect_emb_val (cfg7.win (4 : Fin 5)) t y 0
  have e1 : (((((cfg7.win (4 : Fin 5)).blk t).view.emb y) 1).val) = cc7_transform_4 (grid7.coords t) 1 * 1024 + (y 1).val :=
    Window.rect_emb_val (cfg7.win (4 : Fin 5)) t y 1
  rw [h4] at e0 e1
  generalize ((cfg7.win (4 : Fin 5)).blk t).view.emb y = z at e0 e1 ⊢
  refine (congrArg _ (eq_ix2 y)).trans ((sample_apply (sb7 V c t) (wb7 V c t) (y 0) (y 1)).trans ?_)
  refine Finset.sum_congr rfl fun k _ => congrArg₂ (· * ·) ?_ (wb7_eq V c t k (y 1) _ (congrArg (9216 + ·) e1))
  refine congrArg (V c main_v8) ?_
  funext d
  refine Fin.ext ((Window.rect_emb_val (cfg7.win (1 : Fin 5)) t (ix2 (y 0) k) d).trans ?_)
  show cc7_transform_1 (grid7.coords t) d * _ + _ = _
  rw [h1]
  match d with
  | ⟨0, _⟩ => exact e0.symm
  | ⟨1, _⟩ => show 0 * 2048 + k.val = k.val; omega

end Cert.Proof.PI

end
-- ==== Proof.PKernel.lean ====
module

public import proofs.«01_k».proof.Proof.ProjIdealRun
public import proofs.«01_k».proof.Proof.PArr0
public import proofs.«01_k».proof.Proof.PArr2
public import proofs.«01_k».proof.Proof.PArr3
public import proofs.«01_k».proof.Proof.PArr4
public import proofs.«01_k».proof.Proof.PArr5
public import proofs.«01_k».proof.Proof.PArr6
public import proofs.«01_k».proof.Proof.PArr7

@[expose] public section

set_option maxRecDepth 16384

noncomputable section

namespace Cert.Proof.PI

open Cert.ProjectionsIdeal Cert.ProjectionsIdeal.Gen
open Idealize.ShloMosaic Idealize.ShloMosaic.TcCoe Idealize.ShloMosaic.ValueIdx Idealize.ShloMosaic.StableHlo
open scoped BigOperators

variable (m : (ℓ : Loc nD τ sig) → Buf (Elt Ideal) ℓ)

/-- The arguments as the kernel's host code flattens them: prompt rows, sample rows, norm weights, projection weights. -/
def xP (c : Dev nD) : S16384x2048.Idx → EReal := shapeCast S16384x2048 (m ((c.tc : Thread nD τ).loc main_arg0)) shapeCasts_S2x8192x2048_S16384x2048
def xS (c : Dev nD) : S512x2048.Idx → EReal := shapeCast S512x2048 (m ((c.tc : Thread nD τ).loc main_arg1)) shapeCasts_S8x64x2048_S512x2048
def gN (c : Dev nD) : S2048.Idx → EReal := shapeCast S2048 (m ((c.tc : Thread nD τ).loc main_arg2)) shapeCasts_S1x2048_S2048
def wP (c : Dev nD) : S2048x15360.Idx → EReal := shapeCast S2048x15360 (m ((c.tc : Thread nD τ).loc main_arg3)) shapeCasts_S1x2048x15360_S2048x15360

/-- The normalized rows. -/
def hP (c : Dev nD) : S16384x2048.Idx → EReal := PSpec.nrms (M := 16384) (xP m c) (fun i => gN m c (ix1 (i 1)))
def hS (c : Dev nD) : S512x2048.Idx → EReal := PSpec.nrms (M := 512) (xS m c) (fun i => gN m c (ix1 (i 1)))

theorem U1_v1 (c : Dev nD) : U1 m c main_v1 = xP m c := by unfold U1; after_results_simp <;> rfl
theorem U1_v2 (c : Dev nD) : U1 m c main_v2 = xS m c := by unfold U1; after_results_simp <;> rfl
theorem U1_v0 (c : Dev nD) : U1 m c main_v0 = wP m c := by unfold U1; after_results_simp <;> rfl
theorem U1_v4 (c : Dev nD) : U1 m c main_v4 = shapeCast S1x2048 (gN m c) shapeCasts_S2048_S1x2048 := by unfold U1; after_results_simp <;> rfl
theorem U2_arg2 (c : Dev nD) : U2 m c main_arg2 = m ((c.tc : Thread nD τ).loc main_arg2) :=
  (U2_of m c main_arg2 (by decide)).trans (U1_of m c main_arg2 (by decide))
theorem U3_v7 (c : Dev nD) : U3 m c main_v7 = shapeCast S1x2048 (gN m c) shapeCasts_S2048_S1x2048 := by
  unfold gN
  rw [← U2_arg2 m c]
  unfold U3; after_results_simp <;> rfl

theorem row_apply (g : S2048.Idx → EReal) (k : Fin 2048) : shapeCast S1x2048 g shapeCasts_S2048_S1x2048 (ix2 0 k) = g (ix1 k) :=
  shapeCast_apply _ _ _ (ix1 k) (by
    rw [Shape.rowMajor_val_two, Shape.rowMajor_val_one]
    show k.val = 0 * 2048 + k.val
    omega)
theorem nrms_row {M : ℕ} (X : (⟨2, ![M, 2048]⟩ : Shape).Idx → EReal) (g : S2048.Idx → EReal) :
    PSpec.nrms X (shapeCast S1x2048 g shapeCasts_S2048_S1x2048) = PSpec.nrms X (fun i => g (ix1 (i 1))) := by
  funext i
  unfold PSpec.nrms
  exact congrArg (fun f => PSpec.nrm _ f _) (funext fun k => row_apply g k)

/-- The first calls' results. -/
theorem U4_v5 (c : Dev nD) : U4 m c main_v5 = hP m c := by
  refine (U4_of m c main_v5 (by decide)).trans ((U3_of m c main_v5 (by decide)).trans ((U2_a m c).trans ((o0a_eq m c).trans ((arr0 (fun c b => U1 m c b) c).trans ?_))))
  show PSpec.nrms (M := 16384) (U1 m c main_v1) (U1 m c main_v4) = _
  rw [U1_v1, U1_v4]
  exact nrms_row _ _
theorem U3_v2 (c : Dev nD) : U3 m c main_v2 = xS m c :=
  (U3_of m c main_v2 (by decide)).trans ((U2_of m c main_v2 (by decide)).trans (U1_v2 m c))
theorem U4_v8 (c : Dev nD) : U4 m c main_v8 = hS m c := by
  refine (U4_a m c).trans ((o1a_eq m c).trans ((arr1 (fun c b => U3 m c b) c).trans ?_))
  show PSpec.nrms (M := 512) (U3 m c main_v2) (U3 m c main_v7) = _
  rw [U3_v2, U3_v7]
  exact nrms_row _ _
theorem U4_v0 (c : Dev nD) : U4 m c main_v0 = wP m c :=
  (U4_of m c main_v0 (by decide)).trans ((U3_of m c main_v0 (by decide)).trans ((U2_of m c main_v0 (by decide)).trans (U1_v0 m c)))

/-! ## The products -/

theorem o2a_out (c : Dev nD) : o2a m c = PSpec.mm (M := 16384) (N := 2048) 0 (by decide) (hP m c) (wP m c) := by
  refine (o2a_eq m c).trans ((arr2a (fun c b => U4 m c b) c).trans ?_)
  show PSpec.mm (M := 16384) (N := 2048) 0 _ (U4 m c main_v5) (U4 m c main_v0) = _
  rw [U4_v5, U4_v0]
theorem o2b_out (c : Dev nD) : o2b m c = PSpec.mm (M := 512) (N := 2048) 0 (by decide) (hS m c) (wP m c) := by
  refine (o2b_eq m c).trans ((arr2b (fun c b => U4 m c b) c).trans ?_)
  show PSpec.mm (M := 512) (N := 2048) 0 _ (U4 m c main_v8) (U4 m c main_v0) = _
  rw [U4_v8, U4_v0]
theorem U5_v5 (c : Dev nD) : U5 m c main_v5 = hP m c := (U5_of m c main_v5 (by decide) (by decide)).trans (U4_v5 m c)
theorem U5_v8 (c : Dev nD) : U5 m c main_v8 = hS m c := (U5_of m c main_v8 (by decide) (by decide)).trans (U4_v8 m c)
theorem U5_v0 (c : Dev nD) : U5 m c main_v0 = wP m c := (U5_of m c main_v0 (by decide) (by decide)).trans (U4_v0 m c)
theorem o3a_out (c : Dev nD) : o3a m c = PSpec.mm (M := 16384) (N := 2048) 2048 (by decide) (hP m c) (wP m c) := by
  refine (o3a_eq m c).trans ((arr3a (fun c b => U5 m c b) c).trans ?_)
  show PSpec.mm (M := 16384) (N := 2048) 2048 _ (U5 m c main_v5) (U5 m c main_v0) = _
  rw [U5_v5, U5_v0]
theorem o3b_out (c : Dev nD) : o3b m c = PSpec.mm (M := 512) (N := 2048) 2048 (by decide) (hS m c) (wP m c) := by
  refine (o3b_eq m c).trans ((arr3b (fun c b => U5 m c b) c).trans ?_)
  show PSpec.mm (M := 512) (N := 2048) 2048 _ (U5 m c main_v8) (U5 m c main_v0) = _
  rw [U5_v8, U5_v0]
theorem U6_v5 (c : Dev nD) : U6 m c main_v5 = hP m c := (U6_of m c main_v5 (by decide) (by decide)).trans (U5_v5 m c)
theorem U6_v8 (c : Dev nD) : U6 m c main_v8 = hS m c := (U6_of m c main_v8 (by decide) (by decide)).trans (U5_v8 m c)
theorem U6_v0 (c : Dev nD) : U6 m c main_v0 = wP m c := (U6_of m c main_v0 (by decide) (by decide)).trans (U5_v0 m c)
theorem o4a_out (c : Dev nD) : o4a m c = PSpec.mm (M := 16384) (N := 2048) 4096 (by decide) (hP m c) (wP m c) := by
  refine (o4a_eq m c).trans ((arr4a (fun c b => U6 m c b) c).trans ?_)
  show PSpec.mm (M := 16384) (N := 2048) 4096 _ (U6 m c main_v5) (U6 m c main_v0) = _
  rw [U6_v5, U6_v0]
theorem o4b_out (c : Dev nD) : o4b m c = PSpec.mm (M := 512) (N := 2048) 4096 (by decide) (hS m c) (wP m c) := by
  refine (o4b_eq m c).trans ((arr4b (fun c b => U6 m c b) c).trans ?_)
  show PSpec.mm (M := 512) (N := 2048) 4096 _ (U6 m c main_v8) (U6 m c main_v0) = _
  rw [U6_v8, U6_v0]
theorem U7_v5 (c : Dev nD) : U7 m c main_v5 = hP m c := (U7_of m c main_v5 (by decide) (by decide)).trans (U6_v5 m c)
theorem U7_v8 (c : Dev nD) : U7 m c main_v8 = hS m c := (U7_of m c main_v8 (by decide) (by decide)).trans (U6_v8 m c)
theorem U7_v0 (c : Dev nD) : U7 m c main_v0 = wP m c := (U7_of m c main_v0 (by decide) (by decide)).trans (U6_v0 m c)
theorem o5a_out (c : Dev nD) : o5a m c = PSpec.mm (M := 16384) (N := 2048) 6144 (by decide) (hP m c) (wP m c) := by
  refine (o5a_eq m c).trans ((arr5a (fun c b => U7 m c b) c).trans ?_)
  show PSpec.mm (M := 16384) (N := 2048) 6144 _ (U7 m c main_v5) (U7 m c main_v0) = _
  rw [U7_v5, U7_v0]
theorem o5b_out (c : Dev nD) : o5b m c = PSpec.mm (M := 512) (N := 2048) 6144 (by decide) (hS m c) (wP m c) := by
  refine (o5b_eq m c).trans ((arr5b (fun c b => U7 m c b) c).trans ?_)
  show PSpec.mm (M := 512) (N := 2048) 6144 _ (U7 m c main_v8) (U7 m c main_v0) = _
  rw [U7_v8, U7_v0]
theorem U8_v5 (c : Dev nD) : U8 m c main_v5 = hP m c := (U8_of m c main_v5 (by decide) (by decide)).trans (U7_v5 m c)
theorem U8_v8 (c : Dev nD) : U8 m c main_v8 = hS m c := (U8_of m c main_v8 (by decide) (by decide)).trans (U7_v8 m c)
theorem U8_v0 (c : Dev nD) : U8 m c main_v0 = wP m c := (U8_of m c main_v0 (by decide) (by decide)).trans (U7_v0 m c)
theorem o6a_out (c : Dev nD) : o6a m c = PSpec.mm (M := 16384) (N := 1024) 8192 (by decide) (hP m c) (wP m c) := by
  refine (o6a_eq m c).trans ((arr6a (fun c b => U8 m c b) c).trans ?_)
  show PSpec.mm (M := 16384) (N := 1024) 8192 _ (U8 m c main_v5) (U8 m c main_v0) = _
  rw [U8_v5, U8_v0]
theorem o6b_out (c : Dev nD) : o6b m c = PSpec.mm (M := 512) (N := 1024) 8192 (by decide) (hS m c) (wP m c) := by
  refine (o6b_eq m c).trans ((arr6b (fun c b => U8 m c b) c).trans ?_)
  show PSpec.mm (M := 512) (N := 1024) 8192 _ (U8 m c main_v8) (U8 m c main_v0) = _
  rw [U8_v8, U8_v0]
theorem U9_v5 (c : Dev nD) : U9 m c main_v5 = hP m c := (U9_of m c main_v5 (by decide) (by decide)).trans (U8_v5 m c)
theorem U9_v8 (c : Dev nD) : U9 m c main_v8 = hS m c := (U9_of m c main_v8 (by decide) (by decide)).trans (U8_v8 m c)
theorem U9_v0 (c : Dev nD) : U9 m c main_v0 = wP m c := (U9_of m c main_v0 (by decide) (by decide)).trans (U8_v0 m c)
theorem o7a_out (c : Dev nD) : o7a m c = PSpec.mm (M := 16384) (N := 6144) 9216 (by decide) (hP m c) (wP m c) := by
  refine (o7a_eq m c).trans ((arr7a (fun c b => U9 m c b) c).trans ?_)
  show PSpec.mm (M := 16384) (N := 6144) 9216 _ (U9 m c main_v5) (U9 m c main_v0) = _
  rw [U9_v5, U9_v0]
theorem o7b_out (c : Dev nD) : o7b m c = PSpec.mm (M := 512) (N := 6144) 9216 (by decide) (hS m c) (wP m c) := by
  refine (o7b_eq m c).trans ((arr7b (fun c b => U9 m c b) c).trans ?_)
  show PSpec.mm (M := 512) (N := 6144) 9216 _ (U9 m c main_v8) (U9 m c main_v0) = _
  rw [U9_v8, U9_v0]

/-! ## The results -/

theorem U10_v9_0 (c : Dev nD) : U10 m c main_v9_0 = PSpec.mm (M := 16384) (N := 2048) 0 (by decide) (hP m c) (wP m c) :=
  (U10_of m c main_v9_0 (by decide) (by decide)).trans ((U9_of m c main_v9_0 (by decide) (by decide)).trans ((U8_of m c main_v9_0 (by decide) (by decide)).trans ((U7_of m c main_v9_0 (by decide) (by decide)).trans ((U6_of m c main_v9_0 (by decide) (by decide)).trans ((U5_a m c).trans ((o2a_out m c)))))))
theorem U11_v9_0 (c : Dev nD) : U11 m c main_v9_0 = PSpec.mm (M := 16384) (N := 2048) 0 (by decide) (hP m c) (wP m c) :=
  (U11_of m c main_v9_0 (by decide)).trans (U10_v9_0 m c)
theorem U10_v9_1 (c : Dev nD) : U10 m c main_v9_1 = PSpec.mm (M := 512) (N := 2048) 0 (by decide) (hS m c) (wP m c) :=
  (U10_of m c main_v9_1 (by decide) (by decide)).trans ((U9_of m c main_v9_1 (by decide) (by decide)).trans ((U8_of m c main_v9_1 (by decide) (by decide)).trans ((U7_of m c main_v9_1 (by decide) (by decide)).trans ((U6_of m c main_v9_1 (by decide) (by decide)).trans ((U5_b m c).trans ((o2b_out m c)))))))
theorem U11_v9_1 (c : Dev nD) : U11 m c main_v9_1 = PSpec.mm (M := 512) (N := 2048) 0 (by decide) (hS m c) (wP m c) :=
  (U11_of m c main_v9_1 (by decide)).trans (U10_v9_1 m c)
theorem U10_v10_0 (c : Dev nD) : U10 m c main_v10_0 = PSpec.mm (M := 16384) (N := 2048) 2048 (by decide) (hP m c) (wP m c) :=
  (U10_of m c main_v10_0 (by decide) (by decide)).trans ((U9_of m c main_v10_0 (by decide) (by decide)).trans ((U8_of m c main_v10_0 (by decide) (by decide)).trans ((U7_of m c main_v10_0 (by decide) (by decide)).trans ((U6_a m c).trans ((o3a_out m c))))))
theorem U11_v10_0 (c : Dev nD) : U11 m c main_v10_0 = PSpec.mm (M := 16384) (N := 2048) 2048 (by decide) (hP m c) (wP m c) :=
  (U11_of m c main_v10_0 (by decide)).trans (U10_v10_0 m c)
theorem U10_v10_1 (c : Dev nD) : U10 m c main_v10_1 = PSpec.mm (M := 512) (N := 2048) 2048 (by decide) (hS m c) (wP m c) :=
  (U10_of m c main_v10_1 (by decide) (by decide)).trans ((U9_of m c main_v10_1 (by decide) (by decide)).trans ((U8_of m c main_v10_1 (by decide) (by decide)).trans ((U7_of m c main_v10_1 (by decide) (by decide)).trans ((U6_b m c).trans ((o3b_out m c))))))
theorem U11_v10_1 (c : Dev nD) : U11 m c main_v10_1 = PSpec.mm (M := 512) (N := 2048) 2048 (by decide) (hS m c) (wP m c) :=
  (U11_of m c main_v10_1 (by decide)).trans (U10_v10_1 m c)
theorem U10_v11_0 (c : Dev nD) : U10 m c main_v11_0 = PSpec.mm (M := 16384) (N := 2048) 4096 (by decide) (hP m c) (wP m c) :=
  (U10_of m c main_v11_0 (by decide) (by decide)).trans ((U9_of m c main_v11_0 (by decide) (by decide)).trans ((U8_of m c main_v11_0 (by decide) (by decide)).trans ((U7_a m c).trans ((o4a_out m c)))))
theorem U10_v11_1 (c : Dev nD) : U10 m c main_v11_1 = PSpec.mm (M := 512) (N := 2048) 4096 (by decide) (hS m c) (wP m c) :=
  (U10_of m c main_v11_1 (by decide) (by decide)).trans ((U9_of m c main_v11_1 (by decide) (by decide)).trans ((U8_of m c main_v11_1 (by decide) (by decide)).trans ((U7_b m c).trans ((o4b_out m c)))))
theorem U10_v12_0 (c : Dev nD) : U10 m c main_v12_0 = PSpec.mm (M := 16384) (N := 2048) 6144 (by decide) (hP m c) (wP m c) :=
  (U10_of m c main_v12_0 (by decide) (by decide)).trans ((U9_of m c main_v12_0 (by decide) (by decide)).trans ((U8_a m c).trans ((o5a_out m c))))
theorem U10_v12_1 (c : Dev nD) : U10 m c main_v12_1 = PSpec.mm (M := 512) (N := 2048) 6144 (by decide) (hS m c) (wP m c) :=
  (U10_of m c main_v12_1 (by decide) (by decide)).trans ((U9_of m c main_v12_1 (by decide) (by decide)).trans ((U8_b m c).trans ((o5b_out m c))))
theorem U10_v13_0 (c : Dev nD) : U10 m c main_v13_0 = PSpec.mm (M := 16384) (N := 1024) 8192 (by decide) (hP m c) (wP m c) :=
  (U10_of m c main_v13_0 (by decide) (by decide)).trans ((U9_a m c).trans ((o6a_out m c)))
theorem U11_v13_0 (c : Dev nD) : U11 m c main_v13_0 = PSpec.mm (M := 16384) (N := 1024) 8192 (by decide) (hP m c) (wP m c) :=
  (U11_of m c main_v13_0 (by decide)).trans (U10_v13_0 m c)
theorem U10_v13_1 (c : Dev nD) : U10 m c main_v13_1 = PSpec.mm (M := 512) (N := 1024) 8192 (by decide) (hS m c) (wP m c) :=
  (U10_of m c main_v13_1 (by decide) (by decide)).trans ((U9_b m c).trans ((o6b_out m c)))
theorem U11_v13_1 (c : Dev nD) : U11 m c main_v13_1 = PSpec.mm (M := 512) (N := 1024) 8192 (by decide) (hS m c) (wP m c) :=
  (U11_of m c main_v13_1 (by decide)).trans (U10_v13_1 m c)
theorem U10_v14_0 (c : Dev nD) : U10 m c main_v14_0 = PSpec.mm (M := 16384) (N := 6144) 9216 (by decide) (hP m c) (wP m c) :=
  (U10_a m c).trans ((o7a_out m c))
theorem U11_v14_0 (c : Dev nD) : U11 m c main_v14_0 = PSpec.mm (M := 16384) (N := 6144) 9216 (by decide) (hP m c) (wP m c) :=
  (U11_of m c main_v14_0 (by decide)).trans (U10_v14_0 m c)
theorem U10_v14_1 (c : Dev nD) : U10 m c main_v14_1 = PSpec.mm (M := 512) (N := 6144) 9216 (by decide) (hS m c) (wP m c) :=
  (U10_b m c).trans ((o7b_out m c))
theorem U11_v14_1 (c : Dev nD) : U11 m c main_v14_1 = PSpec.mm (M := 512) (N := 6144) 9216 (by decide) (hS m c) (wP m c) :=
  (U11_of m c main_v14_1 (by decide)).trans (U10_v14_1 m c)

/-- A leading unit axis added to a flattened array's cast is one cast. -/
theorem castP (X : S16384x2048.Idx → EReal) : broadcastInDim S1x2x8192x16x128 ![1, 2, 3, 4] bcast_S2x8192x16x128_S1x2x8192x16x128_1_2_3_4 (shapeCast S2x8192x16x128 X shapeCasts_S16384x2048_S2x8192x16x128)
    = shapeCast S1x2x8192x16x128 X (by decide) := by
  funext i
  have h0 : (i 0).val < 1 := (i 0).isLt
  have h1 : (i 1).val < 2 := (i 1).isLt
  have h2 : (i 2).val < 8192 := (i 2).isLt
  have h3 : (i 3).val < 16 := (i 3).isLt
  have h4 : (i 4).val < 128 := (i 4).isLt
  refine (broadcastInDim_apply _ _ _ i (ix4 ⟨(i 1).val, h1⟩ ⟨(i 2).val, h2⟩ ⟨(i 3).val, h3⟩ ⟨(i 4).val, h4⟩) ?_).trans ?_
  · intro b; match b with
    | ⟨0, _⟩ => rfl
    | ⟨1, _⟩ => rfl
    | ⟨2, _⟩ => rfl
    | ⟨3, _⟩ => rfl
  refine (shapeCast_apply X _ _ (ix2 ⟨(i 1).val * 8192 + (i 2).val, by omega⟩ ⟨(i 3).val * 128 + (i 4).val, by omega⟩) ?_).trans
    (shapeCast_apply X _ i (ix2 ⟨(i 1).val * 8192 + (i 2).val, by omega⟩ ⟨(i 3).val * 128 + (i 4).val, by omega⟩) ?_).symm
  · rw [Shape.rowMajor_val_two, Shape.rowMajor_val_four]
    show ((i 1).val * 8192 + (i 2).val) * 2048 + ((i 3).val * 128 + (i 4).val) = (((i 1).val * 8192 + (i 2).val) * 16 + (i 3).val) * 128 + (i 4).val
    omega
  · rw [Shape.rowMajor_val_two, Shape.rowMajor_val_five]
    show ((i 1).val * 8192 + (i 2).val) * 2048 + ((i 3).val * 128 + (i 4).val) = ((((i 0).val * 2 + (i 1).val) * 8192 + (i 2).val) * 16 + (i 3).val) * 128 + (i 4).val
    omega
theorem castS (X : S512x2048.Idx → EReal) : broadcastInDim S1x8x64x16x128 ![1, 2, 3, 4] bcast_S8x64x16x128_S1x8x64x16x128_1_2_3_4 (shapeCast S8x64x16x128 X shapeCasts_S512x2048_S8x64x16x128)
    = shapeCast S1x8x64x16x128 X (by decide) := by
  funext i
  have h0 : (i 0).val < 1 := (i 0).isLt
  have h1 : (i 1).val < 8 := (i 1).isLt
  have h2 : (i 2).val < 64 := (i 2).isLt
  have h3 : (i 3).val < 16 := (i 3).isLt
  have h4 : (i 4).val < 128 := (i 4).isLt
  refine (broadcastInDim_apply _ _ _ i (ix4 ⟨(i 1).val, h1⟩ ⟨(i 2).val, h2⟩ ⟨(i 3).val, h3⟩ ⟨(i 4).val, h4⟩) ?_).trans ?_
  · intro b; match b with
    | ⟨0, _⟩ => rfl
    | ⟨1, _⟩ => rfl
    | ⟨2, _⟩ => rfl
    | ⟨3, _⟩ => rfl
  refine (shapeCast_apply X _ _ (ix2 ⟨(i 1).val * 64 + (i 2).val, by omega⟩ ⟨(i 3).val * 128 + (i 4).val, by omega⟩) ?_).trans
    (shapeCast_apply X _ i (ix2 ⟨(i 1).val * 64 + (i 2).val, by omega⟩ ⟨(i 3).val * 128 + (i 4).val, by omega⟩) ?_).symm
  · rw [Shape.rowMajor_val_two, Shape.rowMajor_val_four]
    show ((i 1).val * 64 + (i 2).val) * 2048 + ((i 3).val * 128 + (i 4).val) = (((i 1).val * 64 + (i 2).val) * 16 + (i 3).val) * 128 + (i 4).val
    omega
  · rw [Shape.rowMajor_val_two, Shape.rowMajor_val_five]
    show ((i 1).val * 64 + (i 2).val) * 2048 + ((i 3).val * 128 + (i 4).val) = ((((i 0).val * 8 + (i 1).val) * 64 + (i 2).val) * 16 + (i 3).val) * 128 + (i 4).val
    omega

theorem U11_v16 (c : Dev nD) : U11 m c main_v16 = shapeCast S1x2x8192x16x128 (PSpec.mm (M := 16384) (N := 2048) 4096 (by decide) (hP m c) (wP m c)) (by decide) := by
  rw [← U10_v11_0]
  refine Eq.trans ?_ (castP _)
  unfold U11; after_results_simp <;> rfl
theorem U11_v18 (c : Dev nD) : U11 m c main_v18 = shapeCast S1x8x64x16x128 (PSpec.mm (M := 512) (N := 2048) 4096 (by decide) (hS m c) (wP m c)) (by decide) := by
  rw [← U10_v11_1]
  refine Eq.trans ?_ (castS _)
  unfold U11; after_results_simp <;> rfl
theorem U11_v20 (c : Dev nD) : U11 m c main_v20 = shapeCast S1x2x8192x16x128 (PSpec.mm (M := 16384) (N := 2048) 6144 (by decide) (hP m c) (wP m c)) (by decide) := by
  rw [← U10_v12_0]
  refine Eq.trans ?_ (castP _)
  unfold U11; after_results_simp <;> rfl
theorem U11_v22 (c : Dev nD) : U11 m c main_v22 = shapeCast S1x8x64x16x128 (PSpec.mm (M := 512) (N := 2048) 6144 (by decide) (hS m c) (wP m c)) (by decide) := by
  rw [← U10_v12_1]
  refine Eq.trans ?_ (castS _)
  unfold U11; after_results_simp <;> rfl

end Cert.Proof.PI

end
-- ==== Proof.PReference.lean ====
module

public import proofs.«01_k».proof.Proof.PNorm
public import proofs.«01_k».proof.Proof.Gen.ProjectionsReferenceIdeal
public import Idealize.ShloMosaic.Lib.StackMember

@[expose] public section

set_option maxRecDepth 16384

noncomputable section

namespace Cert.Proof.PRef

open Cert.ProjectionsReferenceIdeal Cert.ProjectionsReferenceIdeal.Gen
open Idealize.ShloMosaic Idealize.ShloMosaic.TcCoe Idealize.ShloMosaic.ValueIdx
open scoped BigOperators

/-! ## The prompt rows -/

/-- The scale of a row, of the sum of its squares. -/
theorem invP_apply (q : S16384.Idx → EReal) (r : Fin 16384) :
    Host.rsqrt (F := Ideal) (φ := .f32) (addf (F := Ideal) (φ := .f32) (Host.divf (F := Ideal) (φ := .f32) (broadcastInDim S16384x1 ![0] bcast_S16384_S16384x1_0 q)
      (broadcastInDim S16384x1 ![] bcast_S_S16384x1 (constant (F := Ideal) S_ .f32 0x45000000#32))) (broadcastInDim S16384x1 ![] bcast_S_S16384x1 (constant (F := Ideal) S_ .f32 0x358637BD#32))) (ix2 r 0)
      = Ideal.rsqrt (Ideal.div (q (ix1 r)) (Ideal.ofBits .f32 0x45000000#32) + Ideal.ofBits .f32 0x358637BD#32) := by
  have e : broadcastInDim S16384x1 ![0] bcast_S16384_S16384x1_0 q (ix2 r 0) = q (ix1 r) := broadcastInDim_apply _ _ _ (ix2 r 0) (ix1 r) (by intro b; match b with
    | ⟨0, _⟩ => rfl)
  rw [← e]
  rfl

/-- The reference's normalized rows. -/
def nrmP (X : S16384x2048.Idx → EReal) (g : S2048.Idx → EReal) : S16384x2048.Idx → EReal :=
  mulf (F := Ideal) (φ := .f32) (mulf (F := Ideal) (φ := .f32) X (broadcastInDim S16384x2048 ![0, 1] bcast_S16384x1_S16384x2048_0_1 (Host.rsqrt (F := Ideal) (φ := .f32) (addf (F := Ideal) (φ := .f32)
    (Host.divf (F := Ideal) (φ := .f32) (broadcastInDim S16384x1 ![0] bcast_S16384_S16384x1_0 (Host.reduceAdd (F := Ideal) (φ := .f32) (mulf (F := Ideal) (φ := .f32) X X) (constant (F := Ideal) S_ .f32 0x00000000#32) reducesTo_S16384x2048_S16384_d1 h_S_))
      (broadcastInDim S16384x1 ![] bcast_S_S16384x1 (constant (F := Ideal) S_ .f32 0x45000000#32))) (broadcastInDim S16384x1 ![] bcast_S_S16384x1 (constant (F := Ideal) S_ .f32 0x358637BD#32))))))
    (broadcastInDim S16384x2048 ![0, 1] bcast_S1x2048_S16384x2048_0_1 (broadcastInDim S1x2048 ![1] bcast_S2048_S1x2048_1 g))

theorem nrmP_apply (X : S16384x2048.Idx → EReal) (g : S2048.Idx → EReal) (r : Fin 16384) (k : Fin 2048) :
    nrmP X g (ix2 r k) = PSpec.nrms (M := 16384) X (fun i => g (ix1 (i 1))) (ix2 r k) := by
  unfold nrmP
  show X (ix2 r k) * broadcastInDim _ _ _ _ (ix2 r k) * broadcastInDim _ _ _ _ (ix2 r k) = PSpec.nrm (fun j => X (ix2 r j)) (fun j => g (ix1 j)) k
  rw [broadcastInDim_apply _ _ (broadcastInDim S1x2048 ![1] bcast_S2048_S1x2048_1 g) (ix2 r k) (ix2 0 k) (by intro b; match b with
    | ⟨0, _⟩ => rfl
    | ⟨1, _⟩ => rfl)]
  rw [broadcastInDim_apply _ _ g (ix2 0 k) (ix1 k) (by intro b; match b with
    | ⟨0, _⟩ => rfl)]
  rw [broadcastInDim_apply _ _ _ (ix2 r k) (ix2 r 0) (by intro b; match b with
    | ⟨0, _⟩ => rfl
    | ⟨1, _⟩ => rfl)]
  rw [invP_apply]
  unfold PSpec.nrm
  refine congrArg (fun z => X (ix2 r k) * Ideal.rsqrt (Ideal.div z (Ideal.ofBits .f32 0x45000000#32) + Ideal.ofBits .f32 0x358637BD#32) * g (ix1 k)) ?_
  have hred : S16384x2048.Reduces [1] S16384 := by decide
  refine (Ideal.hostReduceAdd_single reducesTo_S16384x2048_S16384_d1 hred _ (Ideal.ofBits .f32 0x00000000#32) (ix1 r)).trans ?_
  rw [Ideal.ofBits_zero_f32, zero_add]
  have hl (j : Fin 2048) : hred.lift (ix1 r) j = ix2 r j := by
    funext b
    match b with
    | ⟨0, _⟩ => rfl
    | ⟨1, _⟩ => rfl
  exact Finset.sum_congr rfl fun j _ => congrArg (fun z => X z * X z) (hl j)

/-- The reference's product of its normalized rows with all the weights. -/
def refP (X : S16384x2048.Idx → EReal) (g : S2048.Idx → EReal) (W : S2048x15360.Idx → EReal) : S16384x15360.Idx → EReal :=
  Host.dotGeneral (F := Ideal) (φ₁ := .f32) (φ₂ := .f32) dot_S16384x2048_S2048x15360_S16384x15360_1_0_0_1_n_n none (nrmP X g) W

theorem refP_apply (X : S16384x2048.Idx → EReal) (g : S2048.Idx → EReal) (W : S2048x15360.Idx → EReal) (r : Fin 16384) (n : Fin 15360) :
    refP X g W (ix2 r n) = ∑ k : Fin 2048, PSpec.nrms (M := 16384) X (fun i => g (ix1 (i 1))) (ix2 r k) * W (ix2 k n) := by
  refine (StackMember.dotGeneral_plain_apply (m := 16384) (k := 2048) (n := 15360) (φ₁ := .f32) (φ₂ := .f32) none (nrmP X g) W r n).trans ?_
  exact Finset.sum_congr rfl fun k _ => congrArg (· * W (ix2 k n)) (nrmP_apply X g r k)

/-- A slice of its columns is the product with those columns of the weights. -/
theorem sliceP {N : ℕ} (o : ℕ) (ho : o + N ≤ 15360) (h : S16384x15360.Slices ![0, o] ⟨2, ![16384, N]⟩) (X : S16384x2048.Idx → EReal) (g : S2048.Idx → EReal) (W : S2048x15360.Idx → EReal) :
    extractStridedSlice ⟨2, ![16384, N]⟩ ![0, o] (refP X g W) h = PSpec.mm (M := 16384) (N := N) o ho (PSpec.nrms (M := 16384) X (fun i => g (ix1 (i 1)))) W := by
  funext i
  refine (extractStridedSlice_apply _ _ _ i (ix2 (n0 := 16384) (i 0) ⟨o + (i 1).val, lt_of_lt_of_le (Nat.add_lt_add_left (i 1).isLt o) ho⟩) ?_).trans (refP_apply X g W _ _)
  intro b; match b with
  | ⟨0, _⟩ => exact (Nat.zero_add _).symm
  | ⟨1, _⟩ => rfl

/-! ## The sample rows -/

/-- The scale of a row, of the sum of its squares. -/
theorem invS_apply (q : S512.Idx → EReal) (r : Fin 512) :
    Host.rsqrt (F := Ideal) (φ := .f32) (addf (F := Ideal) (φ := .f32) (Host.divf (F := Ideal) (φ := .f32) (broadcastInDim S512x1 ![0] bcast_S512_S512x1_0 q)
      (broadcastInDim S512x1 ![] bcast_S_S512x1 (constant (F := Ideal) S_ .f32 0x45000000#32))) (broadcastInDim S512x1 ![] bcast_S_S512x1 (constant (F := Ideal) S_ .f32 0x358637BD#32))) (ix2 r 0)
      = Ideal.rsqrt (Ideal.div (q (ix1 r)) (Ideal.ofBits .f32 0x45000000#32) + Ideal.ofBits .f32 0x358637BD#32) := by
  have e : broadcastInDim S512x1 ![0] bcast_S512_S512x1_0 q (ix2 r 0) = q (ix1 r) := broadcastInDim_apply _ _ _ (ix2 r 0) (ix1 r) (by intro b; match b with
    | ⟨0, _⟩ => rfl)
  rw [← e]
  rfl

/-- The reference's normalized rows. -/
def nrmS (X : S512x2048.Idx → EReal) (g : S2048.Idx → EReal) : S512x2048.Idx → EReal :=
  mulf (F := Ideal) (φ := .f32) (mulf (F := Ideal) (φ := .f32) X (broadcastInDim S512x2048 ![0, 1] bcast_S512x1_S512x2048_0_1 (Host.rsqrt (F := Ideal) (φ := .f32) (addf (F := Ideal) (φ := .f32)
    (Host.divf (F := Ideal) (φ := .f32) (broadcastInDim S512x1 ![0] bcast_S512_S512x1_0 (Host.reduceAdd (F := Ideal) (φ := .f32) (mulf (F := Ideal) (φ := .f32) X X) (constant (F := Ideal) S_ .f32 0x00000000#32) reducesTo_S512x2048_S512_d1 h_S_))
      (broadcastInDim S512x1 ![] bcast_S_S512x1 (constant (F := Ideal) S_ .f32 0x45000000#32))) (broadcastInDim S512x1 ![] bcast_S_S512x1 (constant (F := Ideal) S_ .f32 0x358637BD#32))))))
    (broadcastInDim S512x2048 ![0, 1] bcast_S1x2048_S512x2048_0_1 (broadcastInDim S1x2048 ![1] bcast_S2048_S1x2048_1 g))

theorem nrmS_apply (X : S512x2048.Idx → EReal) (g : S2048.Idx → EReal) (r : Fin 512) (k : Fin 2048) :
    nrmS X g (ix2 r k) = PSpec.nrms (M := 512) X (fun i => g (ix1 (i 1))) (ix2 r k) := by
  unfold nrmS
  show X (ix2 r k) * broadcastInDim _ _ _ _ (ix2 r k) * broadcastInDim _ _ _ _ (ix2 r k) = PSpec.nrm (fun j => X (ix2 r j)) (fun j => g (ix1 j)) k
  rw [broadcastInDim_apply _ _ (broadcastInDim S1x2048 ![1] bcast_S2048_S1x2048_1 g) (ix2 r k) (ix2 0 k) (by intro b; match b with
    | ⟨0, _⟩ => rfl
    | ⟨1, _⟩ => rfl)]
  rw [broadcastInDim_apply _ _ g (ix2 0 k) (ix1 k) (by intro b; match b with
    | ⟨0, _⟩ => rfl)]
  rw [broadcastInDim_apply _ _ _ (ix2 r k) (ix2 r 0) (by intro b; match b with
    | ⟨0, _⟩ => rfl
    | ⟨1, _⟩ => rfl)]
  rw [invS_apply]
  unfold PSpec.nrm
  refine congrArg (fun z => X (ix2 r k) * Ideal.rsqrt (Ideal.div z (Ideal.ofBits .f32 0x45000000#32) + Ideal.ofBits .f32 0x358637BD#32) * g (ix1 k)) ?_
  have hred : S512x2048.Reduces [1] S512 := by decide
  refine (Ideal.hostReduceAdd_single reducesTo_S512x2048_S512_d1 hred _ (Ideal.ofBits .f32 0x00000000#32) (ix1 r)).trans ?_
  rw [Ideal.ofBits_zero_f32, zero_add]
  have hl (j : Fin 2048) : hred.lift (ix1 r) j = ix2 r j := by
    funext b
    match b with
    | ⟨0, _⟩ => rfl
    | ⟨1, _⟩ => rfl
  exact Finset.sum_congr rfl fun j _ => congrArg (fun z => X z * X z) (hl j)

/-- The reference's product of its normalized rows with all the weights. -/
def refS (X : S512x2048.Idx → EReal) (g : S2048.Idx → EReal) (W : S2048x15360.Idx → EReal) : S512x15360.Idx → EReal :=
  Host.dotGeneral (F := Ideal) (φ₁ := .f32) (φ₂ := .f32) dot_S512x2048_S2048x15360_S512x15360_1_0_0_1_n_n none (nrmS X g) W

theorem refS_apply (X : S512x2048.Idx → EReal) (g : S2048.Idx → EReal) (W : S2048x15360.Idx → EReal) (r : Fin 512) (n : Fin 15360) :
    refS X g W (ix2 r n) = ∑ k : Fin 2048, PSpec.nrms (M := 512) X (fun i => g (ix1 (i 1))) (ix2 r k) * W (ix2 k n) := by
  refine (StackMember.dotGeneral_plain_apply (m := 512) (k := 2048) (n := 15360) (φ₁ := .f32) (φ₂ := .f32) none (nrmS X g) W r n).trans ?_
  exact Finset.sum_congr rfl fun k _ => congrArg (· * W (ix2 k n)) (nrmS_apply X g r k)

/-- A slice of its columns is the product with those columns of the weights. -/
theorem sliceS {N : ℕ} (o : ℕ) (ho : o + N ≤ 15360) (h : S512x15360.Slices ![0, o] ⟨2, ![512, N]⟩) (X : S512x2048.Idx → EReal) (g : S2048.Idx → EReal) (W : S2048x15360.Idx → EReal) :
    extractStridedSlice ⟨2, ![512, N]⟩ ![0, o] (refS X g W) h = PSpec.mm (M := 512) (N := N) o ho (PSpec.nrms (M := 512) X (fun i => g (ix1 (i 1)))) W := by
  funext i
  refine (extractStridedSlice_apply _ _ _ i (ix2 (n0 := 512) (i 0) ⟨o + (i 1).val, lt_of_lt_of_le (Nat.add_lt_add_left (i 1).isLt o) ho⟩) ?_).trans (refS_apply X g W _ _)
  intro b; match b with
  | ⟨0, _⟩ => exact (Nat.zero_add _).symm
  | ⟨1, _⟩ => rfl

end Cert.Proof.PRef

end
-- ==== Proof.PValue.lean ====
module

public import proofs.«01_k».proof.Defs
public import proofs.«01_k».proof.Proof.PKernel
public import proofs.«01_k».proof.Proof.PReference
public import proofs.«01_k».proof.Proof.Gen.ProjectionsReferenceIdeal.Run

@[expose] public section

set_option maxRecDepth 16384

noncomputable section

namespace Cert.Proof

open Idealize.ShloMosaic Idealize.ShloMosaic.TcCoe Idealize.SL.Sem

section
open Cert.ProjectionsReferenceIdeal Cert.ProjectionsReferenceIdeal.Gen

variable (m : (ℓ : Loc Cert.ProjectionsIdeal.nD Cert.ProjectionsIdeal.τ Cert.ProjectionsIdeal.sig) → Buf (Elt Ideal) ℓ) (c : Dev Cert.ProjectionsIdeal.nD)

/-! The reference's results, of the kernel's arguments, are the kernel's. -/

theorem out_v9_0 : extractStridedSlice S16384x2048 ![0, 0] (PRef.refP (PI.xP m c) (PI.gN m c) (PI.wP m c)) slices_S16384x15360_S16384x2048_0_0 = PI.U11 m c Cert.ProjectionsIdeal.main_v9_0 :=
  (PRef.sliceP (N := 2048) 0 (by decide) slices_S16384x15360_S16384x2048_0_0 (PI.xP m c) (PI.gN m c) (PI.wP m c)).trans (PI.U11_v9_0 m c).symm
theorem out_v9_1 : extractStridedSlice S512x2048 ![0, 0] (PRef.refS (PI.xS m c) (PI.gN m c) (PI.wP m c)) slices_S512x15360_S512x2048_0_0 = PI.U11 m c Cert.ProjectionsIdeal.main_v9_1 :=
  (PRef.sliceS (N := 2048) 0 (by decide) slices_S512x15360_S512x2048_0_0 (PI.xS m c) (PI.gN m c) (PI.wP m c)).trans (PI.U11_v9_1 m c).symm
theorem out_v10_0 : extractStridedSlice S16384x2048 ![0, 2048] (PRef.refP (PI.xP m c) (PI.gN m c) (PI.wP m c)) slices_S16384x15360_S16384x2048_0_2048 = PI.U11 m c Cert.ProjectionsIdeal.main_v10_0 :=
  (PRef.sliceP (N := 2048) 2048 (by decide) slices_S16384x15360_S16384x2048_0_2048 (PI.xP m c) (PI.gN m c) (PI.wP m c)).trans (PI.U11_v10_0 m c).symm
theorem out_v10_1 : extractStridedSlice S512x2048 ![0, 2048] (PRef.refS (PI.xS m c) (PI.gN m c) (PI.wP m c)) slices_S512x15360_S512x2048_0_2048 = PI.U11 m c Cert.ProjectionsIdeal.main_v10_1 :=
  (PRef.sliceS (N := 2048) 2048 (by decide) slices_S512x15360_S512x2048_0_2048 (PI.xS m c) (PI.gN m c) (PI.wP m c)).trans (PI.U11_v10_1 m c).symm
theorem out_v16 : shapeCast S1x2x8192x16x128 (extractStridedSlice S16384x2048 ![0, 4096] (PRef.refP (PI.xP m c) (PI.gN m c) (PI.wP m c)) slices_S16384x15360_S16384x2048_0_4096) shapeCasts_S16384x2048_S1x2x8192x16x128 = PI.U11 m c Cert.ProjectionsIdeal.main_v16 :=
  (congrArg (fun z => shapeCast S1x2x8192x16x128 z shapeCasts_S16384x2048_S1x2x8192x16x128) (PRef.sliceP (N := 2048) 4096 (by decide) slices_S16384x15360_S16384x2048_0_4096 (PI.xP m c) (PI.gN m c) (PI.wP m c))).trans (PI.U11_v16 m c).symm
theorem out_v18 : shapeCast S1x8x64x16x128 (extractStridedSlice S512x2048 ![0, 4096] (PRef.refS (PI.xS m c) (PI.gN m c) (PI.wP m c)) slices_S512x15360_S512x2048_0_4096) shapeCasts_S512x2048_S1x8x64x16x128 = PI.U11 m c Cert.ProjectionsIdeal.main_v18 :=
  (congrArg (fun z => shapeCast S1x8x64x16x128 z shapeCasts_S512x2048_S1x8x64x16x128) (PRef.sliceS (N := 2048) 4096 (by decide) slices_S512x15360_S512x2048_0_4096 (PI.xS m c) (PI.gN m c) (PI.wP m c))).trans (PI.U11_v18 m c).symm
theorem out_v20 : shapeCast S1x2x8192x16x128 (extractStridedSlice S16384x2048 ![0, 6144] (PRef.refP (PI.xP m c) (PI.gN m c) (PI.wP m c)) slices_S16384x15360_S16384x2048_0_6144) shapeCasts_S16384x2048_S1x2x8192x16x128 = PI.U11 m c Cert.ProjectionsIdeal.main_v20 :=
  (congrArg (fun z => shapeCast S1x2x8192x16x128 z shapeCasts_S16384x2048_S1x2x8192x16x128) (PRef.sliceP (N := 2048) 6144 (by decide) slices_S16384x15360_S16384x2048_0_6144 (PI.xP m c) (PI.gN m c) (PI.wP m c))).trans (PI.U11_v20 m c).symm
theorem out_v22 : shapeCast S1x8x64x16x128 (extractStridedSlice S512x2048 ![0, 6144] (PRef.refS (PI.xS m c) (PI.gN m c) (PI.wP m c)) slices_S512x15360_S512x2048_0_6144) shapeCasts_S512x2048_S1x8x64x16x128 = PI.U11 m c Cert.ProjectionsIdeal.main_v22 :=
  (congrArg (fun z => shapeCast S1x8x64x16x128 z shapeCasts_S512x2048_S1x8x64x16x128) (PRef.sliceS (N := 2048) 6144 (by decide) slices_S512x15360_S512x2048_0_6144 (PI.xS m c) (PI.gN m c) (PI.wP m c))).trans (PI.U11_v22 m c).symm
theorem out_v13_0 : extractStridedSlice S16384x1024 ![0, 8192] (PRef.refP (PI.xP m c) (PI.gN m c) (PI.wP m c)) slices_S16384x15360_S16384x1024_0_8192 = PI.U11 m c Cert.ProjectionsIdeal.main_v13_0 :=
  (PRef.sliceP (N := 1024) 8192 (by decide) slices_S16384x15360_S16384x1024_0_8192 (PI.xP m c) (PI.gN m c) (PI.wP m c)).trans (PI.U11_v13_0 m c).symm
theorem out_v13_1 : extractStridedSlice S512x1024 ![0, 8192] (PRef.refS (PI.xS m c) (PI.gN m c) (PI.wP m c)) slices_S512x15360_S512x1024_0_8192 = PI.U11 m c Cert.ProjectionsIdeal.main_v13_1 :=
  (PRef.sliceS (N := 1024) 8192 (by decide) slices_S512x15360_S512x1024_0_8192 (PI.xS m c) (PI.gN m c) (PI.wP m c)).trans (PI.U11_v13_1 m c).symm
theorem out_v14_0 : extractStridedSlice S16384x6144 ![0, 9216] (PRef.refP (PI.xP m c) (PI.gN m c) (PI.wP m c)) slices_S16384x15360_S16384x6144_0_9216 = PI.U11 m c Cert.ProjectionsIdeal.main_v14_0 :=
  (PRef.sliceP (N := 6144) 9216 (by decide) slices_S16384x15360_S16384x6144_0_9216 (PI.xP m c) (PI.gN m c) (PI.wP m c)).trans (PI.U11_v14_0 m c).symm
theorem out_v14_1 : extractStridedSlice S512x6144 ![0, 9216] (PRef.refS (PI.xS m c) (PI.gN m c) (PI.wP m c)) slices_S512x15360_S512x6144_0_9216 = PI.U11 m c Cert.ProjectionsIdeal.main_v14_1 :=
  (PRef.sliceS (N := 6144) 9216 (by decide) slices_S512x15360_S512x6144_0_9216 (PI.xS m c) (PI.gN m c) (PI.wP m c)).trans (PI.U11_v14_1 m c).symm

end

/-- The kernel at the extended reals and the reference leave the same twelve results, from equal arguments: both leave
    the products of the normalized rows with their columns of the weights. -/
theorem proj_value : Cert.algebraic_ProjectionsIdeal_ProjectionsReferenceIdeal := fun m g m' g' _ heq => by
  refine ⟨fun c => PI.U11 m c Cert.ProjectionsIdeal.main_v9_0,
    fun c => PI.U11 m c Cert.ProjectionsIdeal.main_v9_1,
    fun c => PI.U11 m c Cert.ProjectionsIdeal.main_v10_0,
    fun c => PI.U11 m c Cert.ProjectionsIdeal.main_v10_1,
    fun c => PI.U11 m c Cert.ProjectionsIdeal.main_v16,
    fun c => PI.U11 m c Cert.ProjectionsIdeal.main_v18,
    fun c => PI.U11 m c Cert.ProjectionsIdeal.main_v20,
    fun c => PI.U11 m c Cert.ProjectionsIdeal.main_v22,
    fun c => PI.U11 m c Cert.ProjectionsIdeal.main_v13_0,
    fun c => PI.U11 m c Cert.ProjectionsIdeal.main_v13_1,
    fun c => PI.U11 m c Cert.ProjectionsIdeal.main_v14_0,
    fun c => PI.U11 m c Cert.ProjectionsIdeal.main_v14_1,
    (θ_run _ _ _).mono (fun r h c => ⟨h.1 c _ rfl, h.1 c _ rfl, h.1 c _ rfl, h.1 c _ rfl, h.1 c _ rfl, h.1 c _ rfl, h.1 c _ rfl, h.1 c _ rfl, h.1 c _ rfl, h.1 c _ rfl, h.1 c _ rfl, h.1 c _ rfl,
      (h.1 c _ rfl).trans (PI.arg0 m c), (h.1 c _ rfl).trans (PI.arg1 m c), (h.1 c _ rfl).trans (PI.arg2 m c), (h.1 c _ rfl).trans (PI.arg3 m c)⟩) (PI.run m g),
    (θ_run _ _ _).mono (fun r h c => ?_) (Cert.ProjectionsReferenceIdeal.Value.run m' g')⟩
  obtain ⟨h0, h1, h2, h3, h4, h5, h6, h7, h8, h9, h10, h11, hargs⟩ := h c
  obtain ⟨e0, e1, e2, e3⟩ := heq c
  rw [e0, e2, e3] at h0
  rw [e1, e2, e3] at h1
  rw [e0, e2, e3] at h2
  rw [e1, e2, e3] at h3
  rw [e0, e2, e3] at h4
  rw [e1, e2, e3] at h5
  rw [e0, e2, e3] at h6
  rw [e1, e2, e3] at h7
  rw [e0, e2, e3] at h8
  rw [e1, e2, e3] at h9
  rw [e0, e2, e3] at h10
  rw [e1, e2, e3] at h11
  exact ⟨h0.trans (out_v9_0 m c), h1.trans (out_v9_1 m c), h2.trans (out_v10_0 m c), h3.trans (out_v10_1 m c), h4.trans (out_v16 m c), h5.trans (out_v18 m c), h6.trans (out_v20 m c), h7.trans (out_v22 m c), h8.trans (out_v13_0 m c), h9.trans (out_v13_1 m c), h10.trans (out_v14_0 m c), h11.trans (out_v14_1 m c), hargs⟩

end Cert.Proof

end
-- ==== Proof.MemBase.lean ====
module

public import proofs.«01_k».proof.Proof.Gen.MemoryIdeal.Launch
public import proofs.«01_k».proof.Proof.Gen.MemoryIdeal.Skeleton
public import proofs.«01_k».proof.Proof.Gen.MemoryIdeal.Regions
public import Idealize.ShloMosaic.Lib.Pipeline.RegionsLoop
public import Idealize.ShloMosaic.Lib.Pipeline.Kit
public import Idealize.ShloMosaic.Lib.Tactic
public import Idealize.ShloMosaic.Lib.Pipeline.Value
public import Idealize.ShloMosaic.Lib.VecWindow

@[expose] public section

set_option maxRecDepth 16384

noncomputable section

namespace Cert.Proof.PM

open Cert.MemoryIdeal Cert.MemoryIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

/-- The resource algebra of the launch: one copy of the pipelines' algebra. -/
abbrev UU : Type := UR sig nD τ × Counters

local notation "𝕄" => MT nD τ sig Unit (Elt F) ℕ UU ℕ

/-- A memref's buffer on core `c`: the type of its contents. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

abbrev 𝒱₀ : Variants := Variants.none
/-- No core owes another anything. -/
abbrev L : GSem nD τ sig → Finset Unit := fun _ => ∅
abbrev lv : GSem nD τ sig → Unit → ℕ := fun _ _ => 0
/-- A core owes nothing. -/
abbrev owing (c : Dev nD) : sProp 𝕄 := iprop(∃ W, owes (c : Thread nD τ) (0 : CellTallies nD τ sig Unit) W)

/-- A store over the whole of a buffer leaves its payload. -/
theorem read_full {sp : Space} {S : Shape} {e : EltTy} (v : View sig .tc sp S e) (f : v.ty.Contents (Elt F)) (off : Fin S.rank → ℕ)
    (h0 : off = fun _ => 0) (inb : ∀ a, off a + S.size a ≤ S.size a) (w : S.Idx → Elt F e) :
    v.read (Elt F) (v.writes (Elt F) f [⟨Rect.unit off S.size inb, w⟩]) = w := by
  subst h0
  exact View.read_writes_whole v f w

/-- A load of the whole of a buffer is what it reads. -/
theorem load_full {sp : Space} {S : Shape} {e : EltTy} (v : View sig .tc sp S e) (f : v.ty.Contents (Elt F)) (off : Fin S.rank → ℕ)
    (h0 : off = fun _ => 0) (inb : ∀ a, off a + S.size a ≤ S.size a) :
    v.readAt (Elt F) (Rect.unit off S.size inb).toLoadRect f = v.read (Elt F) f :=
  View.readAt_full v f inb

/-- A covered load of the whole of a buffer after one store over the whole of it is that store's payload. -/
theorem cov_one {sp : Space} {S : Shape} {e : EltTy} (v : View sig .tc sp S e) (off off' : Fin S.rank → ℕ)
    (h0 : off = fun _ => 0) (h0' : off' = fun _ => 0) (inb : ∀ a, off a + S.size a ≤ S.size a) (inb' : ∀ a, off' a + S.size a ≤ S.size a) (w : S.Idx → Elt F e) :
    v.readCov [⟨Rect.unit off S.size inb, w⟩] (Rect.unit off' S.size inb').toLoadRect = w :=
  View.readCov_full v inb' inb w []

theorem z2 : (![0, 0] : Fin 2 → ℕ) = fun _ => 0 := by decide

/-- A staging buffer owned at a block is its memref's buffer held at contents reading as the block. -/
theorem owned (c : Dev nD) {sp : Space} {S : Shape} {e : EltTy} (M : Memref sig .tc sp S e) (hM : M.IsWhole) (X Y : S.Idx → Elt F e) (h : X = Y) :
    (owns (c : Thread nD τ) M fullShare X : sProp 𝕄) ⊢ iprop(∃ f : Bf (F := F) c M, ⌜M.view.read (Elt F) f = Y⌝ ∗ pt c M f) := by
  subst h; unfold owns; rw [hM.set_eq_univ]
theorem disown (c : Dev nD) {sp : Space} {S : Shape} {e : EltTy} (M : Memref sig .tc sp S e) (hM : M.IsWhole) (X Y : S.Idx → Elt F e) (h : X = Y) :
    iprop(∃ f : Bf (F := F) c M, ⌜M.view.read (Elt F) f = Y⌝ ∗ pt c M f) ⊢ (owns (c : Thread nD τ) M fullShare X : sProp 𝕄) := by
  subst h; unfold owns; rw [hM.set_eq_univ]

/-- The body of the products, over its two conditions. -/
def bodymm (b1 b2 : BitVec 1) (M2 : Memref sig .tc .vmem S512x2048 .bf16) (hM2 : M2.IsWhole) (M3 : Memref sig .tc .vmem S2048x1024 .f32) (hM3 : M3.IsWhole) (M4 : Memref sig .tc .vmem S512x1024 .f32) (hM4 : M4.IsWhole) (M5 : Memref sig .tc .vmem S2048x1024 .bf16) (hM5 : M5.IsWhole) : Prog (TpuEff nD τ sig (Elt F) Λ₀ .tc) PUnit := do
  if _h : b1 = 1#1 then do
    let v : Vec F S2048x1024 .f32 ← Prog.lift (.load M3 (Rect.unit (s := S2048x1024) ![0, 0] S2048x1024.size inb_S2048x1024_S2048x1024_0_0).toLoadRect (View.loadsAt_vmem h_S2048x1024))
    let _ : Vec F S2048x1024 .bf16 ← Prog.lift (.load M5 (Rect.unit (s := S2048x1024) ![0, 0] S2048x1024.size inb_S2048x1024_S2048x1024_0_0).toLoadRect (View.loadsAt_vmem h_S2048x1024))
    Prog.lift (.store M5 (Rect.unit (s := S2048x1024) ![0, 0] S2048x1024.size inb_S2048x1024_S2048x1024_0_0) (k1_pay1 v) Finset.univ (View.stores_vmem h_S2048x1024 (hM5.storeExact_slice rfl _ packedbf16_S2048x1024_S2048x1024_0_0) (fun _ => rfl)) (.inl rfl))
    pure ⟨⟩
  else do
    pure ⟨⟩
  if _h : b2 = 1#1 then do
    let v : Vec F S512x2048 .bf16 ← Prog.lift (.load M2 (Rect.unit (s := S512x2048) ![0, 0] S512x2048.size inb_S512x2048_S512x2048_0_0).toLoadRect (View.loadsAt_vmem h_S512x2048))
    let w : Vec F S2048x1024 .bf16 ← Prog.lift (.load M5 (Rect.unit (s := S2048x1024) ![0, 0] S2048x1024.size inb_S2048x1024_S2048x1024_0_0).toLoadRect (View.loadsAt_vmem h_S2048x1024))
    let _ : Vec F S512x1024 .f32 ← Prog.lift (.load M4 (Rect.unit (s := S512x1024) ![0, 0] S512x1024.size inb_S512x1024_S512x1024_0_0).toLoadRect (View.loadsAt_vmem h_S512x1024))
    Prog.lift (.store M4 (Rect.unit (s := S512x1024) ![0, 0] S512x1024.size inb_S512x1024_S512x1024_0_0) (k1_pay2 v w) Finset.univ (View.stores_vmem_bits_univ h_S512x1024 rfl) (.inl rfl))
    pure ⟨⟩
  else do
    pure ⟨⟩

/-- The body casts the weights into the scratch buffer and multiplies the rows with them. -/
theorem runmm (c : Dev nD) (b1 b2 : BitVec 1) (M2 : Memref sig .tc .vmem S512x2048 .bf16) (hM2 : M2.IsWhole) (M3 : Memref sig .tc .vmem S2048x1024 .f32) (hM3 : M3.IsWhole) (M4 : Memref sig .tc .vmem S512x1024 .f32) (hM4 : M4.IsWhole) (M5 : Memref sig .tc .vmem S2048x1024 .bf16) (hM5 : M5.IsWhole)
    (f2 : Bf (F := F) c M2) (f3 : Bf (F := F) c M3) (f4 : Bf (F := F) c M4) (f5 : Bf (F := F) c M5)
    (h1 : b1 = 1#1) (h2 : b2 = 1#1) (E : Set ℕ) (Q : PUnit → sProp 𝕄) :
    iprop(pt c M2 f2 ∗ pt c M3 f3 ∗ pt c M4 f4 ∗ pt c M5 f5
        ∗ (iprop(pt c M2 f2 ∗ pt c M3 f3
          ∗ (∃ g : Bf (F := F) c M4, ⌜M4.view.read (Elt F) g = k1_pay2 (M2.view.read (Elt F) f2) (k1_pay1 (M3.view.read (Elt F) f3))⌝ ∗ pt c M4 g)
          ∗ (∃ g : Bf (F := F) c M5, pt c M5 g)) -∗ Q ⟨⟩))
      ⊢ wp frame (wpE (defs₀ (F := F)) 𝒱₀ c none) E (bodymm b1 b2 M2 hM2 M3 hM3 M4 hM4 M5 hM5) Q := by
  iintro ⟨H2, H3, H4, H5, Hk⟩
  unfold bodymm
  sl_exec! (disch := first | exact h1 | exact h2)
  sl_step
  iapply Hk
  isplitl [H2]; · iexact H2
  isplitl [H3]; · iexact H3
  isplitl [H4]
  · iexists _; isplitr; swap; · iexact H4
    ipureintro
    exact (read_full M4.view _ _ z2 _ _).trans (congrArg₂ k1_pay2 (load_full M2.view f2 _ z2 _) ((cov_one M5.view _ _ z2 z2 _ _ _).trans (congrArg k1_pay1 (load_full M3.view f3 _ z2 _))))
  iexists _; iexact H5

set_option backward.isDefEq.respectTransparency.types false in
/-- A call as an item of the program, from the buffers before it to the buffers after it: its arrays are whole distinct buffers,
    and it owes nothing. -/
def mkReg (pd : (p : Fin 3) → (c : Dev nD) → Dat τ (Elt F) Unit ℕ UU ℕ (cfgs p) c) (p : Fin 3)
    (lf : Pipeline.LaunchFacts (nD := nD) (τ := τ) cfgs p) (A B : Dev nD → Valuation τ sig (Elt F))
    (hq : ∀ c w, (pd p c).q w = fullShare) (hA : ∀ c w, (pd p c).A w = A c (Pipeline.arrRef (cfgs p).spec w))
    (ho : ∀ c t, (pd p c).owed t = 0) (hr : ∀ c, (pd p c).recorded 0 = Set.univ)
    (hbody : ∀ c, BodyObligation (pd p c) (defs₀ (F := F)) 𝒱₀ () Set.univ)
    (hin : ∀ c, (Pipeline.scopedRest (Ix := Unit) (Name := ℕ) (U := UU) (Lvl := ℕ) (Val := Elt F) (cfgs p).spec c : sProp 𝕄) ⊢ (pd p c).Φ 0)
    (hout : ∀ c, (pd p c).Φ (Fin.last _) ⊢ (Pipeline.scopedRest (Ix := Unit) (Name := ℕ) (U := UU) (Lvl := ℕ) (Val := Elt F) (cfgs p).spec c : sProp 𝕄))
    (hB : ∀ c w, (pd p c).arrAt w (cfgs p).N = B c (Pipeline.arrRef (cfgs p).spec w))
    (hrest : ∀ c b, b ∉ Finset.univ.image (Pipeline.arrRef (cfgs p).spec) → B c b = A c b) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(unscopedBufs c (fun b => A c b) ∗ owing c)
  post c := iprop(unscopedBufs c (fun b => B c b) ∗ owing c)
  X _ := BI.emp
  Y _ := BI.emp
  Z c := Pipeline.unscopedRest (Ix := Unit) (Name := ℕ) (U := UU) (Lvl := ℕ) (cfgs p).spec c (fun b => A c b)
  hentry c := by
    rw [Pipeline.ownSems0_none]
    have hsplit := Pipeline.arrays_of_unscopedBufs (p := p) (pcfgs (F := F)) adm pd lf.win lf.arr_whole c
      ((pd p c).share_full (hq c)) (fun b => A c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (by rw [hr c]; trivial)
      iexact HO
    isplitr; · iempintro
    iexact Hrest
  hin c := by
    iintro ⟨-, -, Hr⟩
    iapply (hin c); iexact Hr
  hout c := by
    rw [Pipeline.ownSems0_none]
    iintro Hr
    isplitr; · iempintro
    isplitr; · iempintro
    iapply (hout c); iexact Hr
  hexit c := by
    have hjoin := Pipeline.unscopedBufs_of_arrays (p := p) (pcfgs (F := F)) adm (Ix := Unit) (Name := ℕ) (U := UU) (Lvl := ℕ) lf.win lf.arr_whole c
      pd ((pd p c).share_full (hq c)) (fun b => A c b) (fun b => B c b) ((pd p c).arrAt · (cfgs p).N) (hB c) (fun b hb => hrest c b hb)
    iintro ⟨Ha, HO, -, Hrest⟩
    imodintro
    isplitl [Ha Hrest]
    · iapply hjoin; isplitl [Ha] <;> iassumption
    unfold Pipeline.Dat.owesAt Pipeline.owesWithin
    rw [ho c]
    icases HO with ⟨%W, -, HO⟩; iexists W; iexact HO

end Cert.Proof.PM

end
-- ==== Proof.MemCalls.lean ====
module

public import proofs.«01_k».proof.Proof.MemBase

@[expose] public section

set_option maxRecDepth 16384

noncomputable section

namespace Cert.Proof.PM

open Cert.MemoryIdeal Cert.MemoryIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## The body of call 0 -/

/-- The body scales the rows by their reciprocal root mean square and the weight. -/
theorem run0 (c : Dev nD) (i : grid0.Coords) (M1 : Memref sig .tc .vmem S512x2048 .f32) (hM1 : M1.IsWhole) (M2 : Memref sig .tc .vmem S1x2048 .f32) (hM2 : M2.IsWhole) (M3 : Memref sig .tc .vmem S512x2048 .bf16) (hM3 : M3.IsWhole)
    (f1 : Bf (F := F) c M1) (f2 : Bf (F := F) c M2) (f3 : Bf (F := F) c M3) (E : Set ℕ) (Q : PUnit → sProp 𝕄) :
    iprop(pt c M1 f1 ∗ pt c M2 f2 ∗ pt c M3 f3
        ∗ (iprop(pt c M1 f1 ∗ pt c M2 f2
          ∗ (∃ g : Bf (F := F) c M3, ⌜M3.view.read (Elt F) g = k0_pay1 (M1.view.read (Elt F) f1) (M2.view.read (Elt F) f2)⌝ ∗ pt c M3 g)) -∗ Q ⟨⟩))
      ⊢ wp frame (wpE (defs₀ (F := F)) 𝒱₀ c none) E (cc0_rmsnorm i M1 hM1 M2 hM2 M3 hM3) Q := by
  iintro ⟨H1, H2, H3, Hk⟩
  rw [cc0_rmsnorm_eq_skeleton]
  unfold cc0_rmsnorm_skel
  sl_exec!
  sl_step
  iapply Hk
  isplitl [H1]; · iexact H1
  isplitl [H2]; · iexact H2
  iexists _; isplitr; swap; · iexact H3
  ipureintro
  exact (read_full M3.view _ _ z2 _ _).trans (congrArg₂ k0_pay1 (load_full M1.view f1 _ z2 _) (load_full M2.view f2 _ z2 _))

/-! ## The proof data of call 0 -/

variable (V : (c : Dev nD) → (b : Ref sig .tc) → Buf (Elt F) ((c : Thread nD τ).loc b))

/-- The blocks a point is given: rows, weight. -/
abbrev xb0 (c : Dev nD) (t : Fin grid0.N) : S512x2048.Idx → Elt F .f32 := ((cfg0.win (0 : Fin 3)).blk t).view.read (Elt F) (V c main_v0)
abbrev nb0 (c : Dev nD) (t : Fin grid0.N) : S1x2048.Idx → Elt F .f32 := ((cfg0.win (1 : Fin 3)).blk t).view.read (Elt F) (V c main_v2)
/-- The block of rows a point leaves. -/
abbrev ho0 (c : Dev nD) (t : Fin grid0.N) : S512x2048.Idx → Elt F .bf16 := k0_pay1 (xb0 V c t) (nb0 V c t)

/-- The proof data of the call. -/
def dat0 (c : Dev nD) : Dat τ (Elt F) Unit ℕ UU ℕ cfg0 c where
  A w := V c (Pipeline.arrRef spec0 w)
  after w t := match w with
    | ⟨0, _⟩ => xb0 V c t
    | ⟨1, _⟩ => nb0 V c t
    | ⟨2, _⟩ => ho0 V c t
  Φ _ := Pipeline.scopedRest (Ix := Unit) (Name := ℕ) (U := UU) (Lvl := ℕ) (Val := Elt F) spec0 c
  q _ := fullShare
  owed _ := 0

theorem before0_0 (c : Dev nD) (t : Fin grid0.N) (d) : (dat0 V c).before (0 : Fin 3) t d = xb0 V c t :=
  (dat0 V c).before_in_eq_fetched (0 : Fin 3) rfl (fun _ => rfl) (fun _ _ _ => rfl) (fun _ => rfl) t d
theorem before0_1 (c : Dev nD) (t : Fin grid0.N) (d) : (dat0 V c).before (1 : Fin 3) t d = nb0 V c t :=
  (dat0 V c).before_in_eq_fetched (1 : Fin 3) rfl (fun _ => rfl) (fun _ _ _ => rfl) (fun _ => rfl) t d

abbrev s0_0 (t : Fin grid0.N) := win0_0.stage (cfg0.slots t (0 : Fin 3))
abbrev s0_1 (t : Fin grid0.N) := win0_1.stage (cfg0.slots t (1 : Fin 3))
abbrev s0_2 (t : Fin grid0.N) := win0_2.stage (cfg0.slots t (2 : Fin 3))

/-- The library's obligation on the body of the call. -/
theorem obligation0 (c : Dev nD) : BodyObligation (dat0 V c) (defs₀ (F := F)) 𝒱₀ () Set.univ := fun t => by
  rw [bigSep_W0, bigSep_W0]
  dsimp only
  rw [show (dat0 V c).Φ t.succ = (dat0 V c).Φ t.castSucc from rfl,
    show (dat0 V c).owesAt () t.succ = (dat0 V c).owesAt () t.castSucc from rfl]
  iintro ⟨HI, HO, ⟨%d0, H0⟩, ⟨%d1, H1⟩, ⟨%d2, H2⟩⟩
  ihave H0' := (owned c (s0_0 t) (hstage0_0 _) _ _ (before0_0 V c t d0)) $$ H0
  icases H0' with ⟨%f0, %r0, H0⟩
  ihave H1' := (owned c (s0_1 t) (hstage0_1 _) _ _ (before0_1 V c t d1)) $$ H1
  icases H1' with ⟨%f1, %r1, H1⟩
  ihave H2' := (owned c (s0_2 t) (hstage0_2 _) _ _ rfl) $$ H2
  icases H2' with ⟨%f2, -, H2⟩
  iapply (run0 c (grid0.coords t) (s0_0 t) (hstage0_0 _) (s0_1 t) (hstage0_1 _) (s0_2 t) (hstage0_2 _) f0 f1 f2 Set.univ _)
  isplitl [H0]; · iexact H0
  isplitl [H1]; · iexact H1
  isplitl [H2]; · iexact H2
  rw [r0, r1]
  iintro ⟨H0, H1, H2⟩
  isplitl [HI]; · iexact HI
  isplitl [HO]; · iexact HO
  isplitl [H0]; · iapply (disown c (s0_0 t) (hstage0_0 _) _ (xb0 V c t) rfl); iexists f0; isplitr; (· ipureintro; exact r0); iexact H0
  isplitl [H1]; · iapply (disown c (s0_1 t) (hstage0_1 _) _ (nb0 V c t) rfl); iexists f1; isplitr; (· ipureintro; exact r1); iexact H1
  iapply (disown c (s0_2 t) (hstage0_2 _) _ (ho0 V c t) rfl); iexact H2

/-! ## Call 1 -/

/-- The blocks a point is given: rows, weights. -/
abbrev rb1 (c : Dev nD) (t : Fin grid1.N) : S512x2048.Idx → Elt F .bf16 := ((cfg1.win (0 : Fin 3)).blk t).view.read (Elt F) (V c main_v3)
abbrev wb1 (c : Dev nD) (t : Fin grid1.N) : S2048x1024.Idx → Elt F .f32 := ((cfg1.win (1 : Fin 3)).blk t).view.read (Elt F) (V c main_v4)
/-- The product a point leaves. -/
abbrev ro1 (c : Dev nD) (t : Fin grid1.N) : S512x1024.Idx → Elt F .f32 := k1_pay2 (rb1 V c t) (k1_pay1 (wb1 V c t))

/-- The proof data of the call. -/
def dat1 (c : Dev nD) : Dat τ (Elt F) Unit ℕ UU ℕ cfg1 c where
  A w := V c (Pipeline.arrRef spec1 w)
  after w t := match w with
    | ⟨0, _⟩ => rb1 V c t
    | ⟨1, _⟩ => wb1 V c t
    | ⟨2, _⟩ => ro1 V c t
  Φ _ := Pipeline.scopedRest (Ix := Unit) (Name := ℕ) (U := UU) (Lvl := ℕ) (Val := Elt F) spec1 c
  q _ := fullShare
  owed _ := 0

theorem before1_0 (c : Dev nD) (t : Fin grid1.N) (d) : (dat1 V c).before (0 : Fin 3) t d = rb1 V c t :=
  (dat1 V c).before_in_eq_fetched (0 : Fin 3) rfl (fun _ => rfl) (fun _ _ _ => rfl) (fun _ => rfl) t d
theorem before1_1 (c : Dev nD) (t : Fin grid1.N) (d) : (dat1 V c).before (1 : Fin 3) t d = wb1 V c t :=
  (dat1 V c).before_in_eq_fetched (1 : Fin 3) rfl (fun _ => rfl) (fun _ _ _ => rfl) (fun _ => rfl) t d

/-- The first condition of the body at a point; both hold at the only point. -/
abbrev first1 (i : grid1.Coords) : BitVec 1 :=
  Scalar.cmpi .ne (Scalar.extui (Scalar.cmpi .eq (BitVec.ofNat 32 (i 1).val) 0#32) : BitVec 32) 0#32
theorem conds1 : ∀ t : Fin grid1.N, first1 (grid1.coords t) = 1#1 ∧ k1_cond2 (grid1.coords t) = 1#1 := by decide +kernel

theorem split1 (c : Dev nD) : (Pipeline.scopedRest (Ix := Unit) (Name := ℕ) (U := UU) (Lvl := ℕ) (Val := Elt F) spec1 c : sProp 𝕄)
    = iprop((∃ f : Buf (Elt F) ((c : Thread nD τ).loc cc1_scratch0), ((c : Thread nD τ).loc cc1_scratch0) ↦{fullShare} f)
        ∗ Pipeline.scopedRestBut (Ix := Unit) (Name := ℕ) (U := UU) (Lvl := ℕ) (Val := Elt F) spec1 c [cc1_scratch0]) :=
  Pipeline.scopedRest_split_of_list spec1 c [cc1_scratch0] (by decide) (by decide)

abbrev s1_0 (t : Fin grid1.N) := win1_0.stage (cfg1.slots t (0 : Fin 3))
abbrev s1_1 (t : Fin grid1.N) := win1_1.stage (cfg1.slots t (1 : Fin 3))
abbrev s1_2 (t : Fin grid1.N) := win1_2.stage (cfg1.slots t (2 : Fin 3))

set_option maxHeartbeats 2000000 in
/-- The library's obligation on the body of the call. -/
theorem obligation1 (c : Dev nD) : BodyObligation (dat1 V c) (defs₀ (F := F)) 𝒱₀ () Set.univ := fun t => by
  rw [bigSep_W1, bigSep_W1]
  dsimp only
  rw [show (dat1 V c).Φ t.succ = (dat1 V c).Φ t.castSucc from rfl,
    show (dat1 V c).owesAt () t.succ = (dat1 V c).owesAt () t.castSucc from rfl,
    show (dat1 V c).Φ t.castSucc = Pipeline.scopedRest (Ix := Unit) (Name := ℕ) (U := UU) (Lvl := ℕ) (Val := Elt F) spec1 c from rfl, split1]
  obtain ⟨h1, h2⟩ := conds1 t
  have i2 : idle1 (2 : Fin 3) (grid1.coords t) = !(k1_cond2 (grid1.coords t) == 1#1) := rfl
  have e2 : idle1 (2 : Fin 3) (grid1.coords t) = false := by rw [i2, h2]; rfl
  rw [e2]
  dsimp only
  iintro ⟨⟨⟨%g, Hs⟩, Hr⟩, HO, ⟨%d0, H0⟩, ⟨%d1, H1⟩, ⟨%d2, H2⟩⟩
  ihave H0' := (owned c (s1_0 t) (hstage1_0 _) _ _ (before1_0 V c t d0)) $$ H0
  icases H0' with ⟨%f0, %r0, H0⟩
  ihave H1' := (owned c (s1_1 t) (hstage1_1 _) _ _ (before1_1 V c t d1)) $$ H1
  icases H1' with ⟨%f1, %r1, H1⟩
  ihave H2' := (owned c (s1_2 t) (hstage1_2 _) _ _ rfl) $$ H2
  icases H2' with ⟨%f2, -, H2⟩
  iapply (runmm c (first1 (grid1.coords t)) (k1_cond2 (grid1.coords t)) (s1_0 t) (hstage1_0 _) (s1_1 t) (hstage1_1 _) (s1_2 t) (hstage1_2 _) (Memref.whole cc1_scratch0) (Memref.isWhole_whole _) f0 f1 f2 g h1 h2 Set.univ _)
  isplitl [H0]; · iexact H0
  isplitl [H1]; · iexact H1
  isplitl [H2]; · iexact H2
  isplitl [Hs]; · iexact Hs
  rw [r0, r1]
  iintro ⟨H0, H1, H2, ⟨%g', Hs⟩⟩
  isplitl [Hs Hr]
  · isplitl [Hs]
    · iexists g'; iexact Hs
    iexact Hr
  isplitl [HO]; · iexact HO
  isplitl [H0]; · iapply (disown c (s1_0 t) (hstage1_0 _) _ (rb1 V c t) rfl); iexists f0; isplitr; (· ipureintro; exact r0); iexact H0
  isplitl [H1]; · iapply (disown c (s1_1 t) (hstage1_1 _) _ (wb1 V c t) rfl); iexists f1; isplitr; (· ipureintro; exact r1); iexact H1
  iapply (disown c (s1_2 t) (hstage1_2 _) _ (ro1 V c t) rfl); iexact H2

/-! ## Call 2 -/

/-- The blocks a point is given: rows, weights. -/
abbrev rb2 (c : Dev nD) (t : Fin grid2.N) : S512x2048.Idx → Elt F .bf16 := ((cfg2.win (0 : Fin 3)).blk t).view.read (Elt F) (V c main_v3)
abbrev wb2 (c : Dev nD) (t : Fin grid2.N) : S2048x1024.Idx → Elt F .f32 := ((cfg2.win (1 : Fin 3)).blk t).view.read (Elt F) (V c main_v7)
/-- The product a point leaves. -/
abbrev ro2 (c : Dev nD) (t : Fin grid2.N) : S512x1024.Idx → Elt F .f32 := k1_pay2 (rb2 V c t) (k1_pay1 (wb2 V c t))

/-- The proof data of the call. -/
def dat2 (c : Dev nD) : Dat τ (Elt F) Unit ℕ UU ℕ cfg2 c where
  A w := V c (Pipeline.arrRef spec2 w)
  after w t := match w with
    | ⟨0, _⟩ => rb2 V c t
    | ⟨1, _⟩ => wb2 V c t
    | ⟨2, _⟩ => ro2 V c t
  Φ _ := Pipeline.scopedRest (Ix := Unit) (Name := ℕ) (U := UU) (Lvl := ℕ) (Val := Elt F) spec2 c
  q _ := fullShare
  owed _ := 0

theorem before2_0 (c : Dev nD) (t : Fin grid2.N) (d) : (dat2 V c).before (0 : Fin 3) t d = rb2 V c t :=
  (dat2 V c).before_in_eq_fetched (0 : Fin 3) rfl (fun _ => rfl) (fun _ _ _ => rfl) (fun _ => rfl) t d
theorem before2_1 (c : Dev nD) (t : Fin grid2.N) (d) : (dat2 V c).before (1 : Fin 3) t d = wb2 V c t :=
  (dat2 V c).before_in_eq_fetched (1 : Fin 3) rfl (fun _ => rfl) (fun _ _ _ => rfl) (fun _ => rfl) t d

/-- The first condition of the body at a point; both hold at the only point. -/
abbrev first2 (i : grid2.Coords) : BitVec 1 :=
  Scalar.cmpi .ne (Scalar.extui (Scalar.cmpi .eq (BitVec.ofNat 32 (i 1).val) 0#32) : BitVec 32) 0#32
theorem conds2 : ∀ t : Fin grid2.N, first2 (grid2.coords t) = 1#1 ∧ k2_cond2 (grid2.coords t) = 1#1 := by decide +kernel

theorem split2 (c : Dev nD) : (Pipeline.scopedRest (Ix := Unit) (Name := ℕ) (U := UU) (Lvl := ℕ) (Val := Elt F) spec2 c : sProp 𝕄)
    = iprop((∃ f : Buf (Elt F) ((c : Thread nD τ).loc cc2_scratch0), ((c : Thread nD τ).loc cc2_scratch0) ↦{fullShare} f)
        ∗ Pipeline.scopedRestBut (Ix := Unit) (Name := ℕ) (U := UU) (Lvl := ℕ) (Val := Elt F) spec2 c [cc2_scratch0]) :=
  Pipeline.scopedRest_split_of_list spec2 c [cc2_scratch0] (by decide) (by decide)

abbrev s2_0 (t : Fin grid2.N) := win2_0.stage (cfg2.slots t (0 : Fin 3))
abbrev s2_1 (t : Fin grid2.N) := win2_1.stage (cfg2.slots t (1 : Fin 3))
abbrev s2_2 (t : Fin grid2.N) := win2_2.stage (cfg2.slots t (2 : Fin 3))

set_option maxHeartbeats 2000000 in
/-- The library's obligation on the body of the call. -/
theorem obligation2 (c : Dev nD) : BodyObligation (dat2 V c) (defs₀ (F := F)) 𝒱₀ () Set.univ := fun t => by
  rw [bigSep_W2, bigSep_W2]
  dsimp only
  rw [show (dat2 V c).Φ t.succ = (dat2 V c).Φ t.castSucc from rfl,
    show (dat2 V c).owesAt () t.succ = (dat2 V c).owesAt () t.castSucc from rfl,
    show (dat2 V c).Φ t.castSucc = Pipeline.scopedRest (Ix := Unit) (Name := ℕ) (U := UU) (Lvl := ℕ) (Val := Elt F) spec2 c from rfl, split2]
  obtain ⟨h1, h2⟩ := conds2 t
  have i2 : idle2 (2 : Fin 3) (grid2.coords t) = !(k2_cond2 (grid2.coords t) == 1#1) := rfl
  have e2 : idle2 (2 : Fin 3) (grid2.coords t) = false := by rw [i2, h2]; rfl
  rw [e2]
  dsimp only
  iintro ⟨⟨⟨%g, Hs⟩, Hr⟩, HO, ⟨%d0, H0⟩, ⟨%d1, H1⟩, ⟨%d2, H2⟩⟩
  ihave H0' := (owned c (s2_0 t) (hstage2_0 _) _ _ (before2_0 V c t d0)) $$ H0
  icases H0' with ⟨%f0, %r0, H0⟩
  ihave H1' := (owned c (s2_1 t) (hstage2_1 _) _ _ (before2_1 V c t d1)) $$ H1
  icases H1' with ⟨%f1, %r1, H1⟩
  ihave H2' := (owned c (s2_2 t) (hstage2_2 _) _ _ rfl) $$ H2
  icases H2' with ⟨%f2, -, H2⟩
  iapply (runmm c (first2 (grid2.coords t)) (k2_cond2 (grid2.coords t)) (s2_0 t) (hstage2_0 _) (s2_1 t) (hstage2_1 _) (s2_2 t) (hstage2_2 _) (Memref.whole cc2_scratch0) (Memref.isWhole_whole _) f0 f1 f2 g h1 h2 Set.univ _)
  isplitl [H0]; · iexact H0
  isplitl [H1]; · iexact H1
  isplitl [H2]; · iexact H2
  isplitl [Hs]; · iexact Hs
  rw [r0, r1]
  iintro ⟨H0, H1, H2, ⟨%g', Hs⟩⟩
  isplitl [Hs Hr]
  · isplitl [Hs]
    · iexists g'; iexact Hs
    iexact Hr
  isplitl [HO]; · iexact HO
  isplitl [H0]; · iapply (disown c (s2_0 t) (hstage2_0 _) _ (rb2 V c t) rfl); iexists f0; isplitr; (· ipureintro; exact r0); iexact H0
  isplitl [H1]; · iapply (disown c (s2_1 t) (hstage2_1 _) _ (wb2 V c t) rfl); iexists f1; isplitr; (· ipureintro; exact r1); iexact H1
  iapply (disown c (s2_2 t) (hstage2_2 _) _ (ro2 V c t) rfl); iexact H2

end Cert.Proof.PM

end
-- ==== Proof.MemRun.lean ====
module

public import proofs.«01_k».proof.Proof.MemCalls

@[expose] public section

set_option maxRecDepth 16384

noncomputable section

namespace Cert.Proof.PM

open Cert.MemoryIdeal Cert.MemoryIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

open Idealize.ShloMosaic.Pipeline (HostSeg)

local notation "𝕄" => MT nD τ sig Unit (Elt F) ℕ UU ℕ

variable (m : (ℓ : Loc nD τ sig) → Buf (Elt F) ℓ)

/-! ## The buffers between the items -/

def U0 (c : Dev nD) : Valuation τ sig (Elt F) := fun b => m (c, b)
def U1 (c : Dev nD) : Valuation τ sig (Elt F) := StableHlo.after hostOps0 (U0 m c)
theorem U1_of (c : Dev nD) (r : Ref sig .tc) (h : r ∉ hostOps0_W) : U1 m c r = U0 m c r :=
  StableHlo.after_of_writes_sub hostOps0 _ hostOps0_writes h

/-- What call 0 leaves in its result, and the buffers after it. -/
@[irreducible] def o0 (c : Dev nD) : Buf (Elt F) ((c : Thread nD τ).loc main_v3) := (dat0 (fun c b => U1 m c b) c).arrAt 2 grid0.N
theorem o0_eq (c : Dev nD) : o0 m c = (dat0 (fun c b => U1 m c b) c).arrAt 2 grid0.N := by unfold o0; rfl
def U2 (c : Dev nD) : Valuation τ sig (Elt F) := Function.update (U1 m c) main_v3 (o0 m c)
theorem U2_of (c : Dev nD) (r : Ref sig .tc) (h : r ≠ main_v3) : U2 m c r = U1 m c r := by
  simp only [U2, Function.update_of_ne (StableHlo.devRef_ne_of_ne h : (Proc.devRef .tc r : DevRef τ sig) ≠ Proc.devRef .tc main_v3)]
theorem U2_a (c : Dev nD) : U2 m c main_v3 = o0 m c := by simp only [U2, Function.update_self]

def U3 (c : Dev nD) : Valuation τ sig (Elt F) := StableHlo.after hostOps1 (U2 m c)
theorem U3_of (c : Dev nD) (r : Ref sig .tc) (h : r ∉ hostOps1_W) : U3 m c r = U2 m c r :=
  StableHlo.after_of_writes_sub hostOps1 _ hostOps1_writes h

/-- What call 1 leaves in its result, and the buffers after it. -/
@[irreducible] def o1 (c : Dev nD) : Buf (Elt F) ((c : Thread nD τ).loc main_v5) := (dat1 (fun c b => U3 m c b) c).arrAt 2 grid1.N
theorem o1_eq (c : Dev nD) : o1 m c = (dat1 (fun c b => U3 m c b) c).arrAt 2 grid1.N := by unfold o1; rfl
def U4 (c : Dev nD) : Valuation τ sig (Elt F) := Function.update (U3 m c) main_v5 (o1 m c)
theorem U4_of (c : Dev nD) (r : Ref sig .tc) (h : r ≠ main_v5) : U4 m c r = U3 m c r := by
  simp only [U4, Function.update_of_ne (StableHlo.devRef_ne_of_ne h : (Proc.devRef .tc r : DevRef τ sig) ≠ Proc.devRef .tc main_v5)]
theorem U4_a (c : Dev nD) : U4 m c main_v5 = o1 m c := by simp only [U4, Function.update_self]

def U5 (c : Dev nD) : Valuation τ sig (Elt F) := StableHlo.after hostOps2 (U4 m c)
theorem U5_of (c : Dev nD) (r : Ref sig .tc) (h : r ∉ hostOps2_W) : U5 m c r = U4 m c r :=
  StableHlo.after_of_writes_sub hostOps2 _ hostOps2_writes h

/-- What call 2 leaves in its result, and the buffers after it. -/
@[irreducible] def o2 (c : Dev nD) : Buf (Elt F) ((c : Thread nD τ).loc main_v8) := (dat2 (fun c b => U5 m c b) c).arrAt 2 grid2.N
theorem o2_eq (c : Dev nD) : o2 m c = (dat2 (fun c b => U5 m c b) c).arrAt 2 grid2.N := by unfold o2; rfl
def U6 (c : Dev nD) : Valuation τ sig (Elt F) := Function.update (U5 m c) main_v8 (o2 m c)
theorem U6_of (c : Dev nD) (r : Ref sig .tc) (h : r ≠ main_v8) : U6 m c r = U5 m c r := by
  simp only [U6, Function.update_of_ne (StableHlo.devRef_ne_of_ne h : (Proc.devRef .tc r : DevRef τ sig) ≠ Proc.devRef .tc main_v8)]
theorem U6_a (c : Dev nD) : U6 m c main_v8 = o2 m c := by simp only [U6, Function.update_self]

def U7 (c : Dev nD) : Valuation τ sig (Elt F) := StableHlo.after hostOps3 (U6 m c)
theorem U7_of (c : Dev nD) (r : Ref sig .tc) (h : r ∉ hostOps3_W) : U7 m c r = U6 m c r :=
  StableHlo.after_of_writes_sub hostOps3 _ hostOps3_writes h

/-- The proof data of the calls. -/
def pdats : (p : Fin 3) → (c : Dev nD) → Dat τ (Elt F) Unit ℕ UU ℕ (cfgs p) c
  | ⟨0, _⟩ => fun c => dat0 (fun c b => U1 m c b) c
  | ⟨1, _⟩ => fun c => dat1 (fun c b => U3 m c b) c
  | ⟨2, _⟩ => fun c => dat2 (fun c b => U5 m c b) c

/-! ## The items -/

set_option backward.isDefEq.respectTransparency.types false in
def reg0 : RegionSeg (pcfgs (F := F)) adm (pdats m) () defs₀ 𝒱₀ L lv 0 :=
  mkReg (pdats m) 0 launch0 (U1 m) (U2 m) (fun _ _ => rfl) (fun _ _ => rfl) (fun _ _ => rfl) (fun _ => rfl) (fun c => obligation0 (fun c b => U1 m c b) c)
    (fun _ => .rfl) (fun _ => .rfl)
    (fun c w => by
    fin_cases w
    · exact ((pdats m 0 c).arrAt_in 0 rfl _).trans (U2_of m c main_v0 (by decide)).symm
    · exact ((pdats m 0 c).arrAt_in 1 rfl _).trans (U2_of m c main_v2 (by decide)).symm
    · exact ((U2_a m c).trans (o0_eq m c)).symm)
    (fun c b hb => U2_of m c b (fun h => hb (h ▸ Finset.mem_image.mpr ⟨(2 : Fin 3), Finset.mem_univ _, rfl⟩)))

set_option backward.isDefEq.respectTransparency.types false in
def reg1 : RegionSeg (pcfgs (F := F)) adm (pdats m) () defs₀ 𝒱₀ L lv 1 :=
  mkReg (pdats m) 1 launch1 (U3 m) (U4 m) (fun _ _ => rfl) (fun _ _ => rfl) (fun _ _ => rfl) (fun _ => rfl) (fun c => obligation1 (fun c b => U3 m c b) c)
    (fun _ => .rfl) (fun _ => .rfl)
    (fun c w => by
    fin_cases w
    · exact ((pdats m 1 c).arrAt_in 0 rfl _).trans (U4_of m c main_v3 (by decide)).symm
    · exact ((pdats m 1 c).arrAt_in 1 rfl _).trans (U4_of m c main_v4 (by decide)).symm
    · exact ((U4_a m c).trans (o1_eq m c)).symm)
    (fun c b hb => U4_of m c b (fun h => hb (h ▸ Finset.mem_image.mpr ⟨(2 : Fin 3), Finset.mem_univ _, rfl⟩)))

set_option backward.isDefEq.respectTransparency.types false in
def reg2 : RegionSeg (pcfgs (F := F)) adm (pdats m) () defs₀ 𝒱₀ L lv 2 :=
  mkReg (pdats m) 2 launch2 (U5 m) (U6 m) (fun _ _ => rfl) (fun _ _ => rfl) (fun _ _ => rfl) (fun _ => rfl) (fun c => obligation2 (fun c b => U5 m c b) c)
    (fun _ => .rfl) (fun _ => .rfl)
    (fun c w => by
    fin_cases w
    · exact ((pdats m 2 c).arrAt_in 0 rfl _).trans (U6_of m c main_v3 (by decide)).symm
    · exact ((pdats m 2 c).arrAt_in 1 rfl _).trans (U6_of m c main_v7 (by decide)).symm
    · exact ((U6_a m c).trans (o2_eq m c)).symm)
    (fun c b hb => U6_of m c b (fun h => hb (h ▸ Finset.mem_image.mpr ⟨(2 : Fin 3), Finset.mem_univ _, rfl⟩)))

abbrev EP : Emb (UR sig nD τ) 𝕄 := embL

/-- The library's launch element. -/
def u₀ : UU := (initOf (Pipeline.cells cfgs cellOf_inj) (Pipeline.launchToks cfgs cellOf_inj), 1)

/-- The thread state at a valuation: the buffers held, and nothing owed. -/
abbrev state (W : Dev nD → Valuation τ sig (Elt F)) (c : Dev nD) : sProp 𝕄 :=
  iprop(StableHlo.held (c : Thread nD τ) (Pipeline.ucRefs τ sig) (W c) ∗ owing c)

theorem state_eq (W : Dev nD → Valuation τ sig (Elt F)) (c : Dev nD) :
    (state W c : sProp 𝕄) = iprop(unscopedBufs c (fun b => W c b) ∗ owing c) := by
  unfold state; rw [← Pipeline.unscopedBufs_held c (W c)]

def hseg0 : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) (fun c => owing c)
def hseg1 : HostSeg (Ix := Unit) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) (fun c => owing c)
def hseg2 : HostSeg (Ix := Unit) (Name := ℕ) (U := UU) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) (fun c => owing c)
def hseg3 : HostSeg (Ix := Unit) (Name := ℕ) (U := UU) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U6 m) (fun c => owing c)

/-- The items of the program on a core. -/
abbrev items (_ : Dev nD) : List (Seg (pcfgs (F := F)) adm (pdats m) () defs₀ 𝒱₀ L lv) :=
  [.host (hseg0 m), .region (reg0 m), .host (hseg1 m), .region (reg1 m), .host (hseg2 m), .region (reg2 m), .host (hseg3 m)]

set_option backward.isDefEq.respectTransparency.types false in
/-- The run: from any memory the calls end with every buffer of the program at the last valuation, and every semaphore at zero. -/
theorem run (ρ : Dev nD → PrngReg) :
    θ_run defs (onTc (τ := τ) (main (F := F))) ⟨m, fun _ => 0, ρ⟩ (fun r => (∀ (c : Dev nD) (b : Ref sig .tc),
      (Proc.devRef .tc b : DevRef τ sig).isScoped = false → r.2.mem ((c.tc : Thread nD τ).loc b) = U7 m c b)
      ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := state (U0 m)) (Tₙ := fun c => StableHlo.held (c : Thread nD τ) (Pipeline.ucRefs τ sig) (U7 m c))
    (hch := fun c => ⟨.rfl, Entails.of_eq (state_eq (U1 m) c), Entails.of_eq (state_eq (U2 m) c).symm, Entails.of_eq (state_eq (U3 m) c), Entails.of_eq (state_eq (U4 m) c).symm, Entails.of_eq (state_eq (U5 m) c), Entails.of_eq (state_eq (U6 m) c).symm, .rfl⟩)
    (hinit := ?_) (QY := fun c s => ∀ b : Ref sig .tc, (Proc.devRef .tc b : DevRef τ sig).isScoped = false → s.mem ((c.tc : Thread nD τ).loc b) = U7 m c b)
    (hfin := fun c s' => ?_) (hQ := fun _ h hz => ⟨h, funext fun g => hz g (.inr (regions_no_unscoped g.2))⟩)
  · refine Pipeline.initEach L lv fun c => ?_
    rw [state_eq]
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simp [hb]⟩)
    · iexact HSI

theorem arg0 (c : Dev nD) : U7 m c main_arg0 = m ((c : Thread nD τ).loc main_arg0) :=
  (U7_of m c main_arg0 (by decide)).trans <| (U6_of m c main_arg0 (by decide)).trans <| (U5_of m c main_arg0 (by decide)).trans <| (U4_of m c main_arg0 (by decide)).trans <| (U3_of m c main_arg0 (by decide)).trans <| (U2_of m c main_arg0 (by decide)).trans <| U1_of m c main_arg0 (by decide)
theorem arg1 (c : Dev nD) : U7 m c main_arg1 = m ((c : Thread nD τ).loc main_arg1) :=
  (U7_of m c main_arg1 (by decide)).trans <| (U6_of m c main_arg1 (by decide)).trans <| (U5_of m c main_arg1 (by decide)).trans <| (U4_of m c main_arg1 (by decide)).trans <| (U3_of m c main_arg1 (by decide)).trans <| (U2_of m c main_arg1 (by decide)).trans <| U1_of m c main_arg1 (by decide)
theorem arg2 (c : Dev nD) : U7 m c main_arg2 = m ((c : Thread nD τ).loc main_arg2) :=
  (U7_of m c main_arg2 (by decide)).trans <| (U6_of m c main_arg2 (by decide)).trans <| (U5_of m c main_arg2 (by decide)).trans <| (U4_of m c main_arg2 (by decide)).trans <| (U3_of m c main_arg2 (by decide)).trans <| (U2_of m c main_arg2 (by decide)).trans <| U1_of m c main_arg2 (by decide)
theorem arg3 (c : Dev nD) : U7 m c main_arg3 = m ((c : Thread nD τ).loc main_arg3) :=
  (U7_of m c main_arg3 (by decide)).trans <| (U6_of m c main_arg3 (by decide)).trans <| (U5_of m c main_arg3 (by decide)).trans <| (U4_of m c main_arg3 (by decide)).trans <| (U3_of m c main_arg3 (by decide)).trans <| (U2_of m c main_arg3 (by decide)).trans <| U1_of m c main_arg3 (by decide)

end Cert.Proof.PM

end
-- ==== Proof.MSame.lean ====
module

public import proofs.«01_k».proof.Proof.Gen.MemoryIdeal
public import proofs.«01_k».proof.Proof.Gen.Memory

@[expose] public section

set_option maxHeartbeats 4000000
set_option backward.isDefEq.respectTransparency.types false

noncomputable section

namespace Cert.Proof

open Idealize.ShloMosaic

variable {F : FTy → Type} [FloatOps F]

/-- The two programs of the memory have the same body at every label. -/
theorem mem_bodies_same : Cert.Memory.defs₀ (F := F) = Cert.MemoryIdeal.defs₀ (F := F) := by
  unfold Cert.Memory.defs₀ Cert.MemoryIdeal.defs₀
  refine congrArg Defs.onTc (funext fun l => funext fun a => ?_)
  match l, a with
  | 0, (t, s) => rfl
  | 1, (t, s) => rfl
  | 2, (t, s) => rfl

/-- So they have the same table of bodies and regions. -/
theorem mem_defs_same : Cert.Memory.defs (F := F) = Cert.MemoryIdeal.defs (F := F) :=
  congrArg (Pipeline.defs Cert.MemoryIdeal.pcfgs) mem_bodies_same

end Cert.Proof

end
-- ==== Proof.MFrames.lean ====
module

public import proofs.«01_k».proof.Defs
public import proofs.«01_k».proof.Proof.MemRun
public import proofs.«01_k».proof.Proof.MSame
public import proofs.«01_k».proof.Proof.Gen.MemoryReferenceIdeal.Run
public import Idealize.ShloMosaic.Lib.Quiescent

@[expose] public section

noncomputable section

namespace Cert.Proof

open Idealize.ShloMosaic Idealize.SL.Sem

set_option maxHeartbeats 8000000 in
set_option backward.isDefEq.respectTransparency.types false in
/-- The memory's kernel runs, leaves its arguments as they were and every semaphore at zero. -/
theorem mem_frame_bits : Cert.quiescent_Memory := fun m g _ => by
  rw [mem_defs_same]
  exact (θ_run Cert.MemoryIdeal.defs _ _).mono (fun _ h => ⟨fun c => ⟨(h.1 c _ rfl).trans (PM.arg0 (F := Bits) m c), (h.1 c _ rfl).trans (PM.arg1 (F := Bits) m c),
    (h.1 c _ rfl).trans (PM.arg2 (F := Bits) m c), (h.1 c _ rfl).trans (PM.arg3 (F := Bits) m c)⟩, h.2⟩) (PM.run (F := Bits) m g)

/-- The kernel at the extended reals runs, leaves its arguments as they were and every semaphore at zero. -/
theorem mem_frame_ideal : Cert.quiescent_MemoryIdeal := fun m g _ =>
  (θ_run _ _ _).mono (fun _ h => ⟨fun c => ⟨(h.1 c _ rfl).trans (PM.arg0 m c), (h.1 c _ rfl).trans (PM.arg1 m c), (h.1 c _ rfl).trans (PM.arg2 m c), (h.1 c _ rfl).trans (PM.arg3 m c)⟩, h.2⟩) (PM.run m g)

/-- The reference runs, leaves its arguments as they were and every semaphore at zero: it has none. -/
theorem mem_frame_reference : Cert.quiescent_MemoryReferenceIdeal := fun m g _ =>
  (θ_run _ _ _).mono (fun r h => ⟨fun c => (h c).2.2, sem_eq_zero_of_no_sems rfl r.2⟩) (Cert.MemoryReferenceIdeal.Value.run m g)

/-- The ideal program is the kernel's own text. -/
theorem mem_idealized : Cert.preserves_Memory_MemoryIdeal := trivial

end Cert.Proof

end
-- ==== Proof.MArr.lean ====
module

public import proofs.«01_k».proof.Proof.PNorm
public import proofs.«01_k».proof.Proof.MemCalls
public import Idealize.ShloMosaic.Lib.Pipeline.Covers

@[expose] public section

set_option maxRecDepth 16384

noncomputable section

/-- The product of 512 rows with 1024 columns of weights. -/
def Cert.Proof.PSpec.mmMem (X : (⟨2, ![512, 2048]⟩ : Idealize.ShloMosaic.Shape).Idx → EReal) (W : (⟨2, ![2048, 1024]⟩ : Idealize.ShloMosaic.Shape).Idx → EReal) :
    (⟨2, ![512, 1024]⟩ : Idealize.ShloMosaic.Shape).Idx → EReal :=
  fun i => Finset.univ.sum fun k : Fin 2048 => X (Idealize.ShloMosaic.ValueIdx.ix2 (n0 := 512) (i 0) k) * W (Idealize.ShloMosaic.ValueIdx.ix2 (n1 := 1024) k (i 1))

namespace Cert.Proof.PM

open Cert.MemoryIdeal Cert.MemoryIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

/-- A block of rows, normalized, and a block of rows against the weights. -/
theorem norm_apply (X : S512x2048.Idx → EReal) (G : S1x2048.Idx → EReal) (p : Fin 512) (k : Fin 2048) :
    k0_pay1 (F := Ideal) X G (ix2 p k) = PSpec.nrm (fun j => X (ix2 p j)) (fun j => G (ix2 0 j)) k := PI.norm_apply X G p k
theorem rows_apply (X : S512x2048.Idx → EReal) (W : S2048x1024.Idx → EReal) (p : Fin 512) (j : Fin 1024) :
    k1_pay2 (F := Ideal) X (k1_pay1 (F := Ideal) W) (ix2 p j) = ∑ k : Fin 2048, X (ix2 p k) * W (ix2 k j) := PI.sample_apply X W p j

theorem idx0 : ∀ t : Fin grid0.N, cc0_transform_0 (grid0.coords t) = ![0, 0] ∧ cc0_transform_1 (grid0.coords t) = ![0, 0] ∧ cc0_transform_2 (grid0.coords t) = ![0, 0] := by
  decide +kernel
theorem cov0 : (cfg0.win (2 : Fin 3)).Covers := by decide +kernel

/-- What call 0 leaves in its result: its rows, normalized. -/
theorem arr0 (c : Dev nD) : (dat0 V c).arrAt 2 grid0.N = PSpec.nrms (M := 512) (V c main_v0) (V c main_v2) := by
  refine (dat0 V c).arrAt_eq_of_covers (2 : Fin 3) (PSpec.nrms (M := 512) (V c main_v0) (V c main_v2)) cov0 fun t _ y => ?_
  show k0_pay1 (F := Ideal) (xb0 V c t) (nb0 V c t) y = PSpec.nrms (M := 512) (V c main_v0) (V c main_v2) (((cfg0.win (2 : Fin 3)).blk t).view.emb y)
  obtain ⟨h0, h1, h2⟩ := idx0 t
  have ez : ((cfg0.win (2 : Fin 3)).blk t).view.emb y = y := by
    funext d
    refine Fin.ext ((Window.rect_emb_val (cfg0.win (2 : Fin 3)) t y d).trans ?_)
    show cc0_transform_2 (grid0.coords t) d * _ + _ = _
    rw [h2]
    match d with
    | ⟨0, _⟩ => show 0 * 512 + (y 0).val = (y 0).val; omega
    | ⟨1, _⟩ => show 0 * 2048 + (y 1).val = (y 1).val; omega
  rw [ez]
  refine (congrArg _ (eq_ix2 y)).trans ((norm_apply (xb0 V c t) (nb0 V c t) (y 0) (y 1)).trans ?_)
  have hx (k : Fin 2048) : xb0 V c t (ix2 (y 0) k) = V c main_v0 (ix2 (y 0) k) := by
    refine congrArg (V c main_v0) ?_
    funext d
    refine Fin.ext ((Window.rect_emb_val (cfg0.win (0 : Fin 3)) t (ix2 (y 0) k) d).trans ?_)
    show cc0_transform_0 (grid0.coords t) d * _ + _ = _
    rw [h0]
    match d with
    | ⟨0, _⟩ => show 0 * 512 + (y 0).val = (y 0).val; omega
    | ⟨1, _⟩ => show 0 * 2048 + k.val = k.val; omega
  have hg (k : Fin 2048) : nb0 V c t (ix2 0 k) = V c main_v2 (ix2 0 k) := by
    refine congrArg (V c main_v2) ?_
    funext d
    refine Fin.ext ((Window.rect_emb_val (cfg0.win (1 : Fin 3)) t (ix2 0 k) d).trans ?_)
    show cc0_transform_1 (grid0.coords t) d * _ + _ = _
    rw [h1]
    match d with
    | ⟨0, _⟩ => rfl
    | ⟨1, _⟩ => show 0 * 2048 + k.val = k.val; omega
  rw [show (fun j => xb0 V c t (ix2 (y 0) j)) = fun j => V c main_v0 (ix2 (y 0) j) from funext hx,
    show (fun j => nb0 V c t (ix2 0 j)) = fun j => V c main_v2 (ix2 0 j) from funext hg]
  rfl

theorem idx1 : ∀ t : Fin grid1.N, cc1_transform_0 (grid1.coords t) = ![0, 0] ∧ cc1_transform_1 (grid1.coords t) = ![0, 0] ∧ cc1_transform_2 (grid1.coords t) = ![0, 0] := by
  decide +kernel
theorem cov1 : (cfg1.win (2 : Fin 3)).Covers := by decide +kernel

/-- What call 1 leaves in its result: the product of its rows with its weights. -/
theorem arr1 (c : Dev nD) : (dat1 V c).arrAt 2 grid1.N = PSpec.mmMem (V c main_v3) (V c main_v4) := by
  refine (dat1 V c).arrAt_eq_of_covers (2 : Fin 3) (PSpec.mmMem (V c main_v3) (V c main_v4)) cov1 fun t _ y => ?_
  show k1_pay2 (F := Ideal) (rb1 V c t) (k1_pay1 (F := Ideal) (wb1 V c t)) y = PSpec.mmMem (V c main_v3) (V c main_v4) (((cfg1.win (2 : Fin 3)).blk t).view.emb y)
  obtain ⟨h0, h1, h2⟩ := idx1 t
  have ez : ((cfg1.win (2 : Fin 3)).blk t).view.emb y = y := by
    funext d
    refine Fin.ext ((Window.rect_emb_val (cfg1.win (2 : Fin 3)) t y d).trans ?_)
    show cc1_transform_2 (grid1.coords t) d * _ + _ = _
    rw [h2]
    match d with
    | ⟨0, _⟩ => show 0 * 512 + (y 0).val = (y 0).val; omega
    | ⟨1, _⟩ => show 0 * 1024 + (y 1).val = (y 1).val; omega
  rw [ez]
  refine (congrArg _ (eq_ix2 y)).trans ((rows_apply (rb1 V c t) (wb1 V c t) (y 0) (y 1)).trans ?_)
  refine Finset.sum_congr rfl fun k _ => congrArg₂ (· * ·) ?_ ?_
  · refine congrArg (V c main_v3) ?_
    funext d
    refine Fin.ext ((Window.rect_emb_val (cfg1.win (0 : Fin 3)) t (ix2 (y 0) k) d).trans ?_)
    show cc1_transform_0 (grid1.coords t) d * _ + _ = _
    rw [h0]
    match d with
    | ⟨0, _⟩ => show 0 * 512 + (y 0).val = (y 0).val; omega
    | ⟨1, _⟩ => show 0 * 2048 + k.val = k.val; omega
  · refine congrArg (V c main_v4) ?_
    funext d
    refine Fin.ext ((Window.rect_emb_val (cfg1.win (1 : Fin 3)) t (ix2 k (y 1)) d).trans ?_)
    show cc1_transform_1 (grid1.coords t) d * _ + _ = _
    rw [h1]
    match d with
    | ⟨0, _⟩ => show 0 * 2048 + k.val = k.val; omega
    | ⟨1, _⟩ => show 0 * 1024 + (y 1).val = (y 1).val; omega

theorem idx2 : ∀ t : Fin grid2.N, cc2_transform_0 (grid2.coords t) = ![0, 0] ∧ cc2_transform_1 (grid2.coords t) = ![0, 0] ∧ cc2_transform_2 (grid2.coords t) = ![0, 0] := by
  decide +kernel
theorem cov2 : (cfg2.win (2 : Fin 3)).Covers := by decide +kernel

/-- What call 2 leaves in its result: the product of its rows with its weights. -/
theorem arr2 (c : Dev nD) : (dat2 V c).arrAt 2 grid2.N = PSpec.mmMem (V c main_v3) (V c main_v7) := by
  refine (dat2 V c).arrAt_eq_of_covers (2 : Fin 3) (PSpec.mmMem (V c main_v3) (V c main_v7)) cov2 fun t _ y => ?_
  show k1_pay2 (F := Ideal) (rb2 V c t) (k1_pay1 (F := Ideal) (wb2 V c t)) y = PSpec.mmMem (V c main_v3) (V c main_v7) (((cfg2.win (2 : Fin 3)).blk t).view.emb y)
  obtain ⟨h0, h1, h2⟩ := idx2 t
  have ez : ((cfg2.win (2 : Fin 3)).blk t).view.emb y = y := by
    funext d
    refine Fin.ext ((Window.rect_emb_val (cfg2.win (2 : Fin 3)) t y d).trans ?_)
    show cc2_transform_2 (grid2.coords t) d * _ + _ = _
    rw [h2]
    match d with
    | ⟨0, _⟩ => show 0 * 512 + (y 0).val = (y 0).val; omega
    | ⟨1, _⟩ => show 0 * 1024 + (y 1).val = (y 1).val; omega
  rw [ez]
  refine (congrArg _ (eq_ix2 y)).trans ((rows_apply (rb2 V c t) (wb2 V c t) (y 0) (y 1)).trans ?_)
  refine Finset.sum_congr rfl fun k _ => congrArg₂ (· * ·) ?_ ?_
  · refine congrArg (V c main_v3) ?_
    funext d
    refine Fin.ext ((Window.rect_emb_val (cfg2.win (0 : Fin 3)) t (ix2 (y 0) k) d).trans ?_)
    show cc2_transform_0 (grid2.coords t) d * _ + _ = _
    rw [h0]
    match d with
    | ⟨0, _⟩ => show 0 * 512 + (y 0).val = (y 0).val; omega
    | ⟨1, _⟩ => show 0 * 2048 + k.val = k.val; omega
  · refine congrArg (V c main_v7) ?_
    funext d
    refine Fin.ext ((Window.rect_emb_val (cfg2.win (1 : Fin 3)) t (ix2 k (y 1)) d).trans ?_)
    show cc2_transform_1 (grid2.coords t) d * _ + _ = _
    rw [h1]
    match d with
    | ⟨0, _⟩ => show 0 * 2048 + k.val = k.val; omega
    | ⟨1, _⟩ => show 0 * 1024 + (y 1).val = (y 1).val; omega

end Cert.Proof.PM

end
-- ==== Proof.MKernel.lean ====
module

public import proofs.«01_k».proof.Proof.MemRun
public import proofs.«01_k».proof.Proof.MArr

@[expose] public section

set_option maxRecDepth 16384

noncomputable section

namespace Cert.Proof.PM

open Cert.MemoryIdeal Cert.MemoryIdeal.Gen
open Idealize.ShloMosaic Idealize.ShloMosaic.TcCoe Idealize.ShloMosaic.ValueIdx Idealize.ShloMosaic.StableHlo
open scoped BigOperators

variable (m : (ℓ : Loc nD τ sig) → Buf (Elt Ideal) ℓ)

/-- The arguments as the kernel's host code flattens them: the memory's rows, norm weights, weights of the keys and of the values. -/
def xM (c : Dev nD) : S512x2048.Idx → EReal := shapeCast S512x2048 (m ((c.tc : Thread nD τ).loc main_arg0)) shapeCasts_S2x256x2048_S512x2048
def gM (c : Dev nD) : S2048.Idx → EReal := shapeCast S2048 (m ((c.tc : Thread nD τ).loc main_arg1)) shapeCasts_S1x2048_S2048
def wK (c : Dev nD) : S2048x1024.Idx → EReal := shapeCast S2048x1024 (m ((c.tc : Thread nD τ).loc main_arg2)) shapeCasts_S1x2048x1024_S2048x1024
def wV (c : Dev nD) : S2048x1024.Idx → EReal := shapeCast S2048x1024 (m ((c.tc : Thread nD τ).loc main_arg3)) shapeCasts_S1x2048x1024_S2048x1024

/-- The normalized rows. -/
def hM (c : Dev nD) : S512x2048.Idx → EReal := PSpec.nrms (M := 512) (xM m c) (fun i => gM m c (ix1 (i 1)))

theorem U1_v0 (c : Dev nD) : U1 m c main_v0 = xM m c := by unfold U1; after_results_simp <;> rfl
theorem U1_v2 (c : Dev nD) : U1 m c main_v2 = shapeCast S1x2048 (gM m c) shapeCasts_S2048_S1x2048 := by unfold U1; after_results_simp <;> rfl
theorem U2_v3 (c : Dev nD) : U2 m c main_v3 = hM m c := by
  refine (U2_a m c).trans ((o0_eq m c).trans ((arr0 (fun c b => U1 m c b) c).trans ?_))
  show PSpec.nrms (M := 512) (U1 m c main_v0) (U1 m c main_v2) = _
  rw [U1_v0, U1_v2]
  funext i
  unfold hM PSpec.nrms
  refine congrArg (fun f => PSpec.nrm _ f _) (funext fun k => ?_)
  exact shapeCast_apply _ _ _ (ix1 k) (by
    rw [Shape.rowMajor_val_two, Shape.rowMajor_val_one]
    show k.val = 0 * 2048 + k.val
    omega)
theorem U3_v3 (c : Dev nD) : U3 m c main_v3 = hM m c := (U3_of m c main_v3 (by decide)).trans (U2_v3 m c)
theorem U2_arg2 (c : Dev nD) : U2 m c main_arg2 = m ((c.tc : Thread nD τ).loc main_arg2) :=
  (U2_of m c main_arg2 (by decide)).trans (U1_of m c main_arg2 (by decide))
theorem U3_v4 (c : Dev nD) : U3 m c main_v4 = wK m c := by
  unfold wK
  rw [← U2_arg2 m c]
  unfold U3; after_results_simp <;> rfl
theorem U4_v5 (c : Dev nD) : U4 m c main_v5 = PSpec.mmMem (hM m c) (wK m c) := by
  refine (U4_a m c).trans ((o1_eq m c).trans ((arr1 (fun c b => U3 m c b) c).trans ?_))
  show PSpec.mmMem (U3 m c main_v3) (U3 m c main_v4) = _
  rw [U3_v3, U3_v4]
theorem U5_v3 (c : Dev nD) : U5 m c main_v3 = hM m c :=
  (U5_of m c main_v3 (by decide)).trans ((U4_of m c main_v3 (by decide)).trans (U3_v3 m c))
theorem U4_arg3 (c : Dev nD) : U4 m c main_arg3 = m ((c.tc : Thread nD τ).loc main_arg3) :=
  (U4_of m c main_arg3 (by decide)).trans ((U3_of m c main_arg3 (by decide)).trans ((U2_of m c main_arg3 (by decide)).trans (U1_of m c main_arg3 (by decide))))
theorem U5_v7 (c : Dev nD) : U5 m c main_v7 = wV m c := by
  unfold wV
  rw [← U4_arg3 m c]
  unfold U5; after_results_simp <;> rfl
theorem U5_v6 (c : Dev nD) : U5 m c main_v6 = shapeCast S2x256x1024 (PSpec.mmMem (hM m c) (wK m c)) shapeCasts_S512x1024_S2x256x1024 := by
  rw [← U4_v5 m c]
  unfold U5; after_results_simp <;> rfl
theorem U6_v6 (c : Dev nD) : U6 m c main_v6 = shapeCast S2x256x1024 (PSpec.mmMem (hM m c) (wK m c)) shapeCasts_S512x1024_S2x256x1024 :=
  (U6_of m c main_v6 (by decide)).trans (U5_v6 m c)
theorem U6_v8 (c : Dev nD) : U6 m c main_v8 = PSpec.mmMem (hM m c) (wV m c) := by
  refine (U6_a m c).trans ((o2_eq m c).trans ((arr2 (fun c b => U5 m c b) c).trans ?_))
  show PSpec.mmMem (U5 m c main_v3) (U5 m c main_v7) = _
  rw [U5_v3, U5_v7]

/-- The results: the products, with the shape of the caches. -/
theorem U7_v10 (c : Dev nD) : U7 m c main_v10
    = shapeCast S1x2x256x4x256 (shapeCast S2x256x1024 (PSpec.mmMem (hM m c) (wK m c)) shapeCasts_S512x1024_S2x256x1024) shapeCasts_S2x256x1024_S1x2x256x4x256 := by
  rw [← U6_v6 m c]
  unfold U7; after_results_simp <;> rfl
theorem U7_v11 (c : Dev nD) : U7 m c main_v11
    = shapeCast S1x2x256x4x256 (shapeCast S2x256x1024 (PSpec.mmMem (hM m c) (wV m c)) shapeCasts_S512x1024_S2x256x1024) shapeCasts_S2x256x1024_S1x2x256x4x256 := by
  rw [← U6_v8 m c]
  unfold U7; after_results_simp <;> rfl

end Cert.Proof.PM

end
-- ==== Proof.MValue.lean ====
module

public import proofs.«01_k».proof.Defs
public import proofs.«01_k».proof.Proof.MKernel
public import proofs.«01_k».proof.Proof.PReference
public import proofs.«01_k».proof.Proof.Gen.MemoryReferenceIdeal.Run
public import Idealize.ShloMosaic.Lib.Pointwise.Reshape

@[expose] public section

set_option maxRecDepth 16384

noncomputable section

namespace Cert.Proof

open Idealize.ShloMosaic Idealize.ShloMosaic.TcCoe Idealize.SL.Sem

section
open Cert.MemoryReferenceIdeal Cert.MemoryReferenceIdeal.Gen

/-- The reference's product of its normalized rows with weights is the kernel's. -/
theorem mem_ref (X : S512x2048.Idx → EReal) (g : S2048.Idx → EReal) (W : S2048x1024.Idx → EReal) :
    Host.dotGeneral (F := Ideal) (φ₁ := .f32) (φ₂ := .f32) dot_S512x2048_S2048x1024_S512x1024_1_0_0_1_n_n none (PRef.nrmS X g) W
      = PSpec.mmMem (PSpec.nrms (M := 512) X (fun i => g (ValueIdx.ix1 (i 1)))) W := by
  funext i
  refine (congrArg _ (ValueIdx.eq_ix2 i)).trans ((StackMember.dotGeneral_plain_apply (m := 512) (k := 2048) (n := 1024) (φ₁ := .f32) (φ₂ := .f32) none (PRef.nrmS X g) W (i 0) (i 1)).trans ?_)
  exact Finset.sum_congr rfl fun k _ => congrArg (· * W (ValueIdx.ix2 (n1 := 1024) k (i 1))) (PRef.nrmS_apply X g (i 0) k)

variable (m : (ℓ : Loc Cert.MemoryIdeal.nD Cert.MemoryIdeal.τ Cert.MemoryIdeal.sig) → Buf (Elt Ideal) ℓ) (c : Dev Cert.MemoryIdeal.nD)

/-- Reshaping in one step or in two is the same. -/
theorem mem_shape (Z : S512x1024.Idx → EReal) :
    shapeCast S1x2x256x4x256 Z shapeCasts_S512x1024_S1x2x256x4x256
      = shapeCast S1x2x256x4x256 (shapeCast Cert.MemoryIdeal.S2x256x1024 Z Cert.MemoryIdeal.Gen.shapeCasts_S512x1024_S2x256x1024) Cert.MemoryIdeal.Gen.shapeCasts_S2x256x1024_S1x2x256x4x256 :=
  (shapeCast_comp _ _ _).symm

/-! The reference's results, of the kernel's arguments, are the kernel's. -/

theorem out_mk : shapeCast S1x2x256x4x256 (Host.dotGeneral (F := Ideal) (φ₁ := .f32) (φ₂ := .f32) dot_S512x2048_S2048x1024_S512x1024_1_0_0_1_n_n none (PRef.nrmS (PM.xM m c) (PM.gM m c)) (PM.wK m c)) shapeCasts_S512x1024_S1x2x256x4x256
    = PM.U7 m c Cert.MemoryIdeal.main_v10 :=
  (mem_shape _).trans ((congrArg (fun Z => shapeCast S1x2x256x4x256 (shapeCast Cert.MemoryIdeal.S2x256x1024 Z Cert.MemoryIdeal.Gen.shapeCasts_S512x1024_S2x256x1024) Cert.MemoryIdeal.Gen.shapeCasts_S2x256x1024_S1x2x256x4x256)
    (mem_ref (PM.xM m c) (PM.gM m c) (PM.wK m c))).trans (PM.U7_v10 m c).symm)
theorem out_mv : shapeCast S1x2x256x4x256 (Host.dotGeneral (F := Ideal) (φ₁ := .f32) (φ₂ := .f32) dot_S512x2048_S2048x1024_S512x1024_1_0_0_1_n_n none (PRef.nrmS (PM.xM m c) (PM.gM m c)) (PM.wV m c)) shapeCasts_S512x1024_S1x2x256x4x256
    = PM.U7 m c Cert.MemoryIdeal.main_v11 :=
  (mem_shape _).trans ((congrArg (fun Z => shapeCast S1x2x256x4x256 (shapeCast Cert.MemoryIdeal.S2x256x1024 Z Cert.MemoryIdeal.Gen.shapeCasts_S512x1024_S2x256x1024) Cert.MemoryIdeal.Gen.shapeCasts_S2x256x1024_S1x2x256x4x256)
    (mem_ref (PM.xM m c) (PM.gM m c) (PM.wV m c))).trans (PM.U7_v11 m c).symm)

end

/-- The kernel at the extended reals and the reference leave the same keys and values, from equal arguments: both leave
    the products of the normalized rows with the weights. -/
theorem mem_value : Cert.algebraic_MemoryIdeal_MemoryReferenceIdeal := fun m g m' g' _ heq => by
  refine ⟨fun c => PM.U7 m c Cert.MemoryIdeal.main_v10, fun c => PM.U7 m c Cert.MemoryIdeal.main_v11,
    (θ_run _ _ _).mono (fun r h c => ⟨h.1 c _ rfl, h.1 c _ rfl,
      (h.1 c _ rfl).trans (PM.arg0 m c), (h.1 c _ rfl).trans (PM.arg1 m c), (h.1 c _ rfl).trans (PM.arg2 m c), (h.1 c _ rfl).trans (PM.arg3 m c)⟩) (PM.run m g),
    (θ_run _ _ _).mono (fun r h c => ?_) (Cert.MemoryReferenceIdeal.Value.run m' g')⟩
  obtain ⟨h0, h1, hargs⟩ := h c
  obtain ⟨e0, e1, e2, e3⟩ := heq c
  rw [e0, e1, e2] at h0
  rw [e0, e1, e3] at h1
  exact ⟨h0.trans (out_mk m c), h1.trans (out_mv m c), hargs⟩

end Cert.Proof

end
-- ==== Proof.GBase.lean ====
module

public import proofs.«01_k».proof.Proof.Gen.MergeIdeal.Launch
public import proofs.«01_k».proof.Proof.Gen.MergeIdeal.Skeleton
public import proofs.«01_k».proof.Proof.Gen.MergeIdeal.Regions
public import Idealize.ShloMosaic.Lib.Pipeline.RegionsLoop
public import Idealize.ShloMosaic.Lib.Pipeline.Kit
public import Idealize.ShloMosaic.Lib.Tactic
public import Idealize.ShloMosaic.Lib.Pipeline.Value
public import Idealize.ShloMosaic.Lib.VecWindow

@[expose] public section

set_option maxRecDepth 16384

noncomputable section

namespace Cert.Proof.PG

open Cert.MergeIdeal Cert.MergeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

/-- The resource algebra of the launch: one copy of the pipelines' algebra. -/
abbrev UU : Type := UR sig nD τ × Counters

local notation "𝕄" => MT nD τ sig Unit (Elt F) ℕ UU ℕ

/-- A memref's buffer on core `c`: the type of its contents. -/
abbrev Bf (c : Dev nD) {sp : Space} {S : Shape} {e : EltTy} (M : Memref sig .tc sp S e) : Type := Buf (Elt F) (M.view.loc (c : Thread nD τ))
/-- A memref's buffer held whole at contents `f`. -/
abbrev pt (c : Dev nD) {sp : Space} {S : Shape} {e : EltTy} (M : Memref sig .tc sp S e) (f : Bf (F := F) c M) : sProp 𝕄 :=
  M.view.loc (c : Thread nD τ) ↦{fullShare} f

abbrev 𝒱₀ : Variants := Variants.none
/-- No core owes another anything. -/
abbrev L : GSem nD τ sig → Finset Unit := fun _ => ∅
abbrev lv : GSem nD τ sig → Unit → ℕ := fun _ _ => 0
/-- A core owes nothing. -/
abbrev owing (c : Dev nD) : sProp 𝕄 := iprop(∃ W, owes (c : Thread nD τ) (0 : CellTallies nD τ sig Unit) W)

/-- A store over the whole of a buffer leaves its payload. -/
theorem read_full {sp : Space} {S : Shape} {e : EltTy} (v : View sig .tc sp S e) (f : v.ty.Contents (Elt F)) (off : Fin S.rank → ℕ)
    (h0 : off = fun _ => 0) (inb : ∀ a, off a + S.size a ≤ S.size a) (w : S.Idx → Elt F e) :
    v.read (Elt F) (v.writes (Elt F) f [⟨Rect.unit off S.size inb, w⟩]) = w := by
  subst h0
  exact View.read_writes_whole v f w

/-- A load of the whole of a buffer is what it reads. -/
theorem load_full {sp : Space} {S : Shape} {e : EltTy} (v : View sig .tc sp S e) (f : v.ty.Contents (Elt F)) (off : Fin S.rank → ℕ)
    (h0 : off = fun _ => 0) (inb : ∀ a, off a + S.size a ≤ S.size a) :
    v.readAt (Elt F) (Rect.unit off S.size inb).toLoadRect f = v.read (Elt F) f :=
  View.readAt_full v f inb

theorem z2 : (![0, 0] : Fin 2 → ℕ) = fun _ => 0 := by decide

/-- A staging buffer owned at a block is its memref's buffer held at contents reading as the block. -/
theorem owned (c : Dev nD) {sp : Space} {S : Shape} {e : EltTy} (M : Memref sig .tc sp S e) (hM : M.IsWhole) (X Y : S.Idx → Elt F e) (h : X = Y) :
    (owns (c : Thread nD τ) M fullShare X : sProp 𝕄) ⊢ iprop(∃ f : Bf (F := F) c M, ⌜M.view.read (Elt F) f = Y⌝ ∗ pt c M f) := by
  subst h; unfold owns; rw [hM.set_eq_univ]
theorem disown (c : Dev nD) {sp : Space} {S : Shape} {e : EltTy} (M : Memref sig .tc sp S e) (hM : M.IsWhole) (X Y : S.Idx → Elt F e) (h : X = Y) :
    iprop(∃ f : Bf (F := F) c M, ⌜M.view.read (Elt F) f = Y⌝ ∗ pt c M f) ⊢ (owns (c : Thread nD τ) M fullShare X : sProp 𝕄) := by
  subst h; unfold owns; rw [hM.set_eq_univ]

/-! ## The blocks of the body -/

abbrev S2 (a b : ℕ) : Shape := ⟨2, ![a, b]⟩
theorem inb0 (a b : ℕ) : ∀ x, (![0, 0] : Fin 2 → ℕ) x + (S2 a b).size x ≤ (S2 a b).size x := fun x => by
  match x with
  | ⟨0, _⟩ => exact (Nat.zero_add _).le
  | ⟨1, _⟩ => exact (Nat.zero_add _).le
abbrev R0 (a b : ℕ) : Rect (S2 a b) := Rect.unit (s := S2 a b) ![0, 0] (S2 a b).size (inb0 a b)
abbrev Mr (a b : ℕ) (e : EltTy) : Type := Memref sig .tc .vmem (S2 a b) e
abbrev Ar (F : FTy → Type) [FloatOps F] (a b : ℕ) (e : EltTy) : Type := (S2 a b).Idx → Elt F e
abbrev own (c : Dev nD) {a b : ℕ} {e : EltTy} (M : Mr a b e) (X : Ar F a b e) : sProp 𝕄 := owns (c : Thread nD τ) M fullShare X

/-- The weights, cast into the scratch buffer. -/
def castB (b1 : BitVec 1) {k n : ℕ} (M : Mr k n .f32) (N : Mr k n .bf16) (h : 0 < (S2 k n).numel)
    (sN : (N.access (R0 k n)).Stores Finset.univ) (pay : Ar F k n .f32 → Ar F k n .bf16) : (K : Prog (TpuEff nD τ sig (Elt F) Λ₀ .tc) PUnit) → Prog (TpuEff nD τ sig (Elt F) Λ₀ .tc) PUnit := fun K => do
  if _h : b1 = 1#1 then do
    let v : Ar F k n .f32 ← Prog.lift (.load M (R0 k n).toLoadRect (View.loadsAt_vmem h))
    let _ : Ar F k n .bf16 ← Prog.lift (.load N (R0 k n).toLoadRect (View.loadsAt_vmem h))
    Prog.lift (.store N (R0 k n) (pay v) Finset.univ sN (.inl rfl))
    pure ⟨⟩
  else do
    pure ⟨⟩
  K

/-- Rows against the weights in the scratch buffer, with one more operand, or with two. -/
def prod3 (b : BitVec 1) {r k n : ℕ} {e o : EltTy} (A : Mr r k .bf16) (N : Mr k n .bf16) (G : Mr r n e) (O : Mr r n o) (hA : 0 < (S2 r k).numel) (hN : 0 < (S2 k n).numel)
    (hO : 0 < (S2 r n).numel) (sO : (O.access (R0 r n)).Stores Finset.univ) (pay : Ar F r k .bf16 → Ar F k n .bf16 → Ar F r n e → Ar F r n o) : (K : Prog (TpuEff nD τ sig (Elt F) Λ₀ .tc) PUnit) → Prog (TpuEff nD τ sig (Elt F) Λ₀ .tc) PUnit := fun K => do
  if _h : b = 1#1 then do
    let v : Ar F r k .bf16 ← Prog.lift (.load A (R0 r k).toLoadRect (View.loadsAt_vmem hA))
    let w : Ar F k n .bf16 ← Prog.lift (.load N (R0 k n).toLoadRect (View.loadsAt_vmem hN))
    let x : Ar F r n e ← Prog.lift (.load G (R0 r n).toLoadRect (View.loadsAt_vmem hO))
    let _ : Ar F r n o ← Prog.lift (.load O (R0 r n).toLoadRect (View.loadsAt_vmem hO))
    Prog.lift (.store O (R0 r n) (pay v w x) Finset.univ sO (.inl rfl))
    pure ⟨⟩
  else do
    pure ⟨⟩
  K
def prod4 (b : BitVec 1) {r k n : ℕ} {e f o : EltTy} (A : Mr r k .bf16) (N : Mr k n .bf16) (G : Mr r n e) (D : Mr r n f) (O : Mr r n o) (hA : 0 < (S2 r k).numel) (hN : 0 < (S2 k n).numel)
    (hO : 0 < (S2 r n).numel) (sO : (O.access (R0 r n)).Stores Finset.univ) (pay : Ar F r k .bf16 → Ar F k n .bf16 → Ar F r n e → Ar F r n f → Ar F r n o) : (K : Prog (TpuEff nD τ sig (Elt F) Λ₀ .tc) PUnit) → Prog (TpuEff nD τ sig (Elt F) Λ₀ .tc) PUnit := fun K => do
  if _h : b = 1#1 then do
    let v : Ar F r k .bf16 ← Prog.lift (.load A (R0 r k).toLoadRect (View.loadsAt_vmem hA))
    let w : Ar F k n .bf16 ← Prog.lift (.load N (R0 k n).toLoadRect (View.loadsAt_vmem hN))
    let x : Ar F r n e ← Prog.lift (.load G (R0 r n).toLoadRect (View.loadsAt_vmem hO))
    let y : Ar F r n f ← Prog.lift (.load D (R0 r n).toLoadRect (View.loadsAt_vmem hO))
    let _ : Ar F r n o ← Prog.lift (.load O (R0 r n).toLoadRect (View.loadsAt_vmem hO))
    Prog.lift (.store O (R0 r n) (pay v w x y) Finset.univ sO (.inl rfl))
    pure ⟨⟩
  else do
    pure ⟨⟩
  K

theorem run_cast (c : Dev nD) (b1 : BitVec 1) {k n : ℕ} (M : Mr k n .f32) (N : Mr k n .bf16) (h) (sN) (pay : Ar F k n .f32 → Ar F k n .bf16) (hM : M.IsWhole) (X : Ar F k n .f32) (g : Bf (F := F) c N)
    (hb : ¬ b1 = 1#1 → N.view.read (Elt F) g = pay X) (K : Prog (TpuEff nD τ sig (Elt F) Λ₀ .tc) PUnit) (E : Set ℕ) (Q : PUnit → sProp 𝕄) :
    iprop(own c M X ∗ pt c N g ∗ (iprop(own c M X ∗ (∃ g : Bf (F := F) c N, ⌜N.view.read (Elt F) g = pay X⌝ ∗ pt c N g)) -∗ wp frame (wpE (defs₀ (F := F)) 𝒱₀ c none) E K Q))
      ⊢ wp frame (wpE (defs₀ (F := F)) 𝒱₀ c none) E (castB b1 M N h sN pay K) Q := by
  iintro ⟨HM, HN, Hk⟩
  unfold castB
  by_cases e : b1 = 1#1
  · ihave HM' := (owned c M hM _ X rfl) $$ HM
    icases HM' with ⟨%f, %rf, HM⟩
    sl_exec! (disch := exact e)
    iapply Hk
    isplitl [HM]; · iapply (disown c M hM X X rfl); iexists f; isplitr; (· ipureintro; exact rf); iexact HM
    iexists _; isplitr; swap; · iexact HN
    ipureintro
    exact (read_full N.view _ _ z2 _ _).trans (congrArg pay ((load_full M.view f _ z2 _).trans rf))
  · sl_exec! (disch := exact e)
    iapply Hk
    isplitl [HM]; · iexact HM
    iexists g; isplitr; (· ipureintro; exact hb e); iexact HN

theorem run_prod3 (c : Dev nD) (b : BitVec 1) {r k n : ℕ} {e o : EltTy} (A : Mr r k .bf16) (N : Mr k n .bf16) (G : Mr r n e) (O : Mr r n o) (hA) (hN) (hO) (sO) (pay : Ar F r k .bf16 → Ar F k n .bf16 → Ar F r n e → Ar F r n o)
    (wA : A.IsWhole) (wG : G.IsWhole) (wO : O.IsWhole) (X : Ar F r k .bf16) (W : Ar F k n .bf16) (Z : Ar F r n e) (Y : Ar F r n o) (g : Bf (F := F) c N) (hg : N.view.read (Elt F) g = W) (K : Prog (TpuEff nD τ sig (Elt F) Λ₀ .tc) PUnit) (E : Set ℕ) (Q : PUnit → sProp 𝕄) :
    iprop(own c A X ∗ pt c N g ∗ own c G Z ∗ own c O Y ∗ (iprop(own c A X ∗ pt c N g ∗ own c G Z ∗ own c O (if b = 1#1 then pay X W Z else Y)) -∗ wp frame (wpE (defs₀ (F := F)) 𝒱₀ c none) E K Q))
      ⊢ wp frame (wpE (defs₀ (F := F)) 𝒱₀ c none) E (prod3 b A N G O hA hN hO sO pay K) Q := by
  iintro ⟨HA, HN, HG, HO, Hk⟩
  unfold prod3
  by_cases e : b = 1#1
  · rw [if_pos e]
    ihave HA' := (owned c A wA _ X rfl) $$ HA
    icases HA' with ⟨%fA, %rA, HA⟩
    ihave HG' := (owned c G wG _ Z rfl) $$ HG
    icases HG' with ⟨%fG, %rG, HG⟩
    ihave HO' := (owned c O wO _ Y rfl) $$ HO
    icases HO' with ⟨%fO, -, HO⟩
    sl_exec! (disch := exact e)
    iapply Hk
    isplitl [HA]; · iapply (disown c A wA X X rfl); iexists fA; isplitr; (· ipureintro; exact rA); iexact HA
    isplitl [HN]; · iexact HN
    isplitl [HG]; · iapply (disown c G wG Z Z rfl); iexists fG; isplitr; (· ipureintro; exact rG); iexact HG
    iapply (disown c O wO _ _ rfl); iexists _; isplitr; swap; · iexact HO
    ipureintro
    refine (read_full O.view _ _ z2 _ _).trans ?_
    rw [load_full A.view fA _ z2 _, load_full N.view g _ z2 _, load_full G.view fG _ z2 _, rA, rG, hg]
  · rw [if_neg e]
    sl_exec! (disch := exact e)
    iapply Hk
    isplitl [HA]; · iexact HA
    isplitl [HN]; · iexact HN
    isplitl [HG]; · iexact HG
    iexact HO

theorem run_prod4 (c : Dev nD) (b : BitVec 1) {r k n : ℕ} {e f o : EltTy} (A : Mr r k .bf16) (N : Mr k n .bf16) (G : Mr r n e) (D : Mr r n f) (O : Mr r n o) (hA) (hN) (hO) (sO) (pay : Ar F r k .bf16 → Ar F k n .bf16 → Ar F r n e → Ar F r n f → Ar F r n o)
    (wA : A.IsWhole) (wG : G.IsWhole) (wD : D.IsWhole) (wO : O.IsWhole) (X : Ar F r k .bf16) (W : Ar F k n .bf16) (Z : Ar F r n e) (T : Ar F r n f) (Y : Ar F r n o) (g : Bf (F := F) c N) (hg : N.view.read (Elt F) g = W) (K : Prog (TpuEff nD τ sig (Elt F) Λ₀ .tc) PUnit) (E : Set ℕ) (Q : PUnit → sProp 𝕄) :
    iprop(own c A X ∗ pt c N g ∗ own c G Z ∗ own c D T ∗ own c O Y ∗ (iprop(own c A X ∗ pt c N g ∗ own c G Z ∗ own c D T ∗ own c O (if b = 1#1 then pay X W Z T else Y)) -∗ wp frame (wpE (defs₀ (F := F)) 𝒱₀ c none) E K Q))
      ⊢ wp frame (wpE (defs₀ (F := F)) 𝒱₀ c none) E (prod4 b A N G D O hA hN hO sO pay K) Q := by
  iintro ⟨HA, HN, HG, HD, HO, Hk⟩
  unfold prod4
  by_cases e : b = 1#1
  · rw [if_pos e]
    ihave HA' := (owned c A wA _ X rfl) $$ HA
    icases HA' with ⟨%fA, %rA, HA⟩
    ihave HG' := (owned c G wG _ Z rfl) $$ HG
    icases HG' with ⟨%fG, %rG, HG⟩
    ihave HD' := (owned c D wD _ T rfl) $$ HD
    icases HD' with ⟨%fD, %rD, HD⟩
    ihave HO' := (owned c O wO _ Y rfl) $$ HO
    icases HO' with ⟨%fO, -, HO⟩
    sl_exec! (disch := exact e)
    iapply Hk
    isplitl [HA]; · iapply (disown c A wA X X rfl); iexists fA; isplitr; (· ipureintro; exact rA); iexact HA
    isplitl [HN]; · iexact HN
    isplitl [HG]; · iapply (disown c G wG Z Z rfl); iexists fG; isplitr; (· ipureintro; exact rG); iexact HG
    isplitl [HD]; · iapply (disown c D wD T T rfl); iexists fD; isplitr; (· ipureintro; exact rD); iexact HD
    iapply (disown c O wO _ _ rfl); iexists _; isplitr; swap; · iexact HO
    ipureintro
    refine (read_full O.view _ _ z2 _ _).trans ?_
    rw [load_full A.view fA _ z2 _, load_full N.view g _ z2 _, load_full G.view fG _ z2 _, load_full D.view fD _ z2 _, rA, rG, rD, hg]
  · rw [if_neg e]
    sl_exec! (disch := exact e)
    iapply Hk
    isplitl [HA]; · iexact HA
    isplitl [HN]; · iexact HN
    isplitl [HG]; · iexact HG
    isplitl [HD]; · iexact HD
    iexact HO

/-! ## A point's obligation -/

/-- What a point leaves in a window of results: the new block, or, where it keeps the block, what it found. -/
abbrev left {D α : Type} (i f : Bool) (P : α → sProp 𝕄) (B : D → α) (Z : α) : sProp 𝕄 :=
  match i with
  | true => match f with
    | false => iprop(∃ d, P (B d))
    | true => P Z
  | false => P Z
theorem left_of {D α : Type} (b : BitVec 1) (i f : Bool) (P : α → sProp 𝕄) (B : D → α) (Z : α) (d : D) (hi : b = 1#1 → i = false)
    (hk : ¬ b = 1#1 → i = true ∧ (f = true → ∀ d, B d = Z)) : P (if b = 1#1 then Z else B d) ⊢ left i f P B Z := by
  by_cases e : b = 1#1
  · rw [if_pos e, hi e]
  · rw [if_neg e, (hk e).1]
    match f, (hk e).2 with
    | false, _ => iintro H; iexists d; iexact H
    | true, h => rw [h rfl d]

/-- A window of results is kept where the body does not store it. -/
theorem idle_of (b : BitVec 1) (h : b = 1#1) : (!(b == 1#1)) = false := by rw [h]; rfl
theorem idle_not (b : BitVec 1) (h : ¬ b = 1#1) : (!(b == 1#1)) = true := by rw [beq_false_of_ne h]; rfl

/-- The scratch buffer held at any contents, and held at contents of which something is known. -/
theorem scr_in (c : Dev nD) {S : Shape} {e : EltTy} (N : Memref sig .tc .vmem S e) (P : Bf (F := F) c N → Prop) {R : sProp 𝕄} (h : ∀ g, P g) :
    iprop((∃ g : Bf (F := F) c N, pt c N g) ∗ R) ⊢ iprop((∃ g : Bf (F := F) c N, ⌜P g⌝ ∗ pt c N g) ∗ R) := by
  iintro ⟨⟨%g, Hs⟩, HR⟩
  isplitl [Hs]; · iexists g; isplitr; (· ipureintro; exact h g); iexact Hs
  iexact HR
theorem scr_out (c : Dev nD) {S : Shape} {e : EltTy} (N : Memref sig .tc .vmem S e) (P : Bf (F := F) c N → Prop) {R : sProp 𝕄} :
    iprop((∃ g : Bf (F := F) c N, ⌜P g⌝ ∗ pt c N g) ∗ R) ⊢ iprop((∃ g : Bf (F := F) c N, pt c N g) ∗ R) := by
  iintro ⟨⟨%g, -, Hs⟩, HR⟩
  isplitl [Hs]; · iexists g; iexact Hs
  iexact HR

set_option maxHeartbeats 1000000 in
/-- The body at a point, of three operands each product: from the blocks a point is given to what it leaves. -/
theorem obl3 (c : Dev nD) (b1 b2 b3 : BitVec 1) {r1 r2 k n : ℕ} {e o : EltTy} (A1 : Mr r1 k .bf16) (A2 : Mr r2 k .bf16) (W : Mr k n .f32) (G1 : Mr r1 n e) (G2 : Mr r2 n e) (O1 : Mr r1 n o) (O2 : Mr r2 n o) (N : Mr k n .bf16)
    (hA1) (hA2) (hN) (hO1) (hO2) (sN) (sO1) (sO2) (p1 : Ar F k n .f32 → Ar F k n .bf16) (p2 : Ar F r1 k .bf16 → Ar F k n .bf16 → Ar F r1 n e → Ar F r1 n o) (p3 : Ar F r2 k .bf16 → Ar F k n .bf16 → Ar F r2 n e → Ar F r2 n o)
    (wA1 : A1.IsWhole) (wA2 : A2.IsWhole) (wW : W.IsWhole) (wG1 : G1.IsWhole) (wG2 : G2.IsWhole) (wO1 : O1.IsWhole) (wO2 : O2.IsWhole)
    {TA1 TA2 TW TG1 TG2 TO1 TO2 : Type} (BA1 : TA1 → Ar F r1 k .bf16) (BA2 : TA2 → Ar F r2 k .bf16) (BW : TW → Ar F k n .f32) (BG1 : TG1 → Ar F r1 n e) (BG2 : TG2 → Ar F r2 n e) (BO1 : TO1 → Ar F r1 n o) (BO2 : TO2 → Ar F r2 n o)
    (XA1) (XA2) (XW) (XG1) (XG2) (hA1x : ∀ d, BA1 d = XA1) (hA2x : ∀ d, BA2 d = XA2) (hWx : ∀ d, BW d = XW) (hG1x : ∀ d, BG1 d = XG1) (hG2x : ∀ d, BG2 d = XG2)
    (i1 f1 i2 f2 : Bool) (hi1 : b2 = 1#1 → i1 = false) (hk1 : ¬ b2 = 1#1 → i1 = true ∧ (f1 = true → ∀ d, BO1 d = p2 XA1 (p1 XW) XG1))
    (hi2 : b3 = 1#1 → i2 = false) (hk2 : ¬ b3 = 1#1 → i2 = true ∧ (f2 = true → ∀ d, BO2 d = p3 XA2 (p1 XW) XG2))
    (Pg Pg' : Bf (F := F) c N → Prop) (hg : ∀ g, Pg g → ¬ b1 = 1#1 → N.view.read (Elt F) g = p1 XW) (hg' : ∀ g, N.view.read (Elt F) g = p1 XW → Pg' g) (R H : sProp 𝕄) :
    iprop(((∃ g, ⌜Pg g⌝ ∗ pt c N g) ∗ R) ∗ H ∗ (∃ d, own c A1 (BA1 d)) ∗ (∃ d, own c A2 (BA2 d)) ∗ (∃ d, own c W (BW d)) ∗ (∃ d, own c G1 (BG1 d)) ∗ (∃ d, own c G2 (BG2 d)) ∗ (∃ d, own c O1 (BO1 d)) ∗ (∃ d, own c O2 (BO2 d)))
      ⊢ wp frame (wpE (defs₀ (F := F)) 𝒱₀ c none) Set.univ (castB b1 W N hN sN p1 (prod3 b2 A1 N G1 O1 hA1 hN hO1 sO1 p2 (prod3 b3 A2 N G2 O2 hA2 hN hO2 sO2 p3 (pure ⟨⟩))))
        (fun _ => iprop(((∃ g, ⌜Pg' g⌝ ∗ pt c N g) ∗ R) ∗ H ∗ own c A1 XA1 ∗ own c A2 XA2 ∗ own c W XW ∗ own c G1 XG1 ∗ own c G2 XG2 ∗ left i1 f1 (own c O1) BO1 (p2 XA1 (p1 XW) XG1) ∗ left i2 f2 (own c O2) BO2 (p3 XA2 (p1 XW) XG2))) := by
  obtain rfl : BA1 = fun _ => XA1 := funext hA1x
  obtain rfl : BA2 = fun _ => XA2 := funext hA2x
  obtain rfl : BW = fun _ => XW := funext hWx
  obtain rfl : BG1 = fun _ => XG1 := funext hG1x
  obtain rfl : BG2 = fun _ => XG2 := funext hG2x
  iintro ⟨⟨⟨%g, %hgg, Hs⟩, HR⟩, HH, ⟨%dA1, HA1⟩, ⟨%dA2, HA2⟩, ⟨%dW, HW⟩, ⟨%dG1, HG1⟩, ⟨%dG2, HG2⟩, ⟨%dO1, HO1⟩, ⟨%dO2, HO2⟩⟩
  iapply (run_cast c b1 W N hN sN p1 wW XW g (hg g hgg) _ Set.univ _)
  isplitl [HW]; · iexact HW
  isplitl [Hs]; · iexact Hs
  iintro ⟨HW, ⟨%g', %hr, Hs⟩⟩
  iapply (run_prod3 c b2 A1 N G1 O1 hA1 hN hO1 sO1 p2 wA1 wG1 wO1 XA1 (p1 XW) XG1 (BO1 dO1) g' hr _ Set.univ _)
  isplitl [HA1]; · iexact HA1
  isplitl [Hs]; · iexact Hs
  isplitl [HG1]; · iexact HG1
  isplitl [HO1]; · iexact HO1
  iintro ⟨HA1, Hs, HG1, HO1⟩
  iapply (run_prod3 c b3 A2 N G2 O2 hA2 hN hO2 sO2 p3 wA2 wG2 wO2 XA2 (p1 XW) XG2 (BO2 dO2) g' hr _ Set.univ _)
  isplitl [HA2]; · iexact HA2
  isplitl [Hs]; · iexact Hs
  isplitl [HG2]; · iexact HG2
  isplitl [HO2]; · iexact HO2
  iintro ⟨HA2, Hs, HG2, HO2⟩
  sl_step
  isplitl [Hs HR]
  · isplitl [Hs]; · iexists g'; isplitr; (· ipureintro; exact hg' g' hr); iexact Hs
    iexact HR
  isplitl [HH]; · iexact HH
  isplitl [HA1]; · iexact HA1
  isplitl [HA2]; · iexact HA2
  isplitl [HW]; · iexact HW
  isplitl [HG1]; · iexact HG1
  isplitl [HG2]; · iexact HG2
  isplitl [HO1]; · iapply (left_of b2 i1 f1 (own c O1) BO1 _ dO1 hi1 hk1); iexact HO1
  iapply (left_of b3 i2 f2 (own c O2) BO2 _ dO2 hi2 hk2); iexact HO2

set_option maxHeartbeats 1000000 in
/-- The body at a point, of four operands each product: from the blocks a point is given to what it leaves. -/
theorem obl4 (c : Dev nD) (b1 b2 b3 : BitVec 1) {r1 r2 k n : ℕ} {e f o : EltTy} (A1 : Mr r1 k .bf16) (A2 : Mr r2 k .bf16) (W : Mr k n .f32) (G1 : Mr r1 n e) (G2 : Mr r2 n e) (D1 : Mr r1 n f) (D2 : Mr r2 n f) (O1 : Mr r1 n o) (O2 : Mr r2 n o) (N : Mr k n .bf16)
    (hA1) (hA2) (hN) (hO1) (hO2) (sN) (sO1) (sO2) (p1 : Ar F k n .f32 → Ar F k n .bf16) (p2 : Ar F r1 k .bf16 → Ar F k n .bf16 → Ar F r1 n e → Ar F r1 n f → Ar F r1 n o) (p3 : Ar F r2 k .bf16 → Ar F k n .bf16 → Ar F r2 n e → Ar F r2 n f → Ar F r2 n o)
    (wA1 : A1.IsWhole) (wA2 : A2.IsWhole) (wW : W.IsWhole) (wG1 : G1.IsWhole) (wG2 : G2.IsWhole) (wD1 : D1.IsWhole) (wD2 : D2.IsWhole) (wO1 : O1.IsWhole) (wO2 : O2.IsWhole)
    {TA1 TA2 TW TG1 TG2 TD1 TD2 TO1 TO2 : Type} (BA1 : TA1 → Ar F r1 k .bf16) (BA2 : TA2 → Ar F r2 k .bf16) (BW : TW → Ar F k n .f32) (BG1 : TG1 → Ar F r1 n e) (BG2 : TG2 → Ar F r2 n e) (BD1 : TD1 → Ar F r1 n f) (BD2 : TD2 → Ar F r2 n f) (BO1 : TO1 → Ar F r1 n o) (BO2 : TO2 → Ar F r2 n o)
    (XA1) (XA2) (XW) (XG1) (XG2) (XD1) (XD2) (hA1x : ∀ d, BA1 d = XA1) (hA2x : ∀ d, BA2 d = XA2) (hWx : ∀ d, BW d = XW) (hG1x : ∀ d, BG1 d = XG1) (hG2x : ∀ d, BG2 d = XG2) (hD1x : ∀ d, BD1 d = XD1) (hD2x : ∀ d, BD2 d = XD2)
    (i1 f1 i2 f2 : Bool) (hi1 : b2 = 1#1 → i1 = false) (hk1 : ¬ b2 = 1#1 → i1 = true ∧ (f1 = true → ∀ d, BO1 d = p2 XA1 (p1 XW) XG1 XD1))
    (hi2 : b3 = 1#1 → i2 = false) (hk2 : ¬ b3 = 1#1 → i2 = true ∧ (f2 = true → ∀ d, BO2 d = p3 XA2 (p1 XW) XG2 XD2))
    (Pg Pg' : Bf (F := F) c N → Prop) (hg : ∀ g, Pg g → ¬ b1 = 1#1 → N.view.read (Elt F) g = p1 XW) (hg' : ∀ g, N.view.read (Elt F) g = p1 XW → Pg' g) (R H : sProp 𝕄) :
    iprop(((∃ g, ⌜Pg g⌝ ∗ pt c N g) ∗ R) ∗ H ∗ (∃ d, own c A1 (BA1 d)) ∗ (∃ d, own c A2 (BA2 d)) ∗ (∃ d, own c W (BW d)) ∗ (∃ d, own c G1 (BG1 d)) ∗ (∃ d, own c G2 (BG2 d)) ∗ (∃ d, own c D1 (BD1 d)) ∗ (∃ d, own c D2 (BD2 d)) ∗ (∃ d, own c O1 (BO1 d)) ∗ (∃ d, own c O2 (BO2 d)))
      ⊢ wp frame (wpE (defs₀ (F := F)) 𝒱₀ c none) Set.univ (castB b1 W N hN sN p1 (prod4 b2 A1 N G1 D1 O1 hA1 hN hO1 sO1 p2 (prod4 b3 A2 N G2 D2 O2 hA2 hN hO2 sO2 p3 (pure ⟨⟩))))
        (fun _ => iprop(((∃ g, ⌜Pg' g⌝ ∗ pt c N g) ∗ R) ∗ H ∗ own c A1 XA1 ∗ own c A2 XA2 ∗ own c W XW ∗ own c G1 XG1 ∗ own c G2 XG2 ∗ own c D1 XD1 ∗ own c D2 XD2 ∗ left i1 f1 (own c O1) BO1 (p2 XA1 (p1 XW) XG1 XD1) ∗ left i2 f2 (own c O2) BO2 (p3 XA2 (p1 XW) XG2 XD2))) := by
  obtain rfl : BA1 = fun _ => XA1 := funext hA1x
  obtain rfl : BA2 = fun _ => XA2 := funext hA2x
  obtain rfl : BW = fun _ => XW := funext hWx
  obtain rfl : BG1 = fun _ => XG1 := funext hG1x
  obtain rfl : BG2 = fun _ => XG2 := funext hG2x
  obtain rfl : BD1 = fun _ => XD1 := funext hD1x
  obtain rfl : BD2 = fun _ => XD2 := funext hD2x
  iintro ⟨⟨⟨%g, %hgg, Hs⟩, HR⟩, HH, ⟨%dA1, HA1⟩, ⟨%dA2, HA2⟩, ⟨%dW, HW⟩, ⟨%dG1, HG1⟩, ⟨%dG2, HG2⟩, ⟨%dD1, HD1⟩, ⟨%dD2, HD2⟩, ⟨%dO1, HO1⟩, ⟨%dO2, HO2⟩⟩
  iapply (run_cast c b1 W N hN sN p1 wW XW g (hg g hgg) _ Set.univ _)
  isplitl [HW]; · iexact HW
  isplitl [Hs]; · iexact Hs
  iintro ⟨HW, ⟨%g', %hr, Hs⟩⟩
  iapply (run_prod4 c b2 A1 N G1 D1 O1 hA1 hN hO1 sO1 p2 wA1 wG1 wD1 wO1 XA1 (p1 XW) XG1 XD1 (BO1 dO1) g' hr _ Set.univ _)
  isplitl [HA1]; · iexact HA1
  isplitl [Hs]; · iexact Hs
  isplitl [HG1]; · iexact HG1
  isplitl [HD1]; · iexact HD1
  isplitl [HO1]; · iexact HO1
  iintro ⟨HA1, Hs, HG1, HD1, HO1⟩
  iapply (run_prod4 c b3 A2 N G2 D2 O2 hA2 hN hO2 sO2 p3 wA2 wG2 wD2 wO2 XA2 (p1 XW) XG2 XD2 (BO2 dO2) g' hr _ Set.univ _)
  isplitl [HA2]; · iexact HA2
  isplitl [Hs]; · iexact Hs
  isplitl [HG2]; · iexact HG2
  isplitl [HD2]; · iexact HD2
  isplitl [HO2]; · iexact HO2
  iintro ⟨HA2, Hs, HG2, HD2, HO2⟩
  sl_step
  isplitl [Hs HR]
  · isplitl [Hs]; · iexists g'; isplitr; (· ipureintro; exact hg' g' hr); iexact Hs
    iexact HR
  isplitl [HH]; · iexact HH
  isplitl [HA1]; · iexact HA1
  isplitl [HA2]; · iexact HA2
  isplitl [HW]; · iexact HW
  isplitl [HG1]; · iexact HG1
  isplitl [HG2]; · iexact HG2
  isplitl [HD1]; · iexact HD1
  isplitl [HD2]; · iexact HD2
  isplitl [HO1]; · iapply (left_of b2 i1 f1 (own c O1) BO1 _ dO1 hi1 hk1); iexact HO1
  iapply (left_of b3 i2 f2 (own c O2) BO2 _ dO2 hi2 hk2); iexact HO2

/-- What a window that keeps its block finds at a point: what the point before left. -/
theorem left_over {cfg : Cfg sig Λ₀} {c : Dev nD} (D : Dat τ (Elt F) Unit ℕ UU ℕ cfg c) (w : Fin cfg.W) (t t' : Fin cfg.N) (ht : t'.val + 1 = t.val)
    (hfe : (cfg.win w).fetch t = false) (hx : (cfg.win w).index t = (cfg.win w).index t') (hid : cfg.idle w (cfg.grid.coords t') = false) (d) : D.before w t d = D.kept w t' d := by
  have h0 : t.val ≠ 0 := by omega
  have hfl : (cfg.win w).flush t' = false := by
    have hne : ¬ t'.val + 1 = cfg.N := fun e => absurd t.isLt (by rw [← ht, e]; exact lt_irrefl _)
    unfold Pipeline.Window.flush
    rw [decide_eq_false hne, decide_eq_false (fun ⟨hl, hn⟩ => hn (by rw [show (⟨t'.val + 1, hl⟩ : Fin cfg.N) = t from Fin.ext ht]; exact hx))]
    simp
  have e : (⟨t.val - 1, by omega⟩ : Fin cfg.N) = t' := Fin.ext (by show t.val - 1 = t'.val; omega)
  unfold Pipeline.Dat.before
  rw [if_neg (by rw [hfe]; exact Bool.false_ne_true), if_neg h0]
  dsimp only
  rw [e, hfl, if_neg Bool.false_ne_true, hid]

set_option backward.isDefEq.respectTransparency.types false in
/-- A call as an item of the program, from the buffers before it to the buffers after it: its arrays are whole distinct buffers,
    and it owes nothing. -/
def mkReg (pd : (p : Fin 4) → (c : Dev nD) → Dat τ (Elt F) Unit ℕ UU ℕ (cfgs p) c) (p : Fin 4)
    (lf : Pipeline.LaunchFacts (nD := nD) (τ := τ) cfgs p) (A B : Dev nD → Valuation τ sig (Elt F))
    (hq : ∀ c w, (pd p c).q w = fullShare) (hA : ∀ c w, (pd p c).A w = A c (Pipeline.arrRef (cfgs p).spec w))
    (ho : ∀ c t, (pd p c).owed t = 0) (hr : ∀ c, (pd p c).recorded 0 = Set.univ)
    (hbody : ∀ c, BodyObligation (pd p c) (defs₀ (F := F)) 𝒱₀ () Set.univ)
    (hin : ∀ c, (Pipeline.scopedRest (Ix := Unit) (Name := ℕ) (U := UU) (Lvl := ℕ) (Val := Elt F) (cfgs p).spec c : sProp 𝕄) ⊢ (pd p c).Φ 0)
    (hout : ∀ c, (pd p c).Φ (Fin.last _) ⊢ (Pipeline.scopedRest (Ix := Unit) (Name := ℕ) (U := UU) (Lvl := ℕ) (Val := Elt F) (cfgs p).spec c : sProp 𝕄))
    (hB : ∀ c w, (pd p c).arrAt w (cfgs p).N = B c (Pipeline.arrRef (cfgs p).spec w))
    (hrest : ∀ c b, b ∉ Finset.univ.image (Pipeline.arrRef (cfgs p).spec) → B c b = A c b) :
    RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(unscopedBufs c (fun b => A c b) ∗ owing c)
  post c := iprop(unscopedBufs c (fun b => B c b) ∗ owing c)
  X _ := BI.emp
  Y _ := BI.emp
  Z c := Pipeline.unscopedRest (Ix := Unit) (Name := ℕ) (U := UU) (Lvl := ℕ) (cfgs p).spec c (fun b => A c b)
  hentry c := by
    rw [Pipeline.ownSems0_none]
    have hsplit := Pipeline.arrays_of_unscopedBufs (p := p) (pcfgs (F := F)) adm pd lf.win lf.arr_whole c
      ((pd p c).share_full (hq c)) (fun b => A c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, HO⟩; iexists W; isplitr; · ipureintro; exact fun _ _ => Or.inl (by rw [hr c]; trivial)
      iexact HO
    isplitr; · iempintro
    iexact Hrest
  hin c := by
    iintro ⟨-, -, Hr⟩
    iapply (hin c); iexact Hr
  hout c := by
    rw [Pipeline.ownSems0_none]
    iintro Hr
    isplitr; · iempintro
    isplitr; · iempintro
    iapply (hout c); iexact Hr
  hexit c := by
    have hjoin := Pipeline.unscopedBufs_of_arrays (p := p) (pcfgs (F := F)) adm (Ix := Unit) (Name := ℕ) (U := UU) (Lvl := ℕ) lf.win lf.arr_whole c
      pd ((pd p c).share_full (hq c)) (fun b => A c b) (fun b => B c b) ((pd p c).arrAt · (cfgs p).N) (hB c) (fun b hb => hrest c b hb)
    iintro ⟨Ha, HO, -, Hrest⟩
    imodintro
    isplitl [Ha Hrest]
    · iapply hjoin; isplitl [Ha] <;> iassumption
    unfold Pipeline.Dat.owesAt Pipeline.owesWithin
    rw [ho c]
    icases HO with ⟨%W, -, HO⟩; iexists W; iexact HO

end Cert.Proof.PG

end
-- ==== Proof.GCall0.lean ====
module

public import proofs.«01_k».proof.Proof.GBase

@[expose] public section

set_option maxRecDepth 16384

noncomputable section

namespace Cert.Proof.PG

open Cert.MergeIdeal Cert.MergeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 0 -/

/-- Whether a point is the first of its column of blocks, as the body's condition. -/
abbrev first0 (i : grid0.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: rows of either kind, weights, and what gates the products. -/
abbrev pb0 (c : Dev nD) (t : Fin grid0.N) : S1024x1024.Idx → Elt F .bf16 := ((cfg0.win (0 : Fin 7)).blk t).view.read (Elt F) (V c main_arg0)
abbrev sb0 (c : Dev nD) (t : Fin grid0.N) : S512x1024.Idx → Elt F .bf16 := ((cfg0.win (1 : Fin 7)).blk t).view.read (Elt F) (V c main_arg1)
abbrev wb0 (c : Dev nD) (t : Fin grid0.N) : S1024x1024.Idx → Elt F .f32 := ((cfg0.win (2 : Fin 7)).blk t).view.read (Elt F) (V c main_v2)
abbrev gp0 (c : Dev nD) (t : Fin grid0.N) : S1024x1024.Idx → Elt F .bf16 := ((cfg0.win (3 : Fin 7)).blk t).view.read (Elt F) (V c main_arg6)
abbrev gs0 (c : Dev nD) (t : Fin grid0.N) : S512x1024.Idx → Elt F .bf16 := ((cfg0.win (4 : Fin 7)).blk t).view.read (Elt F) (V c main_arg7)

/-- What a point computes of its rows. -/
abbrev po0 (c : Dev nD) (t : Fin grid0.N) : S1024x1024.Idx → Elt F .bf16 := k0_pay2 (pb0 V c t) (k0_pay1 (wb0 V c t)) (gp0 V c t)
abbrev so0 (c : Dev nD) (t : Fin grid0.N) : S512x1024.Idx → Elt F .bf16 := k0_pay3 (sb0 V c t) (k0_pay1 (wb0 V c t)) (gs0 V c t)

/-- What the scratch buffer holds before point `n`: the weights of the point before. -/
abbrev scr0 (c : Dev nD) (n : ℕ) (g : Bf (F := F) c (Memref.whole cc0_scratch0)) : Prop :=
  ∀ s : Fin grid0.N, s.val + 1 = n → (Memref.whole cc0_scratch0).view.read (Elt F) g = k0_pay1 (wb0 V c s)
/-- The buffers besides the windows' before point `n`. -/
abbrev inv0 (c : Dev nD) (n : ℕ) : sProp 𝕄 :=
  iprop((∃ g : Bf (F := F) c (Memref.whole cc0_scratch0), ⌜scr0 V c n g⌝ ∗ pt c (Memref.whole cc0_scratch0) g)
    ∗ Pipeline.scopedRestBut (Ix := Unit) (Name := ℕ) (U := UU) (Lvl := ℕ) (Val := Elt F) spec0 c [cc0_scratch0])

/-- The proof data of the call. -/
def dat0 (c : Dev nD) : Dat τ (Elt F) Unit ℕ UU ℕ cfg0 c where
  A w := V c (Pipeline.arrRef spec0 w)
  after w t := match w with
    | ⟨0, _⟩ => pb0 V c t
    | ⟨1, _⟩ => sb0 V c t
    | ⟨2, _⟩ => wb0 V c t
    | ⟨3, _⟩ => gp0 V c t
    | ⟨4, _⟩ => gs0 V c t
    | ⟨5, _⟩ => po0 V c t
    | ⟨6, _⟩ => so0 V c t
  Φ t := inv0 V c t.val
  q _ := fullShare
  owed _ := 0

/-- The point before. -/
abbrev prev0 (t : Fin grid0.N) : Fin grid0.N := ⟨t.val - 1, lt_of_le_of_lt (Nat.sub_le _ _) t.isLt⟩

theorem cast0 : ∀ t : Fin grid0.N, ¬ first0 (grid0.coords t) = 1#1 → t.val ≠ 0 ∧ cc0_transform_2 (grid0.coords t) = cc0_transform_2 (grid0.coords (prev0 t)) := by decide +kernel
theorem keep0 : ∀ t : Fin grid0.N, ¬ k0_cond2 (grid0.coords t) = 1#1 → ¬ first0 (grid0.coords t) = 1#1 ∧ k0_cond2 (grid0.coords (prev0 t)) = 1#1
    ∧ cc0_transform_0 (grid0.coords t) = cc0_transform_0 (grid0.coords (prev0 t))
    ∧ cc0_transform_3 (grid0.coords t) = cc0_transform_3 (grid0.coords (prev0 t))
    ∧ cc0_transform_5 (grid0.coords t) = cc0_transform_5 (grid0.coords (prev0 t)) := by decide +kernel
theorem noflush0 : ∀ t : Fin grid0.N, ¬ k0_cond3 (grid0.coords t) = 1#1 → win0_6.flush t = false := by decide +kernel

theorem wb_congr0 (c : Dev nD) (t : Fin grid0.N) (h : ¬ first0 (grid0.coords t) = 1#1) : wb0 V c t = wb0 V c (prev0 t) :=
  (dat0 V c).fetched_congr 2 (t := t) (t' := prev0 t) (cast0 t h).2 rfl (wb0 V c t)

theorem before0 (c : Dev nD) (t : Fin grid0.N) (w : Fin 7) (hw : w.val < 5) (d) : (dat0 V c).before w t d = (dat0 V c).after w t :=
  match w, hw, d with
  | ⟨0, _⟩, _, d => (dat0 V c).before_in_eq_fetched (0 : Fin 7) rfl (fun _ => rfl) (fun _ _ _ => rfl) (fun _ => rfl) t d
  | ⟨1, _⟩, _, d => (dat0 V c).before_in_eq_fetched (1 : Fin 7) rfl (fun _ => rfl) (fun _ _ _ => rfl) (fun _ => rfl) t d
  | ⟨2, _⟩, _, d => (dat0 V c).before_in_eq_fetched (2 : Fin 7) rfl (fun _ => rfl) (fun _ _ _ => rfl) (fun _ => rfl) t d
  | ⟨3, _⟩, _, d => (dat0 V c).before_in_eq_fetched (3 : Fin 7) rfl (fun _ => rfl) (fun _ _ _ => rfl) (fun _ => rfl) t d
  | ⟨4, _⟩, _, d => (dat0 V c).before_in_eq_fetched (4 : Fin 7) rfl (fun _ => rfl) (fun _ _ _ => rfl) (fun _ => rfl) t d

/-- At the last point of a column the block of prompt results is still what the point before left. -/
theorem kept0 (c : Dev nD) (t : Fin grid0.N) (h : ¬ k0_cond2 (grid0.coords t) = 1#1) (d) : (dat0 V c).before (5 : Fin 7) t d = po0 V c t := by
  obtain ⟨h1, hp, h0, h3, hx⟩ := keep0 t h
  refine (left_over (dat0 V c) (5 : Fin 7) t (prev0 t) (Nat.succ_pred_eq_of_ne_zero (cast0 t h1).1) rfl hx (idle_of _ hp) d).trans ?_
  show k0_pay2 _ _ _ = k0_pay2 _ _ _
  rw [wb_congr0 V c t h1, show pb0 V c t = pb0 V c (prev0 t) from (dat0 V c).fetched_congr 0 (t := t) (t' := prev0 t) h0 rfl (pb0 V c t),
    show gp0 V c t = gp0 V c (prev0 t) from (dat0 V c).fetched_congr 3 (t := t) (t' := prev0 t) h3 rfl (gp0 V c t)]

set_option maxHeartbeats 2000000 in
set_option backward.isDefEq.respectTransparency.types false in
/-- The library's obligation on the body of the call. -/
theorem obligation0 (c : Dev nD) : BodyObligation (dat0 V c) (defs₀ (F := F)) 𝒱₀ () Set.univ := fun t => by
  rw [bigSep_W0, bigSep_W0]
  dsimp only
  exact obl3 c (first0 (grid0.coords t)) (k0_cond2 (grid0.coords t)) (k0_cond3 (grid0.coords t))
    (win0_0.stage (cfg0.slots t (0 : Fin 7))) (win0_1.stage (cfg0.slots t (1 : Fin 7))) (win0_2.stage (cfg0.slots t (2 : Fin 7))) (win0_3.stage (cfg0.slots t (3 : Fin 7))) (win0_4.stage (cfg0.slots t (4 : Fin 7))) (win0_5.stage (cfg0.slots t (5 : Fin 7))) (win0_6.stage (cfg0.slots t (6 : Fin 7)))
    (Memref.whole cc0_scratch0) h_S1024x1024 h_S512x1024 h_S1024x1024 h_S1024x1024 h_S512x1024 _ _ _ k0_pay1 k0_pay2 k0_pay3 (hstage0_0 _) (hstage0_1 _) (hstage0_2 _) (hstage0_3 _) (hstage0_4 _) (hstage0_5 _) (hstage0_6 _)
    ((dat0 V c).before (0 : Fin 7) t) ((dat0 V c).before (1 : Fin 7) t) ((dat0 V c).before (2 : Fin 7) t) ((dat0 V c).before (3 : Fin 7) t) ((dat0 V c).before (4 : Fin 7) t) ((dat0 V c).before (5 : Fin 7) t) ((dat0 V c).before (6 : Fin 7) t)
    (pb0 V c t) (sb0 V c t) (wb0 V c t) (gp0 V c t) (gs0 V c t) (before0 V c t 0 (by decide)) (before0 V c t 1 (by decide)) (before0 V c t 2 (by decide)) (before0 V c t 3 (by decide)) (before0 V c t 4 (by decide))
    (idle0 (5 : Fin 7) (grid0.coords t)) (win0_5.flush t) (idle0 (6 : Fin 7) (grid0.coords t)) (win0_6.flush t)
    (idle_of _) (fun h => ⟨idle_not _ h, fun _ d => kept0 V c t h d⟩) (idle_of _) (fun h => ⟨idle_not _ h, fun e => absurd (e.symm.trans (noflush0 t h)) (by decide)⟩)
    (scr0 V c t.val) (scr0 V c (t.val + 1)) (fun g hg h => (hg (prev0 t) (Nat.succ_pred_eq_of_ne_zero (cast0 t h).1)).trans (congrArg k0_pay1 (wb_congr0 V c t h).symm))
    (fun g hr s hs => by obtain rfl : s = t := Fin.ext (Nat.succ.inj hs); exact hr) _ _

/-- Before the first point the scratch buffer holds anything; after the last it is given back. -/
theorem inv_in0 (c : Dev nD) : (Pipeline.scopedRest (Ix := Unit) (Name := ℕ) (U := UU) (Lvl := ℕ) (Val := Elt F) spec0 c : sProp 𝕄) ⊢ inv0 V c 0 :=
  (Entails.of_eq (scopedRest0_split (Ix := Unit) (Name := ℕ) (U := UU) (Lvl := ℕ) (Val := Elt F) c)).trans
    (scr_in _ (Memref.whole cc0_scratch0) _ fun _ _ h => absurd h (Nat.succ_ne_zero _))
theorem inv_out0 (c : Dev nD) (n : ℕ) : inv0 V c n ⊢ (Pipeline.scopedRest (Ix := Unit) (Name := ℕ) (U := UU) (Lvl := ℕ) (Val := Elt F) spec0 c : sProp 𝕄) :=
  (scr_out _ (Memref.whole cc0_scratch0) _).trans
    (Entails.of_eq (scopedRest0_split (Ix := Unit) (Name := ℕ) (U := UU) (Lvl := ℕ) (Val := Elt F) c).symm)

end Cert.Proof.PG

end
-- ==== Proof.GCall1.lean ====
module

public import proofs.«01_k».proof.Proof.GBase

@[expose] public section

set_option maxRecDepth 16384

noncomputable section

namespace Cert.Proof.PG

open Cert.MergeIdeal Cert.MergeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 1 -/

/-- Whether a point is the first of its column of blocks, as the body's condition. -/
abbrev first1 (i : grid1.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: rows of either kind, weights, and what gates the products, and what they are added to. -/
abbrev pb1 (c : Dev nD) (t : Fin grid1.N) : S1024x2048.Idx → Elt F .bf16 := ((cfg1.win (0 : Fin 9)).blk t).view.read (Elt F) (V c main_arg2)
abbrev sb1 (c : Dev nD) (t : Fin grid1.N) : S512x2048.Idx → Elt F .bf16 := ((cfg1.win (1 : Fin 9)).blk t).view.read (Elt F) (V c main_arg3)
abbrev wb1 (c : Dev nD) (t : Fin grid1.N) : S2048x1024.Idx → Elt F .f32 := ((cfg1.win (2 : Fin 9)).blk t).view.read (Elt F) (V c main_v3)
abbrev gp1 (c : Dev nD) (t : Fin grid1.N) : S1024x1024.Idx → Elt F .bf16 := ((cfg1.win (3 : Fin 9)).blk t).view.read (Elt F) (V c main_arg6)
abbrev gs1 (c : Dev nD) (t : Fin grid1.N) : S512x1024.Idx → Elt F .bf16 := ((cfg1.win (4 : Fin 9)).blk t).view.read (Elt F) (V c main_arg7)
abbrev ep1 (c : Dev nD) (t : Fin grid1.N) : S1024x1024.Idx → Elt F .bf16 := ((cfg1.win (5 : Fin 9)).blk t).view.read (Elt F) (V c main_v6_0)
abbrev es1 (c : Dev nD) (t : Fin grid1.N) : S512x1024.Idx → Elt F .bf16 := ((cfg1.win (6 : Fin 9)).blk t).view.read (Elt F) (V c main_v6_1)

/-- What a point computes of its rows. -/
abbrev po1 (c : Dev nD) (t : Fin grid1.N) : S1024x1024.Idx → Elt F .bf16 := k1_pay2 (pb1 V c t) (k1_pay1 (wb1 V c t)) (gp1 V c t) (ep1 V c t)
abbrev so1 (c : Dev nD) (t : Fin grid1.N) : S512x1024.Idx → Elt F .bf16 := k1_pay3 (sb1 V c t) (k1_pay1 (wb1 V c t)) (gs1 V c t) (es1 V c t)

/-- What the scratch buffer holds before point `n`: the weights of the point before. -/
abbrev scr1 (c : Dev nD) (n : ℕ) (g : Bf (F := F) c (Memref.whole cc1_scratch0)) : Prop :=
  ∀ s : Fin grid1.N, s.val + 1 = n → (Memref.whole cc1_scratch0).view.read (Elt F) g = k1_pay1 (wb1 V c s)
/-- The buffers besides the windows' before point `n`. -/
abbrev inv1 (c : Dev nD) (n : ℕ) : sProp 𝕄 :=
  iprop((∃ g : Bf (F := F) c (Memref.whole cc1_scratch0), ⌜scr1 V c n g⌝ ∗ pt c (Memref.whole cc1_scratch0) g)
    ∗ Pipeline.scopedRestBut (Ix := Unit) (Name := ℕ) (U := UU) (Lvl := ℕ) (Val := Elt F) spec1 c [cc1_scratch0])

/-- The proof data of the call. -/
def dat1 (c : Dev nD) : Dat τ (Elt F) Unit ℕ UU ℕ cfg1 c where
  A w := V c (Pipeline.arrRef spec1 w)
  after w t := match w with
    | ⟨0, _⟩ => pb1 V c t
    | ⟨1, _⟩ => sb1 V c t
    | ⟨2, _⟩ => wb1 V c t
    | ⟨3, _⟩ => gp1 V c t
    | ⟨4, _⟩ => gs1 V c t
    | ⟨5, _⟩ => ep1 V c t
    | ⟨6, _⟩ => es1 V c t
    | ⟨7, _⟩ => po1 V c t
    | ⟨8, _⟩ => so1 V c t
  Φ t := inv1 V c t.val
  q _ := fullShare
  owed _ := 0

/-- The point before. -/
abbrev prev1 (t : Fin grid1.N) : Fin grid1.N := ⟨t.val - 1, lt_of_le_of_lt (Nat.sub_le _ _) t.isLt⟩

theorem cast1 : ∀ t : Fin grid1.N, ¬ first1 (grid1.coords t) = 1#1 → t.val ≠ 0 ∧ cc1_transform_2 (grid1.coords t) = cc1_transform_2 (grid1.coords (prev1 t)) := by decide +kernel
theorem keep1 : ∀ t : Fin grid1.N, ¬ k1_cond2 (grid1.coords t) = 1#1 → ¬ first1 (grid1.coords t) = 1#1 ∧ k1_cond2 (grid1.coords (prev1 t)) = 1#1
    ∧ cc1_transform_0 (grid1.coords t) = cc1_transform_0 (grid1.coords (prev1 t))
    ∧ cc1_transform_3 (grid1.coords t) = cc1_transform_3 (grid1.coords (prev1 t))
    ∧ cc1_transform_5 (grid1.coords t) = cc1_transform_5 (grid1.coords (prev1 t))
    ∧ cc1_transform_7 (grid1.coords t) = cc1_transform_7 (grid1.coords (prev1 t)) := by decide +kernel
theorem noflush1 : ∀ t : Fin grid1.N, ¬ k1_cond3 (grid1.coords t) = 1#1 → win1_8.flush t = false := by decide +kernel

theorem wb_congr1 (c : Dev nD) (t : Fin grid1.N) (h : ¬ first1 (grid1.coords t) = 1#1) : wb1 V c t = wb1 V c (prev1 t) :=
  (dat1 V c).fetched_congr 2 (t := t) (t' := prev1 t) (cast1 t h).2 rfl (wb1 V c t)

theorem before1 (c : Dev nD) (t : Fin grid1.N) (w : Fin 9) (hw : w.val < 7) (d) : (dat1 V c).before w t d = (dat1 V c).after w t :=
  match w, hw, d with
  | ⟨0, _⟩, _, d => (dat1 V c).before_in_eq_fetched (0 : Fin 9) rfl (fun _ => rfl) (fun _ _ _ => rfl) (fun _ => rfl) t d
  | ⟨1, _⟩, _, d => (dat1 V c).before_in_eq_fetched (1 : Fin 9) rfl (fun _ => rfl) (fun _ _ _ => rfl) (fun _ => rfl) t d
  | ⟨2, _⟩, _, d => (dat1 V c).before_in_eq_fetched (2 : Fin 9) rfl (fun _ => rfl) (fun _ _ _ => rfl) (fun _ => rfl) t d
  | ⟨3, _⟩, _, d => (dat1 V c).before_in_eq_fetched (3 : Fin 9) rfl (fun _ => rfl) (fun _ _ _ => rfl) (fun _ => rfl) t d
  | ⟨4, _⟩, _, d => (dat1 V c).before_in_eq_fetched (4 : Fin 9) rfl (fun _ => rfl) (fun _ _ _ => rfl) (fun _ => rfl) t d
  | ⟨5, _⟩, _, d => (dat1 V c).before_in_eq_fetched (5 : Fin 9) rfl (fun _ => rfl) (fun _ _ _ => rfl) (fun _ => rfl) t d
  | ⟨6, _⟩, _, d => (dat1 V c).before_in_eq_fetched (6 : Fin 9) rfl (fun _ => rfl) (fun _ _ _ => rfl) (fun _ => rfl) t d

/-- At the last point of a column the block of prompt results is still what the point before left. -/
theorem kept1 (c : Dev nD) (t : Fin grid1.N) (h : ¬ k1_cond2 (grid1.coords t) = 1#1) (d) : (dat1 V c).before (7 : Fin 9) t d = po1 V c t := by
  obtain ⟨h1, hp, h0, h3, h5, hx⟩ := keep1 t h
  refine (left_over (dat1 V c) (7 : Fin 9) t (prev1 t) (Nat.succ_pred_eq_of_ne_zero (cast1 t h1).1) rfl hx (idle_of _ hp) d).trans ?_
  show k1_pay2 _ _ _ _ = k1_pay2 _ _ _ _
  rw [wb_congr1 V c t h1, show pb1 V c t = pb1 V c (prev1 t) from (dat1 V c).fetched_congr 0 (t := t) (t' := prev1 t) h0 rfl (pb1 V c t),
    show gp1 V c t = gp1 V c (prev1 t) from (dat1 V c).fetched_congr 3 (t := t) (t' := prev1 t) h3 rfl (gp1 V c t),
    show ep1 V c t = ep1 V c (prev1 t) from (dat1 V c).fetched_congr 5 (t := t) (t' := prev1 t) h5 rfl (ep1 V c t)]

set_option maxHeartbeats 2000000 in
set_option backward.isDefEq.respectTransparency.types false in
/-- The library's obligation on the body of the call. -/
theorem obligation1 (c : Dev nD) : BodyObligation (dat1 V c) (defs₀ (F := F)) 𝒱₀ () Set.univ := fun t => by
  rw [bigSep_W1, bigSep_W1]
  dsimp only
  exact obl4 c (first1 (grid1.coords t)) (k1_cond2 (grid1.coords t)) (k1_cond3 (grid1.coords t))
    (win1_0.stage (cfg1.slots t (0 : Fin 9))) (win1_1.stage (cfg1.slots t (1 : Fin 9))) (win1_2.stage (cfg1.slots t (2 : Fin 9))) (win1_3.stage (cfg1.slots t (3 : Fin 9))) (win1_4.stage (cfg1.slots t (4 : Fin 9))) (win1_5.stage (cfg1.slots t (5 : Fin 9))) (win1_6.stage (cfg1.slots t (6 : Fin 9))) (win1_7.stage (cfg1.slots t (7 : Fin 9))) (win1_8.stage (cfg1.slots t (8 : Fin 9)))
    (Memref.whole cc1_scratch0) h_S1024x2048 h_S512x2048 h_S2048x1024 h_S1024x1024 h_S512x1024 _ _ _ k1_pay1 k1_pay2 k1_pay3 (hstage1_0 _) (hstage1_1 _) (hstage1_2 _) (hstage1_3 _) (hstage1_4 _) (hstage1_5 _) (hstage1_6 _) (hstage1_7 _) (hstage1_8 _)
    ((dat1 V c).before (0 : Fin 9) t) ((dat1 V c).before (1 : Fin 9) t) ((dat1 V c).before (2 : Fin 9) t) ((dat1 V c).before (3 : Fin 9) t) ((dat1 V c).before (4 : Fin 9) t) ((dat1 V c).before (5 : Fin 9) t) ((dat1 V c).before (6 : Fin 9) t) ((dat1 V c).before (7 : Fin 9) t) ((dat1 V c).before (8 : Fin 9) t)
    (pb1 V c t) (sb1 V c t) (wb1 V c t) (gp1 V c t) (gs1 V c t) (ep1 V c t) (es1 V c t) (before1 V c t 0 (by decide)) (before1 V c t 1 (by decide)) (before1 V c t 2 (by decide)) (before1 V c t 3 (by decide)) (before1 V c t 4 (by decide)) (before1 V c t 5 (by decide)) (before1 V c t 6 (by decide))
    (idle1 (7 : Fin 9) (grid1.coords t)) (win1_7.flush t) (idle1 (8 : Fin 9) (grid1.coords t)) (win1_8.flush t)
    (idle_of _) (fun h => ⟨idle_not _ h, fun _ d => kept1 V c t h d⟩) (idle_of _) (fun h => ⟨idle_not _ h, fun e => absurd (e.symm.trans (noflush1 t h)) (by decide)⟩)
    (scr1 V c t.val) (scr1 V c (t.val + 1)) (fun g hg h => (hg (prev1 t) (Nat.succ_pred_eq_of_ne_zero (cast1 t h).1)).trans (congrArg k1_pay1 (wb_congr1 V c t h).symm))
    (fun g hr s hs => by obtain rfl : s = t := Fin.ext (Nat.succ.inj hs); exact hr) _ _

/-- Before the first point the scratch buffer holds anything; after the last it is given back. -/
theorem inv_in1 (c : Dev nD) : (Pipeline.scopedRest (Ix := Unit) (Name := ℕ) (U := UU) (Lvl := ℕ) (Val := Elt F) spec1 c : sProp 𝕄) ⊢ inv1 V c 0 :=
  (Entails.of_eq (scopedRest1_split (Ix := Unit) (Name := ℕ) (U := UU) (Lvl := ℕ) (Val := Elt F) c)).trans
    (scr_in _ (Memref.whole cc1_scratch0) _ fun _ _ h => absurd h (Nat.succ_ne_zero _))
theorem inv_out1 (c : Dev nD) (n : ℕ) : inv1 V c n ⊢ (Pipeline.scopedRest (Ix := Unit) (Name := ℕ) (U := UU) (Lvl := ℕ) (Val := Elt F) spec1 c : sProp 𝕄) :=
  (scr_out _ (Memref.whole cc1_scratch0) _).trans
    (Entails.of_eq (scopedRest1_split (Ix := Unit) (Name := ℕ) (U := UU) (Lvl := ℕ) (Val := Elt F) c).symm)

end Cert.Proof.PG

end
-- ==== Proof.GCall2.lean ====
module

public import proofs.«01_k».proof.Proof.GBase

@[expose] public section

set_option maxRecDepth 16384

noncomputable section

namespace Cert.Proof.PG

open Cert.MergeIdeal Cert.MergeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 2 -/

/-- Whether a point is the first of its column of blocks, as the body's condition. -/
abbrev first2 (i : grid2.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: rows of either kind, weights, and what gates the products, and what they are added to. -/
abbrev pb2 (c : Dev nD) (t : Fin grid2.N) : S1024x1024.Idx → Elt F .bf16 := ((cfg2.win (0 : Fin 9)).blk t).view.read (Elt F) (V c main_arg4)
abbrev sb2 (c : Dev nD) (t : Fin grid2.N) : S512x1024.Idx → Elt F .bf16 := ((cfg2.win (1 : Fin 9)).blk t).view.read (Elt F) (V c main_arg5)
abbrev wb2 (c : Dev nD) (t : Fin grid2.N) : S1024x1024.Idx → Elt F .f32 := ((cfg2.win (2 : Fin 9)).blk t).view.read (Elt F) (V c main_v4)
abbrev gp2 (c : Dev nD) (t : Fin grid2.N) : S1024x1024.Idx → Elt F .bf16 := ((cfg2.win (3 : Fin 9)).blk t).view.read (Elt F) (V c main_arg6)
abbrev gs2 (c : Dev nD) (t : Fin grid2.N) : S512x1024.Idx → Elt F .bf16 := ((cfg2.win (4 : Fin 9)).blk t).view.read (Elt F) (V c main_arg7)
abbrev ep2 (c : Dev nD) (t : Fin grid2.N) : S1024x1024.Idx → Elt F .bf16 := ((cfg2.win (5 : Fin 9)).blk t).view.read (Elt F) (V c main_v7_0)
abbrev es2 (c : Dev nD) (t : Fin grid2.N) : S512x1024.Idx → Elt F .bf16 := ((cfg2.win (6 : Fin 9)).blk t).view.read (Elt F) (V c main_v7_1)

/-- What a point computes of its rows. -/
abbrev po2 (c : Dev nD) (t : Fin grid2.N) : S1024x1024.Idx → Elt F .bf16 := k2_pay2 (pb2 V c t) (k2_pay1 (wb2 V c t)) (gp2 V c t) (ep2 V c t)
abbrev so2 (c : Dev nD) (t : Fin grid2.N) : S512x1024.Idx → Elt F .bf16 := k2_pay3 (sb2 V c t) (k2_pay1 (wb2 V c t)) (gs2 V c t) (es2 V c t)

/-- What the scratch buffer holds before point `n`: the weights of the point before. -/
abbrev scr2 (c : Dev nD) (n : ℕ) (g : Bf (F := F) c (Memref.whole cc2_scratch0)) : Prop :=
  ∀ s : Fin grid2.N, s.val + 1 = n → (Memref.whole cc2_scratch0).view.read (Elt F) g = k2_pay1 (wb2 V c s)
/-- The buffers besides the windows' before point `n`. -/
abbrev inv2 (c : Dev nD) (n : ℕ) : sProp 𝕄 :=
  iprop((∃ g : Bf (F := F) c (Memref.whole cc2_scratch0), ⌜scr2 V c n g⌝ ∗ pt c (Memref.whole cc2_scratch0) g)
    ∗ Pipeline.scopedRestBut (Ix := Unit) (Name := ℕ) (U := UU) (Lvl := ℕ) (Val := Elt F) spec2 c [cc2_scratch0])

/-- The proof data of the call. -/
def dat2 (c : Dev nD) : Dat τ (Elt F) Unit ℕ UU ℕ cfg2 c where
  A w := V c (Pipeline.arrRef spec2 w)
  after w t := match w with
    | ⟨0, _⟩ => pb2 V c t
    | ⟨1, _⟩ => sb2 V c t
    | ⟨2, _⟩ => wb2 V c t
    | ⟨3, _⟩ => gp2 V c t
    | ⟨4, _⟩ => gs2 V c t
    | ⟨5, _⟩ => ep2 V c t
    | ⟨6, _⟩ => es2 V c t
    | ⟨7, _⟩ => po2 V c t
    | ⟨8, _⟩ => so2 V c t
  Φ t := inv2 V c t.val
  q _ := fullShare
  owed _ := 0

/-- The point before. -/
abbrev prev2 (t : Fin grid2.N) : Fin grid2.N := ⟨t.val - 1, lt_of_le_of_lt (Nat.sub_le _ _) t.isLt⟩

theorem cast2 : ∀ t : Fin grid2.N, ¬ first2 (grid2.coords t) = 1#1 → t.val ≠ 0 ∧ cc2_transform_2 (grid2.coords t) = cc2_transform_2 (grid2.coords (prev2 t)) := by decide +kernel
theorem keep2 : ∀ t : Fin grid2.N, ¬ k2_cond2 (grid2.coords t) = 1#1 → ¬ first2 (grid2.coords t) = 1#1 ∧ k2_cond2 (grid2.coords (prev2 t)) = 1#1
    ∧ cc2_transform_0 (grid2.coords t) = cc2_transform_0 (grid2.coords (prev2 t))
    ∧ cc2_transform_3 (grid2.coords t) = cc2_transform_3 (grid2.coords (prev2 t))
    ∧ cc2_transform_5 (grid2.coords t) = cc2_transform_5 (grid2.coords (prev2 t))
    ∧ cc2_transform_7 (grid2.coords t) = cc2_transform_7 (grid2.coords (prev2 t)) := by decide +kernel
theorem noflush2 : ∀ t : Fin grid2.N, ¬ k2_cond3 (grid2.coords t) = 1#1 → win2_8.flush t = false := by decide +kernel

theorem wb_congr2 (c : Dev nD) (t : Fin grid2.N) (h : ¬ first2 (grid2.coords t) = 1#1) : wb2 V c t = wb2 V c (prev2 t) :=
  (dat2 V c).fetched_congr 2 (t := t) (t' := prev2 t) (cast2 t h).2 rfl (wb2 V c t)

theorem before2 (c : Dev nD) (t : Fin grid2.N) (w : Fin 9) (hw : w.val < 7) (d) : (dat2 V c).before w t d = (dat2 V c).after w t :=
  match w, hw, d with
  | ⟨0, _⟩, _, d => (dat2 V c).before_in_eq_fetched (0 : Fin 9) rfl (fun _ => rfl) (fun _ _ _ => rfl) (fun _ => rfl) t d
  | ⟨1, _⟩, _, d => (dat2 V c).before_in_eq_fetched (1 : Fin 9) rfl (fun _ => rfl) (fun _ _ _ => rfl) (fun _ => rfl) t d
  | ⟨2, _⟩, _, d => (dat2 V c).before_in_eq_fetched (2 : Fin 9) rfl (fun _ => rfl) (fun _ _ _ => rfl) (fun _ => rfl) t d
  | ⟨3, _⟩, _, d => (dat2 V c).before_in_eq_fetched (3 : Fin 9) rfl (fun _ => rfl) (fun _ _ _ => rfl) (fun _ => rfl) t d
  | ⟨4, _⟩, _, d => (dat2 V c).before_in_eq_fetched (4 : Fin 9) rfl (fun _ => rfl) (fun _ _ _ => rfl) (fun _ => rfl) t d
  | ⟨5, _⟩, _, d => (dat2 V c).before_in_eq_fetched (5 : Fin 9) rfl (fun _ => rfl) (fun _ _ _ => rfl) (fun _ => rfl) t d
  | ⟨6, _⟩, _, d => (dat2 V c).before_in_eq_fetched (6 : Fin 9) rfl (fun _ => rfl) (fun _ _ _ => rfl) (fun _ => rfl) t d

/-- At the last point of a column the block of prompt results is still what the point before left. -/
theorem kept2 (c : Dev nD) (t : Fin grid2.N) (h : ¬ k2_cond2 (grid2.coords t) = 1#1) (d) : (dat2 V c).before (7 : Fin 9) t d = po2 V c t := by
  obtain ⟨h1, hp, h0, h3, h5, hx⟩ := keep2 t h
  refine (left_over (dat2 V c) (7 : Fin 9) t (prev2 t) (Nat.succ_pred_eq_of_ne_zero (cast2 t h1).1) rfl hx (idle_of _ hp) d).trans ?_
  show k2_pay2 _ _ _ _ = k2_pay2 _ _ _ _
  rw [wb_congr2 V c t h1, show pb2 V c t = pb2 V c (prev2 t) from (dat2 V c).fetched_congr 0 (t := t) (t' := prev2 t) h0 rfl (pb2 V c t),
    show gp2 V c t = gp2 V c (prev2 t) from (dat2 V c).fetched_congr 3 (t := t) (t' := prev2 t) h3 rfl (gp2 V c t),
    show ep2 V c t = ep2 V c (prev2 t) from (dat2 V c).fetched_congr 5 (t := t) (t' := prev2 t) h5 rfl (ep2 V c t)]

set_option maxHeartbeats 2000000 in
set_option backward.isDefEq.respectTransparency.types false in
/-- The library's obligation on the body of the call. -/
theorem obligation2 (c : Dev nD) : BodyObligation (dat2 V c) (defs₀ (F := F)) 𝒱₀ () Set.univ := fun t => by
  rw [bigSep_W2, bigSep_W2]
  dsimp only
  exact obl4 c (first2 (grid2.coords t)) (k2_cond2 (grid2.coords t)) (k2_cond3 (grid2.coords t))
    (win2_0.stage (cfg2.slots t (0 : Fin 9))) (win2_1.stage (cfg2.slots t (1 : Fin 9))) (win2_2.stage (cfg2.slots t (2 : Fin 9))) (win2_3.stage (cfg2.slots t (3 : Fin 9))) (win2_4.stage (cfg2.slots t (4 : Fin 9))) (win2_5.stage (cfg2.slots t (5 : Fin 9))) (win2_6.stage (cfg2.slots t (6 : Fin 9))) (win2_7.stage (cfg2.slots t (7 : Fin 9))) (win2_8.stage (cfg2.slots t (8 : Fin 9)))
    (Memref.whole cc2_scratch0) h_S1024x1024 h_S512x1024 h_S1024x1024 h_S1024x1024 h_S512x1024 _ _ _ k2_pay1 k2_pay2 k2_pay3 (hstage2_0 _) (hstage2_1 _) (hstage2_2 _) (hstage2_3 _) (hstage2_4 _) (hstage2_5 _) (hstage2_6 _) (hstage2_7 _) (hstage2_8 _)
    ((dat2 V c).before (0 : Fin 9) t) ((dat2 V c).before (1 : Fin 9) t) ((dat2 V c).before (2 : Fin 9) t) ((dat2 V c).before (3 : Fin 9) t) ((dat2 V c).before (4 : Fin 9) t) ((dat2 V c).before (5 : Fin 9) t) ((dat2 V c).before (6 : Fin 9) t) ((dat2 V c).before (7 : Fin 9) t) ((dat2 V c).before (8 : Fin 9) t)
    (pb2 V c t) (sb2 V c t) (wb2 V c t) (gp2 V c t) (gs2 V c t) (ep2 V c t) (es2 V c t) (before2 V c t 0 (by decide)) (before2 V c t 1 (by decide)) (before2 V c t 2 (by decide)) (before2 V c t 3 (by decide)) (before2 V c t 4 (by decide)) (before2 V c t 5 (by decide)) (before2 V c t 6 (by decide))
    (idle2 (7 : Fin 9) (grid2.coords t)) (win2_7.flush t) (idle2 (8 : Fin 9) (grid2.coords t)) (win2_8.flush t)
    (idle_of _) (fun h => ⟨idle_not _ h, fun _ d => kept2 V c t h d⟩) (idle_of _) (fun h => ⟨idle_not _ h, fun e => absurd (e.symm.trans (noflush2 t h)) (by decide)⟩)
    (scr2 V c t.val) (scr2 V c (t.val + 1)) (fun g hg h => (hg (prev2 t) (Nat.succ_pred_eq_of_ne_zero (cast2 t h).1)).trans (congrArg k2_pay1 (wb_congr2 V c t h).symm))
    (fun g hr s hs => by obtain rfl : s = t := Fin.ext (Nat.succ.inj hs); exact hr) _ _

/-- Before the first point the scratch buffer holds anything; after the last it is given back. -/
theorem inv_in2 (c : Dev nD) : (Pipeline.scopedRest (Ix := Unit) (Name := ℕ) (U := UU) (Lvl := ℕ) (Val := Elt F) spec2 c : sProp 𝕄) ⊢ inv2 V c 0 :=
  (Entails.of_eq (scopedRest2_split (Ix := Unit) (Name := ℕ) (U := UU) (Lvl := ℕ) (Val := Elt F) c)).trans
    (scr_in _ (Memref.whole cc2_scratch0) _ fun _ _ h => absurd h (Nat.succ_ne_zero _))
theorem inv_out2 (c : Dev nD) (n : ℕ) : inv2 V c n ⊢ (Pipeline.scopedRest (Ix := Unit) (Name := ℕ) (U := UU) (Lvl := ℕ) (Val := Elt F) spec2 c : sProp 𝕄) :=
  (scr_out _ (Memref.whole cc2_scratch0) _).trans
    (Entails.of_eq (scopedRest2_split (Ix := Unit) (Name := ℕ) (U := UU) (Lvl := ℕ) (Val := Elt F) c).symm)

end Cert.Proof.PG

end
-- ==== Proof.GCall3.lean ====
module

public import proofs.«01_k».proof.Proof.GBase

@[expose] public section

set_option maxRecDepth 16384

noncomputable section

namespace Cert.Proof.PG

open Cert.MergeIdeal Cert.MergeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## Call 3 -/

/-- Whether a point is the first of its column of blocks, as the body's condition. -/
abbrev first3 (i : grid3.Coords) : BitVec 1 :=
  Scalar.cmpi .ne (Scalar.extui (Scalar.cmpi .eq (BitVec.ofNat 32 (i 1).val) 0#32) : BitVec 32) 0#32

variable (V : (c : Dev nD) → (b : Ref sig .tc) → Buf (Elt F) ((c : Thread nD τ).loc b))

/-- The blocks a point is given: rows of either kind, weights, and what the rows are added to. -/
abbrev pb3 (c : Dev nD) (t : Fin grid3.N) : S1024x2048.Idx → Elt F .bf16 := ((cfg3.win (0 : Fin 7)).blk t).view.read (Elt F) (V c main_v8_0)
abbrev sb3 (c : Dev nD) (t : Fin grid3.N) : S512x2048.Idx → Elt F .bf16 := ((cfg3.win (1 : Fin 7)).blk t).view.read (Elt F) (V c main_v8_1)
abbrev wb3 (c : Dev nD) (t : Fin grid3.N) : S2048x1024.Idx → Elt F .f32 := ((cfg3.win (2 : Fin 7)).blk t).view.read (Elt F) (V c main_v5)
abbrev gp3 (c : Dev nD) (t : Fin grid3.N) : S1024x1024.Idx → Elt F .f32 := ((cfg3.win (3 : Fin 7)).blk t).view.read (Elt F) (V c main_v0)
abbrev gs3 (c : Dev nD) (t : Fin grid3.N) : S512x1024.Idx → Elt F .f32 := ((cfg3.win (4 : Fin 7)).blk t).view.read (Elt F) (V c main_v1)

/-- What a point computes of its rows. -/
abbrev po3 (c : Dev nD) (t : Fin grid3.N) : S1024x1024.Idx → Elt F .f32 := k3_pay2 (pb3 V c t) (k3_pay1 (wb3 V c t)) (gp3 V c t)
abbrev so3 (c : Dev nD) (t : Fin grid3.N) : S512x1024.Idx → Elt F .f32 := k3_pay3 (sb3 V c t) (k3_pay1 (wb3 V c t)) (gs3 V c t)

/-- What the scratch buffer holds before point `n`: the weights of the point before. -/
abbrev scr3 (c : Dev nD) (n : ℕ) (g : Bf (F := F) c (Memref.whole cc3_scratch0)) : Prop :=
  ∀ s : Fin grid3.N, s.val + 1 = n → (Memref.whole cc3_scratch0).view.read (Elt F) g = k3_pay1 (wb3 V c s)
/-- The buffers besides the windows' before point `n`. -/
abbrev inv3 (c : Dev nD) (n : ℕ) : sProp 𝕄 :=
  iprop((∃ g : Bf (F := F) c (Memref.whole cc3_scratch0), ⌜scr3 V c n g⌝ ∗ pt c (Memref.whole cc3_scratch0) g)
    ∗ Pipeline.scopedRestBut (Ix := Unit) (Name := ℕ) (U := UU) (Lvl := ℕ) (Val := Elt F) spec3 c [cc3_scratch0])

/-- The proof data of the call. -/
def dat3 (c : Dev nD) : Dat τ (Elt F) Unit ℕ UU ℕ cfg3 c where
  A w := V c (Pipeline.arrRef spec3 w)
  after w t := match w with
    | ⟨0, _⟩ => pb3 V c t
    | ⟨1, _⟩ => sb3 V c t
    | ⟨2, _⟩ => wb3 V c t
    | ⟨3, _⟩ => gp3 V c t
    | ⟨4, _⟩ => gs3 V c t
    | ⟨5, _⟩ => po3 V c t
    | ⟨6, _⟩ => so3 V c t
  Φ t := inv3 V c t.val
  q _ := fullShare
  owed _ := 0

/-- The point before. -/
abbrev prev3 (t : Fin grid3.N) : Fin grid3.N := ⟨t.val - 1, lt_of_le_of_lt (Nat.sub_le _ _) t.isLt⟩

theorem cast3 : ∀ t : Fin grid3.N, ¬ first3 (grid3.coords t) = 1#1 → t.val ≠ 0 ∧ cc3_transform_2 (grid3.coords t) = cc3_transform_2 (grid3.coords (prev3 t)) := by decide +kernel
theorem keep3 : ∀ t : Fin grid3.N, ¬ k3_cond2 (grid3.coords t) = 1#1 → ¬ first3 (grid3.coords t) = 1#1 ∧ k3_cond2 (grid3.coords (prev3 t)) = 1#1
    ∧ cc3_transform_0 (grid3.coords t) = cc3_transform_0 (grid3.coords (prev3 t))
    ∧ cc3_transform_3 (grid3.coords t) = cc3_transform_3 (grid3.coords (prev3 t))
    ∧ cc3_transform_5 (grid3.coords t) = cc3_transform_5 (grid3.coords (prev3 t)) := by decide +kernel
theorem noflush3 : ∀ t : Fin grid3.N, ¬ k3_cond3 (grid3.coords t) = 1#1 → win3_6.flush t = false := by decide +kernel

theorem wb_congr3 (c : Dev nD) (t : Fin grid3.N) (h : ¬ first3 (grid3.coords t) = 1#1) : wb3 V c t = wb3 V c (prev3 t) :=
  (dat3 V c).fetched_congr 2 (t := t) (t' := prev3 t) (cast3 t h).2 rfl (wb3 V c t)

theorem before3 (c : Dev nD) (t : Fin grid3.N) (w : Fin 7) (hw : w.val < 5) (d) : (dat3 V c).before w t d = (dat3 V c).after w t :=
  match w, hw, d with
  | ⟨0, _⟩, _, d => (dat3 V c).before_in_eq_fetched (0 : Fin 7) rfl (fun _ => rfl) (fun _ _ _ => rfl) (fun _ => rfl) t d
  | ⟨1, _⟩, _, d => (dat3 V c).before_in_eq_fetched (1 : Fin 7) rfl (fun _ => rfl) (fun _ _ _ => rfl) (fun _ => rfl) t d
  | ⟨2, _⟩, _, d => (dat3 V c).before_in_eq_fetched (2 : Fin 7) rfl (fun _ => rfl) (fun _ _ _ => rfl) (fun _ => rfl) t d
  | ⟨3, _⟩, _, d => (dat3 V c).before_in_eq_fetched (3 : Fin 7) rfl (fun _ => rfl) (fun _ _ _ => rfl) (fun _ => rfl) t d
  | ⟨4, _⟩, _, d => (dat3 V c).before_in_eq_fetched (4 : Fin 7) rfl (fun _ => rfl) (fun _ _ _ => rfl) (fun _ => rfl) t d

/-- At the last point of a column the block of prompt results is still what the point before left. -/
theorem kept3 (c : Dev nD) (t : Fin grid3.N) (h : ¬ k3_cond2 (grid3.coords t) = 1#1) (d) : (dat3 V c).before (5 : Fin 7) t d = po3 V c t := by
  obtain ⟨h1, hp, h0, h3, hx⟩ := keep3 t h
  refine (left_over (dat3 V c) (5 : Fin 7) t (prev3 t) (Nat.succ_pred_eq_of_ne_zero (cast3 t h1).1) rfl hx (idle_of _ hp) d).trans ?_
  show k3_pay2 _ _ _ = k3_pay2 _ _ _
  rw [wb_congr3 V c t h1, show pb3 V c t = pb3 V c (prev3 t) from (dat3 V c).fetched_congr 0 (t := t) (t' := prev3 t) h0 rfl (pb3 V c t),
    show gp3 V c t = gp3 V c (prev3 t) from (dat3 V c).fetched_congr 3 (t := t) (t' := prev3 t) h3 rfl (gp3 V c t)]

set_option maxHeartbeats 2000000 in
set_option backward.isDefEq.respectTransparency.types false in
/-- The library's obligation on the body of the call. -/
theorem obligation3 (c : Dev nD) : BodyObligation (dat3 V c) (defs₀ (F := F)) 𝒱₀ () Set.univ := fun t => by
  rw [bigSep_W3, bigSep_W3]
  dsimp only
  exact obl3 c (first3 (grid3.coords t)) (k3_cond2 (grid3.coords t)) (k3_cond3 (grid3.coords t))
    (win3_0.stage (cfg3.slots t (0 : Fin 7))) (win3_1.stage (cfg3.slots t (1 : Fin 7))) (win3_2.stage (cfg3.slots t (2 : Fin 7))) (win3_3.stage (cfg3.slots t (3 : Fin 7))) (win3_4.stage (cfg3.slots t (4 : Fin 7))) (win3_5.stage (cfg3.slots t (5 : Fin 7))) (win3_6.stage (cfg3.slots t (6 : Fin 7)))
    (Memref.whole cc3_scratch0) h_S1024x2048 h_S512x2048 h_S2048x1024 h_S1024x1024 h_S512x1024 _ _ _ k3_pay1 k3_pay2 k3_pay3 (hstage3_0 _) (hstage3_1 _) (hstage3_2 _) (hstage3_3 _) (hstage3_4 _) (hstage3_5 _) (hstage3_6 _)
    ((dat3 V c).before (0 : Fin 7) t) ((dat3 V c).before (1 : Fin 7) t) ((dat3 V c).before (2 : Fin 7) t) ((dat3 V c).before (3 : Fin 7) t) ((dat3 V c).before (4 : Fin 7) t) ((dat3 V c).before (5 : Fin 7) t) ((dat3 V c).before (6 : Fin 7) t)
    (pb3 V c t) (sb3 V c t) (wb3 V c t) (gp3 V c t) (gs3 V c t) (before3 V c t 0 (by decide)) (before3 V c t 1 (by decide)) (before3 V c t 2 (by decide)) (before3 V c t 3 (by decide)) (before3 V c t 4 (by decide))
    (idle3 (5 : Fin 7) (grid3.coords t)) (win3_5.flush t) (idle3 (6 : Fin 7) (grid3.coords t)) (win3_6.flush t)
    (idle_of _) (fun h => ⟨idle_not _ h, fun _ d => kept3 V c t h d⟩) (idle_of _) (fun h => ⟨idle_not _ h, fun e => absurd (e.symm.trans (noflush3 t h)) (by decide)⟩)
    (scr3 V c t.val) (scr3 V c (t.val + 1)) (fun g hg h => (hg (prev3 t) (Nat.succ_pred_eq_of_ne_zero (cast3 t h).1)).trans (congrArg k3_pay1 (wb_congr3 V c t h).symm))
    (fun g hr s hs => by obtain rfl : s = t := Fin.ext (Nat.succ.inj hs); exact hr) _ _

/-- Before the first point the scratch buffer holds anything; after the last it is given back. -/
theorem inv_in3 (c : Dev nD) : (Pipeline.scopedRest (Ix := Unit) (Name := ℕ) (U := UU) (Lvl := ℕ) (Val := Elt F) spec3 c : sProp 𝕄) ⊢ inv3 V c 0 :=
  (Entails.of_eq (scopedRest3_split (Ix := Unit) (Name := ℕ) (U := UU) (Lvl := ℕ) (Val := Elt F) c)).trans
    (scr_in _ (Memref.whole cc3_scratch0) _ fun _ _ h => absurd h (Nat.succ_ne_zero _))
theorem inv_out3 (c : Dev nD) (n : ℕ) : inv3 V c n ⊢ (Pipeline.scopedRest (Ix := Unit) (Name := ℕ) (U := UU) (Lvl := ℕ) (Val := Elt F) spec3 c : sProp 𝕄) :=
  (scr_out _ (Memref.whole cc3_scratch0) _).trans
    (Entails.of_eq (scopedRest3_split (Ix := Unit) (Name := ℕ) (U := UU) (Lvl := ℕ) (Val := Elt F) c).symm)

end Cert.Proof.PG

end
-- ==== Proof.GRun.lean ====
module

public import proofs.«01_k».proof.Proof.GCall0
public import proofs.«01_k».proof.Proof.GCall1
public import proofs.«01_k».proof.Proof.GCall2
public import proofs.«01_k».proof.Proof.GCall3

@[expose] public section

set_option maxRecDepth 16384

noncomputable section

namespace Cert.Proof.PG

open Cert.MergeIdeal Cert.MergeIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

open Idealize.ShloMosaic.Pipeline (HostSeg)

local notation "𝕄" => MT nD τ sig Unit (Elt F) ℕ UU ℕ

variable (m : (ℓ : Loc nD τ sig) → Buf (Elt F) ℓ)

/-! ## The buffers between the items -/

def U0 (c : Dev nD) : Valuation τ sig (Elt F) := fun b => m (c, b)
def U1 (c : Dev nD) : Valuation τ sig (Elt F) := StableHlo.after hostOps0 (U0 m c)
theorem U1_of (c : Dev nD) (r : Ref sig .tc) (h : r ∉ hostOps0_W) : U1 m c r = U0 m c r :=
  StableHlo.after_of_writes_sub hostOps0 _ hostOps0_writes h

/-- Two buffers written. -/
def put (U : Valuation τ sig (Elt F)) (a b : Ref sig .tc) (x : (Proc.devRef .tc a : DevRef τ sig).ty.Contents (Elt F)) (y : (Proc.devRef .tc b : DevRef τ sig).ty.Contents (Elt F)) : Valuation τ sig (Elt F) :=
  Function.update (Function.update U a x) b y
theorem put_of (U : Valuation τ sig (Elt F)) (a b : Ref sig .tc) (x) (y) (r : Ref sig .tc) (h : r ≠ a ∧ r ≠ b) : put U a b x y r = U r := by
  simp only [put, Function.update_of_ne (StableHlo.devRef_ne_of_ne h.1 : (Proc.devRef .tc r : DevRef τ sig) ≠ Proc.devRef .tc a),
    Function.update_of_ne (StableHlo.devRef_ne_of_ne h.2 : (Proc.devRef .tc r : DevRef τ sig) ≠ Proc.devRef .tc b)]
theorem put_a (U : Valuation τ sig (Elt F)) (a b : Ref sig .tc) (x) (y) (h : a ≠ b) : put U a b x y a = x := by
  simp only [put, Function.update_of_ne (StableHlo.devRef_ne_of_ne h : (Proc.devRef .tc a : DevRef τ sig) ≠ Proc.devRef .tc b), Function.update_self]
theorem put_b (U : Valuation τ sig (Elt F)) (a b : Ref sig .tc) (x) (y) : put U a b x y b = y := by simp only [put, Function.update_self]

/-- The buffers after call 0. -/
@[irreducible] def U2 (c : Dev nD) : Valuation τ sig (Elt F) :=
  put (U1 m c) main_v6_0 main_v6_1 ((dat0 (fun c b => U1 m c b) c).arrAt 5 grid0.N) ((dat0 (fun c b => U1 m c b) c).arrAt 6 grid0.N)
theorem U2_of (c : Dev nD) (r : Ref sig .tc) (h : r ≠ main_v6_0 ∧ r ≠ main_v6_1) : U2 m c r = U1 m c r := by unfold U2; exact put_of _ _ _ _ _ r h
theorem U2_a (c : Dev nD) : U2 m c main_v6_0 = (dat0 (fun c b => U1 m c b) c).arrAt 5 grid0.N := by unfold U2; exact put_a _ _ _ _ _ (by decide)
theorem U2_b (c : Dev nD) : U2 m c main_v6_1 = (dat0 (fun c b => U1 m c b) c).arrAt 6 grid0.N := by unfold U2; exact put_b _ _ _ _ _

/-- The buffers after call 1. -/
@[irreducible] def U3 (c : Dev nD) : Valuation τ sig (Elt F) :=
  put (U2 m c) main_v7_0 main_v7_1 ((dat1 (fun c b => U2 m c b) c).arrAt 7 grid1.N) ((dat1 (fun c b => U2 m c b) c).arrAt 8 grid1.N)
theorem U3_of (c : Dev nD) (r : Ref sig .tc) (h : r ≠ main_v7_0 ∧ r ≠ main_v7_1) : U3 m c r = U2 m c r := by unfold U3; exact put_of _ _ _ _ _ r h
theorem U3_a (c : Dev nD) : U3 m c main_v7_0 = (dat1 (fun c b => U2 m c b) c).arrAt 7 grid1.N := by unfold U3; exact put_a _ _ _ _ _ (by decide)
theorem U3_b (c : Dev nD) : U3 m c main_v7_1 = (dat1 (fun c b => U2 m c b) c).arrAt 8 grid1.N := by unfold U3; exact put_b _ _ _ _ _

/-- The buffers after call 2. -/
@[irreducible] def U4 (c : Dev nD) : Valuation τ sig (Elt F) :=
  put (U3 m c) main_v8_0 main_v8_1 ((dat2 (fun c b => U3 m c b) c).arrAt 7 grid2.N) ((dat2 (fun c b => U3 m c b) c).arrAt 8 grid2.N)
theorem U4_of (c : Dev nD) (r : Ref sig .tc) (h : r ≠ main_v8_0 ∧ r ≠ main_v8_1) : U4 m c r = U3 m c r := by unfold U4; exact put_of _ _ _ _ _ r h
theorem U4_a (c : Dev nD) : U4 m c main_v8_0 = (dat2 (fun c b => U3 m c b) c).arrAt 7 grid2.N := by unfold U4; exact put_a _ _ _ _ _ (by decide)
theorem U4_b (c : Dev nD) : U4 m c main_v8_1 = (dat2 (fun c b => U3 m c b) c).arrAt 8 grid2.N := by unfold U4; exact put_b _ _ _ _ _

/-- The buffers after call 3. -/
@[irreducible] def U5 (c : Dev nD) : Valuation τ sig (Elt F) :=
  put (U4 m c) main_v9_0 main_v9_1 ((dat3 (fun c b => U4 m c b) c).arrAt 5 grid3.N) ((dat3 (fun c b => U4 m c b) c).arrAt 6 grid3.N)
theorem U5_of (c : Dev nD) (r : Ref sig .tc) (h : r ≠ main_v9_0 ∧ r ≠ main_v9_1) : U5 m c r = U4 m c r := by unfold U5; exact put_of _ _ _ _ _ r h
theorem U5_a (c : Dev nD) : U5 m c main_v9_0 = (dat3 (fun c b => U4 m c b) c).arrAt 5 grid3.N := by unfold U5; exact put_a _ _ _ _ _ (by decide)
theorem U5_b (c : Dev nD) : U5 m c main_v9_1 = (dat3 (fun c b => U4 m c b) c).arrAt 6 grid3.N := by unfold U5; exact put_b _ _ _ _ _

/-- The proof data of the calls. -/
def pdats : (p : Fin 4) → (c : Dev nD) → Dat τ (Elt F) Unit ℕ UU ℕ (cfgs p) c
  | ⟨0, _⟩ => fun c => dat0 (fun c b => U1 m c b) c
  | ⟨1, _⟩ => fun c => dat1 (fun c b => U2 m c b) c
  | ⟨2, _⟩ => fun c => dat2 (fun c b => U3 m c b) c
  | ⟨3, _⟩ => fun c => dat3 (fun c b => U4 m c b) c

/-! ## The items -/

set_option backward.isDefEq.respectTransparency.types false in
def reg0 : RegionSeg (pcfgs (F := F)) adm (pdats m) () defs₀ 𝒱₀ L lv 0 :=
  mkReg (pdats m) 0 launch0 (U1 m) (U2 m) (fun _ _ => rfl) (fun _ _ => rfl) (fun _ _ => rfl) (fun _ => rfl) (fun c => obligation0 (fun c b => U1 m c b) c)
    (fun c => inv_in0 _ c) (fun c => inv_out0 _ c _)
    (fun c w => by
    fin_cases w
    · exact ((pdats m 0 c).arrAt_in 0 rfl _).trans (U2_of m c main_arg0 (by decide)).symm
    · exact ((pdats m 0 c).arrAt_in 1 rfl _).trans (U2_of m c main_arg1 (by decide)).symm
    · exact ((pdats m 0 c).arrAt_in 2 rfl _).trans (U2_of m c main_v2 (by decide)).symm
    · exact ((pdats m 0 c).arrAt_in 3 rfl _).trans (U2_of m c main_arg6 (by decide)).symm
    · exact ((pdats m 0 c).arrAt_in 4 rfl _).trans (U2_of m c main_arg7 (by decide)).symm
    · exact (U2_a m c).symm
    · exact (U2_b m c).symm)
    (fun c b hb => U2_of m c b ⟨fun h => hb (h ▸ Finset.mem_image.mpr ⟨(5 : Fin 7), Finset.mem_univ _, rfl⟩), fun h => hb (h ▸ Finset.mem_image.mpr ⟨(6 : Fin 7), Finset.mem_univ _, rfl⟩)⟩)

set_option backward.isDefEq.respectTransparency.types false in
def reg1 : RegionSeg (pcfgs (F := F)) adm (pdats m) () defs₀ 𝒱₀ L lv 1 :=
  mkReg (pdats m) 1 launch1 (U2 m) (U3 m) (fun _ _ => rfl) (fun _ _ => rfl) (fun _ _ => rfl) (fun _ => rfl) (fun c => obligation1 (fun c b => U2 m c b) c)
    (fun c => inv_in1 _ c) (fun c => inv_out1 _ c _)
    (fun c w => by
    fin_cases w
    · exact ((pdats m 1 c).arrAt_in 0 rfl _).trans (U3_of m c main_arg2 (by decide)).symm
    · exact ((pdats m 1 c).arrAt_in 1 rfl _).trans (U3_of m c main_arg3 (by decide)).symm
    · exact ((pdats m 1 c).arrAt_in 2 rfl _).trans (U3_of m c main_v3 (by decide)).symm
    · exact ((pdats m 1 c).arrAt_in 3 rfl _).trans (U3_of m c main_arg6 (by decide)).symm
    · exact ((pdats m 1 c).arrAt_in 4 rfl _).trans (U3_of m c main_arg7 (by decide)).symm
    · exact ((pdats m 1 c).arrAt_in 5 rfl _).trans (U3_of m c main_v6_0 (by decide)).symm
    · exact ((pdats m 1 c).arrAt_in 6 rfl _).trans (U3_of m c main_v6_1 (by decide)).symm
    · exact (U3_a m c).symm
    · exact (U3_b m c).symm)
    (fun c b hb => U3_of m c b ⟨fun h => hb (h ▸ Finset.mem_image.mpr ⟨(7 : Fin 9), Finset.mem_univ _, rfl⟩), fun h => hb (h ▸ Finset.mem_image.mpr ⟨(8 : Fin 9), Finset.mem_univ _, rfl⟩)⟩)

set_option backward.isDefEq.respectTransparency.types false in
def reg2 : RegionSeg (pcfgs (F := F)) adm (pdats m) () defs₀ 𝒱₀ L lv 2 :=
  mkReg (pdats m) 2 launch2 (U3 m) (U4 m) (fun _ _ => rfl) (fun _ _ => rfl) (fun _ _ => rfl) (fun _ => rfl) (fun c => obligation2 (fun c b => U3 m c b) c)
    (fun c => inv_in2 _ c) (fun c => inv_out2 _ c _)
    (fun c w => by
    fin_cases w
    · exact ((pdats m 2 c).arrAt_in 0 rfl _).trans (U4_of m c main_arg4 (by decide)).symm
    · exact ((pdats m 2 c).arrAt_in 1 rfl _).trans (U4_of m c main_arg5 (by decide)).symm
    · exact ((pdats m 2 c).arrAt_in 2 rfl _).trans (U4_of m c main_v4 (by decide)).symm
    · exact ((pdats m 2 c).arrAt_in 3 rfl _).trans (U4_of m c main_arg6 (by decide)).symm
    · exact ((pdats m 2 c).arrAt_in 4 rfl _).trans (U4_of m c main_arg7 (by decide)).symm
    · exact ((pdats m 2 c).arrAt_in 5 rfl _).trans (U4_of m c main_v7_0 (by decide)).symm
    · exact ((pdats m 2 c).arrAt_in 6 rfl _).trans (U4_of m c main_v7_1 (by decide)).symm
    · exact (U4_a m c).symm
    · exact (U4_b m c).symm)
    (fun c b hb => U4_of m c b ⟨fun h => hb (h ▸ Finset.mem_image.mpr ⟨(7 : Fin 9), Finset.mem_univ _, rfl⟩), fun h => hb (h ▸ Finset.mem_image.mpr ⟨(8 : Fin 9), Finset.mem_univ _, rfl⟩)⟩)

set_option backward.isDefEq.respectTransparency.types false in
def reg3 : RegionSeg (pcfgs (F := F)) adm (pdats m) () defs₀ 𝒱₀ L lv 3 :=
  mkReg (pdats m) 3 launch3 (U4 m) (U5 m) (fun _ _ => rfl) (fun _ _ => rfl) (fun _ _ => rfl) (fun _ => rfl) (fun c => obligation3 (fun c b => U4 m c b) c)
    (fun c => inv_in3 _ c) (fun c => inv_out3 _ c _)
    (fun c w => by
    fin_cases w
    · exact ((pdats m 3 c).arrAt_in 0 rfl _).trans (U5_of m c main_v8_0 (by decide)).symm
    · exact ((pdats m 3 c).arrAt_in 1 rfl _).trans (U5_of m c main_v8_1 (by decide)).symm
    · exact ((pdats m 3 c).arrAt_in 2 rfl _).trans (U5_of m c main_v5 (by decide)).symm
    · exact ((pdats m 3 c).arrAt_in 3 rfl _).trans (U5_of m c main_v0 (by decide)).symm
    · exact ((pdats m 3 c).arrAt_in 4 rfl _).trans (U5_of m c main_v1 (by decide)).symm
    · exact (U5_a m c).symm
    · exact (U5_b m c).symm)
    (fun c b hb => U5_of m c b ⟨fun h => hb (h ▸ Finset.mem_image.mpr ⟨(5 : Fin 7), Finset.mem_univ _, rfl⟩), fun h => hb (h ▸ Finset.mem_image.mpr ⟨(6 : Fin 7), Finset.mem_univ _, rfl⟩)⟩)

abbrev EP : Emb (UR sig nD τ) 𝕄 := embL

/-- The library's launch element. -/
def u₀ : UU := (initOf (Pipeline.cells cfgs cellOf_inj) (Pipeline.launchToks cfgs cellOf_inj), 1)

/-- The thread state at a valuation: the buffers held, and nothing owed. -/
abbrev state (W : Dev nD → Valuation τ sig (Elt F)) (c : Dev nD) : sProp 𝕄 :=
  iprop(StableHlo.held (c : Thread nD τ) (Pipeline.ucRefs τ sig) (W c) ∗ owing c)

theorem state_eq (W : Dev nD → Valuation τ sig (Elt F)) (c : Dev nD) :
    (state W c : sProp 𝕄) = iprop(unscopedBufs c (fun b => W c b) ∗ owing c) := by
  unfold state; rw [← Pipeline.unscopedBufs_held c (W c)]

def hseg0 : HostSeg (Ix := Unit) (Name := ℕ) (U := UU) (Lvl := ℕ) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) (fun c => owing c)

/-- The items of the program on a core. -/
abbrev items (_ : Dev nD) : List (Seg (pcfgs (F := F)) adm (pdats m) () defs₀ 𝒱₀ L lv) :=
  [.host (hseg0 m), .region (reg0 m), .region (reg1 m), .region (reg2 m), .region (reg3 m)]

set_option backward.isDefEq.respectTransparency.types false in
/-- The run: from any memory the calls end with every buffer of the program at the last valuation, and every semaphore at zero. -/
theorem run (ρ : Dev nD → PrngReg) :
    θ_run defs (onTc (τ := τ) (main (F := F))) ⟨m, fun _ => 0, ρ⟩ (fun r => (∀ (c : Dev nD) (b : Ref sig .tc),
      (Proc.devRef .tc b : DevRef τ sig).isScoped = false → r.2.mem ((c.tc : Thread nD τ).loc b) = U5 m c b)
      ∧ r.2.sem = fun _ => 0) := by
  refine Pipeline.θ_run_regions_kit_dev_sems (pcfgs (F := F)) adm (pdats m) () cellOf_inj EP defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()) ] from rfl]
      dsimp (config := { failIfUnchanged := false }) only
      exact .rfl)
    (fun c => by simp only [items, Seg.pipes_host, Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := state (U0 m)) (Tₙ := fun c => StableHlo.held (c : Thread nD τ) (Pipeline.ucRefs τ sig) (U5 m c))
    (hch := fun c => ⟨.rfl, Entails.of_eq (state_eq (U1 m) c), .rfl, .rfl, .rfl, Entails.of_eq (state_eq (U5 m) c).symm⟩)
    (hinit := ?_) (QY := fun c s => ∀ b : Ref sig .tc, (Proc.devRef .tc b : DevRef τ sig).isScoped = false → s.mem ((c.tc : Thread nD τ).loc b) = U5 m c b)
    (hfin := fun c s' => ?_) (hQ := fun _ h hz => ⟨h, funext fun g => hz g (.inr (regions_no_unscoped g.2))⟩)
  · refine Pipeline.initEach L lv fun c => ?_
    rw [state_eq]
    iintro ⟨⟨Hb, -, HO, -, -, -⟩, -⟩
    imodintro
    isplitl [Hb]; · iexact Hb
    iexists ∅; iexact HO
  · unfold StableHlo.held
    iintro ⟨Hh, HSI⟩
    ihave Hr := (pointsTo_read_all (Pipeline.ucRefs τ sig) (fun b => ((c : Thread nD τ).1, b)) (U5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simp [hb]⟩)
    · iexact HSI

/-- No item writes an argument. -/
theorem arg (c : Dev nD) (r : Ref sig .tc) (h : r ∉ hostOps0_W ∧ (r ≠ main_v6_0 ∧ r ≠ main_v6_1) ∧ (r ≠ main_v7_0 ∧ r ≠ main_v7_1) ∧ (r ≠ main_v8_0 ∧ r ≠ main_v8_1) ∧ r ≠ main_v9_0 ∧ r ≠ main_v9_1) :
    U5 m c r = m ((c : Thread nD τ).loc r) :=
  (U5_of m c r h.2.2.2.2).trans <| (U4_of m c r h.2.2.2.1).trans <| (U3_of m c r h.2.2.1).trans <| (U2_of m c r h.2.1).trans <| U1_of m c r h.1
theorem args (c : Dev nD) (M : (ℓ : Loc nD τ sig) → Buf (Elt F) ℓ) (h : ∀ b : Ref sig .tc, (Proc.devRef .tc b : DevRef τ sig).isScoped = false → M ((c.tc : Thread nD τ).loc b) = U5 m c b) :
    M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7)
      ∧ M ((c.tc : Thread nD τ).loc main_arg8) = m ((c.tc : Thread nD τ).loc main_arg8)
      ∧ M ((c.tc : Thread nD τ).loc main_arg9) = m ((c.tc : Thread nD τ).loc main_arg9)
      ∧ M ((c.tc : Thread nD τ).loc main_arg10) = m ((c.tc : Thread nD τ).loc main_arg10)
      ∧ M ((c.tc : Thread nD τ).loc main_arg11) = m ((c.tc : Thread nD τ).loc main_arg11)
      ∧ M ((c.tc : Thread nD τ).loc main_arg12) = m ((c.tc : Thread nD τ).loc main_arg12)
      ∧ M ((c.tc : Thread nD τ).loc main_arg13) = m ((c.tc : Thread nD τ).loc main_arg13) :=
  ⟨(h _ rfl).trans (arg m c main_arg0 (by decide)), (h _ rfl).trans (arg m c main_arg1 (by decide)), (h _ rfl).trans (arg m c main_arg2 (by decide)), (h _ rfl).trans (arg m c main_arg3 (by decide)), (h _ rfl).trans (arg m c main_arg4 (by decide)), (h _ rfl).trans (arg m c main_arg5 (by decide)), (h _ rfl).trans (arg m c main_arg6 (by decide)), (h _ rfl).trans (arg m c main_arg7 (by decide)), (h _ rfl).trans (arg m c main_arg8 (by decide)), (h _ rfl).trans (arg m c main_arg9 (by decide)), (h _ rfl).trans (arg m c main_arg10 (by decide)), (h _ rfl).trans (arg m c main_arg11 (by decide)), (h _ rfl).trans (arg m c main_arg12 (by decide)), (h _ rfl).trans (arg m c main_arg13 (by decide))⟩

end Cert.Proof.PG

end
-- ==== Proof.GSpec.lean ====
module

public import proofs.«01_k».proof.Proof.GRun
public import Idealize.ShloMosaic.Lib.MatmulPlain
public import Idealize.ShloMosaic.Lib.StackMember
public import Idealize.ShloMosaic.Lib.IdealHost
public import Idealize.ShloMosaic.Lib.Pipeline.Covers
public import Idealize.ShloMosaic.Lib.Pipeline.Value

@[expose] public section

set_option maxRecDepth 16384

noncomputable section

/-! The functions the calls of the merge compute at the extended reals, and what they are on a block. -/

namespace Cert.Proof.GSpec

open Idealize.ShloMosaic Idealize.ShloMosaic.ValueIdx
open scoped BigOperators

variable {M K N m n : ℕ}

/-- A product of matrices. -/
def dotp (X : (⟨2, ![M, K]⟩ : Shape).Idx → EReal) (W : (⟨2, ![K, N]⟩ : Shape).Idx → EReal) : (⟨2, ![M, N]⟩ : Shape).Idx → EReal :=
  fun i => ∑ k : Fin K, X (ix2 (i 0) k) * W (ix2 k (i 1))

/-- The gates from column `o` on. -/
def gat (o : ℕ) (ho : o + 2048 ≤ 6144) (G : (⟨2, ![M, 6144]⟩ : Shape).Idx → EReal) : (⟨2, ![M, 2048]⟩ : Shape).Idx → EReal :=
  fun i => Ideal.logistic (G (ix2 (i 0) ⟨o + (i 1).val, lt_of_lt_of_le (Nat.add_lt_add_left (idx2_lt1 i) o) ho⟩))

/-- `B` is block `I` of `A`. -/
def IsBlk (I : Fin 2 → ℕ) (B : (⟨2, ![m, n]⟩ : Shape).Idx → EReal) (A : (⟨2, ![M, N]⟩ : Shape).Idx → EReal) : Prop :=
  ∀ (y : (⟨2, ![m, n]⟩ : Shape).Idx) (z : (⟨2, ![M, N]⟩ : Shape).Idx), (z 0).val = I 0 * m + (y 0).val → (z 1).val = I 1 * n + (y 1).val → B y = A z

theorem isBlk_of {I J : Fin 2 → ℕ} (A : (⟨2, ![M, N]⟩ : Shape).Idx → EReal) (e : (⟨2, ![m, n]⟩ : Shape).Idx → (⟨2, ![M, N]⟩ : Shape).Idx)
    (h : ∀ y d, (e y d).val = J d * (⟨2, ![m, n]⟩ : Shape).size d + (y d).val) (hI : J = I) : IsBlk I (fun y => A (e y)) A := by
  subst hI
  refine fun y z h0 h1 => congrArg A (funext fun d => Fin.ext ?_)
  match d with
  | ⟨0, _⟩ => exact (h y 0).trans h0.symm
  | ⟨1, _⟩ => exact (h y 1).trans h1.symm

variable {a b o : ℕ} {y : (⟨2, ![m, 1024]⟩ : Shape).Idx} {z : (⟨2, ![M, 2048]⟩ : Shape).Idx}

/-- A product on a block: rows against columns, added to zeros. -/
theorem dot_blk {φ₁ φ₂ : FTy} {Xb : (⟨2, ![m, K]⟩ : Shape).Idx → EReal} {X : (⟨2, ![M, K]⟩ : Shape).Idx → EReal} {Wb : (⟨2, ![K, 1024]⟩ : Shape).Idx → EReal} {W : (⟨2, ![K, 2048]⟩ : Shape).Idx → EReal}
    (hX : IsBlk ![a, 0] Xb X) (hW : IsBlk ![0, b] Wb W) (h0 : (z 0).val = a * m + (y 0).val) (h1 : (z 1).val = b * 1024 + (y 1).val) :
    FloatOps.matmul (F := Ideal) (φ₁ := φ₁) (φ₂ := φ₂) (DotDims.plain m K 1024) none Xb Wb (constant (F := Ideal) ⟨2, ![m, 1024]⟩ .f32 0x00000000#32) y = dotp X W z := by
  refine (congrArg _ (eq_ix2 y)).trans ((Ideal.matmul_plain_apply (M := m) (K := K) (N := 1024) none Xb Wb _ (y 0) (y 1)).trans ?_)
  rw [show (constant (F := Ideal) ⟨2, ![m, 1024]⟩ .f32 0x00000000#32) (ix2 (y 0) (y 1)) = (0 : EReal) from Ideal.ofBits_zero_f32, zero_add]
  exact Finset.sum_congr rfl fun k _ => congrArg₂ (· * ·) (hX (ix2 (y 0) k) (ix2 (z 0) k) h0 (show k.val = 0 * K + k.val by omega))
    (hW (ix2 k (y 1)) (ix2 k (z 1)) (show k.val = 0 * K + k.val by omega) h1)

/-- The gates on a block. -/
theorem gat_blk {Gb : (⟨2, ![m, 1024]⟩ : Shape).Idx → EReal} {G : (⟨2, ![M, 6144]⟩ : Shape).Idx → EReal} (ho : o * 1024 + 2048 ≤ 6144)
    (hG : IsBlk ![a, o + b] Gb G) (h0 : (z 0).val = a * m + (y 0).val) (h1 : (z 1).val = b * 1024 + (y 1).val) :
    Ideal.logistic (Gb y) = gat (o * 1024) ho G z :=
  congrArg Ideal.logistic (hG y (ix2 (z 0) ⟨o * 1024 + (z 1).val, _⟩) h0 (show o * 1024 + (z 1).val = (o + b) * 1024 + (y 1).val by rw [h1]; omega))

end Cert.Proof.GSpec

end
-- ==== Proof.GArr.lean ====
module

public import proofs.«01_k».proof.Proof.GSpec

@[expose] public section

set_option maxRecDepth 16384

noncomputable section

namespace Cert.Proof.PG

open Cert.MergeIdeal Cert.MergeIdeal.Gen Cert.Proof.GSpec
open Idealize.ShloMosaic Idealize.ShloMosaic.TcCoe
open Idealize.ShloMosaic.Pipeline (Dat Cfg Window)

variable (V : (c : Dev nD) → (b : Ref sig .tc) → Buf (Elt Ideal) ((c : Thread nD τ).loc b))

/-! What call 0 leaves, at the extended reals. -/

theorem idx0 : ∀ t : Fin grid0.N,
cc0_transform_0 (grid0.coords t) = ![cc0_transform_5 (grid0.coords t) 0, 0]
    ∧ cc0_transform_1 (grid0.coords t) = ![0, 0]
    ∧ cc0_transform_2 (grid0.coords t) = ![0, cc0_transform_5 (grid0.coords t) 1]
    ∧ cc0_transform_3 (grid0.coords t) = ![cc0_transform_5 (grid0.coords t) 0, 0 + cc0_transform_5 (grid0.coords t) 1]
    ∧ cc0_transform_4 (grid0.coords t) = ![0, 0 + cc0_transform_5 (grid0.coords t) 1]
    ∧ cc0_transform_6 (grid0.coords t) = ![0, cc0_transform_5 (grid0.coords t) 1] := by decide +kernel
theorem cova0 : (cfg0.win (5 : Fin 7)).Covers := by decide +kernel
theorem covb0 : (cfg0.win (6 : Fin 7)).Covers := by decide +kernel

theorem arr0a (c : Dev nD) : (dat0 V c).arrAt 5 grid0.N = fun i => dotp (K := 1024) (N := 2048) (V c main_arg0) (V c main_v2) i * gat (0 * 1024) (by decide) (V c main_arg6) i := by
  refine (dat0 V c).arrAt_eq_of_covers (5 : Fin 7) _ cova0 fun t _ y => ?_
  obtain ⟨h0, h1, h2, h3, h4, h6⟩ := idx0 t
  have e0 : (((cfg0.win (5 : Fin 7)).blk t).view.emb y 0).val = cc0_transform_5 (grid0.coords t) 0 * 1024 + (y 0).val := Window.rect_emb_val _ t y 0
  have e1 : (((cfg0.win (5 : Fin 7)).blk t).view.emb y 1).val = cc0_transform_5 (grid0.coords t) 1 * 1024 + (y 1).val := Window.rect_emb_val _ t y 1
  show k0_pay2 (F := Ideal) (pb0 V c t) (k0_pay1 (wb0 V c t)) (gp0 V c t) y = (fun i => dotp (K := 1024) (N := 2048) (V c main_arg0) (V c main_v2) i * gat (0 * 1024) (by decide) (V c main_arg6) i) (((cfg0.win (5 : Fin 7)).blk t).view.emb y)
  generalize ((cfg0.win (5 : Fin 7)).blk t).view.emb y = z at e0 e1 ⊢
  unfold k0_pay2 k0_pay1
  simp only [shapeCast_self]
  exact congrArg₂ (· * ·) (dot_blk (isBlk_of (V c main_arg0) ((cfg0.win (0 : Fin 7)).blk t).view.emb (Window.rect_emb_val (cfg0.win (0 : Fin 7)) t) h0) (isBlk_of (V c main_v2) ((cfg0.win (2 : Fin 7)).blk t).view.emb (Window.rect_emb_val (cfg0.win (2 : Fin 7)) t) h2) e0 e1)
    (gat_blk (o := 0) (by decide) (isBlk_of (V c main_arg6) ((cfg0.win (3 : Fin 7)).blk t).view.emb (Window.rect_emb_val (cfg0.win (3 : Fin 7)) t) h3) e0 e1)

theorem arr0b (c : Dev nD) : (dat0 V c).arrAt 6 grid0.N = fun i => dotp (K := 1024) (N := 2048) (V c main_arg1) (V c main_v2) i * gat (0 * 1024) (by decide) (V c main_arg7) i := by
  refine (dat0 V c).arrAt_eq_of_covers (6 : Fin 7) _ covb0 fun t _ y => ?_
  obtain ⟨h0, h1, h2, h3, h4, h6⟩ := idx0 t
  have e0 : (((cfg0.win (6 : Fin 7)).blk t).view.emb y 0).val = cc0_transform_6 (grid0.coords t) 0 * 512 + (y 0).val := Window.rect_emb_val _ t y 0
  have e1 : (((cfg0.win (6 : Fin 7)).blk t).view.emb y 1).val = cc0_transform_6 (grid0.coords t) 1 * 1024 + (y 1).val := Window.rect_emb_val _ t y 1
  rw [h6] at e0 e1
  show k0_pay3 (F := Ideal) (sb0 V c t) (k0_pay1 (wb0 V c t)) (gs0 V c t) y = (fun i => dotp (K := 1024) (N := 2048) (V c main_arg1) (V c main_v2) i * gat (0 * 1024) (by decide) (V c main_arg7) i) (((cfg0.win (6 : Fin 7)).blk t).view.emb y)
  generalize ((cfg0.win (6 : Fin 7)).blk t).view.emb y = z at e0 e1 ⊢
  unfold k0_pay3 k0_pay1
  simp only [shapeCast_self]
  exact congrArg₂ (· * ·) (dot_blk (isBlk_of (V c main_arg1) ((cfg0.win (1 : Fin 7)).blk t).view.emb (Window.rect_emb_val (cfg0.win (1 : Fin 7)) t) h1) (isBlk_of (V c main_v2) ((cfg0.win (2 : Fin 7)).blk t).view.emb (Window.rect_emb_val (cfg0.win (2 : Fin 7)) t) h2) e0 e1)
    (gat_blk (o := 0) (by decide) (isBlk_of (V c main_arg7) ((cfg0.win (4 : Fin 7)).blk t).view.emb (Window.rect_emb_val (cfg0.win (4 : Fin 7)) t) h4) e0 e1)

/-! What call 1 leaves, at the extended reals. -/

theorem idx1 : ∀ t : Fin grid1.N,
cc1_transform_0 (grid1.coords t) = ![cc1_transform_7 (grid1.coords t) 0, 0]
    ∧ cc1_transform_1 (grid1.coords t) = ![0, 0]
    ∧ cc1_transform_2 (grid1.coords t) = ![0, cc1_transform_7 (grid1.coords t) 1]
    ∧ cc1_transform_3 (grid1.coords t) = ![cc1_transform_7 (grid1.coords t) 0, 2 + cc1_transform_7 (grid1.coords t) 1]
    ∧ cc1_transform_4 (grid1.coords t) = ![0, 2 + cc1_transform_7 (grid1.coords t) 1]
    ∧ cc1_transform_5 (grid1.coords t) = ![cc1_transform_7 (grid1.coords t) 0, cc1_transform_7 (grid1.coords t) 1]
    ∧ cc1_transform_6 (grid1.coords t) = ![0, cc1_transform_7 (grid1.coords t) 1]
    ∧ cc1_transform_8 (grid1.coords t) = ![0, cc1_transform_7 (grid1.coords t) 1] := by decide +kernel
theorem cova1 : (cfg1.win (7 : Fin 9)).Covers := by decide +kernel
theorem covb1 : (cfg1.win (8 : Fin 9)).Covers := by decide +kernel

theorem arr1a (c : Dev nD) : (dat1 V c).arrAt 7 grid1.N = fun i => dotp (K := 2048) (N := 2048) (V c main_arg2) (V c main_v3) i * gat (2 * 1024) (by decide) (V c main_arg6) i + (V c main_v6_0 : _ → EReal) i := by
  refine (dat1 V c).arrAt_eq_of_covers (7 : Fin 9) _ cova1 fun t _ y => ?_
  obtain ⟨h0, h1, h2, h3, h4, h5, h6, h8⟩ := idx1 t
  have e0 : (((cfg1.win (7 : Fin 9)).blk t).view.emb y 0).val = cc1_transform_7 (grid1.coords t) 0 * 1024 + (y 0).val := Window.rect_emb_val _ t y 0
  have e1 : (((cfg1.win (7 : Fin 9)).blk t).view.emb y 1).val = cc1_transform_7 (grid1.coords t) 1 * 1024 + (y 1).val := Window.rect_emb_val _ t y 1
  show k1_pay2 (F := Ideal) (pb1 V c t) (k1_pay1 (wb1 V c t)) (gp1 V c t) (ep1 V c t) y = (fun i => dotp (K := 2048) (N := 2048) (V c main_arg2) (V c main_v3) i * gat (2 * 1024) (by decide) (V c main_arg6) i + (V c main_v6_0 : _ → EReal) i) (((cfg1.win (7 : Fin 9)).blk t).view.emb y)
  generalize ((cfg1.win (7 : Fin 9)).blk t).view.emb y = z at e0 e1 ⊢
  unfold k1_pay2 k1_pay1
  simp only [shapeCast_self]
  exact congrArg₂ (· + ·) (congrArg₂ (· * ·) (dot_blk (isBlk_of (V c main_arg2) ((cfg1.win (0 : Fin 9)).blk t).view.emb (Window.rect_emb_val (cfg1.win (0 : Fin 9)) t) h0) (isBlk_of (V c main_v3) ((cfg1.win (2 : Fin 9)).blk t).view.emb (Window.rect_emb_val (cfg1.win (2 : Fin 9)) t) h2) e0 e1)
    (gat_blk (o := 2) (by decide) (isBlk_of (V c main_arg6) ((cfg1.win (3 : Fin 9)).blk t).view.emb (Window.rect_emb_val (cfg1.win (3 : Fin 9)) t) h3) e0 e1))
    (isBlk_of (V c main_v6_0) ((cfg1.win (5 : Fin 9)).blk t).view.emb (Window.rect_emb_val (cfg1.win (5 : Fin 9)) t) h5 y z e0 e1)

theorem arr1b (c : Dev nD) : (dat1 V c).arrAt 8 grid1.N = fun i => dotp (K := 2048) (N := 2048) (V c main_arg3) (V c main_v3) i * gat (2 * 1024) (by decide) (V c main_arg7) i + (V c main_v6_1 : _ → EReal) i := by
  refine (dat1 V c).arrAt_eq_of_covers (8 : Fin 9) _ covb1 fun t _ y => ?_
  obtain ⟨h0, h1, h2, h3, h4, h5, h6, h8⟩ := idx1 t
  have e0 : (((cfg1.win (8 : Fin 9)).blk t).view.emb y 0).val = cc1_transform_8 (grid1.coords t) 0 * 512 + (y 0).val := Window.rect_emb_val _ t y 0
  have e1 : (((cfg1.win (8 : Fin 9)).blk t).view.emb y 1).val = cc1_transform_8 (grid1.coords t) 1 * 1024 + (y 1).val := Window.rect_emb_val _ t y 1
  rw [h8] at e0 e1
  show k1_pay3 (F := Ideal) (sb1 V c t) (k1_pay1 (wb1 V c t)) (gs1 V c t) (es1 V c t) y = (fun i => dotp (K := 2048) (N := 2048) (V c main_arg3) (V c main_v3) i * gat (2 * 1024) (by decide) (V c main_arg7) i + (V c main_v6_1 : _ → EReal) i) (((cfg1.win (8 : Fin 9)).blk t).view.emb y)
  generalize ((cfg1.win (8 : Fin 9)).blk t).view.emb y = z at e0 e1 ⊢
  unfold k1_pay3 k1_pay1
  simp only [shapeCast_self]
  exact congrArg₂ (· + ·) (congrArg₂ (· * ·) (dot_blk (isBlk_of (V c main_arg3) ((cfg1.win (1 : Fin 9)).blk t).view.emb (Window.rect_emb_val (cfg1.win (1 : Fin 9)) t) h1) (isBlk_of (V c main_v3) ((cfg1.win (2 : Fin 9)).blk t).view.emb (Window.rect_emb_val (cfg1.win (2 : Fin 9)) t) h2) e0 e1)
    (gat_blk (o := 2) (by decide) (isBlk_of (V c main_arg7) ((cfg1.win (4 : Fin 9)).blk t).view.emb (Window.rect_emb_val (cfg1.win (4 : Fin 9)) t) h4) e0 e1))
    (isBlk_of (V c main_v6_1) ((cfg1.win (6 : Fin 9)).blk t).view.emb (Window.rect_emb_val (cfg1.win (6 : Fin 9)) t) h6 y z e0 e1)

/-! What call 2 leaves, at the extended reals. -/

theorem idx2 : ∀ t : Fin grid2.N,
cc2_transform_0 (grid2.coords t) = ![cc2_transform_7 (grid2.coords t) 0, 0]
    ∧ cc2_transform_1 (grid2.coords t) = ![0, 0]
    ∧ cc2_transform_2 (grid2.coords t) = ![0, cc2_transform_7 (grid2.coords t) 1]
    ∧ cc2_transform_3 (grid2.coords t) = ![cc2_transform_7 (grid2.coords t) 0, 4 + cc2_transform_7 (grid2.coords t) 1]
    ∧ cc2_transform_4 (grid2.coords t) = ![0, 4 + cc2_transform_7 (grid2.coords t) 1]
    ∧ cc2_transform_5 (grid2.coords t) = ![cc2_transform_7 (grid2.coords t) 0, cc2_transform_7 (grid2.coords t) 1]
    ∧ cc2_transform_6 (grid2.coords t) = ![0, cc2_transform_7 (grid2.coords t) 1]
    ∧ cc2_transform_8 (grid2.coords t) = ![0, cc2_transform_7 (grid2.coords t) 1] := by decide +kernel
theorem cova2 : (cfg2.win (7 : Fin 9)).Covers := by decide +kernel
theorem covb2 : (cfg2.win (8 : Fin 9)).Covers := by decide +kernel

theorem arr2a (c : Dev nD) : (dat2 V c).arrAt 7 grid2.N = fun i => dotp (K := 1024) (N := 2048) (V c main_arg4) (V c main_v4) i * gat (4 * 1024) (by decide) (V c main_arg6) i + (V c main_v7_0 : _ → EReal) i := by
  refine (dat2 V c).arrAt_eq_of_covers (7 : Fin 9) _ cova2 fun t _ y => ?_
  obtain ⟨h0, h1, h2, h3, h4, h5, h6, h8⟩ := idx2 t
  have e0 : (((cfg2.win (7 : Fin 9)).blk t).view.emb y 0).val = cc2_transform_7 (grid2.coords t) 0 * 1024 + (y 0).val := Window.rect_emb_val _ t y 0
  have e1 : (((cfg2.win (7 : Fin 9)).blk t).view.emb y 1).val = cc2_transform_7 (grid2.coords t) 1 * 1024 + (y 1).val := Window.rect_emb_val _ t y 1
  show k2_pay2 (F := Ideal) (pb2 V c t) (k2_pay1 (wb2 V c t)) (gp2 V c t) (ep2 V c t) y = (fun i => dotp (K := 1024) (N := 2048) (V c main_arg4) (V c main_v4) i * gat (4 * 1024) (by decide) (V c main_arg6) i + (V c main_v7_0 : _ → EReal) i) (((cfg2.win (7 : Fin 9)).blk t).view.emb y)
  generalize ((cfg2.win (7 : Fin 9)).blk t).view.emb y = z at e0 e1 ⊢
  unfold k2_pay2 k2_pay1
  simp only [shapeCast_self]
  exact congrArg₂ (· + ·) (congrArg₂ (· * ·) (dot_blk (isBlk_of (V c main_arg4) ((cfg2.win (0 : Fin 9)).blk t).view.emb (Window.rect_emb_val (cfg2.win (0 : Fin 9)) t) h0) (isBlk_of (V c main_v4) ((cfg2.win (2 : Fin 9)).blk t).view.emb (Window.rect_emb_val (cfg2.win (2 : Fin 9)) t) h2) e0 e1)
    (gat_blk (o := 4) (by decide) (isBlk_of (V c main_arg6) ((cfg2.win (3 : Fin 9)).blk t).view.emb (Window.rect_emb_val (cfg2.win (3 : Fin 9)) t) h3) e0 e1))
    (isBlk_of (V c main_v7_0) ((cfg2.win (5 : Fin 9)).blk t).view.emb (Window.rect_emb_val (cfg2.win (5 : Fin 9)) t) h5 y z e0 e1)

theorem arr2b (c : Dev nD) : (dat2 V c).arrAt 8 grid2.N = fun i => dotp (K := 1024) (N := 2048) (V c main_arg5) (V c main_v4) i * gat (4 * 1024) (by decide) (V c main_arg7) i + (V c main_v7_1 : _ → EReal) i := by
  refine (dat2 V c).arrAt_eq_of_covers (8 : Fin 9) _ covb2 fun t _ y => ?_
  obtain ⟨h0, h1, h2, h3, h4, h5, h6, h8⟩ := idx2 t
  have e0 : (((cfg2.win (8 : Fin 9)).blk t).view.emb y 0).val = cc2_transform_8 (grid2.coords t) 0 * 512 + (y 0).val := Window.rect_emb_val _ t y 0
  have e1 : (((cfg2.win (8 : Fin 9)).blk t).view.emb y 1).val = cc2_transform_8 (grid2.coords t) 1 * 1024 + (y 1).val := Window.rect_emb_val _ t y 1
  rw [h8] at e0 e1
  show k2_pay3 (F := Ideal) (sb2 V c t) (k2_pay1 (wb2 V c t)) (gs2 V c t) (es2 V c t) y = (fun i => dotp (K := 1024) (N := 2048) (V c main_arg5) (V c main_v4) i * gat (4 * 1024) (by decide) (V c main_arg7) i + (V c main_v7_1 : _ → EReal) i) (((cfg2.win (8 : Fin 9)).blk t).view.emb y)
  generalize ((cfg2.win (8 : Fin 9)).blk t).view.emb y = z at e0 e1 ⊢
  unfold k2_pay3 k2_pay1
  simp only [shapeCast_self]
  exact congrArg₂ (· + ·) (congrArg₂ (· * ·) (dot_blk (isBlk_of (V c main_arg5) ((cfg2.win (1 : Fin 9)).blk t).view.emb (Window.rect_emb_val (cfg2.win (1 : Fin 9)) t) h1) (isBlk_of (V c main_v4) ((cfg2.win (2 : Fin 9)).blk t).view.emb (Window.rect_emb_val (cfg2.win (2 : Fin 9)) t) h2) e0 e1)
    (gat_blk (o := 4) (by decide) (isBlk_of (V c main_arg7) ((cfg2.win (4 : Fin 9)).blk t).view.emb (Window.rect_emb_val (cfg2.win (4 : Fin 9)) t) h4) e0 e1))
    (isBlk_of (V c main_v7_1) ((cfg2.win (6 : Fin 9)).blk t).view.emb (Window.rect_emb_val (cfg2.win (6 : Fin 9)) t) h6 y z e0 e1)

/-! What call 3 leaves, at the extended reals. -/

theorem idx3 : ∀ t : Fin grid3.N,
cc3_transform_0 (grid3.coords t) = ![cc3_transform_5 (grid3.coords t) 0, 0]
    ∧ cc3_transform_1 (grid3.coords t) = ![0, 0]
    ∧ cc3_transform_2 (grid3.coords t) = ![0, cc3_transform_5 (grid3.coords t) 1]
    ∧ cc3_transform_3 (grid3.coords t) = ![cc3_transform_5 (grid3.coords t) 0, cc3_transform_5 (grid3.coords t) 1]
    ∧ cc3_transform_4 (grid3.coords t) = ![0, cc3_transform_5 (grid3.coords t) 1]
    ∧ cc3_transform_6 (grid3.coords t) = ![0, cc3_transform_5 (grid3.coords t) 1] := by decide +kernel
theorem cova3 : (cfg3.win (5 : Fin 7)).Covers := by decide +kernel
theorem covb3 : (cfg3.win (6 : Fin 7)).Covers := by decide +kernel

theorem arr3a (c : Dev nD) : (dat3 V c).arrAt 5 grid3.N = fun i => dotp (K := 2048) (N := 2048) (V c main_v8_0) (V c main_v5) i + (V c main_v0 : _ → EReal) i := by
  refine (dat3 V c).arrAt_eq_of_covers (5 : Fin 7) _ cova3 fun t _ y => ?_
  obtain ⟨h0, h1, h2, h3, h4, h6⟩ := idx3 t
  have e0 : (((cfg3.win (5 : Fin 7)).blk t).view.emb y 0).val = cc3_transform_5 (grid3.coords t) 0 * 1024 + (y 0).val := Window.rect_emb_val _ t y 0
  have e1 : (((cfg3.win (5 : Fin 7)).blk t).view.emb y 1).val = cc3_transform_5 (grid3.coords t) 1 * 1024 + (y 1).val := Window.rect_emb_val _ t y 1
  show k3_pay2 (F := Ideal) (pb3 V c t) (k3_pay1 (wb3 V c t)) (gp3 V c t) y = (fun i => dotp (K := 2048) (N := 2048) (V c main_v8_0) (V c main_v5) i + (V c main_v0 : _ → EReal) i) (((cfg3.win (5 : Fin 7)).blk t).view.emb y)
  generalize ((cfg3.win (5 : Fin 7)).blk t).view.emb y = z at e0 e1 ⊢
  unfold k3_pay2 k3_pay1
  simp only [shapeCast_self]
  exact congrArg₂ (· + ·) (dot_blk (isBlk_of (V c main_v8_0) ((cfg3.win (0 : Fin 7)).blk t).view.emb (Window.rect_emb_val (cfg3.win (0 : Fin 7)) t) h0) (isBlk_of (V c main_v5) ((cfg3.win (2 : Fin 7)).blk t).view.emb (Window.rect_emb_val (cfg3.win (2 : Fin 7)) t) h2) e0 e1)
    (isBlk_of (V c main_v0) ((cfg3.win (3 : Fin 7)).blk t).view.emb (Window.rect_emb_val (cfg3.win (3 : Fin 7)) t) h3 y z e0 e1)

theorem arr3b (c : Dev nD) : (dat3 V c).arrAt 6 grid3.N = fun i => dotp (K := 2048) (N := 2048) (V c main_v8_1) (V c main_v5) i + (V c main_v1 : _ → EReal) i := by
  refine (dat3 V c).arrAt_eq_of_covers (6 : Fin 7) _ covb3 fun t _ y => ?_
  obtain ⟨h0, h1, h2, h3, h4, h6⟩ := idx3 t
  have e0 : (((cfg3.win (6 : Fin 7)).blk t).view.emb y 0).val = cc3_transform_6 (grid3.coords t) 0 * 512 + (y 0).val := Window.rect_emb_val _ t y 0
  have e1 : (((cfg3.win (6 : Fin 7)).blk t).view.emb y 1).val = cc3_transform_6 (grid3.coords t) 1 * 1024 + (y 1).val := Window.rect_emb_val _ t y 1
  rw [h6] at e0 e1
  show k3_pay3 (F := Ideal) (sb3 V c t) (k3_pay1 (wb3 V c t)) (gs3 V c t) y = (fun i => dotp (K := 2048) (N := 2048) (V c main_v8_1) (V c main_v5) i + (V c main_v1 : _ → EReal) i) (((cfg3.win (6 : Fin 7)).blk t).view.emb y)
  generalize ((cfg3.win (6 : Fin 7)).blk t).view.emb y = z at e0 e1 ⊢
  unfold k3_pay3 k3_pay1
  simp only [shapeCast_self]
  exact congrArg₂ (· + ·) (dot_blk (isBlk_of (V c main_v8_1) ((cfg3.win (1 : Fin 7)).blk t).view.emb (Window.rect_emb_val (cfg3.win (1 : Fin 7)) t) h1) (isBlk_of (V c main_v5) ((cfg3.win (2 : Fin 7)).blk t).view.emb (Window.rect_emb_val (cfg3.win (2 : Fin 7)) t) h2) e0 e1)
    (isBlk_of (V c main_v1) ((cfg3.win (4 : Fin 7)).blk t).view.emb (Window.rect_emb_val (cfg3.win (4 : Fin 7)) t) h4 y z e0 e1)

end Cert.Proof.PG

end
-- ==== Proof.GValue.lean ====
module

public import proofs.«01_k».proof.Defs
public import proofs.«01_k».proof.Proof.GArr
public import proofs.«01_k».proof.Proof.Gen.Merge
public import proofs.«01_k».proof.Proof.Gen.MergeReferenceIdeal.Run
public import Idealize.ShloMosaic.Lib.Quiescent

@[expose] public section

set_option maxRecDepth 16384
set_option maxHeartbeats 4000000

noncomputable section

namespace Cert.Proof

open Idealize.ShloMosaic Idealize.ShloMosaic.TcCoe Idealize.ShloMosaic.ValueIdx Idealize.SL.Sem

set_option backward.isDefEq.respectTransparency.types false in
/-- The two programs of the merge have the same body at every label, so the same table of bodies and regions. -/
theorem merge_defs_same {F : FTy → Type} [FloatOps F] : Cert.Merge.defs (F := F) = Cert.MergeIdeal.defs (F := F) := by
  refine congrArg (Pipeline.defs Cert.MergeIdeal.pcfgs) (?_ : Cert.Merge.defs₀ (F := F) = Cert.MergeIdeal.defs₀ (F := F))
  unfold Cert.Merge.defs₀ Cert.MergeIdeal.defs₀
  refine congrArg Defs.onTc (funext fun l => funext fun a => ?_)
  match l, a with
  | 0, (t, s) => rfl
  | 1, (t, s) => rfl
  | 2, (t, s) => rfl
  | 3, (t, s) => rfl

set_option backward.isDefEq.respectTransparency.types false in
/-- The merge's kernel runs, leaves its arguments as they were and every semaphore at zero. -/
theorem merge_frame_bits : Cert.quiescent_Merge := fun m g _ => by
  rw [merge_defs_same]
  exact (θ_run Cert.MergeIdeal.defs _ _).mono (fun r h => ⟨fun c => PG.args (F := Bits) m c r.2.mem (h.1 c), h.2⟩) (PG.run (F := Bits) m g)
/-- The kernel at the extended reals likewise. -/
theorem merge_frame_ideal : Cert.quiescent_MergeIdeal := fun m g _ =>
  (θ_run _ _ _).mono (fun r h => ⟨fun c => PG.args m c r.2.mem (h.1 c), h.2⟩) (PG.run m g)
/-- The reference likewise: it has no semaphores. -/
theorem merge_frame_reference : Cert.quiescent_MergeReferenceIdeal := fun m g _ =>
  (θ_run _ _ _).mono (fun r h => ⟨fun c => (h c).2.2, sem_eq_zero_of_no_sems rfl r.2⟩) (Cert.MergeReferenceIdeal.Value.run m g)
/-- The ideal program is the kernel's own text. -/
theorem merge_idealized : Cert.preserves_Merge_MergeIdeal := trivial

namespace GSpec

variable {M : ℕ}

/-- The merged layer of the rows: their gated products, merged, against the output's weights, onto the rows. -/
def out (A : (⟨2, ![M, 1024]⟩ : Shape).Idx → EReal) (W0 : (⟨2, ![1024, 2048]⟩ : Shape).Idx → EReal) (B : (⟨2, ![M, 2048]⟩ : Shape).Idx → EReal) (W1 : (⟨2, ![2048, 2048]⟩ : Shape).Idx → EReal)
    (C : (⟨2, ![M, 1024]⟩ : Shape).Idx → EReal) (W2 : (⟨2, ![1024, 2048]⟩ : Shape).Idx → EReal) (G : (⟨2, ![M, 6144]⟩ : Shape).Idx → EReal) (W3 : (⟨2, ![2048, 2048]⟩ : Shape).Idx → EReal)
    (X : (⟨2, ![M, 2048]⟩ : Shape).Idx → EReal) : (⟨2, ![M, 2048]⟩ : Shape).Idx → EReal :=
  fun i => dotp (fun i => dotp C W2 i * gat 4096 (by decide) G i + (dotp B W1 i * gat 2048 (by decide) G i + dotp A W0 i * gat 0 (by decide) G i)) W3 i + X i

theorem dot_host {K : ℕ} {φ₁ φ₂ : FTy} (X : FVec Ideal ⟨2, ![M, K]⟩ φ₁) (W : FVec Ideal ⟨2, ![K, 2048]⟩ φ₂) : Host.dotGeneral (F := Ideal) (DotDims.plain M K 2048) none X W = dotp X W :=
  funext fun i => (congrArg _ (eq_ix2 i)).trans (StackMember.dotGeneral_plain_apply (m := M) (k := K) (n := 2048) none X W (i 0) (i 1))

theorem gat_host (o : ℕ) (ho : o + 2048 ≤ 6144) (G : (⟨2, ![M, 6144]⟩ : Shape).Idx → EReal) (hb : (⟨0, ![]⟩ : Shape).BroadcastsInDim ⟨2, ![M, 6144]⟩ ![]) (hs : (⟨2, ![M, 6144]⟩ : Shape).Slices ![0, o] ⟨2, ![M, 2048]⟩) :
    extractStridedSlice ⟨2, ![M, 2048]⟩ ![0, o] (Host.divf (F := Ideal) (φ := .f32) (broadcastInDim _ ![] hb (constant ⟨0, ![]⟩ .f32 0x3F800000#32))
      (addf (broadcastInDim _ ![] hb (constant ⟨0, ![]⟩ .f32 0x3F800000#32)) (Host.exp (Host.negf G)))) hs = gat o ho G := by
  funext i
  refine (extractStridedSlice_apply _ _ hs i (ix2 (i 0) ⟨o + (i 1).val, lt_of_lt_of_le (Nat.add_lt_add_left (idx2_lt1 i) o) ho⟩) fun a => ?_).trans ?_
  · match a with
    | ⟨0, _⟩ => exact (Nat.zero_add _).symm
    | ⟨1, _⟩ => rfl
  · show Ideal.div (Ideal.ofBits .f32 0x3F800000#32) (Ideal.ofBits .f32 0x3F800000#32 + Ideal.exp (-(G _))) = Ideal.logistic (G _)
    rw [Ideal.ofBits_one_f32]; rfl

/-- The reference's sums are these, in another order. -/
theorem out_host (A C W0 B W1 W2 G W3 X hb h0 h1 h2) :
    addf (F := Ideal) (φ := .f32) X (Host.dotGeneral (F := Ideal) (φ₁ := .f32) (φ₂ := .f32) (DotDims.plain M 2048 2048) none (addf (addf
      (mulf (extractStridedSlice ⟨2, ![M, 2048]⟩ ![0, 0] (Host.divf (F := Ideal) (φ := .f32) (broadcastInDim _ ![] hb (constant ⟨0, ![]⟩ .f32 0x3F800000#32)) (addf (broadcastInDim _ ![] hb (constant ⟨0, ![]⟩ .f32 0x3F800000#32)) (Host.exp (Host.negf G)))) h0) (Host.dotGeneral (φ₁ := .f32) (φ₂ := .f32) (DotDims.plain M 1024 2048) none A W0))
      (mulf (extractStridedSlice ⟨2, ![M, 2048]⟩ ![0, 2048] (Host.divf (F := Ideal) (φ := .f32) (broadcastInDim _ ![] hb (constant ⟨0, ![]⟩ .f32 0x3F800000#32)) (addf (broadcastInDim _ ![] hb (constant ⟨0, ![]⟩ .f32 0x3F800000#32)) (Host.exp (Host.negf G)))) h1) (Host.dotGeneral (φ₁ := .f32) (φ₂ := .f32) (DotDims.plain M 2048 2048) none B W1)))
      (mulf (extractStridedSlice ⟨2, ![M, 2048]⟩ ![0, 4096] (Host.divf (F := Ideal) (φ := .f32) (broadcastInDim _ ![] hb (constant ⟨0, ![]⟩ .f32 0x3F800000#32)) (addf (broadcastInDim _ ![] hb (constant ⟨0, ![]⟩ .f32 0x3F800000#32)) (Host.exp (Host.negf G)))) h2) (Host.dotGeneral (φ₁ := .f32) (φ₂ := .f32) (DotDims.plain M 1024 2048) none C W2))) W3)
      = out A W0 B W1 C W2 G W3 X := by
  simp only [gat_host 0 (by decide), gat_host 2048 (by decide), gat_host 4096 (by decide), dot_host]
  funext i
  refine (add_comm (X i) _).trans (congrArg (· + X i) (congrArg (fun Y => dotp Y W3 i) (funext fun j => ?_)))
  show gat 0 _ G j * dotp A W0 j + gat 2048 _ G j * dotp B W1 j + gat 4096 _ G j * dotp C W2 j = _
  rw [add_comm, add_comm (gat 0 _ G j * _), mul_comm, mul_comm (gat 2048 _ G j), mul_comm (gat 0 _ G j)]

end GSpec

section
open Cert.MergeIdeal Cert.MergeIdeal.Gen GSpec PG
variable (m : (ℓ : Loc nD τ sig) → Buf (Elt Ideal) ℓ) (c : Dev nD)

theorem g2 : U1 m c main_v2 = shapeCast _ (m ((c.tc : Thread nD τ).loc main_arg10)) shapeCasts_S1x1024x2048_S1024x2048 := by unfold U1; after_results_simp <;> rfl
theorem g3 : U1 m c main_v3 = shapeCast _ (m ((c.tc : Thread nD τ).loc main_arg11)) shapeCasts_S1x2048x2048_S2048x2048 := by unfold U1; after_results_simp <;> rfl
theorem g4 : U1 m c main_v4 = shapeCast _ (m ((c.tc : Thread nD τ).loc main_arg12)) shapeCasts_S1x1024x2048_S1024x2048 := by unfold U1; after_results_simp <;> rfl
theorem g5 : U1 m c main_v5 = shapeCast _ (m ((c.tc : Thread nD τ).loc main_arg13)) shapeCasts_S1x2048x2048_S2048x2048 := by unfold U1; after_results_simp <;> rfl
theorem g0 : U1 m c main_v0 = shapeCast _ (m ((c.tc : Thread nD τ).loc main_arg8)) shapeCasts_S2x8192x2048_S16384x2048 := by unfold U1; after_results_simp <;> rfl
theorem g1 : U1 m c main_v1 = shapeCast _ (m ((c.tc : Thread nD τ).loc main_arg9)) shapeCasts_S8x64x2048_S512x2048 := by unfold U1; after_results_simp <;> rfl

/-- What the merge's kernel leaves. -/
theorem U5_a_eq : U5 m c main_v9_0 = out (M := 16384) (m ((c.tc : Thread nD τ).loc main_arg0)) (U1 m c main_v2) (m ((c.tc : Thread nD τ).loc main_arg2)) (U1 m c main_v3) (m ((c.tc : Thread nD τ).loc main_arg4)) (U1 m c main_v4) (m ((c.tc : Thread nD τ).loc main_arg6)) (U1 m c main_v5) (U1 m c main_v0) := by
  refine (U5_a m c).trans ((arr3a (fun c b => U4 m c b) c).trans ?_)
  dsimp only
  rw [U4_a m c, arr2a (fun c b => U3 m c b) c]
  rw [U3_a m c, arr1a (fun c b => U2 m c b) c]
  rw [U2_a m c, arr0a (fun c b => U1 m c b) c]
  rw [U4_of m c main_v5 (by decide), U3_of m c main_v5 (by decide), U2_of m c main_v5 (by decide), U4_of m c main_v0 (by decide), U3_of m c main_v0 (by decide), U2_of m c main_v0 (by decide), U3_of m c main_v4 (by decide), U2_of m c main_v4 (by decide), U3_of m c main_arg4 (by decide), U2_of m c main_arg4 (by decide), U3_of m c main_arg6 (by decide), U2_of m c main_arg6 (by decide), U2_of m c main_v3 (by decide), U2_of m c main_arg2 (by decide), U1_of m c main_arg0 (by decide), U1_of m c main_arg2 (by decide), U1_of m c main_arg4 (by decide), U1_of m c main_arg6 (by decide)]
  rfl
theorem U5_b_eq : U5 m c main_v9_1 = out (M := 512) (m ((c.tc : Thread nD τ).loc main_arg1)) (U1 m c main_v2) (m ((c.tc : Thread nD τ).loc main_arg3)) (U1 m c main_v3) (m ((c.tc : Thread nD τ).loc main_arg5)) (U1 m c main_v4) (m ((c.tc : Thread nD τ).loc main_arg7)) (U1 m c main_v5) (U1 m c main_v1) := by
  refine (U5_b m c).trans ((arr3b (fun c b => U4 m c b) c).trans ?_)
  dsimp only
  rw [U4_b m c, arr2b (fun c b => U3 m c b) c]
  rw [U3_b m c, arr1b (fun c b => U2 m c b) c]
  rw [U2_b m c, arr0b (fun c b => U1 m c b) c]
  rw [U4_of m c main_v5 (by decide), U3_of m c main_v5 (by decide), U2_of m c main_v5 (by decide), U4_of m c main_v1 (by decide), U3_of m c main_v1 (by decide), U2_of m c main_v1 (by decide), U3_of m c main_v4 (by decide), U2_of m c main_v4 (by decide), U3_of m c main_arg5 (by decide), U2_of m c main_arg5 (by decide), U3_of m c main_arg7 (by decide), U2_of m c main_arg7 (by decide), U2_of m c main_v3 (by decide), U2_of m c main_arg3 (by decide), U1_of m c main_arg1 (by decide), U1_of m c main_arg3 (by decide), U1_of m c main_arg5 (by decide), U1_of m c main_arg7 (by decide)]
  rfl

end

/-- The kernel at the extended reals and the reference leave the same merged rows, from equal arguments. -/
theorem merge_value : Cert.algebraic_MergeIdeal_MergeReferenceIdeal := fun m g m' g' _ heq => by
  refine ⟨fun c => PG.U5 m c Cert.MergeIdeal.main_v9_0, fun c => PG.U5 m c Cert.MergeIdeal.main_v9_1,
    (θ_run _ _ _).mono (fun r h c => ⟨h.1 c _ rfl, h.1 c _ rfl, PG.args m c r.2.mem (h.1 c)⟩) (PG.run m g),
    (θ_run _ _ _).mono (fun r h c => ?_) (Cert.MergeReferenceIdeal.Value.run m' g')⟩
  obtain ⟨h0, h1, hargs⟩ := h c
  obtain ⟨e0, e1, e2, e3, e4, e5, e6, e7, e8, e9, e10, e11, e12, e13⟩ := heq c
  rw [e0, e2, e4, e6, e8, e10, e11, e12, e13] at h0
  rw [e1, e3, e5, e7, e9, e10, e11, e12, e13] at h1
  refine ⟨h0.trans ?_, h1.trans ?_, hargs⟩
  · show _ = PG.U5 m c Cert.MergeIdeal.main_v9_0; rw [U5_a_eq, g0, g2, g3, g4, g5]; exact GSpec.out_host _ _ _ _ _ _ _ _ _ _ _ _ _
  · show _ = PG.U5 m c Cert.MergeIdeal.main_v9_1; rw [U5_b_eq, g1, g2, g3, g4, g5]; exact GSpec.out_host _ _ _ _ _ _ _ _ _ _ _ _ _

end Cert.Proof

end
-- ==== Proof.lean ====
module

public import proofs.«01_k».proof.Defs
public import proofs.«01_k».proof.Proof.Gen.Experts
public import proofs.«01_k».proof.Proof.Gen.Experts.Skeleton
public import proofs.«01_k».proof.Proof.Gen.Experts.Launch
public import proofs.«01_k».proof.Proof.Gen.Experts.Regions
public import proofs.«01_k».proof.Proof.Gen.Experts.Points
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Regions
public import proofs.«01_k».proof.Proof.Gen.ExpertsIdeal.Points
public import proofs.«01_k».proof.Proof.Gen.ReferenceIdeal
public import proofs.«01_k».proof.Proof.Gen.Projections
public import proofs.«01_k».proof.Proof.Gen.Projections.Skeleton
public import proofs.«01_k».proof.Proof.Gen.Projections.Launch
public import proofs.«01_k».proof.Proof.Gen.Projections.Regions
public import proofs.«01_k».proof.Proof.Gen.Projections.Points
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Regions
public import proofs.«01_k».proof.Proof.Gen.ProjectionsIdeal.Points
public import proofs.«01_k».proof.Proof.Gen.ProjectionsReferenceIdeal
public import proofs.«01_k».proof.Proof.Gen.Pre_routed
public import proofs.«01_k».proof.Proof.Gen.ReferenceIdeal.Run
public import proofs.«01_k».proof.Proof.Gen.ProjectionsReferenceIdeal.Run
public import proofs.«01_k».proof.Proof.Gen.MemoryReferenceIdeal.Run
public import proofs.«01_k».proof.Proof.Gen.Merge
public import proofs.«01_k».proof.Proof.Gen.MergeIdeal
public import proofs.«01_k».proof.Proof.Gen.MergeIdeal.Launch
public import proofs.«01_k».proof.Proof.Gen.MergeIdeal.Skeleton
public import proofs.«01_k».proof.Proof.Gen.MergeIdeal.Regions
public import proofs.«01_k».proof.Proof.Gen.MergeReferenceIdeal
public import proofs.«01_k».proof.Proof.Gen.MergeReferenceIdeal.Run
public import proofs.«01_k».proof.Proof.Gen.MemoryReferenceIdeal
public import proofs.«01_k».proof.Proof.Gen.Memory
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Regions
public import proofs.«01_k».proof.Proof.Frames
public import proofs.«01_k».proof.Proof.Value
public import proofs.«01_k».proof.Proof.PFrames
public import proofs.«01_k».proof.Proof.PValue
public import proofs.«01_k».proof.Proof.MFrames
public import proofs.«01_k».proof.Proof.MValue
public import proofs.«01_k».proof.Proof.GValue
public import Idealize.ShloMosaic.Adequacy
public import Idealize.ShloMosaic.Init

@[expose] public section

noncomputable section

namespace Cert.Proof

open Idealize.ShloMosaic Idealize.SL.Sem Cert.Experts

theorem claim : Cert.Claim := ⟨Cert.Experts.Gen.facts, Cert.ExpertsIdeal.Gen.facts, Cert.ReferenceIdeal.Gen.facts, Cert.Projections.Gen.facts, Cert.ProjectionsIdeal.Gen.facts, Cert.ProjectionsReferenceIdeal.Gen.facts, Cert.Memory.Gen.facts, Cert.MemoryIdeal.Gen.facts, Cert.MemoryReferenceIdeal.Gen.facts, Cert.Merge.Gen.facts, Cert.MergeIdeal.Gen.facts, Cert.MergeReferenceIdeal.Gen.facts, Cert.Pre_routed.Gen.facts,
  frame_bits, frame_ideal, frame_reference, frame_reference_routed, proj_frame_bits, proj_frame_ideal, proj_frame_reference, mem_frame_bits, mem_frame_ideal, mem_frame_reference, merge_frame_bits, merge_frame_ideal, merge_frame_reference,
  idealized, value, proj_idealized, proj_value, mem_idealized, mem_value, merge_idealized, merge_value⟩

end Cert.Proof

end
